-- ==== Defs.lean ====
def Pre_Kernel [hPre_lengths_in_cache : Cert.Pre_lengths_in_cache.Facts] (m : (ℓ : Loc Cert.Kernel.nD Cert.Kernel.τ Cert.Kernel.sig) → Buf (Elt Bits) ℓ) : Prop :=
  ∀ c : Dev Cert.Kernel.nD,
    (Cert.Pre_lengths_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lengths_in_cache : Cert.Pre_lengths_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] [hPre_lengths_in_cache : Cert.Pre_lengths_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lengths_in_cache : Cert.Pre_lengths_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lengths_in_cache : Cert.Pre_lengths_in_cache.Facts) (hPre_finite_scores : Cert.Pre_finite_scores.Facts),
    quiescent_Kernel (hKernel := hKernel) (hPre_lengths_in_cache := hPre_lengths_in_cache)
    ∧ quiescent_KernelIdeal (hKernelIdeal := hKernelIdeal) (hPre_lengths_in_cache := hPre_lengths_in_cache)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S4x1x32x64 : Shape := ⟨4, ![4, 1, 32, 64]⟩
abbrev S4x1x8x64 : Shape := ⟨4, ![4, 1, 8, 64]⟩
abbrev S4x16384x8x64 : Shape := ⟨4, ![4, 16384, 8, 64]⟩
abbrev S4x16384x8 : Shape := ⟨3, ![4, 16384, 8]⟩
abbrev S4 : Shape := ⟨1, ![4]⟩
abbrev S_ : Shape := ⟨0, ![]⟩

class Facts : Prop where
  bcast_S_S4 : S_.BroadcastsInDim S4 (![] : Fin 0 → Fin S4.rank)
  bcast_S_S4x1x32x64 : S_.BroadcastsInDim S4x1x32x64 (![] : Fin 0 → Fin S4x1x32x64.rank)
  bcast_S_S4x1x8x64 : S_.BroadcastsInDim S4x1x8x64 (![] : Fin 0 → Fin S4x1x8x64.rank)
  bcast_S_S4x16384x8 : S_.BroadcastsInDim S4x16384x8 (![] : Fin 0 → Fin S4x16384x8.rank)

variable [Facts]

def fn {F : FTy → Type} [FloatOps F] (main_arg0 : FVec F S4x1x32x64 .bf16) (main_arg1 : FVec F S4x1x8x64 .bf16) (main_arg2 : FVec F S4x1x8x64 .bf16) (main_arg3 : IVec S4x16384x8x64 8) (main_arg4 : FVec F S4x16384x8 .f32) (main_arg5 : IVec S4x16384x8x64 8) (main_arg6 : FVec F S4x16384x8 .f32) (main_arg7 : IVec S4 32) : IVec S4 1 × IVec S4x1x32x64 1 × IVec S4x1x8x64 1 × IVec S4x16384x8 1 :=
  let main_c : IVec S_ 32 := constantI S_ 32 0#32
  let main_v0 : IVec S4 32 := broadcastInDim S4 ![] bcast_S_S4 main_c
  let main_v1 : IVec S4 1 := cmpi .sge main_arg7 main_v0
  let main_c_0 : IVec S_ 32 := constantI S_ 32 16384#32
  let main_v2 : IVec S4 32 := broadcastInDim S4 ![] bcast_S_S4 main_c_0
  let main_v3 : IVec S4 1 := cmpi .sle main_arg7 main_v2
  let main_v4 : IVec S4 1 := andi main_v1 main_v3
  let main_v5 : FVec F S4x1x32x64 .bf16 := Host.absf main_arg0
  let main_cst : FVec F S_ .bf16 := constant S_ .bf16 0x7F80#16
  let main_v6 : FVec F S4x1x32x64 .bf16 := broadcastInDim S4x1x32x64 ![] bcast_S_S4x1x32x64 main_cst
  let main_v7 : IVec S4x1x32x64 1 := cmpf .olt main_v5 main_v6
  let main_v8 : FVec F S4x1x8x64 .bf16 := Host.absf main_arg1
  let main_cst_1 : FVec F S_ .bf16 := constant S_ .bf16 0x7F80#16
  let main_v9 : FVec F S4x1x8x64 .bf16 := broadcastInDim S4x1x8x64 ![] bcast_S_S4x1x8x64 main_cst_1
  let main_v10 : IVec S4x1x8x64 1 := cmpf .olt main_v8 main_v9
  let main_v11 : FVec F S4x16384x8 .f32 := Host.absf main_arg4
  let main_cst_2 : FVec F S_ .f32 := constant S_ .f32 0x7F800000#32
  let main_v12 : FVec F S4x16384x8 .f32 := broadcastInDim S4x16384x8 ![] bcast_S_S4x16384x8 main_cst_2
  let main_v13 : IVec S4x16384x8 1 := cmpf .olt main_v11 main_v12
  (main_v4, main_v7, main_v10, main_v13)
-- ==== Pre_lengths_in_cache.lean ====
abbrev S4x1x32x64 : Shape := ⟨4, ![4, 1, 32, 64]⟩
abbrev S4x1x8x64 : Shape := ⟨4, ![4, 1, 8, 64]⟩
abbrev S4x16384x8x64 : Shape := ⟨4, ![4, 16384, 8, 64]⟩
abbrev S4x16384x8 : Shape := ⟨3, ![4, 16384, 8]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x1x32x64 .bf16) (main_arg1 : FVec F S4x1x8x64 .bf16) (main_arg2 : FVec F S4x1x8x64 .bf16) (main_arg3 : IVec S4x16384x8x64 8) (main_arg4 : FVec F S4x16384x8 .f32) (main_arg5 : IVec S4x16384x8x64 8) (main_arg6 : FVec F S4x16384x8 .f32) (main_arg7 : IVec S4 32) : IVec S4 1 :=
  let main_c : IVec S_ 32 := constantI S_ 32 0#32
  let main_v0 : IVec S4 32 := broadcastInDim S4 ![] bcast_S_S4 main_c
  let main_v1 : IVec S4 1 := cmpi .sge main_arg7 main_v0
  let main_c_0 : IVec S_ 32 := constantI S_ 32 16384#32
  let main_v2 : IVec S4 32 := broadcastInDim S4 ![] bcast_S_S4 main_c_0
  let main_v3 : IVec S4 1 := cmpi .sle main_arg7 main_v2
  let main_v4 : IVec S4 1 := andi main_v1 main_v3
  main_v4
-- ==== Kernel.lean ====
abbrev S4x1x32x64 : Shape := ⟨4, ![4, 1, 32, 64]⟩
abbrev S4x1x8x64 : Shape := ⟨4, ![4, 1, 8, 64]⟩
abbrev S4x16384x8x64 : Shape := ⟨4, ![4, 16384, 8, 64]⟩
abbrev S4x16384x8 : Shape := ⟨3, ![4, 16384, 8]⟩
abbrev S4 : Shape := ⟨1, ![4]⟩
abbrev S4x8x64x16384 : Shape := ⟨4, ![4, 8, 64, 16384]⟩
abbrev S4x512x16384 : Shape := ⟨3, ![4, 512, 16384]⟩
abbrev S4x8x16384 : Shape := ⟨3, ![4, 8, 16384]⟩
abbrev S4x32x64 : Shape := ⟨3, ![4, 32, 64]⟩
abbrev S4x8x64 : Shape := ⟨3, ![4, 8, 64]⟩
abbrev S12x512x2048 : Shape := ⟨3, ![12, 512, 2048]⟩
abbrev S12x8x2048 : Shape := ⟨3, ![12, 8, 2048]⟩
abbrev S4x32x512 : Shape := ⟨3, ![4, 32, 512]⟩
abbrev S4x32x128 : Shape := ⟨3, ![4, 32, 128]⟩
abbrev S8x32x2048 : Shape := ⟨3, ![8, 32, 2048]⟩
abbrev S32x128 : Shape := ⟨2, ![32, 128]⟩
abbrev S512x32 : Shape := ⟨2, ![512, 32]⟩
abbrev S12 : Shape := ⟨1, ![12]⟩
abbrev S3 : Shape := ⟨1, ![3]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x8x2048 : Shape := ⟨3, ![1, 8, 2048]⟩
abbrev S8x2048 : Shape := ⟨2, ![8, 2048]⟩
abbrev S32x32 : Shape := ⟨2, ![32, 32]⟩
abbrev S64x512 : Shape := ⟨2, ![64, 512]⟩
abbrev S32x512 : Shape := ⟨2, ![32, 512]⟩
abbrev S32x8 : Shape := ⟨2, ![32, 8]⟩
abbrev S1x32x64 : Shape := ⟨3, ![1, 32, 64]⟩
abbrev S32x64 : Shape := ⟨2, ![32, 64]⟩
abbrev S1x32x512 : Shape := ⟨3, ![1, 32, 512]⟩
abbrev S1x8x64 : Shape := ⟨3, ![1, 8, 64]⟩
abbrev S8x64 : Shape := ⟨2, ![8, 64]⟩
abbrev S32 : Shape := ⟨1, ![32]⟩
abbrev S32x1 : Shape := ⟨2, ![32, 1]⟩
abbrev S1x32x128 : Shape := ⟨3, ![1, 32, 128]⟩
abbrev S32x2048 : Shape := ⟨2, ![32, 2048]⟩
abbrev S4x8x2048 : Shape := ⟨3, ![4, 8, 2048]⟩
abbrev S1x32x2048 : Shape := ⟨3, ![1, 32, 2048]⟩

abbrev nBuf : Space → Nat
  | .hbm => 19
  | .vmem => 12
  | .smem => 1
  | _ => 0

abbrev bufTy : (tb : Table) → Fin (tcTables nBuf tb) → BufTy
  | .hbm, ⟨0, _⟩ => ⟨S4x1x32x64, .bf16⟩
  | .hbm, ⟨1, _⟩ => ⟨S4x1x8x64, .bf16⟩
  | .hbm, ⟨2, _⟩ => ⟨S4x1x8x64, .bf16⟩
  | .hbm, ⟨3, _⟩ => ⟨S4x16384x8x64, .i8⟩
  | .hbm, ⟨4, _⟩ => ⟨S4x16384x8, .f32⟩
  | .hbm, ⟨5, _⟩ => ⟨S4x16384x8x64, .i8⟩
  | .hbm, ⟨6, _⟩ => ⟨S4x16384x8, .f32⟩
  | .hbm, ⟨7, _⟩ => ⟨S4, .i32⟩
  | .hbm, ⟨8, _⟩ => ⟨S4x8x64x16384, .i8⟩
  | .hbm, ⟨9, _⟩ => ⟨S4x512x16384, .i8⟩
  | .hbm, ⟨10, _⟩ => ⟨S4x8x64x16384, .i8⟩
  | .hbm, ⟨11, _⟩ => ⟨S4x512x16384, .i8⟩
  | .hbm, ⟨12, _⟩ => ⟨S4x8x16384, .f32⟩
  | .hbm, ⟨13, _⟩ => ⟨S4x8x16384, .f32⟩
  | .hbm, ⟨14, _⟩ => ⟨S4x32x64, .bf16⟩
  | .hbm, ⟨15, _⟩ => ⟨S4x8x64, .bf16⟩
  | .hbm, ⟨16, _⟩ => ⟨S4x8x64, .bf16⟩
  | .hbm, ⟨17, _⟩ => ⟨S4x32x64, .bf16⟩
  | .hbm, ⟨18, _⟩ => ⟨S4x1x32x64, .bf16⟩
  | .local _ .vmem, ⟨0, _⟩ => ⟨S4x32x64, .bf16⟩
  | .local _ .vmem, ⟨1, _⟩ => ⟨S4x32x64, .bf16⟩
  | .local _ .vmem, ⟨2, _⟩ => ⟨S4x8x64, .bf16⟩
  | .local _ .vmem, ⟨3, _⟩ => ⟨S4x8x64, .bf16⟩
  | .local _ .vmem, ⟨4, _⟩ => ⟨S12x512x2048, .i8⟩
  | .local _ .vmem, ⟨5, _⟩ => ⟨S12x8x2048, .f32⟩
  | .local _ .vmem, ⟨6, _⟩ => ⟨S4x32x512, .bf16⟩
  | .local _ .vmem, ⟨7, _⟩ => ⟨S4x32x128, .f32⟩
  | .local _ .vmem, ⟨8, _⟩ => ⟨S8x32x2048, .f32⟩
  | .local _ .vmem, ⟨9, _⟩ => ⟨S32x128, .f32⟩
  | .local _ .vmem, ⟨10, _⟩ => ⟨S32x128, .f32⟩
  | .local _ .vmem, ⟨11, _⟩ => ⟨S512x32, .f32⟩
  | .local _ .smem, ⟨0, _⟩ => ⟨S4, .i32⟩
  | _, _ => ⟨S4x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch3 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_3 : BitVec 32 := 0#32
  let c12_i32 : BitVec 32 := 12#32
  let v6 : BitVec 32 := Scalar.addi c0_i32_3 c12_i32
  let c1_i32_4 : BitVec 32 := 1#32
  ⟨c0_i32_3, v6, c1_i32_4⟩
def k0_mult1 (arg27 : BitVec 32) : BitVec 32 :=
  let c2048_i32 : BitVec 32 := 2048#32
  let v276 : BitVec 32 := Scalar.muli arg27 c2048_i32
  v276
def k0_cond1 (arg25 : BitVec 32) (arg26 : BitVec 32) : BitVec 1 :=
  let c4_i32_120 : BitVec 32 := 4#32
  let v250 : BitVec 1 := Scalar.cmpi .slt arg25 c4_i32_120
  let c0_i32_122 : BitVec 32 := 0#32
  let v252 : BitVec 1 := Scalar.cmpi .eq arg26 c0_i32_122
  let v253 : BitVec 1 := Scalar.andi v250 v252
  let v254 : BitVec 32 := Scalar.extui v253
  let c0_i32_123 : BitVec 32 := 0#32
  let v255 : BitVec 1 := Scalar.cmpi .ne v254 c0_i32_123
  v255

def k0_off1 (k0_t1 : Fin k0_t1_loop.trips) : Fin 1 → Nat :=
  let c0_i32_3 : BitVec 32 := 0#32
  let c1_i32_4 : BitVec 32 := 1#32
  let arg24 : BitVec 32 := Scf.iv c0_i32_3 c1_i32_4 k0_t1
  let c12_i32_121 : BitVec 32 := 12#32
  let v251 : BitVec 32 := Scalar.remsi arg24 c12_i32_121
  ![v251.toNat]
def k0_off2 (k0_t1 : Fin k0_t1_loop.trips) : Fin 3 → Nat :=
  let c0_i32_3 : BitVec 32 := 0#32
  let c1_i32_4 : BitVec 32 := 1#32
  let arg24 : BitVec 32 := Scf.iv c0_i32_3 c1_i32_4 k0_t1
  let c12_i32_121 : BitVec 32 := 12#32
  let v251 : BitVec 32 := Scalar.remsi arg24 c12_i32_121
  let c0_i32_133 : BitVec 32 := 0#32
  let c0_i32_134 : BitVec 32 := 0#32
  ![v251.toNat, 0, 0]
def k0_off3 (arg25 : BitVec 32) (arg27 : BitVec 32) : Fin 3 → Nat :=
  let c0_i32_135 : BitVec 32 := 0#32
  let c2048_i32 : BitVec 32 := 2048#32
  let v276 : BitVec 32 := Scalar.muli arg27 c2048_i32
  let v277 : BitVec 32 := v276
  ![arg25.toNat, 0, v277.toNat]
def k0_off4 (k0_t1 : Fin k0_t1_loop.trips) : Fin 3 → Nat :=
  let c0_i32_3 : BitVec 32 := 0#32
  let c1_i32_4 : BitVec 32 := 1#32
  let arg24 : BitVec 32 := Scf.iv c0_i32_3 c1_i32_4 k0_t1
  let c12_i32_121 : BitVec 32 := 12#32
  let v251 : BitVec 32 := Scalar.remsi arg24 c12_i32_121
  let c0_i32_136 : BitVec 32 := 0#32
  let c0_i32_137 : BitVec 32 := 0#32
  ![v251.toNat, 0, 0]
def k0_off5 (arg25 : BitVec 32) (arg27 : BitVec 32) : Fin 3 → Nat :=
  let c0_i32_138 : BitVec 32 := 0#32
  let c2048_i32 : BitVec 32 := 2048#32
  let v276 : BitVec 32 := Scalar.muli arg27 c2048_i32
  let v277 : BitVec 32 := v276
  ![arg25.toNat, 0, v277.toNat]
def k0_mult2 (arg27 : BitVec 32) : BitVec 32 :=
  let c2048_i32 : BitVec 32 := 2048#32
  let v276 : BitVec 32 := Scalar.muli arg27 c2048_i32
  v276
def k0_cond2 (arg25 : BitVec 32) (arg26 : BitVec 32) : BitVec 1 :=
  let c4_i32_120 : BitVec 32 := 4#32
  let v250 : BitVec 1 := Scalar.cmpi .slt arg25 c4_i32_120
  let c1_i32_124 : BitVec 32 := 1#32
  let v256 : BitVec 1 := Scalar.cmpi .eq arg26 c1_i32_124
  let v257 : BitVec 1 := Scalar.andi v250 v256
  let v258 : BitVec 32 := Scalar.extui v257
  let c0_i32_125 : BitVec 32 := 0#32
  let v259 : BitVec 1 := Scalar.cmpi .ne v258 c0_i32_125
  v259

def k0_off6 (k0_t1 : Fin k0_t1_loop.trips) : Fin 1 → Nat :=
  let c0_i32_3 : BitVec 32 := 0#32
  let c1_i32_4 : BitVec 32 := 1#32
  let arg24 : BitVec 32 := Scf.iv c0_i32_3 c1_i32_4 k0_t1
  let c12_i32_121 : BitVec 32 := 12#32
  let v251 : BitVec 32 := Scalar.remsi arg24 c12_i32_121
  ![v251.toNat]
def k0_off7 (k0_t1 : Fin k0_t1_loop.trips) : Fin 3 → Nat :=
  let c0_i32_3 : BitVec 32 := 0#32
  let c1_i32_4 : BitVec 32 := 1#32
  let arg24 : BitVec 32 := Scf.iv c0_i32_3 c1_i32_4 k0_t1
  let c12_i32_121 : BitVec 32 := 12#32
  let v251 : BitVec 32 := Scalar.remsi arg24 c12_i32_121
  let c0_i32_133 : BitVec 32 := 0#32
  let c0_i32_134 : BitVec 32 := 0#32
  ![v251.toNat, 0, 0]
def k0_off8 (arg25 : BitVec 32) (arg27 : BitVec 32) : Fin 3 → Nat :=
  let c0_i32_135 : BitVec 32 := 0#32
  let c2048_i32 : BitVec 32 := 2048#32
  let v276 : BitVec 32 := Scalar.muli arg27 c2048_i32
  let v277 : BitVec 32 := v276
  ![arg25.toNat, 0, v277.toNat]
def k0_off9 (k0_t1 : Fin k0_t1_loop.trips) : Fin 3 → Nat :=
  let c0_i32_3 : BitVec 32 := 0#32
  let c1_i32_4 : BitVec 32 := 1#32
  let arg24 : BitVec 32 := Scf.iv c0_i32_3 c1_i32_4 k0_t1
  let c12_i32_121 : BitVec 32 := 12#32
  let v251 : BitVec 32 := Scalar.remsi arg24 c12_i32_121
  let c0_i32_136 : BitVec 32 := 0#32
  let c0_i32_137 : BitVec 32 := 0#32
  ![v251.toNat, 0, 0]
def k0_off10 (arg25 : BitVec 32) (arg27 : BitVec 32) : Fin 3 → Nat :=
  let c0_i32_138 : BitVec 32 := 0#32
  let c2048_i32 : BitVec 32 := 2048#32
  let v276 : BitVec 32 := Scalar.muli arg27 c2048_i32
  let v277 : BitVec 32 := v276
  ![arg25.toNat, 0, v277.toNat]

def k0_chk1 (arg25 : BitVec 32) (arg26 : BitVec 32) (arg27 : BitVec 32) : Prop :=
  (∀ (k0_h1 : k0_cond1 arg25 arg26 = 1#1), 2048 ∣ (k0_mult1 arg27).toNat) ∧
  (∀ (k0_h1 : k0_cond1 arg25 arg26 = 1#1), ∀ a, (k0_off3 arg25 arg27) a + S1x512x2048.size a ≤ S4x512x16384.size a) ∧
  (∀ (k0_h1 : k0_cond1 arg25 arg26 = 1#1), ∀ (hinb : ∀ a, (k0_off3 arg25 arg27) a + S1x512x2048.size a ≤ S4x512x16384.size a), (Rect.unit (s := S4x512x16384) (k0_off3 arg25 arg27) S1x512x2048.size hinb).WholeWords (EltTy.packing .i8)) ∧
  (∀ (k0_h1 : k0_cond1 arg25 arg26 = 1#1), ∀ a, (k0_off5 arg25 arg27) a + S1x8x2048.size a ≤ S4x8x16384.size a) ∧
  (∀ (k0_h2 : k0_cond2 arg25 arg26 = 1#1), 2048 ∣ (k0_mult2 arg27).toNat) ∧
  (∀ (k0_h2 : k0_cond2 arg25 arg26 = 1#1), ∀ a, (k0_off8 arg25 arg27) a + S1x512x2048.size a ≤ S4x512x16384.size a) ∧
  (∀ (k0_h2 : k0_cond2 arg25 arg26 = 1#1), ∀ (hinb : ∀ a, (k0_off8 arg25 arg27) a + S1x512x2048.size a ≤ S4x512x16384.size a), (Rect.unit (s := S4x512x16384) (k0_off8 arg25 arg27) S1x512x2048.size hinb).WholeWords (EltTy.packing .i8)) ∧
  (∀ (k0_h2 : k0_cond2 arg25 arg26 = 1#1), ∀ a, (k0_off10 arg25 arg27) a + S1x8x2048.size a ≤ S4x8x16384.size a)
theorem k0_mult1_dvd : ∀ (arg25 : BitVec 32) (arg26 : BitVec 32) (arg27 : BitVec 32) (k0_hw1 : k0_chk1 arg25 arg26 arg27), ∀ (k0_h1 : k0_cond1 arg25 arg26 = 1#1), 2048 ∣ (k0_mult1 arg27).toNat := fun arg25 arg26 arg27 k0_hw1 k0_h1 => k0_hw1.1 k0_h1
theorem k0_off3_inb : ∀ (arg25 : BitVec 32) (arg26 : BitVec 32) (arg27 : BitVec 32) (k0_hw1 : k0_chk1 arg25 arg26 arg27), ∀ (k0_h1 : k0_cond1 arg25 arg26 = 1#1), ∀ a, (k0_off3 arg25 arg27) a + S1x512x2048.size a ≤ S4x512x16384.size a := fun arg25 arg26 arg27 k0_hw1 k0_h1 => k0_hw1.2.1 k0_h1
theorem k0_off3_wordsi8 : ∀ (arg25 : BitVec 32) (arg26 : BitVec 32) (arg27 : BitVec 32) (k0_hw1 : k0_chk1 arg25 arg26 arg27), ∀ (k0_h1 : k0_cond1 arg25 arg26 = 1#1), (Rect.unit (s := S4x512x16384) (k0_off3 arg25 arg27) S1x512x2048.size (k0_off3_inb arg25 arg26 arg27 k0_hw1 k0_h1)).WholeWords (EltTy.packing .i8) := fun arg25 arg26 arg27 k0_hw1 k0_h1 => k0_hw1.2.2.1 k0_h1 (k0_off3_inb arg25 arg26 arg27 k0_hw1 k0_h1)
theorem k0_off5_inb : ∀ (arg25 : BitVec 32) (arg26 : BitVec 32) (arg27 : BitVec 32) (k0_hw1 : k0_chk1 arg25 arg26 arg27), ∀ (k0_h1 : k0_cond1 arg25 arg26 = 1#1), ∀ a, (k0_off5 arg25 arg27) a + S1x8x2048.size a ≤ S4x8x16384.size a := fun arg25 arg26 arg27 k0_hw1 k0_h1 => k0_hw1.2.2.2.1 k0_h1
theorem k0_mult2_dvd : ∀ (arg25 : BitVec 32) (arg26 : BitVec 32) (arg27 : BitVec 32) (k0_hw1 : k0_chk1 arg25 arg26 arg27), ∀ (k0_h2 : k0_cond2 arg25 arg26 = 1#1), 2048 ∣ (k0_mult2 arg27).toNat := fun arg25 arg26 arg27 k0_hw1 k0_h2 => k0_hw1.2.2.2.2.1 k0_h2
theorem k0_off8_inb : ∀ (arg25 : BitVec 32) (arg26 : BitVec 32) (arg27 : BitVec 32) (k0_hw1 : k0_chk1 arg25 arg26 arg27), ∀ (k0_h2 : k0_cond2 arg25 arg26 = 1#1), ∀ a, (k0_off8 arg25 arg27) a + S1x512x2048.size a ≤ S4x512x16384.size a := fun arg25 arg26 arg27 k0_hw1 k0_h2 => k0_hw1.2.2.2.2.2.1 k0_h2
theorem k0_off8_wordsi8 : ∀ (arg25 : BitVec 32) (arg26 : BitVec 32) (arg27 : BitVec 32) (k0_hw1 : k0_chk1 arg25 arg26 arg27), ∀ (k0_h2 : k0_cond2 arg25 arg26 = 1#1), (Rect.unit (s := S4x512x16384) (k0_off8 arg25 arg27) S1x512x2048.size (k0_off8_inb arg25 arg26 arg27 k0_hw1 k0_h2)).WholeWords (EltTy.packing .i8) := fun arg25 arg26 arg27 k0_hw1 k0_h2 => k0_hw1.2.2.2.2.2.2.1 k0_h2 (k0_off8_inb arg25 arg26 arg27 k0_hw1 k0_h2)
theorem k0_off10_inb : ∀ (arg25 : BitVec 32) (arg26 : BitVec 32) (arg27 : BitVec 32) (k0_hw1 : k0_chk1 arg25 arg26 arg27), ∀ (k0_h2 : k0_cond2 arg25 arg26 = 1#1), ∀ a, (k0_off10 arg25 arg27) a + S1x8x2048.size a ≤ S4x8x16384.size a := fun arg25 arg26 arg27 k0_hw1 k0_h2 => k0_hw1.2.2.2.2.2.2.2 k0_h2

def k0_off11 (arg25 : BitVec 32) : Fin 1 → Nat :=
  let c3_i32 : BitVec 32 := 3#32
  let v260 : BitVec 32 := Scalar.minsi arg25 c3_i32
  let v261 : Index := Scalar.indexCast v260
  ![v261.toNat]

def k0_chk2 (arg25 : BitVec 32) : Prop :=
  (∀ a, (k0_off11 arg25) a + S1.size a ≤ S4.size a)
theorem k0_off11_inb : ∀ (arg25 : BitVec 32) (k0_hw2 : k0_chk2 arg25), ∀ a, (k0_off11 arg25) a + S1.size a ≤ S4.size a := fun arg25 k0_hw2 => k0_hw2

@[reducible] def k0_t2_loop : Scf.Loop 32 :=
  let c0_i32_116 : BitVec 32 := 0#32
  let c4_i32_117 : BitVec 32 := 4#32
  let v248 : BitVec 32 := Scalar.addi c0_i32_116 c4_i32_117
  let c1_i32_118 : BitVec 32 := 1#32
  ⟨c0_i32_116, v248, c1_i32_118⟩
def k0_off12 (k0_t2 : Fin k0_t2_loop.trips) : Fin 1 → Nat :=
  let c0_i32_116 : BitVec 32 := 0#32
  let c1_i32_118 : BitVec 32 := 1#32
  let arg24 : BitVec 32 := Scf.iv c0_i32_116 c1_i32_118 k0_t2
  let v250 : Index := Scalar.indexCast arg24
  ![v250.toNat]
def k0_off13 (k0_t2 : Fin k0_t2_loop.trips) : Fin 3 → Nat :=
  let c0_i32_116 : BitVec 32 := 0#32
  let c1_i32_118 : BitVec 32 := 1#32
  let arg24 : BitVec 32 := Scf.iv c0_i32_116 c1_i32_118 k0_t2
  let v257 : Index := Scalar.indexCast arg24
  let c0_121 : Index := 0#32
  let c0_122 : Index := 0#32
  ![v257.toNat, 0, 0]
@[reducible] def k0_t3_loop (v251 : BitVec 32) : Scf.Loop 32 :=
  let c0_i32_128 : BitVec 32 := 0#32
  let c2047_i32 : BitVec 32 := 2047#32
  let v252 : BitVec 32 := Scalar.addi v251 c2047_i32
  let c11_i32 : BitVec 32 := 11#32
  let v253 : BitVec 32 := Scalar.shrui v252 c11_i32
  let c1_i32_120 : BitVec 32 := 1#32
  let v254 : BitVec 32 := Scalar.maxsi v253 c1_i32_120
  let v267 : BitVec 32 := Scalar.subi v254 c0_i32_128
  let c1_i32_129 : BitVec 32 := 1#32
  let v269 : BitVec 32 := Scalar.divsi v267 c1_i32_129
  let v270 : BitVec 32 := Scalar.muli v269 c1_i32_129
  let v271 : BitVec 32 := Scalar.addi c0_i32_128 v270
  let c1_i32_130 : BitVec 32 := 1#32
  ⟨c0_i32_128, v271, c1_i32_130⟩

def k0_mult3 : BitVec 32 :=
  let c0_i32_160 : BitVec 32 := 0#32
  c0_i32_160
def k0_off14 (arg30 : BitVec 32) : Fin 1 → Nat :=
  let c12_i32_158 : BitVec 32 := 12#32
  let v336 : BitVec 32 := Scalar.subi arg30 c12_i32_158
  let c12_i32_159 : BitVec 32 := 12#32
  let v337 : BitVec 32 := Scalar.remsi v336 c12_i32_159
  ![v337.toNat]

def k0_off15 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_162 : BitVec 32 := 0#32
  let c0_i32_163 : BitVec 32 := 0#32
  ![v337.toNat, 0, 0]
def k0_off16 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_166 : BitVec 32 := 0#32
  let c0_i32_167 : BitVec 32 := 0#32
  ![v337.toNat, 0, 0]
def k0_off17 (k0_t2 : Fin k0_t2_loop.trips) : Fin 3 → Nat :=
  let c0_i32_116 : BitVec 32 := 0#32
  let c1_i32_118 : BitVec 32 := 1#32
  let arg24 : BitVec 32 := Scf.iv c0_i32_116 c1_i32_118 k0_t2
  let v351 : Index := Scalar.indexCast arg24
  let c0_169 : Index := 0#32
  let c0_170 : Index := 0#32
  ![v351.toNat, 0, 0]
def k0_off18 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v354 : Index := Scalar.indexCast v337
  let c0_171 : Index := 0#32
  let c0_172 : Index := 0#32
  ![v354.toNat, 0, 0]
def k0_off19 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v359 : Index := Scalar.indexCast v337
  let c0_174 : Index := 0#32
  let c0_175 : Index := 0#32
  ![v359.toNat, 0, 0]

def k0_chk4 (arg30 : BitVec 32) : Prop :=
  (∀ a, (k0_off14 arg30) a + S1.size a ≤ S12.size a) ∧
  (∀ a, (k0_off15 arg30) a + S1x512x2048.size a ≤ S12x512x2048.size a) ∧
  (∀ (hinb : ∀ a, (k0_off15 arg30) a + S1x512x2048.size a ≤ S12x512x2048.size a), (Rect.unit (s := S12x512x2048) (k0_off15 arg30) S1x512x2048.size hinb).WholeWords (EltTy.packing .i8)) ∧
  (∀ a, (k0_off16 arg30) a + S1x8x2048.size a ≤ S12x8x2048.size a) ∧
  (∀ a, (k0_off18 arg30) a + S1x512x2048.size a ≤ S12x512x2048.size a) ∧
  (∀ a, (k0_off19 arg30) a + S1x8x2048.size a ≤ S12x8x2048.size a)
theorem k0_off14_inb : ∀ (arg30 : BitVec 32) (k0_hw4 : k0_chk4 arg30), ∀ a, (k0_off14 arg30) a + S1.size a ≤ S12.size a := fun arg30 k0_hw4 => k0_hw4.1
theorem k0_off15_inb : ∀ (arg30 : BitVec 32) (k0_hw4 : k0_chk4 arg30), ∀ a, (k0_off15 arg30) a + S1x512x2048.size a ≤ S12x512x2048.size a := fun arg30 k0_hw4 => k0_hw4.2.1
theorem k0_off15_wordsi8 : ∀ (arg30 : BitVec 32) (k0_hw4 : k0_chk4 arg30), (Rect.unit (s := S12x512x2048) (k0_off15 arg30) S1x512x2048.size (k0_off15_inb arg30 k0_hw4)).WholeWords (EltTy.packing .i8) := fun arg30 k0_hw4 => k0_hw4.2.2.1 (k0_off15_inb arg30 k0_hw4)
theorem k0_off16_inb : ∀ (arg30 : BitVec 32) (k0_hw4 : k0_chk4 arg30), ∀ a, (k0_off16 arg30) a + S1x8x2048.size a ≤ S12x8x2048.size a := fun arg30 k0_hw4 => k0_hw4.2.2.2.1
theorem k0_off18_inb : ∀ (arg30 : BitVec 32) (k0_hw4 : k0_chk4 arg30), ∀ a, (k0_off18 arg30) a + S1x512x2048.size a ≤ S12x512x2048.size a := fun arg30 k0_hw4 => k0_hw4.2.2.2.2.1
theorem k0_off19_inb : ∀ (arg30 : BitVec 32) (k0_hw4 : k0_chk4 arg30), ∀ a, (k0_off19 arg30) a + S1x8x2048.size a ≤ S12x8x2048.size a := fun arg30 k0_hw4 => k0_hw4.2.2.2.2.2

def k0_off20 (v251 : BitVec 32) (k0_t3 : Fin (k0_t3_loop v251).trips) : Fin 3 → Nat :=
  let c0_i32_128 : BitVec 32 := 0#32
  let c1_i32_130 : BitVec 32 := 1#32
  let arg29 : BitVec 32 := Scf.iv c0_i32_128 c1_i32_130 k0_t3
  let v376 : Index := Scalar.indexCast arg29
  let c0_178 : Index := 0#32
  let c0_179 : Index := 0#32
  ![v376.toNat, 0, 0]
def k0_mult4 (arg33 : BitVec 32) : BitVec 32 :=
  let c2048_i32_204 : BitVec 32 := 2048#32
  let v514 : BitVec 32 := Scalar.muli arg33 c2048_i32_204
  v514
def k0_cond3 (arg31 : BitVec 32) (arg32 : BitVec 32) : BitVec 1 :=
  let c4_i32_188 : BitVec 32 := 4#32
  let v487 : BitVec 1 := Scalar.cmpi .slt arg31 c4_i32_188
  let c0_i32_190 : BitVec 32 := 0#32
  let v489 : BitVec 1 := Scalar.cmpi .eq arg32 c0_i32_190
  let v490 : BitVec 1 := Scalar.andi v487 v489
  let v491 : BitVec 32 := Scalar.extui v490
  let c0_i32_191 : BitVec 32 := 0#32
  let v492 : BitVec 1 := Scalar.cmpi .ne v491 c0_i32_191
  v492

def k0_off21 (arg30 : BitVec 32) : Fin 1 → Nat :=
  let c12_i32_189 : BitVec 32 := 12#32
  let v488 : BitVec 32 := Scalar.remsi arg30 c12_i32_189
  ![v488.toNat]

def k0_off22 (arg30 : BitVec 32) : Fin 3 → Nat :=
  let c12_i32_189 : BitVec 32 := 12#32
  let v488 : BitVec 32 := Scalar.remsi arg30 c12_i32_189
  let c0_i32_205 : BitVec 32 := 0#32
  let c0_i32_206 : BitVec 32 := 0#32
  ![v488.toNat, 0, 0]
def k0_off23 (arg31 : BitVec 32) (arg33 : BitVec 32) : Fin 3 → Nat :=
  let c0_i32_207 : BitVec 32 := 0#32
  let c2048_i32_204 : BitVec 32 := 2048#32
  let v514 : BitVec 32 := Scalar.muli arg33 c2048_i32_204
  let v515 : BitVec 32 := v514
  ![arg31.toNat, 0, v515.toNat]
def k0_off24 (arg30 : BitVec 32) : Fin 3 → Nat :=
  let c12_i32_189 : BitVec 32 := 12#32
  let v488 : BitVec 32 := Scalar.remsi arg30 c12_i32_189
  let c0_i32_208 : BitVec 32 := 0#32
  let c0_i32_209 : BitVec 32 := 0#32
  ![v488.toNat, 0, 0]
def k0_off25 (arg31 : BitVec 32) (arg33 : BitVec 32) : Fin 3 → Nat :=
  let c0_i32_210 : BitVec 32 := 0#32
  let c2048_i32_204 : BitVec 32 := 2048#32
  let v514 : BitVec 32 := Scalar.muli arg33 c2048_i32_204
  let v515 : BitVec 32 := v514
  ![arg31.toNat, 0, v515.toNat]
def k0_mult5 (arg33 : BitVec 32) : BitVec 32 :=
  let c2048_i32_204 : BitVec 32 := 2048#32
  let v514 : BitVec 32 := Scalar.muli arg33 c2048_i32_204
  v514
def k0_cond4 (arg31 : BitVec 32) (arg32 : BitVec 32) : BitVec 1 :=
  let c4_i32_188 : BitVec 32 := 4#32
  let v487 : BitVec 1 := Scalar.cmpi .slt arg31 c4_i32_188
  let c1_i32_192 : BitVec 32 := 1#32
  let v493 : BitVec 1 := Scalar.cmpi .eq arg32 c1_i32_192
  let v494 : BitVec 1 := Scalar.andi v487 v493
  let v495 : BitVec 32 := Scalar.extui v494
  let c0_i32_193 : BitVec 32 := 0#32
  let v496 : BitVec 1 := Scalar.cmpi .ne v495 c0_i32_193
  v496

def k0_off26 (arg30 : BitVec 32) : Fin 1 → Nat :=
  let c12_i32_189 : BitVec 32 := 12#32
  let v488 : BitVec 32 := Scalar.remsi arg30 c12_i32_189
  ![v488.toNat]
def k0_off27 (arg30 : BitVec 32) : Fin 3 → Nat :=
  let c12_i32_189 : BitVec 32 := 12#32
  let v488 : BitVec 32 := Scalar.remsi arg30 c12_i32_189
  let c0_i32_205 : BitVec 32 := 0#32
  let c0_i32_206 : BitVec 32 := 0#32
  ![v488.toNat, 0, 0]
def k0_off28 (arg31 : BitVec 32) (arg33 : BitVec 32) : Fin 3 → Nat :=
  let c0_i32_207 : BitVec 32 := 0#32
  let c2048_i32_204 : BitVec 32 := 2048#32
  let v514 : BitVec 32 := Scalar.muli arg33 c2048_i32_204
  let v515 : BitVec 32 := v514
  ![arg31.toNat, 0, v515.toNat]
def k0_off29 (arg30 : BitVec 32) : Fin 3 → Nat :=
  let c12_i32_189 : BitVec 32 := 12#32
  let v488 : BitVec 32 := Scalar.remsi arg30 c12_i32_189
  let c0_i32_208 : BitVec 32 := 0#32
  let c0_i32_209 : BitVec 32 := 0#32
  ![v488.toNat, 0, 0]

def k0_chk6 (arg30 : BitVec 32) (arg31 : BitVec 32) (arg32 : BitVec 32) : Prop :=
  (∀ (k0_h3 : k0_cond3 arg31 arg32 = 1#1), ∀ a, (k0_off21 arg30) a + S1.size a ≤ S12.size a) ∧
  (∀ (k0_h3 : k0_cond3 arg31 arg32 = 1#1), ∀ a, (k0_off22 arg30) a + S1x512x2048.size a ≤ S12x512x2048.size a) ∧
  (∀ (k0_h3 : k0_cond3 arg31 arg32 = 1#1), ∀ (hinb : ∀ a, (k0_off22 arg30) a + S1x512x2048.size a ≤ S12x512x2048.size a), (Rect.unit (s := S12x512x2048) (k0_off22 arg30) S1x512x2048.size hinb).WholeWords (EltTy.packing .i8)) ∧
  (∀ (k0_h3 : k0_cond3 arg31 arg32 = 1#1), ∀ a, (k0_off24 arg30) a + S1x8x2048.size a ≤ S12x8x2048.size a) ∧
  (∀ (k0_h4 : k0_cond4 arg31 arg32 = 1#1), ∀ a, (k0_off26 arg30) a + S1.size a ≤ S12.size a) ∧
  (∀ (k0_h4 : k0_cond4 arg31 arg32 = 1#1), ∀ a, (k0_off27 arg30) a + S1x512x2048.size a ≤ S12x512x2048.size a) ∧
  (∀ (k0_h4 : k0_cond4 arg31 arg32 = 1#1), ∀ (hinb : ∀ a, (k0_off27 arg30) a + S1x512x2048.size a ≤ S12x512x2048.size a), (Rect.unit (s := S12x512x2048) (k0_off27 arg30) S1x512x2048.size hinb).WholeWords (EltTy.packing .i8)) ∧
  (∀ (k0_h4 : k0_cond4 arg31 arg32 = 1#1), ∀ a, (k0_off29 arg30) a + S1x8x2048.size a ≤ S12x8x2048.size a)
theorem k0_off21_inb : ∀ (arg30 : BitVec 32) (arg31 : BitVec 32) (arg32 : BitVec 32) (k0_hw6 : k0_chk6 arg30 arg31 arg32), ∀ (k0_h3 : k0_cond3 arg31 arg32 = 1#1), ∀ a, (k0_off21 arg30) a + S1.size a ≤ S12.size a := fun arg30 arg31 arg32 k0_hw6 k0_h3 => k0_hw6.1 k0_h3
theorem k0_off22_inb : ∀ (arg30 : BitVec 32) (arg31 : BitVec 32) (arg32 : BitVec 32) (k0_hw6 : k0_chk6 arg30 arg31 arg32), ∀ (k0_h3 : k0_cond3 arg31 arg32 = 1#1), ∀ a, (k0_off22 arg30) a + S1x512x2048.size a ≤ S12x512x2048.size a := fun arg30 arg31 arg32 k0_hw6 k0_h3 => k0_hw6.2.1 k0_h3
theorem k0_off22_wordsi8 : ∀ (arg30 : BitVec 32) (arg31 : BitVec 32) (arg32 : BitVec 32) (k0_hw6 : k0_chk6 arg30 arg31 arg32), ∀ (k0_h3 : k0_cond3 arg31 arg32 = 1#1), (Rect.unit (s := S12x512x2048) (k0_off22 arg30) S1x512x2048.size (k0_off22_inb arg30 arg31 arg32 k0_hw6 k0_h3)).WholeWords (EltTy.packing .i8) := fun arg30 arg31 arg32 k0_hw6 k0_h3 => k0_hw6.2.2.1 k0_h3 (k0_off22_inb arg30 arg31 arg32 k0_hw6 k0_h3)
theorem k0_off24_inb : ∀ (arg30 : BitVec 32) (arg31 : BitVec 32) (arg32 : BitVec 32) (k0_hw6 : k0_chk6 arg30 arg31 arg32), ∀ (k0_h3 : k0_cond3 arg31 arg32 = 1#1), ∀ a, (k0_off24 arg30) a + S1x8x2048.size a ≤ S12x8x2048.size a := fun arg30 arg31 arg32 k0_hw6 k0_h3 => k0_hw6.2.2.2.1 k0_h3
theorem k0_off26_inb : ∀ (arg30 : BitVec 32) (arg31 : BitVec 32) (arg32 : BitVec 32) (k0_hw6 : k0_chk6 arg30 arg31 arg32), ∀ (k0_h4 : k0_cond4 arg31 arg32 = 1#1), ∀ a, (k0_off26 arg30) a + S1.size a ≤ S12.size a := fun arg30 arg31 arg32 k0_hw6 k0_h4 => k0_hw6.2.2.2.2.1 k0_h4
theorem k0_off27_inb : ∀ (arg30 : BitVec 32) (arg31 : BitVec 32) (arg32 : BitVec 32) (k0_hw6 : k0_chk6 arg30 arg31 arg32), ∀ (k0_h4 : k0_cond4 arg31 arg32 = 1#1), ∀ a, (k0_off27 arg30) a + S1x512x2048.size a ≤ S12x512x2048.size a := fun arg30 arg31 arg32 k0_hw6 k0_h4 => k0_hw6.2.2.2.2.2.1 k0_h4
theorem k0_off27_wordsi8 : ∀ (arg30 : BitVec 32) (arg31 : BitVec 32) (arg32 : BitVec 32) (k0_hw6 : k0_chk6 arg30 arg31 arg32), ∀ (k0_h4 : k0_cond4 arg31 arg32 = 1#1), (Rect.unit (s := S12x512x2048) (k0_off27 arg30) S1x512x2048.size (k0_off27_inb arg30 arg31 arg32 k0_hw6 k0_h4)).WholeWords (EltTy.packing .i8) := fun arg30 arg31 arg32 k0_hw6 k0_h4 => k0_hw6.2.2.2.2.2.2.1 k0_h4 (k0_off27_inb arg30 arg31 arg32 k0_hw6 k0_h4)
theorem k0_off29_inb : ∀ (arg30 : BitVec 32) (arg31 : BitVec 32) (arg32 : BitVec 32) (k0_hw6 : k0_chk6 arg30 arg31 arg32), ∀ (k0_h4 : k0_cond4 arg31 arg32 = 1#1), ∀ a, (k0_off29 arg30) a + S1x8x2048.size a ≤ S12x8x2048.size a := fun arg30 arg31 arg32 k0_hw6 k0_h4 => k0_hw6.2.2.2.2.2.2.2 k0_h4

def k0_off30 (arg31 : BitVec 32) (arg33 : BitVec 32) : Fin 3 → Nat :=
  let c0_i32_210 : BitVec 32 := 0#32
  let c2048_i32_204 : BitVec 32 := 2048#32
  let v514 : BitVec 32 := Scalar.muli arg33 c2048_i32_204
  let v515 : BitVec 32 := v514
  ![arg31.toNat, 0, v515.toNat]

def k0_chk5 (arg31 : BitVec 32) (arg32 : BitVec 32) (arg33 : BitVec 32) : Prop :=
  (∀ (k0_h3 : k0_cond3 arg31 arg32 = 1#1), 2048 ∣ (k0_mult4 arg33).toNat) ∧
  (∀ (k0_h3 : k0_cond3 arg31 arg32 = 1#1), ∀ a, (k0_off23 arg31 arg33) a + S1x512x2048.size a ≤ S4x512x16384.size a) ∧
  (∀ (k0_h3 : k0_cond3 arg31 arg32 = 1#1), ∀ (hinb : ∀ a, (k0_off23 arg31 arg33) a + S1x512x2048.size a ≤ S4x512x16384.size a), (Rect.unit (s := S4x512x16384) (k0_off23 arg31 arg33) S1x512x2048.size hinb).WholeWords (EltTy.packing .i8)) ∧
  (∀ (k0_h3 : k0_cond3 arg31 arg32 = 1#1), ∀ a, (k0_off25 arg31 arg33) a + S1x8x2048.size a ≤ S4x8x16384.size a) ∧
  (∀ (k0_h4 : k0_cond4 arg31 arg32 = 1#1), 2048 ∣ (k0_mult5 arg33).toNat) ∧
  (∀ (k0_h4 : k0_cond4 arg31 arg32 = 1#1), ∀ a, (k0_off28 arg31 arg33) a + S1x512x2048.size a ≤ S4x512x16384.size a) ∧
  (∀ (k0_h4 : k0_cond4 arg31 arg32 = 1#1), ∀ (hinb : ∀ a, (k0_off28 arg31 arg33) a + S1x512x2048.size a ≤ S4x512x16384.size a), (Rect.unit (s := S4x512x16384) (k0_off28 arg31 arg33) S1x512x2048.size hinb).WholeWords (EltTy.packing .i8)) ∧
  (∀ (k0_h4 : k0_cond4 arg31 arg32 = 1#1), ∀ a, (k0_off30 arg31 arg33) a + S1x8x2048.size a ≤ S4x8x16384.size a)
theorem k0_mult4_dvd : ∀ (arg31 : BitVec 32) (arg32 : BitVec 32) (arg33 : BitVec 32) (k0_hw5 : k0_chk5 arg31 arg32 arg33), ∀ (k0_h3 : k0_cond3 arg31 arg32 = 1#1), 2048 ∣ (k0_mult4 arg33).toNat := fun arg31 arg32 arg33 k0_hw5 k0_h3 => k0_hw5.1 k0_h3
theorem k0_off23_inb : ∀ (arg31 : BitVec 32) (arg32 : BitVec 32) (arg33 : BitVec 32) (k0_hw5 : k0_chk5 arg31 arg32 arg33), ∀ (k0_h3 : k0_cond3 arg31 arg32 = 1#1), ∀ a, (k0_off23 arg31 arg33) a + S1x512x2048.size a ≤ S4x512x16384.size a := fun arg31 arg32 arg33 k0_hw5 k0_h3 => k0_hw5.2.1 k0_h3
theorem k0_off23_wordsi8 : ∀ (arg31 : BitVec 32) (arg32 : BitVec 32) (arg33 : BitVec 32) (k0_hw5 : k0_chk5 arg31 arg32 arg33), ∀ (k0_h3 : k0_cond3 arg31 arg32 = 1#1), (Rect.unit (s := S4x512x16384) (k0_off23 arg31 arg33) S1x512x2048.size (k0_off23_inb arg31 arg32 arg33 k0_hw5 k0_h3)).WholeWords (EltTy.packing .i8) := fun arg31 arg32 arg33 k0_hw5 k0_h3 => k0_hw5.2.2.1 k0_h3 (k0_off23_inb arg31 arg32 arg33 k0_hw5 k0_h3)
theorem k0_off25_inb : ∀ (arg31 : BitVec 32) (arg32 : BitVec 32) (arg33 : BitVec 32) (k0_hw5 : k0_chk5 arg31 arg32 arg33), ∀ (k0_h3 : k0_cond3 arg31 arg32 = 1#1), ∀ a, (k0_off25 arg31 arg33) a + S1x8x2048.size a ≤ S4x8x16384.size a := fun arg31 arg32 arg33 k0_hw5 k0_h3 => k0_hw5.2.2.2.1 k0_h3
theorem k0_mult5_dvd : ∀ (arg31 : BitVec 32) (arg32 : BitVec 32) (arg33 : BitVec 32) (k0_hw5 : k0_chk5 arg31 arg32 arg33), ∀ (k0_h4 : k0_cond4 arg31 arg32 = 1#1), 2048 ∣ (k0_mult5 arg33).toNat := fun arg31 arg32 arg33 k0_hw5 k0_h4 => k0_hw5.2.2.2.2.1 k0_h4
theorem k0_off28_inb : ∀ (arg31 : BitVec 32) (arg32 : BitVec 32) (arg33 : BitVec 32) (k0_hw5 : k0_chk5 arg31 arg32 arg33), ∀ (k0_h4 : k0_cond4 arg31 arg32 = 1#1), ∀ a, (k0_off28 arg31 arg33) a + S1x512x2048.size a ≤ S4x512x16384.size a := fun arg31 arg32 arg33 k0_hw5 k0_h4 => k0_hw5.2.2.2.2.2.1 k0_h4
theorem k0_off28_wordsi8 : ∀ (arg31 : BitVec 32) (arg32 : BitVec 32) (arg33 : BitVec 32) (k0_hw5 : k0_chk5 arg31 arg32 arg33), ∀ (k0_h4 : k0_cond4 arg31 arg32 = 1#1), (Rect.unit (s := S4x512x16384) (k0_off28 arg31 arg33) S1x512x2048.size (k0_off28_inb arg31 arg32 arg33 k0_hw5 k0_h4)).WholeWords (EltTy.packing .i8) := fun arg31 arg32 arg33 k0_hw5 k0_h4 => k0_hw5.2.2.2.2.2.2.1 k0_h4 (k0_off28_inb arg31 arg32 arg33 k0_hw5 k0_h4)
theorem k0_off30_inb : ∀ (arg31 : BitVec 32) (arg32 : BitVec 32) (arg33 : BitVec 32) (k0_hw5 : k0_chk5 arg31 arg32 arg33), ∀ (k0_h4 : k0_cond4 arg31 arg32 = 1#1), ∀ a, (k0_off30 arg31 arg33) a + S1x8x2048.size a ≤ S4x8x16384.size a := fun arg31 arg32 arg33 k0_hw5 k0_h4 => k0_hw5.2.2.2.2.2.2.2 k0_h4

def k0_off31 (arg31 : BitVec 32) : Fin 1 → Nat :=
  let c3_i32 : BitVec 32 := 3#32
  let v497 : BitVec 32 := Scalar.minsi arg31 c3_i32
  let v498 : Index := Scalar.indexCast v497
  ![v498.toNat]

def k0_chk7 (arg31 : BitVec 32) : Prop :=
  (∀ a, (k0_off31 arg31) a + S1.size a ≤ S4.size a)
theorem k0_off31_inb : ∀ (arg31 : BitVec 32) (k0_hw7 : k0_chk7 arg31), ∀ a, (k0_off31 arg31) a + S1.size a ≤ S4.size a := fun arg31 k0_hw7 => k0_hw7

@[reducible] def k0_t4_loop (v251 : BitVec 32) : Scf.Loop 32 :=
  let c0_i32_128 : BitVec 32 := 0#32
  let c2047_i32 : BitVec 32 := 2047#32
  let v252 : BitVec 32 := Scalar.addi v251 c2047_i32
  let c11_i32 : BitVec 32 := 11#32
  let v253 : BitVec 32 := Scalar.shrui v252 c11_i32
  let c1_i32_120 : BitVec 32 := 1#32
  let v254 : BitVec 32 := Scalar.maxsi v253 c1_i32_120
  let v267 : BitVec 32 := Scalar.subi v254 c0_i32_128
  let c1_i32_129 : BitVec 32 := 1#32
  let v269 : BitVec 32 := Scalar.divsi v267 c1_i32_129
  let v270 : BitVec 32 := Scalar.muli v269 c1_i32_129
  let v271 : BitVec 32 := Scalar.addi c0_i32_128 v270
  let v268 : BitVec 32 := Scalar.addi c0_i32_128 v267
  let c1_i32_131 : BitVec 32 := 1#32
  ⟨v271, v268, c1_i32_131⟩
def k0_mult6 : BitVec 32 :=
  let c0_i32_160 : BitVec 32 := 0#32
  c0_i32_160
def k0_off32 (arg30 : BitVec 32) : Fin 1 → Nat :=
  let c12_i32_158 : BitVec 32 := 12#32
  let v336 : BitVec 32 := Scalar.subi arg30 c12_i32_158
  let c12_i32_159 : BitVec 32 := 12#32
  let v337 : BitVec 32 := Scalar.remsi v336 c12_i32_159
  ![v337.toNat]

def k0_off33 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_162 : BitVec 32 := 0#32
  let c0_i32_163 : BitVec 32 := 0#32
  ![v337.toNat, 0, 0]
def k0_off34 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_166 : BitVec 32 := 0#32
  let c0_i32_167 : BitVec 32 := 0#32
  ![v337.toNat, 0, 0]
def k0_off35 (k0_t2 : Fin k0_t2_loop.trips) : Fin 3 → Nat :=
  let c0_i32_116 : BitVec 32 := 0#32
  let c1_i32_118 : BitVec 32 := 1#32
  let arg24 : BitVec 32 := Scf.iv c0_i32_116 c1_i32_118 k0_t2
  let v351 : Index := Scalar.indexCast arg24
  let c0_169 : Index := 0#32
  let c0_170 : Index := 0#32
  ![v351.toNat, 0, 0]
def k0_off36 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v354 : Index := Scalar.indexCast v337
  let c0_171 : Index := 0#32
  let c0_172 : Index := 0#32
  ![v354.toNat, 0, 0]
def k0_off37 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v359 : Index := Scalar.indexCast v337
  let c0_174 : Index := 0#32
  let c0_175 : Index := 0#32
  ![v359.toNat, 0, 0]

def k0_chk8 (arg30 : BitVec 32) : Prop :=
  (∀ a, (k0_off32 arg30) a + S1.size a ≤ S12.size a) ∧
  (∀ a, (k0_off33 arg30) a + S1x512x2048.size a ≤ S12x512x2048.size a) ∧
  (∀ (hinb : ∀ a, (k0_off33 arg30) a + S1x512x2048.size a ≤ S12x512x2048.size a), (Rect.unit (s := S12x512x2048) (k0_off33 arg30) S1x512x2048.size hinb).WholeWords (EltTy.packing .i8)) ∧
  (∀ a, (k0_off34 arg30) a + S1x8x2048.size a ≤ S12x8x2048.size a) ∧
  (∀ a, (k0_off36 arg30) a + S1x512x2048.size a ≤ S12x512x2048.size a) ∧
  (∀ a, (k0_off37 arg30) a + S1x8x2048.size a ≤ S12x8x2048.size a)
theorem k0_off32_inb : ∀ (arg30 : BitVec 32) (k0_hw8 : k0_chk8 arg30), ∀ a, (k0_off32 arg30) a + S1.size a ≤ S12.size a := fun arg30 k0_hw8 => k0_hw8.1
theorem k0_off33_inb : ∀ (arg30 : BitVec 32) (k0_hw8 : k0_chk8 arg30), ∀ a, (k0_off33 arg30) a + S1x512x2048.size a ≤ S12x512x2048.size a := fun arg30 k0_hw8 => k0_hw8.2.1
theorem k0_off33_wordsi8 : ∀ (arg30 : BitVec 32) (k0_hw8 : k0_chk8 arg30), (Rect.unit (s := S12x512x2048) (k0_off33 arg30) S1x512x2048.size (k0_off33_inb arg30 k0_hw8)).WholeWords (EltTy.packing .i8) := fun arg30 k0_hw8 => k0_hw8.2.2.1 (k0_off33_inb arg30 k0_hw8)
theorem k0_off34_inb : ∀ (arg30 : BitVec 32) (k0_hw8 : k0_chk8 arg30), ∀ a, (k0_off34 arg30) a + S1x8x2048.size a ≤ S12x8x2048.size a := fun arg30 k0_hw8 => k0_hw8.2.2.2.1
theorem k0_off36_inb : ∀ (arg30 : BitVec 32) (k0_hw8 : k0_chk8 arg30), ∀ a, (k0_off36 arg30) a + S1x512x2048.size a ≤ S12x512x2048.size a := fun arg30 k0_hw8 => k0_hw8.2.2.2.2.1
theorem k0_off37_inb : ∀ (arg30 : BitVec 32) (k0_hw8 : k0_chk8 arg30), ∀ a, (k0_off37 arg30) a + S1x8x2048.size a ≤ S12x8x2048.size a := fun arg30 k0_hw8 => k0_hw8.2.2.2.2.2

def k0_off38 (v251 : BitVec 32) (k0_t4 : Fin (k0_t4_loop v251).trips) : Fin 3 → Nat :=
  let c0_i32_128 : BitVec 32 := 0#32
  let c2047_i32 : BitVec 32 := 2047#32
  let v252 : BitVec 32 := Scalar.addi v251 c2047_i32
  let c11_i32 : BitVec 32 := 11#32
  let v253 : BitVec 32 := Scalar.shrui v252 c11_i32
  let c1_i32_120 : BitVec 32 := 1#32
  let v254 : BitVec 32 := Scalar.maxsi v253 c1_i32_120
  let v267 : BitVec 32 := Scalar.subi v254 c0_i32_128
  let c1_i32_129 : BitVec 32 := 1#32
  let v269 : BitVec 32 := Scalar.divsi v267 c1_i32_129
  let v270 : BitVec 32 := Scalar.muli v269 c1_i32_129
  let v271 : BitVec 32 := Scalar.addi c0_i32_128 v270
  let c1_i32_131 : BitVec 32 := 1#32
  let arg29 : BitVec 32 := Scf.iv v271 c1_i32_131 k0_t4
  let v376 : Index := Scalar.indexCast arg29
  let c0_178 : Index := 0#32
  let c0_179 : Index := 0#32
  ![v376.toNat, 0, 0]
def k0_mult7 (arg33 : BitVec 32) : BitVec 32 :=
  let c2048_i32_204 : BitVec 32 := 2048#32
  let v514 : BitVec 32 := Scalar.muli arg33 c2048_i32_204
  v514
def k0_cond5 (arg31 : BitVec 32) (arg32 : BitVec 32) : BitVec 1 :=
  let c4_i32_188 : BitVec 32 := 4#32
  let v487 : BitVec 1 := Scalar.cmpi .slt arg31 c4_i32_188
  let c0_i32_190 : BitVec 32 := 0#32
  let v489 : BitVec 1 := Scalar.cmpi .eq arg32 c0_i32_190
  let v490 : BitVec 1 := Scalar.andi v487 v489
  let v491 : BitVec 32 := Scalar.extui v490
  let c0_i32_191 : BitVec 32 := 0#32
  let v492 : BitVec 1 := Scalar.cmpi .ne v491 c0_i32_191
  v492

def k0_off39 (arg30 : BitVec 32) : Fin 1 → Nat :=
  let c12_i32_189 : BitVec 32 := 12#32
  let v488 : BitVec 32 := Scalar.remsi arg30 c12_i32_189
  ![v488.toNat]

def k0_off40 (arg30 : BitVec 32) : Fin 3 → Nat :=
  let c12_i32_189 : BitVec 32 := 12#32
  let v488 : BitVec 32 := Scalar.remsi arg30 c12_i32_189
  let c0_i32_205 : BitVec 32 := 0#32
  let c0_i32_206 : BitVec 32 := 0#32
  ![v488.toNat, 0, 0]
def k0_off41 (arg31 : BitVec 32) (arg33 : BitVec 32) : Fin 3 → Nat :=
  let c0_i32_207 : BitVec 32 := 0#32
  let c2048_i32_204 : BitVec 32 := 2048#32
  let v514 : BitVec 32 := Scalar.muli arg33 c2048_i32_204
  let v515 : BitVec 32 := v514
  ![arg31.toNat, 0, v515.toNat]
def k0_off42 (arg30 : BitVec 32) : Fin 3 → Nat :=
  let c12_i32_189 : BitVec 32 := 12#32
  let v488 : BitVec 32 := Scalar.remsi arg30 c12_i32_189
  let c0_i32_208 : BitVec 32 := 0#32
  let c0_i32_209 : BitVec 32 := 0#32
  ![v488.toNat, 0, 0]
def k0_off43 (arg31 : BitVec 32) (arg33 : BitVec 32) : Fin 3 → Nat :=
  let c0_i32_210 : BitVec 32 := 0#32
  let c2048_i32_204 : BitVec 32 := 2048#32
  let v514 : BitVec 32 := Scalar.muli arg33 c2048_i32_204
  let v515 : BitVec 32 := v514
  ![arg31.toNat, 0, v515.toNat]
def k0_mult8 (arg33 : BitVec 32) : BitVec 32 :=
  let c2048_i32_204 : BitVec 32 := 2048#32
  let v514 : BitVec 32 := Scalar.muli arg33 c2048_i32_204
  v514
def k0_cond6 (arg31 : BitVec 32) (arg32 : BitVec 32) : BitVec 1 :=
  let c4_i32_188 : BitVec 32 := 4#32
  let v487 : BitVec 1 := Scalar.cmpi .slt arg31 c4_i32_188
  let c1_i32_192 : BitVec 32 := 1#32
  let v493 : BitVec 1 := Scalar.cmpi .eq arg32 c1_i32_192
  let v494 : BitVec 1 := Scalar.andi v487 v493
  let v495 : BitVec 32 := Scalar.extui v494
  let c0_i32_193 : BitVec 32 := 0#32
  let v496 : BitVec 1 := Scalar.cmpi .ne v495 c0_i32_193
  v496

def k0_off44 (arg30 : BitVec 32) : Fin 1 → Nat :=
  let c12_i32_189 : BitVec 32 := 12#32
  let v488 : BitVec 32 := Scalar.remsi arg30 c12_i32_189
  ![v488.toNat]
def k0_off45 (arg30 : BitVec 32) : Fin 3 → Nat :=
  let c12_i32_189 : BitVec 32 := 12#32
  let v488 : BitVec 32 := Scalar.remsi arg30 c12_i32_189
  let c0_i32_205 : BitVec 32 := 0#32
  let c0_i32_206 : BitVec 32 := 0#32
  ![v488.toNat, 0, 0]
def k0_off46 (arg31 : BitVec 32) (arg33 : BitVec 32) : Fin 3 → Nat :=
  let c0_i32_207 : BitVec 32 := 0#32
  let c2048_i32_204 : BitVec 32 := 2048#32
  let v514 : BitVec 32 := Scalar.muli arg33 c2048_i32_204
  let v515 : BitVec 32 := v514
  ![arg31.toNat, 0, v515.toNat]
def k0_off47 (arg30 : BitVec 32) : Fin 3 → Nat :=
  let c12_i32_189 : BitVec 32 := 12#32
  let v488 : BitVec 32 := Scalar.remsi arg30 c12_i32_189
  let c0_i32_208 : BitVec 32 := 0#32
  let c0_i32_209 : BitVec 32 := 0#32
  ![v488.toNat, 0, 0]

def k0_chk10 (arg30 : BitVec 32) (arg31 : BitVec 32) (arg32 : BitVec 32) : Prop :=
  (∀ (k0_h5 : k0_cond5 arg31 arg32 = 1#1), ∀ a, (k0_off39 arg30) a + S1.size a ≤ S12.size a) ∧
  (∀ (k0_h5 : k0_cond5 arg31 arg32 = 1#1), ∀ a, (k0_off40 arg30) a + S1x512x2048.size a ≤ S12x512x2048.size a) ∧
  (∀ (k0_h5 : k0_cond5 arg31 arg32 = 1#1), ∀ (hinb : ∀ a, (k0_off40 arg30) a + S1x512x2048.size a ≤ S12x512x2048.size a), (Rect.unit (s := S12x512x2048) (k0_off40 arg30) S1x512x2048.size hinb).WholeWords (EltTy.packing .i8)) ∧
  (∀ (k0_h5 : k0_cond5 arg31 arg32 = 1#1), ∀ a, (k0_off42 arg30) a + S1x8x2048.size a ≤ S12x8x2048.size a) ∧
  (∀ (k0_h6 : k0_cond6 arg31 arg32 = 1#1), ∀ a, (k0_off44 arg30) a + S1.size a ≤ S12.size a) ∧
  (∀ (k0_h6 : k0_cond6 arg31 arg32 = 1#1), ∀ a, (k0_off45 arg30) a + S1x512x2048.size a ≤ S12x512x2048.size a) ∧
  (∀ (k0_h6 : k0_cond6 arg31 arg32 = 1#1), ∀ (hinb : ∀ a, (k0_off45 arg30) a + S1x512x2048.size a ≤ S12x512x2048.size a), (Rect.unit (s := S12x512x2048) (k0_off45 arg30) S1x512x2048.size hinb).WholeWords (EltTy.packing .i8)) ∧
  (∀ (k0_h6 : k0_cond6 arg31 arg32 = 1#1), ∀ a, (k0_off47 arg30) a + S1x8x2048.size a ≤ S12x8x2048.size a)
theorem k0_off39_inb : ∀ (arg30 : BitVec 32) (arg31 : BitVec 32) (arg32 : BitVec 32) (k0_hw10 : k0_chk10 arg30 arg31 arg32), ∀ (k0_h5 : k0_cond5 arg31 arg32 = 1#1), ∀ a, (k0_off39 arg30) a + S1.size a ≤ S12.size a := fun arg30 arg31 arg32 k0_hw10 k0_h5 => k0_hw10.1 k0_h5
theorem k0_off40_inb : ∀ (arg30 : BitVec 32) (arg31 : BitVec 32) (arg32 : BitVec 32) (k0_hw10 : k0_chk10 arg30 arg31 arg32), ∀ (k0_h5 : k0_cond5 arg31 arg32 = 1#1), ∀ a, (k0_off40 arg30) a + S1x512x2048.size a ≤ S12x512x2048.size a := fun arg30 arg31 arg32 k0_hw10 k0_h5 => k0_hw10.2.1 k0_h5
theorem k0_off40_wordsi8 : ∀ (arg30 : BitVec 32) (arg31 : BitVec 32) (arg32 : BitVec 32) (k0_hw10 : k0_chk10 arg30 arg31 arg32), ∀ (k0_h5 : k0_cond5 arg31 arg32 = 1#1), (Rect.unit (s := S12x512x2048) (k0_off40 arg30) S1x512x2048.size (k0_off40_inb arg30 arg31 arg32 k0_hw10 k0_h5)).WholeWords (EltTy.packing .i8) := fun arg30 arg31 arg32 k0_hw10 k0_h5 => k0_hw10.2.2.1 k0_h5 (k0_off40_inb arg30 arg31 arg32 k0_hw10 k0_h5)
theorem k0_off42_inb : ∀ (arg30 : BitVec 32) (arg31 : BitVec 32) (arg32 : BitVec 32) (k0_hw10 : k0_chk10 arg30 arg31 arg32), ∀ (k0_h5 : k0_cond5 arg31 arg32 = 1#1), ∀ a, (k0_off42 arg30) a + S1x8x2048.size a ≤ S12x8x2048.size a := fun arg30 arg31 arg32 k0_hw10 k0_h5 => k0_hw10.2.2.2.1 k0_h5
theorem k0_off44_inb : ∀ (arg30 : BitVec 32) (arg31 : BitVec 32) (arg32 : BitVec 32) (k0_hw10 : k0_chk10 arg30 arg31 arg32), ∀ (k0_h6 : k0_cond6 arg31 arg32 = 1#1), ∀ a, (k0_off44 arg30) a + S1.size a ≤ S12.size a := fun arg30 arg31 arg32 k0_hw10 k0_h6 => k0_hw10.2.2.2.2.1 k0_h6
theorem k0_off45_inb : ∀ (arg30 : BitVec 32) (arg31 : BitVec 32) (arg32 : BitVec 32) (k0_hw10 : k0_chk10 arg30 arg31 arg32), ∀ (k0_h6 : k0_cond6 arg31 arg32 = 1#1), ∀ a, (k0_off45 arg30) a + S1x512x2048.size a ≤ S12x512x2048.size a := fun arg30 arg31 arg32 k0_hw10 k0_h6 => k0_hw10.2.2.2.2.2.1 k0_h6
theorem k0_off45_wordsi8 : ∀ (arg30 : BitVec 32) (arg31 : BitVec 32) (arg32 : BitVec 32) (k0_hw10 : k0_chk10 arg30 arg31 arg32), ∀ (k0_h6 : k0_cond6 arg31 arg32 = 1#1), (Rect.unit (s := S12x512x2048) (k0_off45 arg30) S1x512x2048.size (k0_off45_inb arg30 arg31 arg32 k0_hw10 k0_h6)).WholeWords (EltTy.packing .i8) := fun arg30 arg31 arg32 k0_hw10 k0_h6 => k0_hw10.2.2.2.2.2.2.1 k0_h6 (k0_off45_inb arg30 arg31 arg32 k0_hw10 k0_h6)
theorem k0_off47_inb : ∀ (arg30 : BitVec 32) (arg31 : BitVec 32) (arg32 : BitVec 32) (k0_hw10 : k0_chk10 arg30 arg31 arg32), ∀ (k0_h6 : k0_cond6 arg31 arg32 = 1#1), ∀ a, (k0_off47 arg30) a + S1x8x2048.size a ≤ S12x8x2048.size a := fun arg30 arg31 arg32 k0_hw10 k0_h6 => k0_hw10.2.2.2.2.2.2.2 k0_h6

def k0_off48 (arg31 : BitVec 32) (arg33 : BitVec 32) : Fin 3 → Nat :=
  let c0_i32_210 : BitVec 32 := 0#32
  let c2048_i32_204 : BitVec 32 := 2048#32
  let v514 : BitVec 32 := Scalar.muli arg33 c2048_i32_204
  let v515 : BitVec 32 := v514
  ![arg31.toNat, 0, v515.toNat]

def k0_chk9 (arg31 : BitVec 32) (arg32 : BitVec 32) (arg33 : BitVec 32) : Prop :=
  (∀ (k0_h5 : k0_cond5 arg31 arg32 = 1#1), 2048 ∣ (k0_mult7 arg33).toNat) ∧
  (∀ (k0_h5 : k0_cond5 arg31 arg32 = 1#1), ∀ a, (k0_off41 arg31 arg33) a + S1x512x2048.size a ≤ S4x512x16384.size a) ∧
  (∀ (k0_h5 : k0_cond5 arg31 arg32 = 1#1), ∀ (hinb : ∀ a, (k0_off41 arg31 arg33) a + S1x512x2048.size a ≤ S4x512x16384.size a), (Rect.unit (s := S4x512x16384) (k0_off41 arg31 arg33) S1x512x2048.size hinb).WholeWords (EltTy.packing .i8)) ∧
  (∀ (k0_h5 : k0_cond5 arg31 arg32 = 1#1), ∀ a, (k0_off43 arg31 arg33) a + S1x8x2048.size a ≤ S4x8x16384.size a) ∧
  (∀ (k0_h6 : k0_cond6 arg31 arg32 = 1#1), 2048 ∣ (k0_mult8 arg33).toNat) ∧
  (∀ (k0_h6 : k0_cond6 arg31 arg32 = 1#1), ∀ a, (k0_off46 arg31 arg33) a + S1x512x2048.size a ≤ S4x512x16384.size a) ∧
  (∀ (k0_h6 : k0_cond6 arg31 arg32 = 1#1), ∀ (hinb : ∀ a, (k0_off46 arg31 arg33) a + S1x512x2048.size a ≤ S4x512x16384.size a), (Rect.unit (s := S4x512x16384) (k0_off46 arg31 arg33) S1x512x2048.size hinb).WholeWords (EltTy.packing .i8)) ∧
  (∀ (k0_h6 : k0_cond6 arg31 arg32 = 1#1), ∀ a, (k0_off48 arg31 arg33) a + S1x8x2048.size a ≤ S4x8x16384.size a)
theorem k0_mult7_dvd : ∀ (arg31 : BitVec 32) (arg32 : BitVec 32) (arg33 : BitVec 32) (k0_hw9 : k0_chk9 arg31 arg32 arg33), ∀ (k0_h5 : k0_cond5 arg31 arg32 = 1#1), 2048 ∣ (k0_mult7 arg33).toNat := fun arg31 arg32 arg33 k0_hw9 k0_h5 => k0_hw9.1 k0_h5
theorem k0_off41_inb : ∀ (arg31 : BitVec 32) (arg32 : BitVec 32) (arg33 : BitVec 32) (k0_hw9 : k0_chk9 arg31 arg32 arg33), ∀ (k0_h5 : k0_cond5 arg31 arg32 = 1#1), ∀ a, (k0_off41 arg31 arg33) a + S1x512x2048.size a ≤ S4x512x16384.size a := fun arg31 arg32 arg33 k0_hw9 k0_h5 => k0_hw9.2.1 k0_h5
theorem k0_off41_wordsi8 : ∀ (arg31 : BitVec 32) (arg32 : BitVec 32) (arg33 : BitVec 32) (k0_hw9 : k0_chk9 arg31 arg32 arg33), ∀ (k0_h5 : k0_cond5 arg31 arg32 = 1#1), (Rect.unit (s := S4x512x16384) (k0_off41 arg31 arg33) S1x512x2048.size (k0_off41_inb arg31 arg32 arg33 k0_hw9 k0_h5)).WholeWords (EltTy.packing .i8) := fun arg31 arg32 arg33 k0_hw9 k0_h5 => k0_hw9.2.2.1 k0_h5 (k0_off41_inb arg31 arg32 arg33 k0_hw9 k0_h5)
theorem k0_off43_inb : ∀ (arg31 : BitVec 32) (arg32 : BitVec 32) (arg33 : BitVec 32) (k0_hw9 : k0_chk9 arg31 arg32 arg33), ∀ (k0_h5 : k0_cond5 arg31 arg32 = 1#1), ∀ a, (k0_off43 arg31 arg33) a + S1x8x2048.size a ≤ S4x8x16384.size a := fun arg31 arg32 arg33 k0_hw9 k0_h5 => k0_hw9.2.2.2.1 k0_h5
theorem k0_mult8_dvd : ∀ (arg31 : BitVec 32) (arg32 : BitVec 32) (arg33 : BitVec 32) (k0_hw9 : k0_chk9 arg31 arg32 arg33), ∀ (k0_h6 : k0_cond6 arg31 arg32 = 1#1), 2048 ∣ (k0_mult8 arg33).toNat := fun arg31 arg32 arg33 k0_hw9 k0_h6 => k0_hw9.2.2.2.2.1 k0_h6
theorem k0_off46_inb : ∀ (arg31 : BitVec 32) (arg32 : BitVec 32) (arg33 : BitVec 32) (k0_hw9 : k0_chk9 arg31 arg32 arg33), ∀ (k0_h6 : k0_cond6 arg31 arg32 = 1#1), ∀ a, (k0_off46 arg31 arg33) a + S1x512x2048.size a ≤ S4x512x16384.size a := fun arg31 arg32 arg33 k0_hw9 k0_h6 => k0_hw9.2.2.2.2.2.1 k0_h6
theorem k0_off46_wordsi8 : ∀ (arg31 : BitVec 32) (arg32 : BitVec 32) (arg33 : BitVec 32) (k0_hw9 : k0_chk9 arg31 arg32 arg33), ∀ (k0_h6 : k0_cond6 arg31 arg32 = 1#1), (Rect.unit (s := S4x512x16384) (k0_off46 arg31 arg33) S1x512x2048.size (k0_off46_inb arg31 arg32 arg33 k0_hw9 k0_h6)).WholeWords (EltTy.packing .i8) := fun arg31 arg32 arg33 k0_hw9 k0_h6 => k0_hw9.2.2.2.2.2.2.1 k0_h6 (k0_off46_inb arg31 arg32 arg33 k0_hw9 k0_h6)
theorem k0_off48_inb : ∀ (arg31 : BitVec 32) (arg32 : BitVec 32) (arg33 : BitVec 32) (k0_hw9 : k0_chk9 arg31 arg32 arg33), ∀ (k0_h6 : k0_cond6 arg31 arg32 = 1#1), ∀ a, (k0_off48 arg31 arg33) a + S1x8x2048.size a ≤ S4x8x16384.size a := fun arg31 arg32 arg33 k0_hw9 k0_h6 => k0_hw9.2.2.2.2.2.2.2 k0_h6

def k0_off49 (arg31 : BitVec 32) : Fin 1 → Nat :=
  let c3_i32 : BitVec 32 := 3#32
  let v497 : BitVec 32 := Scalar.minsi arg31 c3_i32
  let v498 : Index := Scalar.indexCast v497
  ![v498.toNat]

def k0_chk11 (arg31 : BitVec 32) : Prop :=
  (∀ a, (k0_off49 arg31) a + S1.size a ≤ S4.size a)
theorem k0_off49_inb : ∀ (arg31 : BitVec 32) (k0_hw11 : k0_chk11 arg31), ∀ a, (k0_off49 arg31) a + S1.size a ≤ S4.size a := fun arg31 k0_hw11 => k0_hw11

def k0_off50 (k0_t2 : Fin k0_t2_loop.trips) : Fin 3 → Nat :=
  let c0_i32_116 : BitVec 32 := 0#32
  let c1_i32_118 : BitVec 32 := 1#32
  let arg24 : BitVec 32 := Scf.iv c0_i32_116 c1_i32_118 k0_t2
  let v274 : Index := Scalar.indexCast arg24
  let c0_132 : Index := 0#32
  let c0_133 : Index := 0#32
  ![v274.toNat, 0, 0]
@[reducible] def k0_t5_loop (v251 : BitVec 32) : Scf.Loop 32 :=
  let c0_i32_144 : BitVec 32 := 0#32
  let c2047_i32 : BitVec 32 := 2047#32
  let v252 : BitVec 32 := Scalar.addi v251 c2047_i32
  let c11_i32 : BitVec 32 := 11#32
  let v253 : BitVec 32 := Scalar.shrui v252 c11_i32
  let c1_i32_120 : BitVec 32 := 1#32
  let v254 : BitVec 32 := Scalar.maxsi v253 c1_i32_120
  let v297 : BitVec 32 := Scalar.subi v254 c0_i32_144
  let c1_i32_145 : BitVec 32 := 1#32
  let v299 : BitVec 32 := Scalar.divsi v297 c1_i32_145
  let v300 : BitVec 32 := Scalar.muli v299 c1_i32_145
  let v301 : BitVec 32 := Scalar.addi c0_i32_144 v300
  let c1_i32_146 : BitVec 32 := 1#32
  ⟨c0_i32_144, v301, c1_i32_146⟩
def k0_mult9 : BitVec 32 :=
  let c0_i32_160 : BitVec 32 := 0#32
  c0_i32_160
def k0_off51 (arg30 : BitVec 32) : Fin 1 → Nat :=
  let c12_i32_158 : BitVec 32 := 12#32
  let v336 : BitVec 32 := Scalar.subi arg30 c12_i32_158
  let c12_i32_159 : BitVec 32 := 12#32
  let v337 : BitVec 32 := Scalar.remsi v336 c12_i32_159
  ![v337.toNat]

def k0_off52 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_162 : BitVec 32 := 0#32
  let c0_i32_163 : BitVec 32 := 0#32
  ![v337.toNat, 0, 0]
def k0_off53 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_166 : BitVec 32 := 0#32
  let c0_i32_167 : BitVec 32 := 0#32
  ![v337.toNat, 0, 0]
def k0_off54 (v251 : BitVec 32) (k0_t5 : Fin (k0_t5_loop v251).trips) : Fin 3 → Nat :=
  let c0_i32_144 : BitVec 32 := 0#32
  let c1_i32_146 : BitVec 32 := 1#32
  let arg29 : BitVec 32 := Scf.iv c0_i32_144 c1_i32_146 k0_t5
  let v351 : Index := Scalar.indexCast arg29
  let c0_169 : Index := 0#32
  let c0_170 : Index := 0#32
  ![v351.toNat, 0, 0]
def k0_off55 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v360 : Index := Scalar.indexCast v337
  let c0_171 : Index := 0#32
  let c0_172 : Index := 0#32
  ![v360.toNat, 0, 0]
def k0_off56 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v368 : Index := Scalar.indexCast v337
  let c0_175 : Index := 0#32
  let c0_176 : Index := 0#32
  ![v368.toNat, 0, 0]

def k0_chk12 (arg30 : BitVec 32) : Prop :=
  (∀ a, (k0_off51 arg30) a + S1.size a ≤ S12.size a) ∧
  (∀ a, (k0_off52 arg30) a + S1x512x2048.size a ≤ S12x512x2048.size a) ∧
  (∀ (hinb : ∀ a, (k0_off52 arg30) a + S1x512x2048.size a ≤ S12x512x2048.size a), (Rect.unit (s := S12x512x2048) (k0_off52 arg30) S1x512x2048.size hinb).WholeWords (EltTy.packing .i8)) ∧
  (∀ a, (k0_off53 arg30) a + S1x8x2048.size a ≤ S12x8x2048.size a) ∧
  (∀ a, (k0_off55 arg30) a + S1x8x2048.size a ≤ S12x8x2048.size a) ∧
  (∀ a, (k0_off56 arg30) a + S1x512x2048.size a ≤ S12x512x2048.size a)
theorem k0_off51_inb : ∀ (arg30 : BitVec 32) (k0_hw12 : k0_chk12 arg30), ∀ a, (k0_off51 arg30) a + S1.size a ≤ S12.size a := fun arg30 k0_hw12 => k0_hw12.1
theorem k0_off52_inb : ∀ (arg30 : BitVec 32) (k0_hw12 : k0_chk12 arg30), ∀ a, (k0_off52 arg30) a + S1x512x2048.size a ≤ S12x512x2048.size a := fun arg30 k0_hw12 => k0_hw12.2.1
theorem k0_off52_wordsi8 : ∀ (arg30 : BitVec 32) (k0_hw12 : k0_chk12 arg30), (Rect.unit (s := S12x512x2048) (k0_off52 arg30) S1x512x2048.size (k0_off52_inb arg30 k0_hw12)).WholeWords (EltTy.packing .i8) := fun arg30 k0_hw12 => k0_hw12.2.2.1 (k0_off52_inb arg30 k0_hw12)
theorem k0_off53_inb : ∀ (arg30 : BitVec 32) (k0_hw12 : k0_chk12 arg30), ∀ a, (k0_off53 arg30) a + S1x8x2048.size a ≤ S12x8x2048.size a := fun arg30 k0_hw12 => k0_hw12.2.2.2.1
theorem k0_off55_inb : ∀ (arg30 : BitVec 32) (k0_hw12 : k0_chk12 arg30), ∀ a, (k0_off55 arg30) a + S1x8x2048.size a ≤ S12x8x2048.size a := fun arg30 k0_hw12 => k0_hw12.2.2.2.2.1
theorem k0_off56_inb : ∀ (arg30 : BitVec 32) (k0_hw12 : k0_chk12 arg30), ∀ a, (k0_off56 arg30) a + S1x512x2048.size a ≤ S12x512x2048.size a := fun arg30 k0_hw12 => k0_hw12.2.2.2.2.2

def k0_mult10 (arg33 : BitVec 32) : BitVec 32 :=
  let c2048_i32 : BitVec 32 := 2048#32
  let v405 : BitVec 32 := Scalar.muli arg33 c2048_i32
  v405
def k0_cond7 (arg31 : BitVec 32) (arg32 : BitVec 32) : BitVec 1 :=
  let c4_i32_180 : BitVec 32 := 4#32
  let v378 : BitVec 1 := Scalar.cmpi .slt arg31 c4_i32_180
  let c0_i32_182 : BitVec 32 := 0#32
  let v380 : BitVec 1 := Scalar.cmpi .eq arg32 c0_i32_182
  let v381 : BitVec 1 := Scalar.andi v378 v380
  let v382 : BitVec 32 := Scalar.extui v381
  let c0_i32_183 : BitVec 32 := 0#32
  let v383 : BitVec 1 := Scalar.cmpi .ne v382 c0_i32_183
  v383

def k0_off57 (arg30 : BitVec 32) : Fin 1 → Nat :=
  let c12_i32_181 : BitVec 32 := 12#32
  let v379 : BitVec 32 := Scalar.remsi arg30 c12_i32_181
  ![v379.toNat]

def k0_off58 (arg30 : BitVec 32) : Fin 3 → Nat :=
  let c12_i32_181 : BitVec 32 := 12#32
  let v379 : BitVec 32 := Scalar.remsi arg30 c12_i32_181
  let c0_i32_196 : BitVec 32 := 0#32
  let c0_i32_197 : BitVec 32 := 0#32
  ![v379.toNat, 0, 0]
def k0_off59 (arg31 : BitVec 32) (arg33 : BitVec 32) : Fin 3 → Nat :=
  let c0_i32_198 : BitVec 32 := 0#32
  let c2048_i32 : BitVec 32 := 2048#32
  let v405 : BitVec 32 := Scalar.muli arg33 c2048_i32
  let v406 : BitVec 32 := v405
  ![arg31.toNat, 0, v406.toNat]
def k0_off60 (arg30 : BitVec 32) : Fin 3 → Nat :=
  let c12_i32_181 : BitVec 32 := 12#32
  let v379 : BitVec 32 := Scalar.remsi arg30 c12_i32_181
  let c0_i32_199 : BitVec 32 := 0#32
  let c0_i32_200 : BitVec 32 := 0#32
  ![v379.toNat, 0, 0]
def k0_off61 (arg31 : BitVec 32) (arg33 : BitVec 32) : Fin 3 → Nat :=
  let c0_i32_201 : BitVec 32 := 0#32
  let c2048_i32 : BitVec 32 := 2048#32
  let v405 : BitVec 32 := Scalar.muli arg33 c2048_i32
  let v406 : BitVec 32 := v405
  ![arg31.toNat, 0, v406.toNat]
def k0_mult11 (arg33 : BitVec 32) : BitVec 32 :=
  let c2048_i32 : BitVec 32 := 2048#32
  let v405 : BitVec 32 := Scalar.muli arg33 c2048_i32
  v405
def k0_cond8 (arg31 : BitVec 32) (arg32 : BitVec 32) : BitVec 1 :=
  let c4_i32_180 : BitVec 32 := 4#32
  let v378 : BitVec 1 := Scalar.cmpi .slt arg31 c4_i32_180
  let c1_i32_184 : BitVec 32 := 1#32
  let v384 : BitVec 1 := Scalar.cmpi .eq arg32 c1_i32_184
  let v385 : BitVec 1 := Scalar.andi v378 v384
  let v386 : BitVec 32 := Scalar.extui v385
  let c0_i32_185 : BitVec 32 := 0#32
  let v387 : BitVec 1 := Scalar.cmpi .ne v386 c0_i32_185
  v387

def k0_off62 (arg30 : BitVec 32) : Fin 1 → Nat :=
  let c12_i32_181 : BitVec 32 := 12#32
  let v379 : BitVec 32 := Scalar.remsi arg30 c12_i32_181
  ![v379.toNat]
def k0_off63 (arg30 : BitVec 32) : Fin 3 → Nat :=
  let c12_i32_181 : BitVec 32 := 12#32
  let v379 : BitVec 32 := Scalar.remsi arg30 c12_i32_181
  let c0_i32_196 : BitVec 32 := 0#32
  let c0_i32_197 : BitVec 32 := 0#32
  ![v379.toNat, 0, 0]
def k0_off64 (arg31 : BitVec 32) (arg33 : BitVec 32) : Fin 3 → Nat :=
  let c0_i32_198 : BitVec 32 := 0#32
  let c2048_i32 : BitVec 32 := 2048#32
  let v405 : BitVec 32 := Scalar.muli arg33 c2048_i32
  let v406 : BitVec 32 := v405
  ![arg31.toNat, 0, v406.toNat]
def k0_off65 (arg30 : BitVec 32) : Fin 3 → Nat :=
  let c12_i32_181 : BitVec 32 := 12#32
  let v379 : BitVec 32 := Scalar.remsi arg30 c12_i32_181
  let c0_i32_199 : BitVec 32 := 0#32
  let c0_i32_200 : BitVec 32 := 0#32
  ![v379.toNat, 0, 0]

def k0_chk14 (arg30 : BitVec 32) (arg31 : BitVec 32) (arg32 : BitVec 32) : Prop :=
  (∀ (k0_h7 : k0_cond7 arg31 arg32 = 1#1), ∀ a, (k0_off57 arg30) a + S1.size a ≤ S12.size a) ∧
  (∀ (k0_h7 : k0_cond7 arg31 arg32 = 1#1), ∀ a, (k0_off58 arg30) a + S1x512x2048.size a ≤ S12x512x2048.size a) ∧
  (∀ (k0_h7 : k0_cond7 arg31 arg32 = 1#1), ∀ (hinb : ∀ a, (k0_off58 arg30) a + S1x512x2048.size a ≤ S12x512x2048.size a), (Rect.unit (s := S12x512x2048) (k0_off58 arg30) S1x512x2048.size hinb).WholeWords (EltTy.packing .i8)) ∧
  (∀ (k0_h7 : k0_cond7 arg31 arg32 = 1#1), ∀ a, (k0_off60 arg30) a + S1x8x2048.size a ≤ S12x8x2048.size a) ∧
  (∀ (k0_h8 : k0_cond8 arg31 arg32 = 1#1), ∀ a, (k0_off62 arg30) a + S1.size a ≤ S12.size a) ∧
  (∀ (k0_h8 : k0_cond8 arg31 arg32 = 1#1), ∀ a, (k0_off63 arg30) a + S1x512x2048.size a ≤ S12x512x2048.size a) ∧
  (∀ (k0_h8 : k0_cond8 arg31 arg32 = 1#1), ∀ (hinb : ∀ a, (k0_off63 arg30) a + S1x512x2048.size a ≤ S12x512x2048.size a), (Rect.unit (s := S12x512x2048) (k0_off63 arg30) S1x512x2048.size hinb).WholeWords (EltTy.packing .i8)) ∧
  (∀ (k0_h8 : k0_cond8 arg31 arg32 = 1#1), ∀ a, (k0_off65 arg30) a + S1x8x2048.size a ≤ S12x8x2048.size a)
theorem k0_off57_inb : ∀ (arg30 : BitVec 32) (arg31 : BitVec 32) (arg32 : BitVec 32) (k0_hw14 : k0_chk14 arg30 arg31 arg32), ∀ (k0_h7 : k0_cond7 arg31 arg32 = 1#1), ∀ a, (k0_off57 arg30) a + S1.size a ≤ S12.size a := fun arg30 arg31 arg32 k0_hw14 k0_h7 => k0_hw14.1 k0_h7
theorem k0_off58_inb : ∀ (arg30 : BitVec 32) (arg31 : BitVec 32) (arg32 : BitVec 32) (k0_hw14 : k0_chk14 arg30 arg31 arg32), ∀ (k0_h7 : k0_cond7 arg31 arg32 = 1#1), ∀ a, (k0_off58 arg30) a + S1x512x2048.size a ≤ S12x512x2048.size a := fun arg30 arg31 arg32 k0_hw14 k0_h7 => k0_hw14.2.1 k0_h7
theorem k0_off58_wordsi8 : ∀ (arg30 : BitVec 32) (arg31 : BitVec 32) (arg32 : BitVec 32) (k0_hw14 : k0_chk14 arg30 arg31 arg32), ∀ (k0_h7 : k0_cond7 arg31 arg32 = 1#1), (Rect.unit (s := S12x512x2048) (k0_off58 arg30) S1x512x2048.size (k0_off58_inb arg30 arg31 arg32 k0_hw14 k0_h7)).WholeWords (EltTy.packing .i8) := fun arg30 arg31 arg32 k0_hw14 k0_h7 => k0_hw14.2.2.1 k0_h7 (k0_off58_inb arg30 arg31 arg32 k0_hw14 k0_h7)
theorem k0_off60_inb : ∀ (arg30 : BitVec 32) (arg31 : BitVec 32) (arg32 : BitVec 32) (k0_hw14 : k0_chk14 arg30 arg31 arg32), ∀ (k0_h7 : k0_cond7 arg31 arg32 = 1#1), ∀ a, (k0_off60 arg30) a + S1x8x2048.size a ≤ S12x8x2048.size a := fun arg30 arg31 arg32 k0_hw14 k0_h7 => k0_hw14.2.2.2.1 k0_h7
theorem k0_off62_inb : ∀ (arg30 : BitVec 32) (arg31 : BitVec 32) (arg32 : BitVec 32) (k0_hw14 : k0_chk14 arg30 arg31 arg32), ∀ (k0_h8 : k0_cond8 arg31 arg32 = 1#1), ∀ a, (k0_off62 arg30) a + S1.size a ≤ S12.size a := fun arg30 arg31 arg32 k0_hw14 k0_h8 => k0_hw14.2.2.2.2.1 k0_h8
theorem k0_off63_inb : ∀ (arg30 : BitVec 32) (arg31 : BitVec 32) (arg32 : BitVec 32) (k0_hw14 : k0_chk14 arg30 arg31 arg32), ∀ (k0_h8 : k0_cond8 arg31 arg32 = 1#1), ∀ a, (k0_off63 arg30) a + S1x512x2048.size a ≤ S12x512x2048.size a := fun arg30 arg31 arg32 k0_hw14 k0_h8 => k0_hw14.2.2.2.2.2.1 k0_h8
theorem k0_off63_wordsi8 : ∀ (arg30 : BitVec 32) (arg31 : BitVec 32) (arg32 : BitVec 32) (k0_hw14 : k0_chk14 arg30 arg31 arg32), ∀ (k0_h8 : k0_cond8 arg31 arg32 = 1#1), (Rect.unit (s := S12x512x2048) (k0_off63 arg30) S1x512x2048.size (k0_off63_inb arg30 arg31 arg32 k0_hw14 k0_h8)).WholeWords (EltTy.packing .i8) := fun arg30 arg31 arg32 k0_hw14 k0_h8 => k0_hw14.2.2.2.2.2.2.1 k0_h8 (k0_off63_inb arg30 arg31 arg32 k0_hw14 k0_h8)
theorem k0_off65_inb : ∀ (arg30 : BitVec 32) (arg31 : BitVec 32) (arg32 : BitVec 32) (k0_hw14 : k0_chk14 arg30 arg31 arg32), ∀ (k0_h8 : k0_cond8 arg31 arg32 = 1#1), ∀ a, (k0_off65 arg30) a + S1x8x2048.size a ≤ S12x8x2048.size a := fun arg30 arg31 arg32 k0_hw14 k0_h8 => k0_hw14.2.2.2.2.2.2.2 k0_h8

def k0_off66 (arg31 : BitVec 32) (arg33 : BitVec 32) : Fin 3 → Nat :=
  let c0_i32_201 : BitVec 32 := 0#32
  let c2048_i32 : BitVec 32 := 2048#32
  let v405 : BitVec 32 := Scalar.muli arg33 c2048_i32
  let v406 : BitVec 32 := v405
  ![arg31.toNat, 0, v406.toNat]

def k0_chk13 (arg31 : BitVec 32) (arg32 : BitVec 32) (arg33 : BitVec 32) : Prop :=
  (∀ (k0_h7 : k0_cond7 arg31 arg32 = 1#1), 2048 ∣ (k0_mult10 arg33).toNat) ∧
  (∀ (k0_h7 : k0_cond7 arg31 arg32 = 1#1), ∀ a, (k0_off59 arg31 arg33) a + S1x512x2048.size a ≤ S4x512x16384.size a) ∧
  (∀ (k0_h7 : k0_cond7 arg31 arg32 = 1#1), ∀ (hinb : ∀ a, (k0_off59 arg31 arg33) a + S1x512x2048.size a ≤ S4x512x16384.size a), (Rect.unit (s := S4x512x16384) (k0_off59 arg31 arg33) S1x512x2048.size hinb).WholeWords (EltTy.packing .i8)) ∧
  (∀ (k0_h7 : k0_cond7 arg31 arg32 = 1#1), ∀ a, (k0_off61 arg31 arg33) a + S1x8x2048.size a ≤ S4x8x16384.size a) ∧
  (∀ (k0_h8 : k0_cond8 arg31 arg32 = 1#1), 2048 ∣ (k0_mult11 arg33).toNat) ∧
  (∀ (k0_h8 : k0_cond8 arg31 arg32 = 1#1), ∀ a, (k0_off64 arg31 arg33) a + S1x512x2048.size a ≤ S4x512x16384.size a) ∧
  (∀ (k0_h8 : k0_cond8 arg31 arg32 = 1#1), ∀ (hinb : ∀ a, (k0_off64 arg31 arg33) a + S1x512x2048.size a ≤ S4x512x16384.size a), (Rect.unit (s := S4x512x16384) (k0_off64 arg31 arg33) S1x512x2048.size hinb).WholeWords (EltTy.packing .i8)) ∧
  (∀ (k0_h8 : k0_cond8 arg31 arg32 = 1#1), ∀ a, (k0_off66 arg31 arg33) a + S1x8x2048.size a ≤ S4x8x16384.size a)
theorem k0_mult10_dvd : ∀ (arg31 : BitVec 32) (arg32 : BitVec 32) (arg33 : BitVec 32) (k0_hw13 : k0_chk13 arg31 arg32 arg33), ∀ (k0_h7 : k0_cond7 arg31 arg32 = 1#1), 2048 ∣ (k0_mult10 arg33).toNat := fun arg31 arg32 arg33 k0_hw13 k0_h7 => k0_hw13.1 k0_h7
theorem k0_off59_inb : ∀ (arg31 : BitVec 32) (arg32 : BitVec 32) (arg33 : BitVec 32) (k0_hw13 : k0_chk13 arg31 arg32 arg33), ∀ (k0_h7 : k0_cond7 arg31 arg32 = 1#1), ∀ a, (k0_off59 arg31 arg33) a + S1x512x2048.size a ≤ S4x512x16384.size a := fun arg31 arg32 arg33 k0_hw13 k0_h7 => k0_hw13.2.1 k0_h7
theorem k0_off59_wordsi8 : ∀ (arg31 : BitVec 32) (arg32 : BitVec 32) (arg33 : BitVec 32) (k0_hw13 : k0_chk13 arg31 arg32 arg33), ∀ (k0_h7 : k0_cond7 arg31 arg32 = 1#1), (Rect.unit (s := S4x512x16384) (k0_off59 arg31 arg33) S1x512x2048.size (k0_off59_inb arg31 arg32 arg33 k0_hw13 k0_h7)).WholeWords (EltTy.packing .i8) := fun arg31 arg32 arg33 k0_hw13 k0_h7 => k0_hw13.2.2.1 k0_h7 (k0_off59_inb arg31 arg32 arg33 k0_hw13 k0_h7)
theorem k0_off61_inb : ∀ (arg31 : BitVec 32) (arg32 : BitVec 32) (arg33 : BitVec 32) (k0_hw13 : k0_chk13 arg31 arg32 arg33), ∀ (k0_h7 : k0_cond7 arg31 arg32 = 1#1), ∀ a, (k0_off61 arg31 arg33) a + S1x8x2048.size a ≤ S4x8x16384.size a := fun arg31 arg32 arg33 k0_hw13 k0_h7 => k0_hw13.2.2.2.1 k0_h7
theorem k0_mult11_dvd : ∀ (arg31 : BitVec 32) (arg32 : BitVec 32) (arg33 : BitVec 32) (k0_hw13 : k0_chk13 arg31 arg32 arg33), ∀ (k0_h8 : k0_cond8 arg31 arg32 = 1#1), 2048 ∣ (k0_mult11 arg33).toNat := fun arg31 arg32 arg33 k0_hw13 k0_h8 => k0_hw13.2.2.2.2.1 k0_h8
theorem k0_off64_inb : ∀ (arg31 : BitVec 32) (arg32 : BitVec 32) (arg33 : BitVec 32) (k0_hw13 : k0_chk13 arg31 arg32 arg33), ∀ (k0_h8 : k0_cond8 arg31 arg32 = 1#1), ∀ a, (k0_off64 arg31 arg33) a + S1x512x2048.size a ≤ S4x512x16384.size a := fun arg31 arg32 arg33 k0_hw13 k0_h8 => k0_hw13.2.2.2.2.2.1 k0_h8
theorem k0_off64_wordsi8 : ∀ (arg31 : BitVec 32) (arg32 : BitVec 32) (arg33 : BitVec 32) (k0_hw13 : k0_chk13 arg31 arg32 arg33), ∀ (k0_h8 : k0_cond8 arg31 arg32 = 1#1), (Rect.unit (s := S4x512x16384) (k0_off64 arg31 arg33) S1x512x2048.size (k0_off64_inb arg31 arg32 arg33 k0_hw13 k0_h8)).WholeWords (EltTy.packing .i8) := fun arg31 arg32 arg33 k0_hw13 k0_h8 => k0_hw13.2.2.2.2.2.2.1 k0_h8 (k0_off64_inb arg31 arg32 arg33 k0_hw13 k0_h8)
theorem k0_off66_inb : ∀ (arg31 : BitVec 32) (arg32 : BitVec 32) (arg33 : BitVec 32) (k0_hw13 : k0_chk13 arg31 arg32 arg33), ∀ (k0_h8 : k0_cond8 arg31 arg32 = 1#1), ∀ a, (k0_off66 arg31 arg33) a + S1x8x2048.size a ≤ S4x8x16384.size a := fun arg31 arg32 arg33 k0_hw13 k0_h8 => k0_hw13.2.2.2.2.2.2.2 k0_h8

def k0_off67 (arg31 : BitVec 32) : Fin 1 → Nat :=
  let c3_i32 : BitVec 32 := 3#32
  let v388 : BitVec 32 := Scalar.minsi arg31 c3_i32
  let v389 : Index := Scalar.indexCast v388
  ![v389.toNat]

def k0_chk15 (arg31 : BitVec 32) : Prop :=
  (∀ a, (k0_off67 arg31) a + S1.size a ≤ S4.size a)
theorem k0_off67_inb : ∀ (arg31 : BitVec 32) (k0_hw15 : k0_chk15 arg31), ∀ a, (k0_off67 arg31) a + S1.size a ≤ S4.size a := fun arg31 k0_hw15 => k0_hw15

@[reducible] def k0_t6_loop (v251 : BitVec 32) : Scf.Loop 32 :=
  let c0_i32_144 : BitVec 32 := 0#32
  let c2047_i32 : BitVec 32 := 2047#32
  let v252 : BitVec 32 := Scalar.addi v251 c2047_i32
  let c11_i32 : BitVec 32 := 11#32
  let v253 : BitVec 32 := Scalar.shrui v252 c11_i32
  let c1_i32_120 : BitVec 32 := 1#32
  let v254 : BitVec 32 := Scalar.maxsi v253 c1_i32_120
  let v297 : BitVec 32 := Scalar.subi v254 c0_i32_144
  let c1_i32_145 : BitVec 32 := 1#32
  let v299 : BitVec 32 := Scalar.divsi v297 c1_i32_145
  let v300 : BitVec 32 := Scalar.muli v299 c1_i32_145
  let v301 : BitVec 32 := Scalar.addi c0_i32_144 v300
  let v298 : BitVec 32 := Scalar.addi c0_i32_144 v297
  let c1_i32_147 : BitVec 32 := 1#32
  ⟨v301, v298, c1_i32_147⟩
def k0_mult12 : BitVec 32 :=
  let c0_i32_160 : BitVec 32 := 0#32
  c0_i32_160
def k0_off68 (arg30 : BitVec 32) : Fin 1 → Nat :=
  let c12_i32_158 : BitVec 32 := 12#32
  let v336 : BitVec 32 := Scalar.subi arg30 c12_i32_158
  let c12_i32_159 : BitVec 32 := 12#32
  let v337 : BitVec 32 := Scalar.remsi v336 c12_i32_159
  ![v337.toNat]

def k0_off69 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_162 : BitVec 32 := 0#32
  let c0_i32_163 : BitVec 32 := 0#32
  ![v337.toNat, 0, 0]
def k0_off70 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let c0_i32_166 : BitVec 32 := 0#32
  let c0_i32_167 : BitVec 32 := 0#32
  ![v337.toNat, 0, 0]
def k0_off71 (v251 : BitVec 32) (k0_t6 : Fin (k0_t6_loop v251).trips) : Fin 3 → Nat :=
  let c0_i32_144 : BitVec 32 := 0#32
  let c2047_i32 : BitVec 32 := 2047#32
  let v252 : BitVec 32 := Scalar.addi v251 c2047_i32
  let c11_i32 : BitVec 32 := 11#32
  let v253 : BitVec 32 := Scalar.shrui v252 c11_i32
  let c1_i32_120 : BitVec 32 := 1#32
  let v254 : BitVec 32 := Scalar.maxsi v253 c1_i32_120
  let v297 : BitVec 32 := Scalar.subi v254 c0_i32_144
  let c1_i32_145 : BitVec 32 := 1#32
  let v299 : BitVec 32 := Scalar.divsi v297 c1_i32_145
  let v300 : BitVec 32 := Scalar.muli v299 c1_i32_145
  let v301 : BitVec 32 := Scalar.addi c0_i32_144 v300
  let c1_i32_147 : BitVec 32 := 1#32
  let arg29 : BitVec 32 := Scf.iv v301 c1_i32_147 k0_t6
  let v351 : Index := Scalar.indexCast arg29
  let c0_169 : Index := 0#32
  let c0_170 : Index := 0#32
  ![v351.toNat, 0, 0]

def k0_chk3 (v251 : BitVec 32) : Prop :=
  ((k0_t3_loop v251).OK) ∧
  (∀ k0_t3 : Fin (k0_t3_loop v251).trips, ∀ a, (k0_off20 v251 k0_t3) a + S1x32x2048.size a ≤ S8x32x2048.size a) ∧
  ((k0_t4_loop v251).OK) ∧
  (∀ k0_t4 : Fin (k0_t4_loop v251).trips, ∀ a, (k0_off38 v251 k0_t4) a + S1x32x2048.size a ≤ S8x32x2048.size a) ∧
  ((k0_t5_loop v251).OK) ∧
  (∀ k0_t5 : Fin (k0_t5_loop v251).trips, ∀ a, (k0_off54 v251 k0_t5) a + S1x32x2048.size a ≤ S8x32x2048.size a) ∧
  ((k0_t6_loop v251).OK) ∧
  (∀ k0_t6 : Fin (k0_t6_loop v251).trips, ∀ a, (k0_off71 v251 k0_t6) a + S1x32x2048.size a ≤ S8x32x2048.size a)
theorem k0_t3_ok : ∀ (v251 : BitVec 32) (k0_hw3 : k0_chk3 v251), (k0_t3_loop v251).OK := fun v251 k0_hw3 => k0_hw3.1
theorem k0_off20_inb : ∀ (v251 : BitVec 32) (k0_hw3 : k0_chk3 v251) (k0_t3 : Fin (k0_t3_loop v251).trips), ∀ a, (k0_off20 v251 k0_t3) a + S1x32x2048.size a ≤ S8x32x2048.size a := fun v251 k0_hw3 k0_t3 => k0_hw3.2.1 k0_t3
theorem k0_t4_ok : ∀ (v251 : BitVec 32) (k0_hw3 : k0_chk3 v251), (k0_t4_loop v251).OK := fun v251 k0_hw3 => k0_hw3.2.2.1
theorem k0_off38_inb : ∀ (v251 : BitVec 32) (k0_hw3 : k0_chk3 v251) (k0_t4 : Fin (k0_t4_loop v251).trips), ∀ a, (k0_off38 v251 k0_t4) a + S1x32x2048.size a ≤ S8x32x2048.size a := fun v251 k0_hw3 k0_t4 => k0_hw3.2.2.2.1 k0_t4
theorem k0_t5_ok : ∀ (v251 : BitVec 32) (k0_hw3 : k0_chk3 v251), (k0_t5_loop v251).OK := fun v251 k0_hw3 => k0_hw3.2.2.2.2.1
theorem k0_off54_inb : ∀ (v251 : BitVec 32) (k0_hw3 : k0_chk3 v251) (k0_t5 : Fin (k0_t5_loop v251).trips), ∀ a, (k0_off54 v251 k0_t5) a + S1x32x2048.size a ≤ S8x32x2048.size a := fun v251 k0_hw3 k0_t5 => k0_hw3.2.2.2.2.2.1 k0_t5
theorem k0_t6_ok : ∀ (v251 : BitVec 32) (k0_hw3 : k0_chk3 v251), (k0_t6_loop v251).OK := fun v251 k0_hw3 => k0_hw3.2.2.2.2.2.2.1
theorem k0_off71_inb : ∀ (v251 : BitVec 32) (k0_hw3 : k0_chk3 v251) (k0_t6 : Fin (k0_t6_loop v251).trips), ∀ a, (k0_off71 v251 k0_t6) a + S1x32x2048.size a ≤ S8x32x2048.size a := fun v251 k0_hw3 k0_t6 => k0_hw3.2.2.2.2.2.2.2 k0_t6

def k0_off72 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v360 : Index := Scalar.indexCast v337
  let c0_171 : Index := 0#32
  let c0_172 : Index := 0#32
  ![v360.toNat, 0, 0]
def k0_off73 (arg30 : BitVec 32) : Fin 3 → Nat :=
  let c12_i32_158 : BitVec 32 := 12#32
  let v336 : BitVec 32 := Scalar.subi arg30 c12_i32_158
  let c12_i32_159 : BitVec 32 := 12#32
  let v337 : BitVec 32 := Scalar.remsi v336 c12_i32_159
  let v368 : Index := Scalar.indexCast v337
  let c0_175 : Index := 0#32
  let c0_176 : Index := 0#32
  ![v368.toNat, 0, 0]

def k0_chk16 (arg30 : BitVec 32) : Prop :=
  (∀ a, (k0_off68 arg30) a + S1.size a ≤ S12.size a) ∧
  (∀ a, (k0_off69 arg30) a + S1x512x2048.size a ≤ S12x512x2048.size a) ∧
  (∀ (hinb : ∀ a, (k0_off69 arg30) a + S1x512x2048.size a ≤ S12x512x2048.size a), (Rect.unit (s := S12x512x2048) (k0_off69 arg30) S1x512x2048.size hinb).WholeWords (EltTy.packing .i8)) ∧
  (∀ a, (k0_off70 arg30) a + S1x8x2048.size a ≤ S12x8x2048.size a) ∧
  (∀ a, (k0_off72 arg30) a + S1x8x2048.size a ≤ S12x8x2048.size a) ∧
  (∀ a, (k0_off73 arg30) a + S1x512x2048.size a ≤ S12x512x2048.size a)
theorem k0_off68_inb : ∀ (arg30 : BitVec 32) (k0_hw16 : k0_chk16 arg30), ∀ a, (k0_off68 arg30) a + S1.size a ≤ S12.size a := fun arg30 k0_hw16 => k0_hw16.1
theorem k0_off69_inb : ∀ (arg30 : BitVec 32) (k0_hw16 : k0_chk16 arg30), ∀ a, (k0_off69 arg30) a + S1x512x2048.size a ≤ S12x512x2048.size a := fun arg30 k0_hw16 => k0_hw16.2.1
theorem k0_off69_wordsi8 : ∀ (arg30 : BitVec 32) (k0_hw16 : k0_chk16 arg30), (Rect.unit (s := S12x512x2048) (k0_off69 arg30) S1x512x2048.size (k0_off69_inb arg30 k0_hw16)).WholeWords (EltTy.packing .i8) := fun arg30 k0_hw16 => k0_hw16.2.2.1 (k0_off69_inb arg30 k0_hw16)
theorem k0_off70_inb : ∀ (arg30 : BitVec 32) (k0_hw16 : k0_chk16 arg30), ∀ a, (k0_off70 arg30) a + S1x8x2048.size a ≤ S12x8x2048.size a := fun arg30 k0_hw16 => k0_hw16.2.2.2.1
theorem k0_off72_inb : ∀ (arg30 : BitVec 32) (k0_hw16 : k0_chk16 arg30), ∀ a, (k0_off72 arg30) a + S1x8x2048.size a ≤ S12x8x2048.size a := fun arg30 k0_hw16 => k0_hw16.2.2.2.2.1
theorem k0_off73_inb : ∀ (arg30 : BitVec 32) (k0_hw16 : k0_chk16 arg30), ∀ a, (k0_off73 arg30) a + S1x512x2048.size a ≤ S12x512x2048.size a := fun arg30 k0_hw16 => k0_hw16.2.2.2.2.2

def k0_mult13 (arg33 : BitVec 32) : BitVec 32 :=
  let c2048_i32 : BitVec 32 := 2048#32
  let v405 : BitVec 32 := Scalar.muli arg33 c2048_i32
  v405
def k0_cond9 (arg31 : BitVec 32) (arg32 : BitVec 32) : BitVec 1 :=
  let c4_i32_180 : BitVec 32 := 4#32
  let v378 : BitVec 1 := Scalar.cmpi .slt arg31 c4_i32_180
  let c0_i32_182 : BitVec 32 := 0#32
  let v380 : BitVec 1 := Scalar.cmpi .eq arg32 c0_i32_182
  let v381 : BitVec 1 := Scalar.andi v378 v380
  let v382 : BitVec 32 := Scalar.extui v381
  let c0_i32_183 : BitVec 32 := 0#32
  let v383 : BitVec 1 := Scalar.cmpi .ne v382 c0_i32_183
  v383

def k0_off74 (arg30 : BitVec 32) : Fin 1 → Nat :=
  let c12_i32_181 : BitVec 32 := 12#32
  let v379 : BitVec 32 := Scalar.remsi arg30 c12_i32_181
  ![v379.toNat]

def k0_off75 (arg30 : BitVec 32) : Fin 3 → Nat :=
  let c12_i32_181 : BitVec 32 := 12#32
  let v379 : BitVec 32 := Scalar.remsi arg30 c12_i32_181
  let c0_i32_196 : BitVec 32 := 0#32
  let c0_i32_197 : BitVec 32 := 0#32
  ![v379.toNat, 0, 0]
def k0_off76 (arg31 : BitVec 32) (arg33 : BitVec 32) : Fin 3 → Nat :=
  let c0_i32_198 : BitVec 32 := 0#32
  let c2048_i32 : BitVec 32 := 2048#32
  let v405 : BitVec 32 := Scalar.muli arg33 c2048_i32
  let v406 : BitVec 32 := v405
  ![arg31.toNat, 0, v406.toNat]
def k0_off77 (arg30 : BitVec 32) : Fin 3 → Nat :=
  let c12_i32_181 : BitVec 32 := 12#32
  let v379 : BitVec 32 := Scalar.remsi arg30 c12_i32_181
  let c0_i32_199 : BitVec 32 := 0#32
  let c0_i32_200 : BitVec 32 := 0#32
  ![v379.toNat, 0, 0]
def k0_off78 (arg31 : BitVec 32) (arg33 : BitVec 32) : Fin 3 → Nat :=
  let c0_i32_201 : BitVec 32 := 0#32
  let c2048_i32 : BitVec 32 := 2048#32
  let v405 : BitVec 32 := Scalar.muli arg33 c2048_i32
  let v406 : BitVec 32 := v405
  ![arg31.toNat, 0, v406.toNat]
def k0_mult14 (arg33 : BitVec 32) : BitVec 32 :=
  let c2048_i32 : BitVec 32 := 2048#32
  let v405 : BitVec 32 := Scalar.muli arg33 c2048_i32
  v405
def k0_cond10 (arg31 : BitVec 32) (arg32 : BitVec 32) : BitVec 1 :=
  let c4_i32_180 : BitVec 32 := 4#32
  let v378 : BitVec 1 := Scalar.cmpi .slt arg31 c4_i32_180
  let c1_i32_184 : BitVec 32 := 1#32
  let v384 : BitVec 1 := Scalar.cmpi .eq arg32 c1_i32_184
  let v385 : BitVec 1 := Scalar.andi v378 v384
  let v386 : BitVec 32 := Scalar.extui v385
  let c0_i32_185 : BitVec 32 := 0#32
  let v387 : BitVec 1 := Scalar.cmpi .ne v386 c0_i32_185
  v387

def k0_off79 (arg30 : BitVec 32) : Fin 1 → Nat :=
  let c12_i32_181 : BitVec 32 := 12#32
  let v379 : BitVec 32 := Scalar.remsi arg30 c12_i32_181
  ![v379.toNat]
def k0_off80 (arg30 : BitVec 32) : Fin 3 → Nat :=
  let c12_i32_181 : BitVec 32 := 12#32
  let v379 : BitVec 32 := Scalar.remsi arg30 c12_i32_181
  let c0_i32_196 : BitVec 32 := 0#32
  let c0_i32_197 : BitVec 32 := 0#32
  ![v379.toNat, 0, 0]
def k0_off81 (arg31 : BitVec 32) (arg33 : BitVec 32) : Fin 3 → Nat :=
  let c0_i32_198 : BitVec 32 := 0#32
  let c2048_i32 : BitVec 32 := 2048#32
  let v405 : BitVec 32 := Scalar.muli arg33 c2048_i32
  let v406 : BitVec 32 := v405
  ![arg31.toNat, 0, v406.toNat]
def k0_off82 (arg30 : BitVec 32) : Fin 3 → Nat :=
  let c12_i32_181 : BitVec 32 := 12#32
  let v379 : BitVec 32 := Scalar.remsi arg30 c12_i32_181
  let c0_i32_199 : BitVec 32 := 0#32
  let c0_i32_200 : BitVec 32 := 0#32
  ![v379.toNat, 0, 0]

def k0_chk18 (arg30 : BitVec 32) (arg31 : BitVec 32) (arg32 : BitVec 32) : Prop :=
  (∀ (k0_h9 : k0_cond9 arg31 arg32 = 1#1), ∀ a, (k0_off74 arg30) a + S1.size a ≤ S12.size a) ∧
  (∀ (k0_h9 : k0_cond9 arg31 arg32 = 1#1), ∀ a, (k0_off75 arg30) a + S1x512x2048.size a ≤ S12x512x2048.size a) ∧
  (∀ (k0_h9 : k0_cond9 arg31 arg32 = 1#1), ∀ (hinb : ∀ a, (k0_off75 arg30) a + S1x512x2048.size a ≤ S12x512x2048.size a), (Rect.unit (s := S12x512x2048) (k0_off75 arg30) S1x512x2048.size hinb).WholeWords (EltTy.packing .i8)) ∧
  (∀ (k0_h9 : k0_cond9 arg31 arg32 = 1#1), ∀ a, (k0_off77 arg30) a + S1x8x2048.size a ≤ S12x8x2048.size a) ∧
  (∀ (k0_h10 : k0_cond10 arg31 arg32 = 1#1), ∀ a, (k0_off79 arg30) a + S1.size a ≤ S12.size a) ∧
  (∀ (k0_h10 : k0_cond10 arg31 arg32 = 1#1), ∀ a, (k0_off80 arg30) a + S1x512x2048.size a ≤ S12x512x2048.size a) ∧
  (∀ (k0_h10 : k0_cond10 arg31 arg32 = 1#1), ∀ (hinb : ∀ a, (k0_off80 arg30) a + S1x512x2048.size a ≤ S12x512x2048.size a), (Rect.unit (s := S12x512x2048) (k0_off80 arg30) S1x512x2048.size hinb).WholeWords (EltTy.packing .i8)) ∧
  (∀ (k0_h10 : k0_cond10 arg31 arg32 = 1#1), ∀ a, (k0_off82 arg30) a + S1x8x2048.size a ≤ S12x8x2048.size a)
theorem k0_off74_inb : ∀ (arg30 : BitVec 32) (arg31 : BitVec 32) (arg32 : BitVec 32) (k0_hw18 : k0_chk18 arg30 arg31 arg32), ∀ (k0_h9 : k0_cond9 arg31 arg32 = 1#1), ∀ a, (k0_off74 arg30) a + S1.size a ≤ S12.size a := fun arg30 arg31 arg32 k0_hw18 k0_h9 => k0_hw18.1 k0_h9
theorem k0_off75_inb : ∀ (arg30 : BitVec 32) (arg31 : BitVec 32) (arg32 : BitVec 32) (k0_hw18 : k0_chk18 arg30 arg31 arg32), ∀ (k0_h9 : k0_cond9 arg31 arg32 = 1#1), ∀ a, (k0_off75 arg30) a + S1x512x2048.size a ≤ S12x512x2048.size a := fun arg30 arg31 arg32 k0_hw18 k0_h9 => k0_hw18.2.1 k0_h9
theorem k0_off75_wordsi8 : ∀ (arg30 : BitVec 32) (arg31 : BitVec 32) (arg32 : BitVec 32) (k0_hw18 : k0_chk18 arg30 arg31 arg32), ∀ (k0_h9 : k0_cond9 arg31 arg32 = 1#1), (Rect.unit (s := S12x512x2048) (k0_off75 arg30) S1x512x2048.size (k0_off75_inb arg30 arg31 arg32 k0_hw18 k0_h9)).WholeWords (EltTy.packing .i8) := fun arg30 arg31 arg32 k0_hw18 k0_h9 => k0_hw18.2.2.1 k0_h9 (k0_off75_inb arg30 arg31 arg32 k0_hw18 k0_h9)
theorem k0_off77_inb : ∀ (arg30 : BitVec 32) (arg31 : BitVec 32) (arg32 : BitVec 32) (k0_hw18 : k0_chk18 arg30 arg31 arg32), ∀ (k0_h9 : k0_cond9 arg31 arg32 = 1#1), ∀ a, (k0_off77 arg30) a + S1x8x2048.size a ≤ S12x8x2048.size a := fun arg30 arg31 arg32 k0_hw18 k0_h9 => k0_hw18.2.2.2.1 k0_h9
theorem k0_off79_inb : ∀ (arg30 : BitVec 32) (arg31 : BitVec 32) (arg32 : BitVec 32) (k0_hw18 : k0_chk18 arg30 arg31 arg32), ∀ (k0_h10 : k0_cond10 arg31 arg32 = 1#1), ∀ a, (k0_off79 arg30) a + S1.size a ≤ S12.size a := fun arg30 arg31 arg32 k0_hw18 k0_h10 => k0_hw18.2.2.2.2.1 k0_h10
theorem k0_off80_inb : ∀ (arg30 : BitVec 32) (arg31 : BitVec 32) (arg32 : BitVec 32) (k0_hw18 : k0_chk18 arg30 arg31 arg32), ∀ (k0_h10 : k0_cond10 arg31 arg32 = 1#1), ∀ a, (k0_off80 arg30) a + S1x512x2048.size a ≤ S12x512x2048.size a := fun arg30 arg31 arg32 k0_hw18 k0_h10 => k0_hw18.2.2.2.2.2.1 k0_h10
theorem k0_off80_wordsi8 : ∀ (arg30 : BitVec 32) (arg31 : BitVec 32) (arg32 : BitVec 32) (k0_hw18 : k0_chk18 arg30 arg31 arg32), ∀ (k0_h10 : k0_cond10 arg31 arg32 = 1#1), (Rect.unit (s := S12x512x2048) (k0_off80 arg30) S1x512x2048.size (k0_off80_inb arg30 arg31 arg32 k0_hw18 k0_h10)).WholeWords (EltTy.packing .i8) := fun arg30 arg31 arg32 k0_hw18 k0_h10 => k0_hw18.2.2.2.2.2.2.1 k0_h10 (k0_off80_inb arg30 arg31 arg32 k0_hw18 k0_h10)
theorem k0_off82_inb : ∀ (arg30 : BitVec 32) (arg31 : BitVec 32) (arg32 : BitVec 32) (k0_hw18 : k0_chk18 arg30 arg31 arg32), ∀ (k0_h10 : k0_cond10 arg31 arg32 = 1#1), ∀ a, (k0_off82 arg30) a + S1x8x2048.size a ≤ S12x8x2048.size a := fun arg30 arg31 arg32 k0_hw18 k0_h10 => k0_hw18.2.2.2.2.2.2.2 k0_h10

def k0_off83 (arg31 : BitVec 32) (arg33 : BitVec 32) : Fin 3 → Nat :=
  let c0_i32_201 : BitVec 32 := 0#32
  let c2048_i32 : BitVec 32 := 2048#32
  let v405 : BitVec 32 := Scalar.muli arg33 c2048_i32
  let v406 : BitVec 32 := v405
  ![arg31.toNat, 0, v406.toNat]

def k0_chk17 (arg31 : BitVec 32) (arg32 : BitVec 32) (arg33 : BitVec 32) : Prop :=
  (∀ (k0_h9 : k0_cond9 arg31 arg32 = 1#1), 2048 ∣ (k0_mult13 arg33).toNat) ∧
  (∀ (k0_h9 : k0_cond9 arg31 arg32 = 1#1), ∀ a, (k0_off76 arg31 arg33) a + S1x512x2048.size a ≤ S4x512x16384.size a) ∧
  (∀ (k0_h9 : k0_cond9 arg31 arg32 = 1#1), ∀ (hinb : ∀ a, (k0_off76 arg31 arg33) a + S1x512x2048.size a ≤ S4x512x16384.size a), (Rect.unit (s := S4x512x16384) (k0_off76 arg31 arg33) S1x512x2048.size hinb).WholeWords (EltTy.packing .i8)) ∧
  (∀ (k0_h9 : k0_cond9 arg31 arg32 = 1#1), ∀ a, (k0_off78 arg31 arg33) a + S1x8x2048.size a ≤ S4x8x16384.size a) ∧
  (∀ (k0_h10 : k0_cond10 arg31 arg32 = 1#1), 2048 ∣ (k0_mult14 arg33).toNat) ∧
  (∀ (k0_h10 : k0_cond10 arg31 arg32 = 1#1), ∀ a, (k0_off81 arg31 arg33) a + S1x512x2048.size a ≤ S4x512x16384.size a) ∧
  (∀ (k0_h10 : k0_cond10 arg31 arg32 = 1#1), ∀ (hinb : ∀ a, (k0_off81 arg31 arg33) a + S1x512x2048.size a ≤ S4x512x16384.size a), (Rect.unit (s := S4x512x16384) (k0_off81 arg31 arg33) S1x512x2048.size hinb).WholeWords (EltTy.packing .i8)) ∧
  (∀ (k0_h10 : k0_cond10 arg31 arg32 = 1#1), ∀ a, (k0_off83 arg31 arg33) a + S1x8x2048.size a ≤ S4x8x16384.size a)
theorem k0_mult13_dvd : ∀ (arg31 : BitVec 32) (arg32 : BitVec 32) (arg33 : BitVec 32) (k0_hw17 : k0_chk17 arg31 arg32 arg33), ∀ (k0_h9 : k0_cond9 arg31 arg32 = 1#1), 2048 ∣ (k0_mult13 arg33).toNat := fun arg31 arg32 arg33 k0_hw17 k0_h9 => k0_hw17.1 k0_h9
theorem k0_off76_inb : ∀ (arg31 : BitVec 32) (arg32 : BitVec 32) (arg33 : BitVec 32) (k0_hw17 : k0_chk17 arg31 arg32 arg33), ∀ (k0_h9 : k0_cond9 arg31 arg32 = 1#1), ∀ a, (k0_off76 arg31 arg33) a + S1x512x2048.size a ≤ S4x512x16384.size a := fun arg31 arg32 arg33 k0_hw17 k0_h9 => k0_hw17.2.1 k0_h9
theorem k0_off76_wordsi8 : ∀ (arg31 : BitVec 32) (arg32 : BitVec 32) (arg33 : BitVec 32) (k0_hw17 : k0_chk17 arg31 arg32 arg33), ∀ (k0_h9 : k0_cond9 arg31 arg32 = 1#1), (Rect.unit (s := S4x512x16384) (k0_off76 arg31 arg33) S1x512x2048.size (k0_off76_inb arg31 arg32 arg33 k0_hw17 k0_h9)).WholeWords (EltTy.packing .i8) := fun arg31 arg32 arg33 k0_hw17 k0_h9 => k0_hw17.2.2.1 k0_h9 (k0_off76_inb arg31 arg32 arg33 k0_hw17 k0_h9)
theorem k0_off78_inb : ∀ (arg31 : BitVec 32) (arg32 : BitVec 32) (arg33 : BitVec 32) (k0_hw17 : k0_chk17 arg31 arg32 arg33), ∀ (k0_h9 : k0_cond9 arg31 arg32 = 1#1), ∀ a, (k0_off78 arg31 arg33) a + S1x8x2048.size a ≤ S4x8x16384.size a := fun arg31 arg32 arg33 k0_hw17 k0_h9 => k0_hw17.2.2.2.1 k0_h9
theorem k0_mult14_dvd : ∀ (arg31 : BitVec 32) (arg32 : BitVec 32) (arg33 : BitVec 32) (k0_hw17 : k0_chk17 arg31 arg32 arg33), ∀ (k0_h10 : k0_cond10 arg31 arg32 = 1#1), 2048 ∣ (k0_mult14 arg33).toNat := fun arg31 arg32 arg33 k0_hw17 k0_h10 => k0_hw17.2.2.2.2.1 k0_h10
theorem k0_off81_inb : ∀ (arg31 : BitVec 32) (arg32 : BitVec 32) (arg33 : BitVec 32) (k0_hw17 : k0_chk17 arg31 arg32 arg33), ∀ (k0_h10 : k0_cond10 arg31 arg32 = 1#1), ∀ a, (k0_off81 arg31 arg33) a + S1x512x2048.size a ≤ S4x512x16384.size a := fun arg31 arg32 arg33 k0_hw17 k0_h10 => k0_hw17.2.2.2.2.2.1 k0_h10
theorem k0_off81_wordsi8 : ∀ (arg31 : BitVec 32) (arg32 : BitVec 32) (arg33 : BitVec 32) (k0_hw17 : k0_chk17 arg31 arg32 arg33), ∀ (k0_h10 : k0_cond10 arg31 arg32 = 1#1), (Rect.unit (s := S4x512x16384) (k0_off81 arg31 arg33) S1x512x2048.size (k0_off81_inb arg31 arg32 arg33 k0_hw17 k0_h10)).WholeWords (EltTy.packing .i8) := fun arg31 arg32 arg33 k0_hw17 k0_h10 => k0_hw17.2.2.2.2.2.2.1 k0_h10 (k0_off81_inb arg31 arg32 arg33 k0_hw17 k0_h10)
theorem k0_off83_inb : ∀ (arg31 : BitVec 32) (arg32 : BitVec 32) (arg33 : BitVec 32) (k0_hw17 : k0_chk17 arg31 arg32 arg33), ∀ (k0_h10 : k0_cond10 arg31 arg32 = 1#1), ∀ a, (k0_off83 arg31 arg33) a + S1x8x2048.size a ≤ S4x8x16384.size a := fun arg31 arg32 arg33 k0_hw17 k0_h10 => k0_hw17.2.2.2.2.2.2.2 k0_h10

def k0_off84 (arg31 : BitVec 32) : Fin 1 → Nat :=
  let c3_i32 : BitVec 32 := 3#32
  let v388 : BitVec 32 := Scalar.minsi arg31 c3_i32
  let v389 : Index := Scalar.indexCast v388
  ![v389.toNat]

def k0_chk19 (arg31 : BitVec 32) : Prop :=
  (∀ a, (k0_off84 arg31) a + S1.size a ≤ S4.size a)
theorem k0_off84_inb : ∀ (arg31 : BitVec 32) (k0_hw19 : k0_chk19 arg31), ∀ a, (k0_off84 arg31) a + S1.size a ≤ S4.size a := fun arg31 k0_hw19 => k0_hw19

def k0_off85 (k0_t2 : Fin k0_t2_loop.trips) : Fin 3 → Nat :=
  let c0_i32_116 : BitVec 32 := 0#32
  let c1_i32_118 : BitVec 32 := 1#32
  let arg24 : BitVec 32 := Scf.iv c0_i32_116 c1_i32_118 k0_t2
  let v324 : Index := Scalar.indexCast arg24
  let c0_152 : Index := 0#32
  let c0_153 : Index := 0#32
  ![v324.toNat, 0, 0]
def k0_off86 (k0_t2 : Fin k0_t2_loop.trips) : Fin 3 → Nat :=
  let c0_i32_116 : BitVec 32 := 0#32
  let c1_i32_118 : BitVec 32 := 1#32
  let arg24 : BitVec 32 := Scf.iv c0_i32_116 c1_i32_118 k0_t2
  let v332 : Index := Scalar.indexCast arg24
  let c0_156 : Index := 0#32
  let c0_157 : Index := 0#32
  ![v332.toNat, 0, 0]
abbrev stage0_0 : Fin 1 → Memref sig .tc .vmem S4x32x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1x32x64 : Shape := ⟨4, ![4, 1, 32, 64]⟩
abbrev S4x1x8x64 : Shape := ⟨4, ![4, 1, 8, 64]⟩
abbrev S4x16384x8x64 : Shape := ⟨4, ![4, 16384, 8, 64]⟩
abbrev S4x16384x8 : Shape := ⟨3, ![4, 16384, 8]⟩
abbrev S4 : Shape := ⟨1, ![4]⟩
abbrev S4x1x8x4x64 : Shape := ⟨5, ![4, 1, 8, 4, 64]⟩
abbrev S4x8x16384x1x4 : Shape := ⟨5, ![4, 8, 16384, 1, 4]⟩
abbrev S4x8x4x1x16384 : Shape := ⟨5, ![4, 8, 4, 1, 16384]⟩
abbrev S4x8x16384 : Shape := ⟨3, ![4, 8, 16384]⟩
abbrev S4x8x1x1x16384 : Shape := ⟨5, ![4, 8, 1, 1, 16384]⟩
abbrev S_ : Shape := ⟨0, ![]⟩
abbrev S16384 : Shape := ⟨1, ![16384]⟩
abbrev S1x16384 : Shape := ⟨2, ![1, 16384]⟩
abbrev S4x1 : Shape := ⟨2, ![4, 1]⟩
abbrev S4x16384 : Shape := ⟨2, ![4, 16384]⟩
abbrev S4x1x1x1x16384 : Shape := ⟨5, ![4, 1, 1, 1, 16384]⟩
abbrev S4x8x1x1x4 : Shape := ⟨5, ![4, 8, 1, 1, 4]⟩
abbrev S4x8x4x1x1 : Shape := ⟨5, ![4, 8, 4, 1, 1]⟩
abbrev S1 : Shape := ⟨1, ![1]⟩
abbrev S1x1 : Shape := ⟨2, ![1, 1]⟩
abbrev S4x8x4x1x16385 : Shape := ⟨5, ![4, 8, 4, 1, 16385]⟩
abbrev S4x8x4x1 : Shape := ⟨4, ![4, 8, 4, 1]⟩
abbrev S4x8x64x4x1 : Shape := ⟨5, ![4, 8, 64, 4, 1]⟩

abbrev nBuf : Space → Nat
  | .hbm => 81
  | .vmem => 0
  | .smem => 0
  | _ => 0

abbrev bufTy : (tb : Table) → Fin (tcTables nBuf tb) → BufTy
  | .hbm, ⟨0, _⟩ => ⟨S4x1x32x64, .bf16⟩
  | .hbm, ⟨1, _⟩ => ⟨S4x1x8x64, .bf16⟩
  | .hbm, ⟨2, _⟩ => ⟨S4x1x8x64, .bf16⟩
  | .hbm, ⟨3, _⟩ => ⟨S4x16384x8x64, .i8⟩
  | .hbm, ⟨4, _⟩ => ⟨S4x16384x8, .f32⟩
  | .hbm, ⟨5, _⟩ => ⟨S4x16384x8x64, .i8⟩
  | .hbm, ⟨6, _⟩ => ⟨S4x16384x8, .f32⟩
  | .hbm, ⟨7, _⟩ => ⟨S4, .i32⟩
  | .hbm, ⟨8, _⟩ => ⟨S4x1x8x4x64, .bf16⟩
  | .hbm, ⟨9, _⟩ => ⟨S4x16384x8x64, .i32⟩
  | .hbm, ⟨10, _⟩ => ⟨S4x16384x8x64, .f32⟩
  | .hbm, ⟨11, _⟩ => ⟨S4x16384x8x64, .bf16⟩
  | .hbm, ⟨12, _⟩ => ⟨S4x8x16384x1x4, .f32⟩
  | .hbm, ⟨13, _⟩ => ⟨S4x8x4x1x16384, .f32⟩
  | .hbm, ⟨14, _⟩ => ⟨S4x8x16384, .f32⟩
  | .hbm, ⟨15, _⟩ => ⟨S4x8x1x1x16384, .f32⟩
  | .hbm, ⟨16, _⟩ => ⟨S_, .f32⟩
  | .hbm, ⟨17, _⟩ => ⟨S4x8x1x1x16384, .f32⟩
  | .hbm, ⟨18, _⟩ => ⟨S4x8x1x1x16384, .f32⟩
  | .hbm, ⟨19, _⟩ => ⟨S4x8x4x1x16384, .f32⟩
  | .hbm, ⟨20, _⟩ => ⟨S4x8x4x1x16384, .f32⟩
  | .hbm, ⟨21, _⟩ => ⟨S16384, .i32⟩
  | .hbm, ⟨22, _⟩ => ⟨S1x16384, .i32⟩
  | .hbm, ⟨23, _⟩ => ⟨S4x1, .i32⟩
  | .hbm, ⟨24, _⟩ => ⟨S4x16384, .i32⟩
  | .hbm, ⟨25, _⟩ => ⟨S4x16384, .i32⟩
  | .hbm, ⟨26, _⟩ => ⟨S4x16384, .i1⟩
  | .hbm, ⟨27, _⟩ => ⟨S4x1x1x1x16384, .i1⟩
  | .hbm, ⟨28, _⟩ => ⟨S_, .f32⟩
  | .hbm, ⟨29, _⟩ => ⟨S_, .f32⟩
  | .hbm, ⟨30, _⟩ => ⟨S4x8x4x1x16384, .i1⟩
  | .hbm, ⟨31, _⟩ => ⟨S4x8x4x1x16384, .f32⟩
  | .hbm, ⟨32, _⟩ => ⟨S4x8x4x1x16384, .f32⟩
  | .hbm, ⟨33, _⟩ => ⟨S4x8x1x1x4, .f32⟩
  | .hbm, ⟨34, _⟩ => ⟨S4x8x4x1x1, .f32⟩
  | .hbm, ⟨35, _⟩ => ⟨S_, .f32⟩
  | .hbm, ⟨36, _⟩ => ⟨S4x8x4x1x1, .f32⟩
  | .hbm, ⟨37, _⟩ => ⟨S4x8x4x1x1, .f32⟩
  | .hbm, ⟨38, _⟩ => ⟨S1, .i32⟩
  | .hbm, ⟨39, _⟩ => ⟨S1x1, .i32⟩
  | .hbm, ⟨40, _⟩ => ⟨S1, .i32⟩
  | .hbm, ⟨41, _⟩ => ⟨S1x1, .i32⟩
  | .hbm, ⟨42, _⟩ => ⟨S1x1, .i1⟩
  | .hbm, ⟨43, _⟩ => ⟨S_, .f32⟩
  | .hbm, ⟨44, _⟩ => ⟨S_, .f32⟩
  | .hbm, ⟨45, _⟩ => ⟨S4x8x4x1x1, .i1⟩
  | .hbm, ⟨46, _⟩ => ⟨S4x8x4x1x1, .f32⟩
  | .hbm, ⟨47, _⟩ => ⟨S4x8x4x1x1, .f32⟩
  | .hbm, ⟨48, _⟩ => ⟨S4x8x4x1x16385, .f32⟩
  | .hbm, ⟨49, _⟩ => ⟨S_, .f32⟩
  | .hbm, ⟨50, _⟩ => ⟨S4x8x4x1, .f32⟩
  | .hbm, ⟨51, _⟩ => ⟨S_, .f32⟩
  | .hbm, ⟨52, _⟩ => ⟨S4x8x4x1, .f32⟩
  | .hbm, ⟨53, _⟩ => ⟨S4x8x4x1, .f32⟩
  | .hbm, ⟨54, _⟩ => ⟨S4x8x4x1x1, .f32⟩
  | .hbm, ⟨55, _⟩ => ⟨S4x8x4x1x16385, .f32⟩
  | .hbm, ⟨56, _⟩ => ⟨S4x8x4x1x16385, .f32⟩
  | .hbm, ⟨57, _⟩ => ⟨S4x8x4x1x16385, .f32⟩
  | .hbm, ⟨58, _⟩ => ⟨S_, .f32⟩
  | .hbm, ⟨59, _⟩ => ⟨S4x8x4x1, .f32⟩
  | .hbm, ⟨60, _⟩ => ⟨S4x8x4x1x1, .f32⟩
  | .hbm, ⟨61, _⟩ => ⟨S4x8x4x1x16385, .f32⟩
  | .hbm, ⟨62, _⟩ => ⟨S4x8x4x1x16385, .f32⟩
  | .hbm, ⟨63, _⟩ => ⟨S4x8x4x1x16384, .f32⟩
  | .hbm, ⟨64, _⟩ => ⟨S4x8x4x1x1, .f32⟩
  | .hbm, ⟨65, _⟩ => ⟨S4x8x16384, .f32⟩
  | .hbm, ⟨66, _⟩ => ⟨S4x8x1x1x16384, .f32⟩
  | .hbm, ⟨67, _⟩ => ⟨S4x8x4x1x16384, .f32⟩
  | .hbm, ⟨68, _⟩ => ⟨S4x8x4x1x16384, .f32⟩
  | .hbm, ⟨69, _⟩ => ⟨S4x8x4x1x16384, .bf16⟩
  | .hbm, ⟨70, _⟩ => ⟨S4x16384x8x64, .i32⟩
  | .hbm, ⟨71, _⟩ => ⟨S4x16384x8x64, .f32⟩
  | .hbm, ⟨72, _⟩ => ⟨S4x16384x8x64, .bf16⟩
  | .hbm, ⟨73, _⟩ => ⟨S4x8x64x4x1, .f32⟩
  | .hbm, ⟨74, _⟩ => ⟨S4x1x8x4x64, .f32⟩
  | .hbm, ⟨75, _⟩ => ⟨S4x8x4x1x1, .bf16⟩
  | .hbm, ⟨76, _⟩ => ⟨S4x8x64x4x1, .f32⟩
  | .hbm, ⟨77, _⟩ => ⟨S4x1x8x4x64, .f32⟩
  | .hbm, ⟨78, _⟩ => ⟨S4x1x8x4x64, .f32⟩
  | .hbm, ⟨79, _⟩ => ⟨S4x1x32x64, .f32⟩
  | .hbm, ⟨80, _⟩ => ⟨S4x1x32x64, .bf16⟩
  | _, _ => ⟨S4x1x32x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.Ring.lean ====
/-
  The two rings of the kernel as families of slots.

  Slot `j` of the kernel's ring is three things used together: block `j` of the int8 ring (`[512, 2048]`), block `j` of
  the scale ring (`[8, 2048]`) and DMA semaphore `j`. A slot is FREE, or it is BUSY with one chunk of the cache: two
  copies, the chunk's int8 block and its scales, started on the slot's semaphore and not yet waited for. `Φ` says what a
  slot holds in either state.
-/
module

public import proofs.«01_k».proof.Proof.Gen.Kernel.Launch
public import proofs.«01_k».proof.Proof.Gen.Kernel.Points
public import proofs.«01_k».proof.Proof.Gen.Kernel.Loops
public import Idealize.ShloMosaic.Lib.Pipeline.FrameBody
public import Idealize.ShloMosaic.Lib.Pipeline.FrameSuffixV
public import Idealize.ShloMosaic.Lib.Ring
public import Idealize.ShloMosaic.Lib.Ring.FamCut
public import Idealize.ShloMosaic.Lib.MixedBatch
public import Idealize.ShloMosaic.Lib.LoopRemainder
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The operands -/

abbrev aK : Memref sig .tc .hbm S4x512x16384 .i8 := Memref.whole main_v1
abbrev aKs : Memref sig .tc .hbm S4x8x16384 .f32 := Memref.whole main_v4
abbrev aV : Memref sig .tc .hbm S4x512x16384 .i8 := Memref.whole main_v3
abbrev aVs : Memref sig .tc .hbm S4x8x16384 .f32 := Memref.whole main_v5
abbrev rK : Memref sig .tc .vmem S12x512x2048 .i8 := Memref.whole cc0_scratch4
abbrev rS : Memref sig .tc .vmem S12x8x2048 .f32 := Memref.whole cc0_scratch5

/-- The contents of a memref's buffer on core `c`. -/
abbrev BufOf (F : FTy → Type) (c : Dev nD) {sp : Space} {S : Shape} {e : EltTy} (M : Memref sig .tc sp S e) : Type := Buf (Elt F) (M.view.loc (c : Thread nD τ))

/-- The four HBM arrays the chunks come from, at their contents. -/
structure Src (F : FTy → Type) (c : Dev nD) where
  k : BufOf F c aK
  ks : BufOf F c aKs
  v : BufOf F c aV
  vs : BufOf F c aVs

/-! ## The slots and the chunks -/

theorem inbS (j : Fin 12) : ∀ a, (![j.val] : Fin 1 → Nat) a + S1.size a ≤ S12.size a := by
  have := j.isLt; intro a; fin_cases a; show j.val + 1 ≤ 12; omega
theorem inbK (j : Fin 12) : ∀ a, (![j.val, 0, 0] : Fin 3 → Nat) a + S1x512x2048.size a ≤ S12x512x2048.size a := by
  have := j.isLt; intro a; fin_cases a
  · show j.val + 1 ≤ 12; omega
  · show 0 + 512 ≤ 512; omega
  · show 0 + 2048 ≤ 2048; omega
theorem inbR (j : Fin 12) : ∀ a, (![j.val, 0, 0] : Fin 3 → Nat) a + S1x8x2048.size a ≤ S12x8x2048.size a := by
  have := j.isLt; intro a; fin_cases a
  · show j.val + 1 ≤ 12; omega
  · show 0 + 8 ≤ 8; omega
  · show 0 + 2048 ≤ 2048; omega

/-- Slot `j`'s semaphore, its int8 block and its scale block. -/
abbrev cellJ (j : Fin 12) : DmaSem sig := ((cc0_scratch12.slice (Rect.unit (s := S12) ![j.val] S1.size (inbS j))).squeeze S_ squeezes_S1_S_).sem
abbrev kslot (j : Fin 12) : Memref sig .tc .vmem S512x2048 .i8 := (rK.slice (Rect.unit (s := S12x512x2048) ![j.val, 0, 0] S1x512x2048.size (inbK j)) (fun _ => rfl)).squeeze S512x2048 squeezes_S1x512x2048_S512x2048
abbrev sslot (j : Fin 12) : Memref sig .tc .vmem S8x2048 .f32 := (rS.slice (Rect.unit (s := S12x8x2048) ![j.val, 0, 0] S1x8x2048.size (inbR j)) (fun _ => rfl)).squeeze S8x2048 squeezes_S1x8x2048_S8x2048

/-- The offset of chunk `wc` of sequence `wb`, both words, and that the chunk lies in its array. -/
abbrev offC (wb wc : BitVec 32) : Fin 3 → Nat := ![wb.toNat, 0, (Scalar.muli wc 2048#32).toNat]
def InC (wb wc : BitVec 32) : Prop := wb.toNat < 4 ∧ (Scalar.muli wc 2048#32).toNat + 2048 ≤ 16384
theorem InC.k {wb wc : BitVec 32} (h : InC wb wc) : ∀ a, (offC wb wc) a + S1x512x2048.size a ≤ S4x512x16384.size a := by
  obtain ⟨h1, h2⟩ := h; intro a; fin_cases a
  · show wb.toNat + 1 ≤ 4; omega
  · show 0 + 512 ≤ 512; omega
  · exact h2
theorem InC.s {wb wc : BitVec 32} (h : InC wb wc) : ∀ a, (offC wb wc) a + S1x8x2048.size a ≤ S4x8x16384.size a := by
  obtain ⟨h1, h2⟩ := h; intro a; fin_cases a
  · show wb.toNat + 1 ≤ 4; omega
  · show 0 + 8 ≤ 8; omega
  · exact h2

/-- The chunk's int8 block of an array, and its scale block. -/
abbrev blkK (A : Memref sig .tc .hbm S4x512x16384 .i8) (wb wc : BitVec 32) (h : InC wb wc) : Memref sig .tc .hbm S512x2048 .i8 :=
  (A.slice (Rect.unit (s := S4x512x16384) (offC wb wc) S1x512x2048.size h.k) (fun _ => rfl)).squeeze S512x2048 squeezes_S1x512x2048_S512x2048
abbrev blkS (A : Memref sig .tc .hbm S4x8x16384 .f32) (wb wc : BitVec 32) (h : InC wb wc) : Memref sig .tc .hbm S8x2048 .f32 :=
  (A.slice (Rect.unit (s := S4x8x16384) (offC wb wc) S1x8x2048.size h.s) (fun _ => rfl)).squeeze S8x2048 squeezes_S1x8x2048_S8x2048

/-! ## What a slot holds -/

/-- A slot's state: free, or busy with a chunk of the keys (`k`) or of the values (`v`). -/
inductive St where
  | free
  | k (wb wc : BitVec 32) (h : InC wb wc)
  | v (wb wc : BitVec 32) (h : InC wb wc)

/-- A slot's read share of a source array: all of it, or a set of its elements. -/
abbrev tok (c : Dev nD) {S : Shape} {e : EltTy} (A : Memref sig .tc .hbm S e) (j : Fin 12) (I : Finset (Idx (A.view.loc (c : Thread nD τ)))) (f : BufOf F c A) : sProp 𝕄 :=
  A.view.loc (c : Thread nD τ) ↦[I]{Transfers.shareTok fullShare 12 j} f

/-- The units each of the two copies credits. -/
abbrev amts : Fin 2 → ℕ := ![32768, 2048]

/-- What the two copies of a chunk deliver: the slot's blocks filled, the sources back. -/
abbrev deliv (c : Dev nD) (j : Fin 12) (A : Memref sig .tc .hbm S4x512x16384 .i8) (B : Memref sig .tc .hbm S4x8x16384 .f32)
    (fA : BufOf F c A) (fB : BufOf F c B) (wb wc : BitVec 32) (h : InC wb wc)
    (f : BufOf F c (kslot j)) (g : BufOf F c (sslot j)) : Fin 2 → sProp 𝕄
  | 0 => iprop(((kslot j).view.loc (c : Thread nD τ) ↦[(kslot j).view.set]{fullShare}
            (kslot j).view.writes (Elt F) f [⟨Rect.whole S512x2048, ReadAs.same.apply ((blkK A wb wc h).view.read (Elt F) fA)⟩])
          ∗ tok c A j (blkK A wb wc h).view.set fA)
  | 1 => iprop(((sslot j).view.loc (c : Thread nD τ) ↦[(sslot j).view.set]{fullShare}
            (sslot j).view.writes (Elt F) g [⟨Rect.whole S8x2048, ReadAs.same.apply ((blkS B wb wc h).view.read (Elt F) fB)⟩])
          ∗ tok c B j (blkS B wb wc h).view.set fB)

instance deliv_storable (c : Dev nD) (j : Fin 12) (A : Memref sig .tc .hbm S4x512x16384 .i8) (B : Memref sig .tc .hbm S4x8x16384 .f32)
    (fA : BufOf F c A) (fB : BufOf F c B) (wb wc : BitVec 32) (h : InC wb wc) (f : BufOf F c (kslot j)) (g : BufOf F c (sslot j)) (t : Fin 2) :
    Storable (upEmb : UEmb _ 𝕄) (deliv c j A B fA fB wb wc h f g t) := by
  fin_cases t <;> simp only [deliv] <;> infer_instance

/-- The two copies of a chunk in flight: the batch on the slot's cell, and what is left of the two lent shares. -/
abbrev busy (c : Dev nD) (j : Fin 12) (A : Memref sig .tc .hbm S4x512x16384 .i8) (B : Memref sig .tc .hbm S4x8x16384 .f32)
    (fA : BufOf F c A) (fB : BufOf F c B) (wb wc : BitVec 32) (h : InC wb wc) : sProp 𝕄 :=
  iprop((∃ f g, Transfers.MixedBatch (countersEmb (U := Pipeline.UD sig nD τ)) (c : Thread nD τ) (SemLoc.dma (cellJ j)) () amts (deliv c j A B fA fB wb wc h f g) 2 0)
    ∗ tok c A j (A.view.set \ (blkK A wb wc h).view.set) fA ∗ tok c B j (B.view.set \ (blkS B wb wc h).view.set) fB)

/-- What slot `j` holds in a state. -/
abbrev Φ (c : Dev nD) (s : Src F c) (j : Fin 12) : St → sProp 𝕄
  | .free => iprop(semVal ((c : Thread nD τ), SemLoc.dma (cellJ j)) 0
      ∗ (∃ f, (kslot j).view.loc (c : Thread nD τ) ↦[(kslot j).view.set]{fullShare} f)
      ∗ (∃ g, (sslot j).view.loc (c : Thread nD τ) ↦[(sslot j).view.set]{fullShare} g)
      ∗ tok c aK j aK.view.set s.k ∗ tok c aKs j aKs.view.set s.ks ∗ tok c aV j aV.view.set s.v ∗ tok c aVs j aVs.view.set s.vs)
  | .k wb wc h => iprop(busy c j aK aKs s.k s.ks wb wc h ∗ tok c aV j aV.view.set s.v ∗ tok c aVs j aVs.view.set s.vs)
  | .v wb wc h => iprop(busy c j aV aVs s.v s.vs wb wc h ∗ tok c aK j aK.view.set s.k ∗ tok c aKs j aKs.view.set s.ks)

end Cert.Kernel.Hand

end
-- ==== Proof.Words.lean ====
/-
  The kernel's words as numbers.

  The kernel walks the cache in ITEMS `(b, κ, c)`: chunk `c` of the keys (`κ = 0`) or of the values (`κ = 1`) of
  sequence `b`. `nx` is the step from an item to the next one, `it n` the `n`-th item. The words the kernel carries are
  the words of these numbers, its `if`s are decided by them, and every side condition it states follows from them.
-/
module

public import proofs.«01_k».proof.Proof.Ring

@[expose] public section

set_option maxRecDepth 16384

noncomputable section

namespace Cert.Kernel.Hand

open Cert.Kernel Cert.Kernel.Gen
open Idealize.ShloMosaic Idealize.ShloMosaic.TcCoe Idealize.ShloMosaic.Tactic

/-! ## Lengths and chunk counts -/

/-- The chunks of a sequence of length `len`: one per 2048 positions begun, and at least one. -/
def ncN (len : ℕ) : ℕ := max ((len + 2047) / 2048) 1

theorem ncN_pos (len : ℕ) : 1 ≤ ncN len := Nat.le_max_right _ _
theorem ncN_le {len : ℕ} (h : len ≤ 16384) : ncN len ≤ 8 := by unfold ncN; omega

/-- The kernel's word for it. -/
abbrev ncW (v : BitVec 32) : BitVec 32 := Scalar.maxsi (Scalar.shrui (Scalar.addi v 2047#32) 11#32) 1#32

theorem ncW_eq {len : ℕ} (h : len ≤ 16384) : ncW (BitVec.ofNat 32 len) = BitVec.ofNat 32 (ncN len) := by
  have e1 : Scalar.addi (BitVec.ofNat 32 len) 2047#32 = BitVec.ofNat 32 (len + 2047) := by
    show BitVec.ofNat 32 len + BitVec.ofNat 32 2047 = _
    rw [← BitVec.ofNat_add]
  have e2 : Scalar.shrui (BitVec.ofNat 32 (len + 2047)) 11#32 = BitVec.ofNat 32 ((len + 2047) / 2048) := by
    unfold Scalar.shrui IntOp.shrui
    rw [if_pos (by decide)]
    apply BitVec.eq_of_toNat_eq
    rw [BitVec.ushiftRight_eq', BitVec.toNat_ushiftRight, BitVec.toNat_ofNat, BitVec.toNat_ofNat, BitVec.toNat_ofNat, Nat.shiftRight_eq_div_pow, Nat.mod_eq_of_lt (by omega), Nat.mod_eq_of_lt (by omega), Nat.mod_eq_of_lt (by omega)]
  have e3 : ∀ q : Fin 10, Scalar.maxsi (BitVec.ofNat 32 q.val) 1#32 = BitVec.ofNat 32 (max q.val 1) := by decide
  show Scalar.maxsi (Scalar.shrui (Scalar.addi _ _) _) _ = _
  rw [e1, e2]
  exact e3 ⟨(len + 2047) / 2048, by omega⟩

/-! ## The items -/

section Items

variable (ln : ℕ → ℕ)

/-- The item after `(b, κ, c)`, the sequences having lengths `ln 0 … ln 3`. -/
def nx (x : ℕ × ℕ × ℕ) : ℕ × ℕ × ℕ :=
  if ncN (ln (min x.1 3)) ≤ x.2.2 + 1 then (if x.2.1 = 1 then x.1 + 1 else x.1, 1 - x.2.1, 0) else (x.1, x.2.1, x.2.2 + 1)

/-- The `n`-th item. -/
def it : ℕ → ℕ × ℕ × ℕ
  | 0 => (0, 0, 0)
  | n + 1 => nx ln (it n)

theorem it_zero : it ln 0 = (0, 0, 0) := rfl
theorem it_succ (n : ℕ) : it ln (n + 1) = nx ln (it ln n) := rfl

variable {ln}

/-- What every item satisfies. -/
theorem it_good (hl : ∀ i, ln i ≤ 16384) (n : ℕ) :
    (it ln n).1 ≤ n ∧ (it ln n).2.1 ≤ 1 ∧ (it ln n).2.2 < ncN (ln (min (it ln n).1 3)) ∧ n ≤ 16 * (it ln n).1 + 8 * (it ln n).2.1 + (it ln n).2.2 := by
  induction n with
  | zero => exact ⟨le_refl _, by simp [it], by have := ncN_pos (ln 0); simp only [it]; exact this, Nat.zero_le _⟩
  | succ n ih =>
    rw [it_succ]
    generalize hx : it ln n = x at ih
    obtain ⟨b, κ, c⟩ := x
    obtain ⟨h1, h2, h3, h4⟩ := ih
    simp only at h1 h2 h3 h4
    have h8 := ncN_le (hl (min b 3))
    unfold nx
    by_cases hw : ncN (ln (min b 3)) ≤ c + 1
    · rw [if_pos hw]
      by_cases hk : κ = 1
      · subst hk
        have := ncN_pos (ln (min (b + 1) 3))
        rw [if_pos rfl]; refine ⟨?_, ?_, ?_, ?_⟩ <;> simp only <;> omega
      · have := ncN_pos (ln (min b 3))
        rw [if_neg hk]; refine ⟨?_, ?_, ?_, ?_⟩ <;> simp only <;> omega
    · rw [if_neg hw]; refine ⟨?_, ?_, ?_, ?_⟩ <;> simp only <;> omega

theorem nx_mono (x : ℕ × ℕ × ℕ) : x.1 ≤ (nx ln x).1 := by
  unfold nx
  split
  · simp only; split <;> omega
  · exact le_refl _

theorem it_mono (n m : ℕ) : (it ln n).1 ≤ (it ln (n + m)).1 := by
  induction m with
  | zero => exact le_refl _
  | succ m ih => exact ih.trans (nx_mono _)

end Items

/-! ## The words of an item -/

/-- The words the kernel carries for an item. -/
abbrev wd (x : ℕ × ℕ × ℕ) : BitVec 32 × BitVec 32 × BitVec 32 := (BitVec.ofNat 32 x.1, BitVec.ofNat 32 x.2.1, BitVec.ofNat 32 x.2.2)

/-- The kernel's step on words, `v` the length it reads. -/
abbrev nxW (v : BitVec 32) (b κ c : BitVec 32) : BitVec 32 × BitVec 32 × BitVec 32 :=
  (Scalar.select (Scalar.andi (Scalar.cmpi .sge (Scalar.addi c 1#32) (ncW v)) (Scalar.cmpi .eq κ 1#32)) (Scalar.addi b 1#32) b,
    Scalar.select (Scalar.cmpi .sge (Scalar.addi c 1#32) (ncW v)) (Scalar.subi 1#32 κ) κ,
    Scalar.select (Scalar.cmpi .sge (Scalar.addi c 1#32) (ncW v)) 0#32 (Scalar.addi c 1#32))

theorem nxW_eq (ln : ℕ → ℕ) (hl : ∀ i, ln i ≤ 16384) (x : ℕ × ℕ × ℕ) (h2 : x.2.1 ≤ 1) (h3 : x.2.2 < 8) :
    nxW (BitVec.ofNat 32 (ln (min x.1 3))) (wd x).1 (wd x).2.1 (wd x).2.2 = wd (nx ln x) := by
  obtain ⟨b, κ, c⟩ := x
  simp only at h2 h3
  have hn := ncN_le (hl (min b 3))
  have key : ∀ (c : Fin 8) (n : Fin 9), Scalar.cmpi .sge (Scalar.addi (BitVec.ofNat 32 c.val) 1#32) (BitVec.ofNat 32 n.val) = (if n.val ≤ c.val + 1 then 1#1 else 0#1) := by decide
  have k2 : ∀ κ : Fin 2, Scalar.cmpi .eq (BitVec.ofNat 32 κ.val) 1#32 = (if κ.val = 1 then 1#1 else 0#1) := by decide
  have k3 : ∀ κ : Fin 2, Scalar.subi 1#32 (BitVec.ofNat 32 κ.val) = BitVec.ofNat 32 (1 - κ.val) := by decide
  have e1 := key ⟨c, h3⟩ ⟨ncN (ln (min b 3)), by omega⟩
  have e2 := k2 ⟨κ, by omega⟩
  have e3 := k3 ⟨κ, by omega⟩
  simp only at e1 e2 e3
  have a1 : ∀ n : ℕ, Scalar.addi (BitVec.ofNat 32 n) 1#32 = BitVec.ofNat 32 (n + 1) := fun n => by
    show BitVec.ofNat 32 n + BitVec.ofNat 32 1 = _; rw [← BitVec.ofNat_add]
  unfold nxW nx wd
  simp only [ncW_eq (hl _)]
  rw [e1, e2, e3, a1, a1]
  by_cases hw : ncN (ln (min b 3)) ≤ c + 1
  · simp only [if_pos hw]
    by_cases hk : κ = 1
    · simp only [if_pos hk]; rfl
    · simp only [if_neg hk]; rfl
  · simp only [if_neg hw]
    by_cases hk : κ = 1
    · simp only [if_pos hk]; rfl
    · simp only [if_neg hk]; rfl

/-! ## The conditions the kernel decides -/

theorem cond_k : ∀ (b : Fin 128) (κ : Fin 2), k0_cond1 (BitVec.ofNat 32 b.val) (BitVec.ofNat 32 κ.val) = (if b.val < 4 ∧ κ.val = 0 then 1#1 else 0#1) := by decide
theorem cond_v : ∀ (b : Fin 128) (κ : Fin 2), k0_cond2 (BitVec.ofNat 32 b.val) (BitVec.ofNat 32 κ.val) = (if b.val < 4 ∧ κ.val = 1 then 1#1 else 0#1) := by decide

/-- An item that fits the proof's bounds. -/
structure Ok (x : ℕ × ℕ × ℕ) : Prop where
  b : x.1 < 128
  κ : x.2.1 < 2
  c : x.2.2 < 8

theorem Ok.cond1 {x : ℕ × ℕ × ℕ} (h : Ok x) : k0_cond1 (wd x).1 (wd x).2.1 = (if x.1 < 4 ∧ x.2.1 = 0 then 1#1 else 0#1) := cond_k ⟨x.1, h.b⟩ ⟨x.2.1, h.κ⟩
theorem Ok.cond2 {x : ℕ × ℕ × ℕ} (h : Ok x) : k0_cond2 (wd x).1 (wd x).2.1 = (if x.1 < 4 ∧ x.2.1 = 1 then 1#1 else 0#1) := cond_v ⟨x.1, h.b⟩ ⟨x.2.1, h.κ⟩

theorem mul2048 : ∀ c : Fin 8, (Scalar.muli (BitVec.ofNat 32 c.val) 2048#32).toNat = c.val * 2048 := by decide

theorem Ok.inC {x : ℕ × ℕ × ℕ} (h : Ok x) (hb : x.1 < 4) : InC (wd x).1 (wd x).2.2 := by
  refine ⟨?_, ?_⟩
  · show (BitVec.ofNat 32 x.1).toNat < 4
    rw [BitVec.toNat_ofNat, Nat.mod_eq_of_lt (by omega)]; exact hb
  · have := mul2048 ⟨x.2.2, h.c⟩
    show (Scalar.muli (BitVec.ofNat 32 x.2.2) 2048#32).toNat + 2048 ≤ 16384
    simp only at this
    have := h.c; omega

theorem Ok.dvd {x : ℕ × ℕ × ℕ} (h : Ok x) : 2048 ∣ (Scalar.muli (wd x).2.2 2048#32).toNat := by
  have := mul2048 ⟨x.2.2, h.c⟩
  exact ⟨x.2.2, by simp only at this; show (Scalar.muli (BitVec.ofNat 32 x.2.2) 2048#32).toNat = _; omega⟩

theorem Ok.lt4_of_cond1 {x : ℕ × ℕ × ℕ} (h : Ok x) (hc : k0_cond1 (wd x).1 (wd x).2.1 = 1#1) : x.1 < 4 := by
  rw [h.cond1] at hc
  by_contra hb
  rw [if_neg (fun h => hb h.1)] at hc
  exact absurd hc (by decide)
theorem Ok.lt4_of_cond2 {x : ℕ × ℕ × ℕ} (h : Ok x) (hc : k0_cond2 (wd x).1 (wd x).2.1 = 1#1) : x.1 < 4 := by
  rw [h.cond2] at hc
  by_contra hb
  rw [if_neg (fun h => hb h.1)] at hc
  exact absurd hc (by decide)

/-- A rectangle that takes every row of its slabs is whole words. -/
theorem words4 {off : Fin 3 → ℕ} {inb : ∀ a, off a + S1x512x2048.size a ≤ S4x512x16384.size a} (h0 : off 1 = 0) :
    (Rect.unit (s := S4x512x16384) off S1x512x2048.size inb).WholeWords (EltTy.packing .i8) := .inr ⟨by decide, rfl, h0, rfl⟩
theorem words12 {off : Fin 3 → ℕ} {inb : ∀ a, off a + S1x512x2048.size a ≤ S12x512x2048.size a} (h0 : off 1 = 0) :
    (Rect.unit (s := S12x512x2048) off S1x512x2048.size inb).WholeWords (EltTy.packing .i8) := .inr ⟨by decide, rfl, h0, rfl⟩

theorem Ok.chk1 {x : ℕ × ℕ × ℕ} (h : Ok x) : k0_chk1 (wd x).1 (wd x).2.1 (wd x).2.2 :=
  ⟨fun _ => h.dvd, fun hc => (h.inC (h.lt4_of_cond1 hc)).k, fun _ _ => words4 rfl, fun hc => (h.inC (h.lt4_of_cond1 hc)).s,
   fun _ => h.dvd, fun hc => (h.inC (h.lt4_of_cond2 hc)).k, fun _ _ => words4 rfl, fun hc => (h.inC (h.lt4_of_cond2 hc)).s⟩
theorem Ok.chk5 {x : ℕ × ℕ × ℕ} (h : Ok x) : k0_chk5 (wd x).1 (wd x).2.1 (wd x).2.2 := h.chk1
theorem Ok.chk13 {x : ℕ × ℕ × ℕ} (h : Ok x) : k0_chk13 (wd x).1 (wd x).2.1 (wd x).2.2 := h.chk1

theorem min3 : ∀ b : Fin 128, (Scalar.minsi (BitVec.ofNat 32 b.val) 3#32) = BitVec.ofNat 32 (min b.val 3) := by decide

theorem Ok.chk2 {x : ℕ × ℕ × ℕ} (h : Ok x) : k0_chk2 (wd x).1 := by
  have h3 : Scalar.minsi (BitVec.ofNat 32 x.1) 3#32 = BitVec.ofNat 32 (min x.1 3) := min3 ⟨x.1, h.b⟩
  intro a; fin_cases a
  show (Scalar.minsi (BitVec.ofNat 32 x.1) 3#32).toNat + 1 ≤ 4
  rw [h3, BitVec.toNat_ofNat, Nat.mod_eq_of_lt (by omega)]; omega
theorem Ok.chk7 {x : ℕ × ℕ × ℕ} (h : Ok x) : k0_chk7 (wd x).1 := h.chk2
theorem Ok.chk15 {x : ℕ × ℕ × ℕ} (h : Ok x) : k0_chk15 (wd x).1 := h.chk2

/-! ## The slot an item goes to -/

theorem rem12 : ∀ n : Fin 128, Scalar.remsi (BitVec.ofNat 32 n.val) 12#32 = BitVec.ofNat 32 (n.val % 12) := by decide
theorem rem12' : ∀ n : Fin 116, Scalar.remsi (Scalar.subi (BitVec.ofNat 32 (n.val + 12)) 12#32) 12#32 = BitVec.ofNat 32 (n.val % 12) := by decide

theorem slot_inb {w : BitVec 32} {m : ℕ} (h : w = BitVec.ofNat 32 (m % 12)) : w.toNat + 1 ≤ 12 := by
  have := Nat.mod_lt m (show 0 < 12 by decide)
  rw [h, BitVec.toNat_ofNat, Nat.mod_eq_of_lt (by omega)]; omega
theorem slot_toNat {w : BitVec 32} {m : ℕ} (h : w = BitVec.ofNat 32 (m % 12)) : w.toNat = m % 12 := by
  have := Nat.mod_lt m (show 0 < 12 by decide)
  rw [h, BitVec.toNat_ofNat, Nat.mod_eq_of_lt (by omega)]

theorem inb1_of {w : BitVec 32} (h : w.toNat + 1 ≤ 12) : ∀ a, (![w.toNat] : Fin 1 → ℕ) a + S1.size a ≤ S12.size a := by
  intro a; fin_cases a; exact h
theorem inbK_of {w : BitVec 32} (h : w.toNat + 1 ≤ 12) : ∀ a, (![w.toNat, 0, 0] : Fin 3 → ℕ) a + S1x512x2048.size a ≤ S12x512x2048.size a := by
  intro a; fin_cases a
  · exact h
  · show 0 + 512 ≤ 512; omega
  · show 0 + 2048 ≤ 2048; omega
theorem inbS_of {w : BitVec 32} (h : w.toNat + 1 ≤ 12) : ∀ a, (![w.toNat, 0, 0] : Fin 3 → ℕ) a + S1x8x2048.size a ≤ S12x8x2048.size a := by
  intro a; fin_cases a
  · exact h
  · show 0 + 8 ≤ 8; omega
  · show 0 + 2048 ≤ 2048; omega

theorem chk4_of {n : ℕ} (hn : n < 116) : k0_chk4 (BitVec.ofNat 32 (n + 12)) :=
  have h := slot_inb (rem12' ⟨n, hn⟩)
  ⟨inb1_of h, inbK_of h, fun _ => words12 rfl, inbS_of h, inbK_of h, inbS_of h⟩
theorem chk12_of {n : ℕ} (hn : n < 116) : k0_chk12 (BitVec.ofNat 32 (n + 12)) :=
  have h := slot_inb (rem12' ⟨n, hn⟩)
  ⟨inb1_of h, inbK_of h, fun _ => words12 rfl, inbS_of h, inbS_of h, inbK_of h⟩
theorem chk6_of {n : ℕ} (hn : n < 128) (wb wk : BitVec 32) : k0_chk6 (BitVec.ofNat 32 n) wb wk :=
  have h := slot_inb (rem12 ⟨n, hn⟩)
  ⟨fun _ => inb1_of h, fun _ => inbK_of h, fun _ _ => words12 rfl, fun _ => inbS_of h,
   fun _ => inb1_of h, fun _ => inbK_of h, fun _ _ => words12 rfl, fun _ => inbS_of h⟩
theorem chk14_of {n : ℕ} (hn : n < 128) (wb wk : BitVec 32) : k0_chk14 (BitVec.ofNat 32 n) wb wk :=
  have h := slot_inb (rem12 ⟨n, hn⟩)
  ⟨fun _ => inb1_of h, fun _ => inbK_of h, fun _ _ => words12 rfl, fun _ => inbS_of h,
   fun _ => inb1_of h, fun _ => inbK_of h, fun _ _ => words12 rfl, fun _ => inbS_of h⟩

/-! ## The loops over the chunks -/

/-- The loop over `x` chunks. -/
abbrev chunkLoop (x : BitVec 32) : Scf.Loop 32 := ⟨0#32, Scalar.addi 0#32 (Scalar.muli (Scalar.divsi (Scalar.subi x 0#32) 1#32) 1#32), 1#32⟩

theorem chunkLoop_facts : ∀ n : Fin 9, (chunkLoop (BitVec.ofNat 32 n.val)).trips = n.val ∧ (chunkLoop (BitVec.ofNat 32 n.val)).OK := by decide

theorem t3_loop_eq (v : BitVec 32) : k0_t3_loop v = chunkLoop (ncW v) := rfl
theorem t5_loop_eq (v : BitVec 32) : k0_t5_loop v = chunkLoop (ncW v) := rfl

/-- The remainder loop's operands: it makes no trip. -/
abbrev restLoop (x : BitVec 32) : Scf.Loop 32 := ⟨Scalar.addi 0#32 (Scalar.muli (Scalar.divsi (Scalar.subi x 0#32) 1#32) 1#32), Scalar.addi 0#32 (Scalar.subi x 0#32), 1#32⟩
theorem restLoop_facts : ∀ n : Fin 9, (restLoop (BitVec.ofNat 32 n.val)).trips = 0 ∧ (restLoop (BitVec.ofNat 32 n.val)).OK := by decide

theorem row_inb {n : ℕ} (hn : n < 8) : ∀ a, (![(Scf.iv 0#32 1#32 n : BitVec 32).toNat, 0, 0] : Fin 3 → ℕ) a + S1x32x2048.size a ≤ S8x32x2048.size a := by
  have hiv : ∀ k : Fin 8, (Scf.iv 0#32 1#32 k.val : BitVec 32).toNat = k.val := by decide
  have e := hiv ⟨n, hn⟩
  intro a; fin_cases a
  · show (Scf.iv 0#32 1#32 n : BitVec 32).toNat + 1 ≤ 8
    simp only at e; omega
  · show 0 + 32 ≤ 32; omega
  · show 0 + 2048 ≤ 2048; omega

section Len
variable {len : ℕ} (h : len ≤ 16384)
include h

theorem t3_trips : (k0_t3_loop (BitVec.ofNat 32 len)).trips = ncN len := by
  rw [t3_loop_eq, ncW_eq h]
  exact (chunkLoop_facts ⟨ncN len, by have := ncN_le h; omega⟩).1
theorem t5_trips : (k0_t5_loop (BitVec.ofNat 32 len)).trips = ncN len := t3_trips h
theorem t4_trips : (k0_t4_loop (BitVec.ofNat 32 len)).trips = 0 := by
  show (restLoop (ncW _)).trips = 0
  rw [ncW_eq h]
  exact (restLoop_facts ⟨ncN len, by have := ncN_le h; omega⟩).1
theorem t6_trips : (k0_t6_loop (BitVec.ofNat 32 len)).trips = 0 := t4_trips h

theorem t3_ok : (k0_t3_loop (BitVec.ofNat 32 len)).OK := by
  rw [t3_loop_eq, ncW_eq h]
  exact (chunkLoop_facts ⟨ncN len, by have := ncN_le h; omega⟩).2
theorem t4_ok : (k0_t4_loop (BitVec.ofNat 32 len)).OK := by
  show (restLoop (ncW _)).OK
  rw [ncW_eq h]
  exact (restLoop_facts ⟨ncN len, by have := ncN_le h; omega⟩).2

theorem t5_ok : (k0_t5_loop (BitVec.ofNat 32 len)).OK := by
  rw [t5_loop_eq, ncW_eq h]
  exact (chunkLoop_facts ⟨ncN len, by have := ncN_le h; omega⟩).2
theorem t6_ok : (k0_t6_loop (BitVec.ofNat 32 len)).OK := by
  show (restLoop (ncW _)).OK
  rw [ncW_eq h]
  exact (restLoop_facts ⟨ncN len, by have := ncN_le h; omega⟩).2

theorem chk3_of : k0_chk3 (BitVec.ofNat 32 len) := by
  have h8 := ncN_le h
  have h3 := t3_trips h
  have h4 := t4_trips h
  have h5 := t5_trips h
  have h6 := t6_trips h
  have o3 := t3_ok h
  have o4 := t4_ok h
  have o5 := t5_ok h
  have o6 := t6_ok h
  unfold k0_chk3
  generalize hv : BitVec.ofNat 32 len = v at *
  refine ⟨o3, ?_, o4, ?_, o5, ?_, o6, ?_⟩
  · intro k; exact row_inb (by have := k.isLt; omega)
  · intro k; exfalso; have := k.isLt; omega
  · intro k; exact row_inb (by have := k.isLt; omega)
  · intro k; exfalso; have := k.isLt; omega

end Len

end Cert.Kernel.Hand

end
-- ==== Proof.State.lean ====
/-
  The state of the ring at each point of the walk, and the pieces of a slot put back together.
-/
module

public import proofs.«01_k».proof.Proof.Words

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The scratch buffers -/

abbrev lenM : Memref sig .tc .smem S4 .i32 := Memref.whole cc0_scratch3
abbrev qM : Memref sig .tc .vmem S4x32x512 .bf16 := Memref.whole cc0_scratch6
abbrev snM : Memref sig .tc .vmem S4x32x128 .f32 := Memref.whole cc0_scratch7
abbrev sbM : Memref sig .tc .vmem S8x32x2048 .f32 := Memref.whole cc0_scratch8
abbrev mM : Memref sig .tc .vmem S32x128 .f32 := Memref.whole cc0_scratch9
abbrev lM : Memref sig .tc .vmem S32x128 .f32 := Memref.whole cc0_scratch10
abbrev accM : Memref sig .tc .vmem S512x32 .f32 := Memref.whole cc0_scratch11

/-- A scratch buffer held whole. -/
abbrev own (c : Dev nD) {sp : Space} {S : Shape} {e : EltTy} (M : Memref sig .tc sp S e) (f : BufOf F c M) : sProp 𝕄 :=
  M.view.loc (c : Thread nD τ) ↦[M.view.set]{fullShare} f

/-! ## What slot holds which item -/

instance (wb wc : BitVec 32) : Decidable (InC wb wc) := by unfold InC; infer_instance

/-- The state of the slot item `x` was sent to: busy with the item's chunk, or free if the item is past the last sequence. -/
def stN (x : ℕ × ℕ × ℕ) : St :=
  if h : InC (wd x).1 (wd x).2.2 then (if x.2.1 = 0 then .k (wd x).1 (wd x).2.2 h else .v (wd x).1 (wd x).2.2 h) else .free

theorem stN_k {x : ℕ × ℕ × ℕ} (h : InC (wd x).1 (wd x).2.2) (hk : x.2.1 = 0) : stN x = .k (wd x).1 (wd x).2.2 h := by
  unfold stN; rw [dif_pos h, if_pos hk]
theorem stN_v {x : ℕ × ℕ × ℕ} (h : InC (wd x).1 (wd x).2.2) (hk : x.2.1 = 1) : stN x = .v (wd x).1 (wd x).2.2 h := by
  unfold stN; rw [dif_pos h, if_neg (by omega)]
theorem stN_free {x : ℕ × ℕ × ℕ} (h : Ok x) (hb : 4 ≤ x.1) : stN x = .free := by
  unfold stN
  rw [dif_neg]
  rintro ⟨h1, -⟩
  have h2 : (BitVec.ofNat 32 x.1).toNat < 4 := h1
  have := h.b
  rw [BitVec.toNat_ofNat, Nat.mod_eq_of_lt (by omega)] at h2
  omega

section Ring
variable (ln : ℕ → ℕ)

/-- The slot of item `n`. -/
abbrev sl (n : ℕ) : Fin 12 := ⟨n % 12, Nat.mod_lt _ (by decide)⟩

/-- The ring with items `n … n + 11` sent. -/
def ring (n : ℕ) (j : Fin 12) : St := stN (it ln (n + ((j.val + 12 - n % 12) % 12)))

/-- The ring with items `0 … k - 1` sent and the other slots free. -/
def prime (k : ℕ) (j : Fin 12) : St := if j.val < k then stN (it ln j.val) else .free

theorem ring_at (n : ℕ) : ring ln n (sl n) = stN (it ln n) := by
  unfold ring; congr 2; show n + ((n % 12 + 12 - n % 12) % 12) = n; omega

theorem ring_step (n : ℕ) : ring ln (n + 1) = Function.update (ring ln n) (sl n) (stN (it ln (n + 12))) := by
  funext j
  by_cases hj : j = sl n
  · subst hj
    rw [Function.update_self]
    unfold ring; congr 2
    show n + 1 + ((n % 12 + 12 - (n + 1) % 12) % 12) = n + 12
    omega
  · rw [Function.update_of_ne hj]
    unfold ring; congr 2
    have h1 : j.val ≠ n % 12 := fun h => hj (Fin.ext h)
    have := j.isLt
    omega

theorem prime_zero : prime ln 0 = fun _ => .free := by
  funext j; unfold prime; rw [if_neg (by omega)]

theorem prime_at (k : Fin 12) : prime ln k.val k = .free := by
  unfold prime; rw [if_neg (by omega)]

theorem prime_step (k : Fin 12) : prime ln (k.val + 1) = Function.update (prime ln k.val) k (stN (it ln k.val)) := by
  funext j
  by_cases hj : j = k
  · subst hj
    rw [Function.update_self]
    unfold prime; rw [if_pos (by omega)]
  · rw [Function.update_of_ne hj]
    have h1 : j.val ≠ k.val := fun h => hj (Fin.ext h)
    unfold prime
    by_cases h : j.val < k.val
    · rw [if_pos h, if_pos (by omega)]
    · rw [if_neg h, if_neg (by omega)]

theorem prime_full : prime ln 12 = ring ln 0 := by
  funext j
  unfold prime ring
  have := j.isLt
  rw [if_pos this]; congr 2
  show j.val = 0 + ((j.val + 12 - 0 % 12) % 12)
  omega

end Ring

/-! ## A slot given back -/

theorem blkK_sub {c : Dev nD} {A : Memref sig .tc .hbm S4x512x16384 .i8} {wb wc : BitVec 32} (h : InC wb wc) : (blkK A wb wc h).view.set ⊆ A.view.set :=
  (View.set_reshape (A.view.slice (Rect.unit (s := S4x512x16384) (offC wb wc) S1x512x2048.size h.k)) _).subset.trans (View.set_slice_subset _ _)
theorem blkS_sub {c : Dev nD} {A : Memref sig .tc .hbm S4x8x16384 .f32} {wb wc : BitVec 32} (h : InC wb wc) : (blkS A wb wc h).view.set ⊆ A.view.set :=
  (View.set_reshape (A.view.slice (Rect.unit (s := S4x8x16384) (offC wb wc) S1x8x2048.size h.s)) _).subset.trans (View.set_slice_subset _ _)

/-- A read share given back whole from a lent piece and the rest. -/
theorem tok_join (c : Dev nD) {S : Shape} {e : EltTy} (A : Memref sig .tc .hbm S e) (j : Fin 12) (I : Finset (Idx (A.view.loc (c : Thread nD τ)))) (hI : I ⊆ A.view.set) (f : BufOf F c A) :
    iprop(tok c A j I f ∗ tok c A j (A.view.set \ I) f) ⊢ (tok c A j A.view.set f : sProp 𝕄) :=
  (pointsTo_split_subset hI).2

/-- The slot of a chunk of the keys, both copies landed. -/
theorem back_k (c : Dev nD) (s : Src F c) (j j' : Fin 12) (hj : j = j') (wb wc : BitVec 32) (h : InC wb wc) (f : BufOf F c (kslot j)) (g : BufOf F c (sslot j)) :
    iprop(semVal ((c : Thread nD τ), SemLoc.dma (cellJ j)) 0
      ∗ ((kslot j).view.loc (c : Thread nD τ) ↦[(kslot j).view.set]{fullShare} f)
      ∗ ((sslot j).view.loc (c : Thread nD τ) ↦[(sslot j).view.set]{fullShare} g)
      ∗ tok c aK j (blkK aK wb wc h).view.set s.k ∗ tok c aKs j (blkS aKs wb wc h).view.set s.ks
      ∗ tok c aK j (aK.view.set \ (blkK aK wb wc h).view.set) s.k ∗ tok c aKs j (aKs.view.set \ (blkS aKs wb wc h).view.set) s.ks
      ∗ tok c aV j aV.view.set s.v ∗ tok c aVs j aVs.view.set s.vs)
      ⊢ (Φ c s j' .free : sProp 𝕄) := by
  subst hj
  iintro ⟨Hc, Hk, Hs, Ha, Hb, Ha', Hb', Hv, Hvs⟩
  isplitl [Hc]; · iexact Hc
  isplitl [Hk]; · iexists f; iexact Hk
  isplitl [Hs]; · iexists g; iexact Hs
  isplitl [Ha Ha']
  · iapply (tok_join c aK j (blkK aK wb wc h).view.set (blkK_sub (c := c) (A := aK) h) s.k)
    isplitl [Ha]; · iexact Ha
    iexact Ha'
  isplitl [Hb Hb']
  · iapply (tok_join c aKs j (blkS aKs wb wc h).view.set (blkS_sub (c := c) (A := aKs) h) s.ks)
    isplitl [Hb]; · iexact Hb
    iexact Hb'
  isplitl [Hv]; · iexact Hv
  iexact Hvs

/-- The slot of a chunk of the values, both copies landed. -/
theorem back_v (c : Dev nD) (s : Src F c) (j j' : Fin 12) (hj : j = j') (wb wc : BitVec 32) (h : InC wb wc) (f : BufOf F c (kslot j)) (g : BufOf F c (sslot j)) :
    iprop(semVal ((c : Thread nD τ), SemLoc.dma (cellJ j)) 0
      ∗ ((kslot j).view.loc (c : Thread nD τ) ↦[(kslot j).view.set]{fullShare} f)
      ∗ ((sslot j).view.loc (c : Thread nD τ) ↦[(sslot j).view.set]{fullShare} g)
      ∗ tok c aV j (blkK aV wb wc h).view.set s.v ∗ tok c aVs j (blkS aVs wb wc h).view.set s.vs
      ∗ tok c aV j (aV.view.set \ (blkK aV wb wc h).view.set) s.v ∗ tok c aVs j (aVs.view.set \ (blkS aVs wb wc h).view.set) s.vs
      ∗ tok c aK j aK.view.set s.k ∗ tok c aKs j aKs.view.set s.ks)
      ⊢ (Φ c s j' .free : sProp 𝕄) := by
  subst hj
  iintro ⟨Hc, Hk, Hs, Ha, Hb, Ha', Hb', Hv, Hvs⟩
  isplitl [Hc]; · iexact Hc
  isplitl [Hk]; · iexists f; iexact Hk
  isplitl [Hs]; · iexists g; iexact Hs
  isplitl [Hv]; · iexact Hv
  isplitl [Hvs]; · iexact Hvs
  isplitl [Ha Ha']
  · iapply (tok_join c aV j (blkK aV wb wc h).view.set (blkK_sub (c := c) (A := aV) h) s.v)
    isplitl [Ha]; · iexact Ha
    iexact Ha'
  iapply (tok_join c aVs j (blkS aVs wb wc h).view.set (blkS_sub (c := c) (A := aVs) h) s.vs)
  isplitl [Hb]; · iexact Hb
  iexact Hb'

end Cert.Kernel.Hand

end
-- ==== Proof.Spec.lean ====
module
public import proofs.«01_k».proof.Proof.State
import Idealize.ShloMosaic.Lib.VecWindow
import Idealize.ShloMosaic.Lib.WritesUnit
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scalar buffer `fl` holds the lengths `ln 0 … ln 3`. -/
def LenOk (c : Dev nD) (fl : BufOf F c lenM) (ln : ℕ → ℕ) : Prop :=
  ∀ (off : Fin 1 → ℕ) (hi : ∀ a, off a + S1.size a ≤ S4.size a) (i : (Rect.unit (s := S4) off S1.size hi).shape.Idx),
    View.readAt (Elt F) lenM.view (Rect.unit (s := S4) off S1.size hi).toLoadRect fl i = BitVec.ofNat 32 (ln (off 0))

theorem LenOk.min {c : Dev nD} {fl : BufOf F c lenM} {ln : ℕ → ℕ} (h : LenOk c fl ln) {x : ℕ × ℕ × ℕ} (hx : Ok x)
    (hi : ∀ a, (k0_off11 (wd x).1) a + S1.size a ≤ S4.size a) (i : (Rect.unit (s := S4) (k0_off11 (wd x).1) S1.size hi).shape.Idx) :
    View.readAt (Elt F) lenM.view (Rect.unit (s := S4) (k0_off11 (wd x).1) S1.size hi).toLoadRect fl i = BitVec.ofNat 32 (ln (min x.1 3)) := by
  refine (h _ hi i).trans (congrArg (fun n => BitVec.ofNat 32 (ln n)) ?_)
  have h3 : Scalar.minsi (BitVec.ofNat 32 x.1) 3#32 = BitVec.ofNat 32 (Nat.min x.1 3) := min3 ⟨x.1, hx.b⟩
  show (Scalar.minsi (BitVec.ofNat 32 x.1) 3#32).toNat = Nat.min x.1 3
  rw [h3, BitVec.toNat_ofNat, Nat.mod_eq_of_lt]
  exact lt_of_le_of_lt (Nat.min_le_right _ _) (by decide)

/-- The words after an item are the next item's. -/
theorem LenOk.next {c : Dev nD} {fl : BufOf F c lenM} {ln : ℕ → ℕ} (h : LenOk c fl ln) (hl : ∀ i, ln i ≤ 16384) {x : ℕ × ℕ × ℕ} (hx : Ok x)
    (hi : ∀ a, (k0_off11 (wd x).1) a + S1.size a ≤ S4.size a) (i : (Rect.unit (s := S4) (k0_off11 (wd x).1) S1.size hi).shape.Idx) :
    nxW (View.readAt (Elt F) lenM.view (Rect.unit (s := S4) (k0_off11 (wd x).1) S1.size hi).toLoadRect fl i) (wd x).1 (wd x).2.1 (wd x).2.2 = wd (nx ln x) := by
  rw [h.min hx hi i]
  exact nxW_eq ln hl x (by have := hx.κ; omega) hx.c

theorem to_q {α : Type} {P : sProp 𝕄} {Q : α → sProp 𝕄} {a b : α} (h : a = b) (H : P ⊢ Q b) : P ⊢ Q a := h ▸ H
theorem read_unsqueezed {κ : Kind} {sp : Space} {s s' : Shape} {e : EltTy} (v : View sig κ sp s e) (h : s'.numel = s.numel) (f : v.ty.Contents (Elt F)) (w : s'.Idx → Elt F e) :
    v.read (Elt F) ((v.reshape s' h).writes (Elt F) f [⟨Rect.whole s', w⟩]) = fun z => w ((Shape.reshapeEquiv h).symm z) := by
  have key : (v.reshape s' h).read (Elt F) ((v.reshape s' h).writes (Elt F) f [⟨Rect.whole s', w⟩]) = w := View.read_writes_full _ _ _ _ _
  funext z
  have := congrFun key ((Shape.reshapeEquiv h).symm z)
  rw [← this]
  show _ = View.read (Elt F) v _ (Shape.reshapeEquiv h ((Shape.reshapeEquiv h).symm z))
  rw [Equiv.apply_symm_apply]

/-! ## What a trip computes -/

/-- The column numbers of a chunk. -/
abbrev iotaV : IVec S32x2048 32 := iota .tc S32x2048 32 [1] iota_S32x2048_d1_w32

/-- The masked scores of a chunk: `q` the sequence's queries, `kv` and `sv` the chunk and its scales, `a29` its number, `v256` the length. -/
def kS (v256 a29 : BitVec 32) (q : Vec F S1x32x512 .bf16) (kv : Vec F S1x512x2048 .i8) (sv : Vec F S1x8x2048 .f32) : FVec F S1x32x2048 .f32 :=
  k0_pay6 v256 a29 (k0_pay4 q kv sv) iotaV
/-- The running maxima after it. -/
def kM (v256 a29 : BitVec 32) (q : Vec F S1x32x512 .bf16) (kv : Vec F S1x512x2048 .i8) (sv : Vec F S1x8x2048 .f32) (M : Vec F S32x128 .f32) : FVec F S32x128 .f32 :=
  k0_pay11 (k0_pay7 v256 a29 (k0_pay4 q kv sv) iotaV M)
/-- The running sums after it. -/
def kL (v256 a29 : BitVec 32) (q : Vec F S1x32x512 .bf16) (kv : Vec F S1x512x2048 .i8) (sv : Vec F S1x8x2048 .f32) (M L : Vec F S32x128 .f32) : FVec F S32x128 .f32 :=
  k0_pay10 (k0_pay9 (k0_pay5 v256 a29 (k0_pay4 q kv sv) iotaV) (k0_pay7 v256 a29 (k0_pay4 q kv sv) iotaV M) (k0_pay8 v256 a29 (k0_pay4 q kv sv) iotaV M L))
/-- The accumulator after a chunk of the values: `pr` the chunk's scores, `v280`, `v292` the maximum and the inverse of the sum. -/
def kA (v280 v292 : FVec F S32x1 .f32) (pr : Vec F S1x32x2048 .f32) (kv : Vec F S1x512x2048 .i8) (sv : Vec F S1x8x2048 .f32) (A : Vec F S512x32 .f32) : FVec F S512x32 .f32 :=
  k0_pay29 (k0_pay20 v280 v292 pr sv) A kv

/-- The running maxima, sums and the accumulator a buffer holds. -/
abbrev rdM (c : Dev nD) (f : BufOf F c mM) : Vec F S32x128 .f32 := View.readAt (Elt F) mM.view (Rect.unit (s := S32x128) ![0, 0] S32x128.size inb_S32x128_S32x128_0_0).toLoadRect f
abbrev rdL (c : Dev nD) (f : BufOf F c lM) : Vec F S32x128 .f32 := View.readAt (Elt F) lM.view (Rect.unit (s := S32x128) ![0, 0] S32x128.size inb_S32x128_S32x128_0_0).toLoadRect f
abbrev rdA (c : Dev nD) (f : BufOf F c accM) : Vec F S512x32 .f32 := View.readAt (Elt F) accM.view (Rect.unit (s := S512x32) ![0, 0] S512x32.size inb_S512x32_S512x32_0_0).toLoadRect f
/-- The queries of sequence `b`. -/
abbrev rdQ (c : Dev nD) (f : BufOf F c qM) (b : Fin k0_t2_loop.trips) : Vec F S1x32x512 .bf16 := View.readAt (Elt F) qM.view (Rect.unit (s := S4x32x512) (k0_off17 b) S1x32x512.size (k0_off17_inb b)).toLoadRect f
/-- Row `off` of the score buffer. -/
abbrev rdS (c : Dev nD) (f : BufOf F c sbM) (off : Fin 3 → ℕ) (hi : ∀ a, off a + S1x32x2048.size a ≤ S8x32x2048.size a) : Vec F S1x32x2048 .f32 := View.readAt (Elt F) sbM.view (Rect.unit (s := S8x32x2048) off S1x32x2048.size hi).toLoadRect f

/-- A chunk as the ring returns it. -/
def slabK (v : S512x2048.Idx → Elt F .i8) : Vec F S1x512x2048 .i8 := fun z => v ((Shape.reshapeEquiv squeezes_S1x512x2048_S512x2048.numel_eq).symm z)
def slabS (v : S8x2048.Idx → Elt F .f32) : Vec F S1x8x2048 .f32 := fun z => v ((Shape.reshapeEquiv squeezes_S1x8x2048_S8x2048.numel_eq).symm z)
/-- What a trip over the keys leaves in the score buffer, the maxima and the sums. -/
structure K3 (c : Dev nD) (v256 a29 : BitVec 32) (q : Vec F S1x32x512 .bf16) (kv : Vec F S1x512x2048 .i8) (sv : Vec F S1x8x2048 .f32) (k : ℕ)
    (fs fs' : BufOf F c sbM) (fm fm' : BufOf F c mM) (fll fll' : BufOf F c lM) : Prop where
  m : rdM c fm' = kM v256 a29 q kv sv (rdM c fm)
  l : rdL c fll' = kL v256 a29 q kv sv (rdM c fm) (rdL c fll)
  here : ∀ (off : Fin 3 → ℕ) (hi), off = ![k, 0, 0] → rdS c fs' off hi = kS v256 a29 q kv sv
  away : ∀ (off : Fin 3 → ℕ) (hi), off 0 ≠ k → rdS c fs' off hi = rdS c fs off hi

theorem iv_lt8 : ∀ k : Fin 8, (Scf.iv 0#32 1#32 k.val : BitVec 32) = BitVec.ofNat 32 k.val := by decide
theorem iv_lt8' : ∀ k : Fin 8, (Scf.iv 0#32 1#32 k.val : BitVec 32).toNat = k.val := by decide

/-- A row of the score buffer read after a store to that row, and after a store to another. -/
theorem rdS_here (c : Dev nD) (f : BufOf F c sbM) (off off' : Fin 3 → ℕ) (hi hi') (w : Vec F S1x32x2048 .f32) (h : off' = off) :
    rdS c (sbM.view.writes (Elt F) f [⟨Rect.unit (s := S8x32x2048) off' S1x32x2048.size hi', w⟩]) off hi = w := by
  funext x
  exact View.read_writes_cons_unit_of_mem sbM.view f hi' w [] _ x h fun a => by
    show off a + 1 * (x a).val = off a + (x a).val
    omega
theorem rdS_away (c : Dev nD) (f : BufOf F c sbM) (off off' : Fin 3 → ℕ) (hi hi') (w : Vec F S1x32x2048 .f32) (h : off 0 ≠ off' 0) :
    rdS c (sbM.view.writes (Elt F) f [⟨Rect.unit (s := S8x32x2048) off' S1x32x2048.size hi', w⟩]) off hi = rdS c f off hi := by
  funext x
  refine View.read_writes_cons_unit_of_not_mem sbM.view f hi' w [] _ rfl (0 : Fin 3) ?_
  have hx : (x (0 : Fin 3)).val < 1 := (x (0 : Fin 3)).isLt
  show off 0 + 1 * (x 0).val < off' 0 ∨ off' 0 + 1 ≤ off 0 + 1 * (x 0).val
  omega

/-- The facts of a trip over the keys, of the buffers its stores leave. -/
theorem k3_of (c : Dev nD) (v251 v256 a29 : BitVec 32) (hw3 : k0_chk3 v251) (k : Fin (k0_t3_loop v251).trips) (hk : k.val < 8)
    (q : Vec F S1x32x512 .bf16) (kv : Vec F S1x512x2048 .i8) (sv : Vec F S1x8x2048 .f32)
    (fs : BufOf F c sbM) (fm : BufOf F c mM) (fll : BufOf F c lM) (w1 w2 w3)
    (h1 : w1 = kS v256 a29 q kv sv) (h2 : w2 = kM v256 a29 q kv sv (rdM c fm)) (h3 : w3 = kL v256 a29 q kv sv (rdM c fm) (rdL c fll)) :
    K3 c v256 a29 q kv sv k.val fs (sbM.view.writes (Elt F) fs [⟨Rect.unit (s := S8x32x2048) (k0_off20 v251 k) S1x32x2048.size (k0_off20_inb v251 hw3 k), w1⟩])
      fm (mM.view.writes (Elt F) fm [⟨Rect.unit (s := S32x128) ![0, 0] S32x128.size inb_S32x128_S32x128_0_0, w2⟩])
      fll (lM.view.writes (Elt F) fll [⟨Rect.unit (s := S32x128) ![0, 0] S32x128.size inb_S32x128_S32x128_0_0, w3⟩]) := by
  subst h1 h2 h3
  have e0 : k0_off20 v251 k = ![k.val, 0, 0] := by
    show ![(Scf.iv 0#32 1#32 k.val : BitVec 32).toNat, 0, 0] = _
    rw [iv_lt8' ⟨k.val, hk⟩]
  exact ⟨View.readAt_writes_full mM.view _ _ _ _ _, View.readAt_writes_full lM.view _ _ _ _ _,
    fun off hi h => rdS_here c _ _ _ _ _ _ (e0.trans h.symm), fun off hi h => rdS_away c _ _ _ _ _ _ (by rw [e0]; exact h)⟩

theorem Φ_cast (c : Dev nD) (s : Src F c) {j j' : Fin 12} (h : j = j') (st : St) : Φ c s j st ⊢ Φ c s j' st := h ▸ .rfl

end Cert.Kernel.Hand
end
-- ==== Proof.Trip1.lean ====
module
public import proofs.«01_k».proof.Proof.Spec
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A trip of the loop that fills the ring -/

/-- The slot of prime trip `k`. -/
abbrev slotOf1 (k : Fin k0_t1_loop.trips) : Fin 12 := ⟨(k0_off1 k) 0, by have := k0_off1_inb k 0; exact this⟩

theorem t1_trip (c : Dev nD) (s : Src F c) (fl : BufOf F c lenM) (ln : ℕ → ℕ) (hl : ∀ i, ln i ≤ 16384) (hL : LenOk c fl ln)
    (k : Fin k0_t1_loop.trips) (x : ℕ × ℕ × ℕ) (hx : Ok x)
    (Q : BitVec 32 × BitVec 32 × BitVec 32 → sProp 𝕄)
    (m8 : Memref sig .tc .vmem S4x32x64 .bf16) (hm8 : m8.IsWhole) :
    iprop(Φ c s (slotOf1 k) .free ∗ own c lenM fl ∗ (Φ c s (slotOf1 k) (stN x) ∗ own c lenM fl -∗ Q (wd (nx ln x))))
      ⊢ wp frame (wpE (defs₀ (F := F)) Variants.none (c : Thread nD τ) none) Set.univ (k0_t1_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 k (wd x)) Q := by
  have hc2 := hx.chk2
  have hc1 := hx.chk1
  have e1 := hx.cond1
  have e2 := hx.cond2
  by_cases hK : x.1 < 4 ∧ x.2.1 = 0
  · rw [if_pos hK] at e1
    rw [if_neg (by omega)] at e2
    have e2' : ¬ k0_cond2 (wd x).1 (wd x).2.1 = 1#1 := by rw [e2]; decide
    have hin := hx.inC hK.1
    rw [stN_k hin hK.2]
    iintro ⟨⟨Hcell, ⟨%f, Hk⟩, ⟨%g, Hs⟩, HtK, HtKs, HtV, HtVs⟩, Hlen, Hk'⟩
    imod (Transfers.mixedBatch_alloc' (Lvl := ℕ) (countersEmb (U := Pipeline.UD sig nD τ)) (c : Thread nD τ) () amts (deliv c (slotOf1 k) aK aKs s.k s.ks (wd x).1 (wd x).2.2 hin f g) (sm := SemLoc.dma (cellJ (slotOf1 k))) (E := Set.univ)) $$ Hcell with HB
    unfold k0_t1_body
    sl_exec
    rw [wp_ret]; imodintro
    ihave HQ : Q (wd (nx ln x)) $$ [HtV HtVs Hlen Hk' HtK HB HtKs]
    · iapply Hk'
      isplitr [Hlen]
      · isplitl [HB HtK HtKs]
        · isplitl [HB]; · iexists f, g; iexact HB
          isplitl [HtK]; · iexact HtK
          iexact HtKs
        isplitl [HtV]; · iexact HtV
        iexact HtVs
      iexact Hlen
    istop
    exact to_q (Q := Q) (hL.next hl hx hc2 _) .rfl
  rw [if_neg hK] at e1
  have e1' : ¬ k0_cond1 (wd x).1 (wd x).2.1 = 1#1 := by rw [e1]; decide
  clear hK
  by_cases hK : x.1 < 4 ∧ x.2.1 = 1
  · rw [if_pos hK] at e2
    have hin := hx.inC hK.1
    rw [stN_v hin hK.2]
    iintro ⟨⟨Hcell, ⟨%f, Hk⟩, ⟨%g, Hs⟩, HtK, HtKs, HtV, HtVs⟩, Hlen, Hk'⟩
    imod (Transfers.mixedBatch_alloc' (Lvl := ℕ) (countersEmb (U := Pipeline.UD sig nD τ)) (c : Thread nD τ) () amts (deliv c (slotOf1 k) aV aVs s.v s.vs (wd x).1 (wd x).2.2 hin f g) (sm := SemLoc.dma (cellJ (slotOf1 k))) (E := Set.univ)) $$ Hcell with HB
    unfold k0_t1_body
    sl_exec
    rw [wp_ret]; imodintro
    ihave HQ : Q (wd (nx ln x)) $$ [HtV HtVs Hlen Hk' HtK HB HtKs]
    · iapply Hk'
      isplitr [Hlen]
      · isplitl [HB HtV HtVs]
        · isplitl [HB]; · iexists f, g; iexact HB
          isplitl [HtV]; · iexact HtV
          iexact HtVs
        isplitl [HtK]; · iexact HtK
        iexact HtKs
      iexact Hlen
    istop
    exact to_q (Q := Q) (hL.next hl hx hc2 _) .rfl
  rw [if_neg hK] at e2
  have e2' : ¬ k0_cond2 (wd x).1 (wd x).2.1 = 1#1 := by rw [e2]; decide
  have hb : 4 ≤ x.1 := by
    by_contra hb
    have hκ := hx.κ
    rcases Nat.lt_or_ge x.2.1 1 with h | h
    · rw [hx.cond1, if_pos (by omega)] at e1; exact absurd e1 (by decide)
    · exact hK (by omega)
  rw [stN_free hx hb]
  iintro ⟨Hslot, Hlen, Hk'⟩
  unfold k0_t1_body
  sl_exec
  rw [wp_ret]; imodintro
  ihave HQ : Q (wd (nx ln x)) $$ [Hslot Hlen Hk']
  · iapply Hk'
    isplitr [Hlen]; · iexact Hslot
    iexact Hlen
  istop
  exact to_q (Q := Q) (hL.next hl hx hc2 _) .rfl

end Cert.Kernel.Hand
end
-- ==== Proof.Trip3.lean ====
module
public import proofs.«01_k».proof.Proof.Spec
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option pp.maxSteps 3000
set_option pp.deepTerms.threshold 12

/-! ## A trip over a chunk of the keys -/

/-- The slot of word `n`, as the loop over the keys spells it for its wait and for its next chunk. -/
abbrev slotW (n : BitVec 32) (h : k0_chk4 n) : Fin 12 := ⟨(k0_off14 n) 0, by have := k0_off14_inb n h 0; exact this⟩

theorem subK18 (n : BitVec 32) (h : k0_chk4 n) :
    (rK.access (Rect.unit (s := S12x512x2048) (k0_off18 n) S1x512x2048.size (k0_off18_inb n h))).set ⊆ (kslot (slotW n h)).view.set :=
  (View.set_reshape (rK.view.slice (Rect.unit (s := S12x512x2048) (k0_off18 n) S1x512x2048.size (k0_off18_inb n h))) _).symm.subset
theorem subS19 (n : BitVec 32) (h : k0_chk4 n) :
    (rS.access (Rect.unit (s := S12x8x2048) (k0_off19 n) S1x8x2048.size (k0_off19_inb n h))).set ⊆ (sslot (slotW n h)).view.set :=
  (View.set_reshape (rS.view.slice (Rect.unit (s := S12x8x2048) (k0_off19 n) S1x8x2048.size (k0_off19_inb n h))) _).symm.subset

theorem nw (n : ℕ) : (BitVec.ofNat 32 (n + 12) : BitVec 32) + 1#32 = BitVec.ofNat 32 (n + 1 + 12) := by
  rw [show n + 1 + 12 = (n + 12) + 1 from by omega, ← BitVec.ofNat_add]
set_option maxHeartbeats 4000000 in
theorem t3_trip (c : Dev nD) (s : Src F c) (b : Fin k0_t2_loop.trips) (fl : BufOf F c lenM) (fq : BufOf F c qM) (fs : BufOf F c sbM) (fm : BufOf F c mM) (fll : BufOf F c lM)
    (ln : ℕ → ℕ) (hl : ∀ i, ln i ≤ 16384) (hL : LenOk c fl ln)
    (v251 v256 : Elt F .i32) (hw3 : k0_chk3 v251) (k : Fin (k0_t3_loop v251).trips) (hk8 : k.val < 8) (W : Waits sig Unit)
    (n : ℕ) (hn : n < 100) (x : ℕ × ℕ × ℕ) (hx : Ok x)
    (a25 a26 a27 a28 a24 : BitVec 32) (cb cc : BitVec 32) (hin : InC cb cc)
    (Q : BitVec 32 × BitVec 32 × BitVec 32 × BitVec 32 → sProp 𝕄)
    (m8 : Memref sig .tc .vmem S4x32x64 .bf16) (hm8 : m8.IsWhole) :
    iprop(Φ c s (sl n) (.k cb cc hin) ∗ own c lenM fl ∗ own c qM fq ∗ own c sbM fs ∗ own c mM fm ∗ own c lM fll ∗ owes (c : Thread nD τ) 0 W
       ∗ ((∃ fs' fm' fll' W', ⌜K3 c v256 (Scf.iv 0#32 1#32 k.val) (rdQ c fq b) (slabK (View.read (Elt F) (blkK aK cb cc hin).view s.k)) (slabS (View.read (Elt F) (blkS aKs cb cc hin).view s.ks)) k.val fs fs' fm fm' fll fll'⌝
            ∗ Φ c s (sl n) (stN x) ∗ own c lenM fl ∗ own c qM fq ∗ own c sbM fs' ∗ own c mM fm' ∗ own c lM fll' ∗ owes (c : Thread nD τ) 0 W')
          -∗ Q (BitVec.ofNat 32 (n + 1 + 12), wd (nx ln x))))
      ⊢ wp frame (wpE (defs₀ (F := F)) Variants.none (c : Thread nD τ) none) Set.univ (k0_t3_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 0#32 1#32 b a25 a26 a27 a28 a24 v251 hw3 v256 k (BitVec.ofNat 32 (n + 12), wd x)) Q := by
  have hc4 : k0_chk4 (BitVec.ofNat 32 (n + 12)) := chk4_of (by omega)
  have hc5 := hx.chk5
  have hc6 : k0_chk6 (BitVec.ofNat 32 (n + 12)) (wd x).1 (wd x).2.1 := chk6_of (by omega) _ _
  have hc7 := hx.chk7
  have hSk := subK18 (BitVec.ofNat 32 (n + 12)) hc4
  have hSs := subS19 (BitVec.ofNat 32 (n + 12)) hc4
  have hW : sl n = slotW (BitVec.ofNat 32 (n + 12)) hc4 := Fin.ext (slot_toNat (rem12' ⟨n, by omega⟩)).symm
  rw [congrArg (fun j => Φ c s j (.k cb cc hin)) hW]
  iintro ⟨⟨⟨⟨%f, %g, HB⟩, HtK, HtKs⟩, HtV, HtVs⟩, Hlen, Hq, Hs, Hm, Hl, HO, Hk'⟩
  have eK := read_unsqueezed (F := F) (rK.view.slice (Rect.unit (s := S12x512x2048) (k0_off18 (BitVec.ofNat 32 (n + 12))) S1x512x2048.size (k0_off18_inb _ hc4))) squeezes_S1x512x2048_S512x2048.numel_eq (View.junk _) (View.read (Elt F) (blkK aK cb cc hin).view s.k)
  have eS := read_unsqueezed (F := F) (rS.view.slice (Rect.unit (s := S12x8x2048) (k0_off19 (BitVec.ofNat 32 (n + 12))) S1x8x2048.size (k0_off19_inb _ hc4))) squeezes_S1x8x2048_S8x2048.numel_eq (View.junk _) (View.read (Elt F) (blkS aKs cb cc hin).view s.ks)
  unfold k0_t3_body
  sl_exec
  by_cases hK : x.1 < 4 ∧ x.2.1 = 0
  · have e3 : k0_cond3 (wd x).1 (wd x).2.1 = 1#1 := (hx.cond1).trans (if_pos hK)
    have e4 : ¬ k0_cond4 (wd x).1 (wd x).2.1 = 1#1 := by
      rw [show k0_cond4 (wd x).1 (wd x).2.1 = _ from hx.cond2, if_neg (by omega)]; decide
    have hin' := hx.inC hK.1
    rw [stN_k hin' hK.2]
    have hj : slotW (BitVec.ofNat 32 (n + 12)) hc4 = (⟨(k0_off21 (BitVec.ofNat 32 (n + 12))) 0, by have := k0_off21_inb _ _ _ hc6 e3 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_k c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtK]; · iexact HtK
      isplitl [HtKs]; · iexact HtKs
      isplitl [HtV]; · iexact HtV
      iexact HtVs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off21 (BitVec.ofNat 32 (n + 12))) 0, by have := k0_off21_inb _ _ _ hc6 e3 0; exact this⟩ : Fin 12)) aK aKs s.k s.ks (wd x).1 (wd x).2.2 hin' f' g') (sm := SemLoc.dma (cellJ ((⟨(k0_off21 (BitVec.ofNat 32 (n + 12))) 0, by have := k0_off21_inb _ _ _ hc6 e3 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hq Hs Hm Hl HO Hk']
    · iapply Hk'
      iexists _, _, _, _
      isplitr [HB HtK HtKs HtV HtVs Hlen Hq Hs Hm Hl HO]
      rotate_left
      isplitl [HB HtK HtKs HtV HtVs]
      · iapply (Φ_cast c s (hW.trans hj).symm (.k (wd x).1 (wd x).2.2 hin'))
        isplitl [HB HtK HtKs]
        · isplitl [HB]; · iexists f', g'; iexact HB
          isplitl [HtK]; · iexact HtK
          iexact HtKs
        isplitl [HtV]; · iexact HtV
        iexact HtVs
      · isplitl [Hlen]; · iexact Hlen
        isplitl [Hq]; · iexact Hq
        isplitl [Hs]; · iexact Hs
        isplitl [Hm]; · iexact Hm
        isplitl [Hl]; · iexact Hl
        iexact HO
      · ipureintro
        exact k3_of c v251 v256 _ hw3 k hk8 _ _ _ fs fm fll _ _ _ (congrArg₂ (fun kv sv => kS v256 (Scf.iv 0#32 1#32 k.val) (rdQ c fq b) kv sv) eK eS) (congrArg₂ (fun kv sv => kM v256 (Scf.iv 0#32 1#32 k.val) (rdQ c fq b) kv sv (rdM c fm)) eK eS) (congrArg₂ (fun kv sv => kL v256 (Scf.iv 0#32 1#32 k.val) (rdQ c fq b) kv sv (rdM c fm) (rdL c fll)) eK eS)
    istop
    exact to_q (Q := Q) (congrArg₂ Prod.mk (nw n) (hL.next hl hx hx.chk7 _)) .rfl
  have e3 : ¬ k0_cond3 (wd x).1 (wd x).2.1 = 1#1 := by
    rw [show k0_cond3 (wd x).1 (wd x).2.1 = _ from hx.cond1, if_neg hK]; decide
  by_cases hV : x.1 < 4 ∧ x.2.1 = 1
  · have e4 : k0_cond4 (wd x).1 (wd x).2.1 = 1#1 := (hx.cond2).trans (if_pos hV)
    have hin' := hx.inC hV.1
    rw [stN_v hin' hV.2]
    have hj : slotW (BitVec.ofNat 32 (n + 12)) hc4 = (⟨(k0_off26 (BitVec.ofNat 32 (n + 12))) 0, by have := k0_off26_inb _ _ _ hc6 e4 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_k c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtK]; · iexact HtK
      isplitl [HtKs]; · iexact HtKs
      isplitl [HtV]; · iexact HtV
      iexact HtVs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off26 (BitVec.ofNat 32 (n + 12))) 0, by have := k0_off26_inb _ _ _ hc6 e4 0; exact this⟩ : Fin 12)) aV aVs s.v s.vs (wd x).1 (wd x).2.2 hin' f' g') (sm := SemLoc.dma (cellJ ((⟨(k0_off26 (BitVec.ofNat 32 (n + 12))) 0, by have := k0_off26_inb _ _ _ hc6 e4 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hq Hs Hm Hl HO Hk']
    · iapply Hk'
      iexists _, _, _, _
      isplitr [HB HtK HtKs HtV HtVs Hlen Hq Hs Hm Hl HO]
      rotate_left
      isplitl [HB HtK HtKs HtV HtVs]
      · iapply (Φ_cast c s (hW.trans hj).symm (.v (wd x).1 (wd x).2.2 hin'))
        isplitl [HB HtV HtVs]
        · isplitl [HB]; · iexists f', g'; iexact HB
          isplitl [HtV]; · iexact HtV
          iexact HtVs
        isplitl [HtK]; · iexact HtK
        iexact HtKs
      · isplitl [Hlen]; · iexact Hlen
        isplitl [Hq]; · iexact Hq
        isplitl [Hs]; · iexact Hs
        isplitl [Hm]; · iexact Hm
        isplitl [Hl]; · iexact Hl
        iexact HO
      · ipureintro
        exact k3_of c v251 v256 _ hw3 k hk8 _ _ _ fs fm fll _ _ _ (congrArg₂ (fun kv sv => kS v256 (Scf.iv 0#32 1#32 k.val) (rdQ c fq b) kv sv) eK eS) (congrArg₂ (fun kv sv => kM v256 (Scf.iv 0#32 1#32 k.val) (rdQ c fq b) kv sv (rdM c fm)) eK eS) (congrArg₂ (fun kv sv => kL v256 (Scf.iv 0#32 1#32 k.val) (rdQ c fq b) kv sv (rdM c fm) (rdL c fll)) eK eS)
    istop
    exact to_q (Q := Q) (congrArg₂ Prod.mk (nw n) (hL.next hl hx hx.chk7 _)) .rfl
  have e4 : ¬ k0_cond4 (wd x).1 (wd x).2.1 = 1#1 := by
    rw [show k0_cond4 (wd x).1 (wd x).2.1 = _ from hx.cond2, if_neg hV]; decide
  have hb : 4 ≤ x.1 := by
    by_contra hb
    have hκ := hx.κ
    rcases Nat.lt_or_ge x.2.1 1 with h | h
    · exact hK (by omega)
    · exact hV (by omega)
  rw [stN_free hx hb]
  ihave Hf := (back_k c s _ _ hW.symm cb cc hin _ _) $$ [HB HB_dst0 HB_dst1 HB_src0_in0 HB_src1_in1 HtK HtKs HtV HtVs]
  · isplitl [HB]; · iexact HB
    isplitl [HB_dst0]; · iexact HB_dst0
    isplitl [HB_dst1]; · iexact HB_dst1
    isplitl [HB_src0_in0]; · iexact HB_src0_in0
    isplitl [HB_src1_in1]; · iexact HB_src1_in1
    isplitl [HtK]; · iexact HtK
    isplitl [HtKs]; · iexact HtKs
    isplitl [HtV]; · iexact HtV
    iexact HtVs
  sl_exec
  rw [wp_ret]; imodintro
  ihave HQ : Q (BitVec.ofNat 32 (n + 1 + 12), wd (nx ln x)) $$ [Hf Hlen Hq Hs Hm Hl HO Hk']
  · iapply Hk'
    iexists _, _, _, _
    isplitr [Hf Hlen Hq Hs Hm Hl HO]
    rotate_left
    isplitl [Hf]; · iexact Hf
    · isplitl [Hlen]; · iexact Hlen
      isplitl [Hq]; · iexact Hq
      isplitl [Hs]; · iexact Hs
      isplitl [Hm]; · iexact Hm
      isplitl [Hl]; · iexact Hl
      iexact HO
    · ipureintro
      exact k3_of c v251 v256 _ hw3 k hk8 _ _ _ fs fm fll _ _ _ (congrArg₂ (fun kv sv => kS v256 (Scf.iv 0#32 1#32 k.val) (rdQ c fq b) kv sv) eK eS) (congrArg₂ (fun kv sv => kM v256 (Scf.iv 0#32 1#32 k.val) (rdQ c fq b) kv sv (rdM c fm)) eK eS) (congrArg₂ (fun kv sv => kL v256 (Scf.iv 0#32 1#32 k.val) (rdQ c fq b) kv sv (rdM c fm) (rdL c fll)) eK eS)
  istop
  exact to_q (Q := Q) (congrArg₂ Prod.mk (nw n) (hL.next hl hx hx.chk7 _)) .rfl

end Cert.Kernel.Hand
end
-- ==== Proof.Trip5.lean ====
module
public import proofs.«01_k».proof.Proof.Trip3
import Idealize.ShloMosaic.Lib.VecWindow
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option pp.maxSteps 3000
set_option pp.deepTerms.threshold 12

/-! ## A trip over a chunk of the values -/

/-- The slot of word `n`, as the loop over the values spells it. -/
abbrev slotY (n : BitVec 32) (h : k0_chk12 n) : Fin 12 := ⟨(k0_off51 n) 0, by have := k0_off51_inb n h 0; exact this⟩

theorem subK56 (n : BitVec 32) (h : k0_chk12 n) :
    (rK.access (Rect.unit (s := S12x512x2048) (k0_off56 n) S1x512x2048.size (k0_off56_inb n h))).set ⊆ (kslot (slotY n h)).view.set :=
  (View.set_reshape (rK.view.slice (Rect.unit (s := S12x512x2048) (k0_off56 n) S1x512x2048.size (k0_off56_inb n h))) _).symm.subset
theorem subS55 (n : BitVec 32) (h : k0_chk12 n) :
    (rS.access (Rect.unit (s := S12x8x2048) (k0_off55 n) S1x8x2048.size (k0_off55_inb n h))).set ⊆ (sslot (slotY n h)).view.set :=
  (View.set_reshape (rS.view.slice (Rect.unit (s := S12x8x2048) (k0_off55 n) S1x8x2048.size (k0_off55_inb n h))) _).symm.subset

set_option maxHeartbeats 4000000 in
theorem t5_trip (c : Dev nD) (s : Src F c) (b : Fin k0_t2_loop.trips) (fl : BufOf F c lenM) (fs : BufOf F c sbM) (fa : BufOf F c accM)
    (ln : ℕ → ℕ) (hl : ∀ i, ln i ≤ 16384) (hL : LenOk c fl ln)
    (v251 : Elt F .i32) (hw3 : k0_chk3 v251) (k : Fin (k0_t5_loop v251).trips) (W : Waits sig Unit)
    (n : ℕ) (hn : n < 100) (x : ℕ × ℕ × ℕ) (hx : Ok x) (v128 : IVec S32x512 1) (v147 : IVec S32x8 1)
    (a24 v254 a25 a26 a27 a28 : BitVec 32) (v278 : Vec F S32x128 .f32) (v280 : FVec F S32x1 .f32) (v282 : FVec F S32x1 .f32) (v283 : Vec F S32x128 .f32) (v284 : FVec F S32x128 .f32)
    (cb cc : BitVec 32) (hin : InC cb cc)
    (Q : BitVec 32 × BitVec 32 × BitVec 32 × BitVec 32 → sProp 𝕄)
    (m8 : Memref sig .tc .vmem S4x32x64 .bf16) (hm8 : m8.IsWhole) :
    iprop(Φ c s (sl n) (.v cb cc hin) ∗ own c lenM fl ∗ own c sbM fs ∗ own c accM fa ∗ owes (c : Thread nD τ) 0 W
       ∗ ((∃ fa' W', ⌜rdA c fa' = kA v280 (k0_pay27 v278 v282 v283 v284) (rdS c fs (k0_off54 v251 k) (k0_off54_inb v251 hw3 k)) (slabK (View.read (Elt F) (blkK aV cb cc hin).view s.v)) (slabS (View.read (Elt F) (blkS aVs cb cc hin).view s.vs)) (rdA c fa)⌝
            ∗ Φ c s (sl n) (stN x) ∗ own c lenM fl ∗ own c sbM fs ∗ own c accM fa' ∗ owes (c : Thread nD τ) 0 W')
          -∗ Q (BitVec.ofNat 32 (n + 1 + 12), wd (nx ln x))))
      ⊢ wp frame (wpE (defs₀ (F := F)) Variants.none (c : Thread nD τ) none) Set.univ (k0_t5_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v128 v147 b a24 v251 hw3 v254 a25 a26 a27 a28 v278 v280 v282 v283 v284 k (BitVec.ofNat 32 (n + 12), wd x)) Q := by
  have hc12 : k0_chk12 (BitVec.ofNat 32 (n + 12)) := chk12_of (by omega)
  have hc13 := hx.chk13
  have hc14 : k0_chk14 (BitVec.ofNat 32 (n + 12)) (wd x).1 (wd x).2.1 := chk14_of (by omega) _ _
  have hc15 := hx.chk15
  have hSk := subK56 (BitVec.ofNat 32 (n + 12)) hc12
  have hSs := subS55 (BitVec.ofNat 32 (n + 12)) hc12
  have hW : sl n = slotY (BitVec.ofNat 32 (n + 12)) hc12 := Fin.ext (slot_toNat (rem12' ⟨n, by omega⟩)).symm
  rw [congrArg (fun j => Φ c s j (.v cb cc hin)) hW]
  iintro ⟨⟨⟨⟨%f, %g, HB⟩, HtV, HtVs⟩, HtK, HtKs⟩, Hlen, Hs, Ha, HO, Hk'⟩
  have eK := read_unsqueezed (F := F) (rK.view.slice (Rect.unit (s := S12x512x2048) (k0_off56 (BitVec.ofNat 32 (n + 12))) S1x512x2048.size (k0_off56_inb _ hc12))) squeezes_S1x512x2048_S512x2048.numel_eq (View.junk _) (View.read (Elt F) (blkK aV cb cc hin).view s.v)
  have eS := read_unsqueezed (F := F) (rS.view.slice (Rect.unit (s := S12x8x2048) (k0_off55 (BitVec.ofNat 32 (n + 12))) S1x8x2048.size (k0_off55_inb _ hc12))) squeezes_S1x8x2048_S8x2048.numel_eq (View.junk _) (View.read (Elt F) (blkS aVs cb cc hin).view s.vs)
  unfold k0_t5_body
  sl_exec
  by_cases hK : x.1 < 4 ∧ x.2.1 = 0
  · have e3 : k0_cond7 (wd x).1 (wd x).2.1 = 1#1 := (hx.cond1).trans (if_pos hK)
    have e4 : ¬ k0_cond8 (wd x).1 (wd x).2.1 = 1#1 := by
      rw [show k0_cond8 (wd x).1 (wd x).2.1 = _ from hx.cond2, if_neg (by omega)]; decide
    have hin' := hx.inC hK.1
    rw [stN_k hin' hK.2]
    have hj : slotY (BitVec.ofNat 32 (n + 12)) hc12 = (⟨(k0_off57 (BitVec.ofNat 32 (n + 12))) 0, by have := k0_off57_inb _ _ _ hc14 e3 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_v c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtV]; · iexact HtV
      isplitl [HtVs]; · iexact HtVs
      isplitl [HtK]; · iexact HtK
      iexact HtKs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off57 (BitVec.ofNat 32 (n + 12))) 0, by have := k0_off57_inb _ _ _ hc14 e3 0; exact this⟩ : Fin 12)) aK aKs s.k s.ks (wd x).1 (wd x).2.2 hin' f' g') (sm := SemLoc.dma (cellJ ((⟨(k0_off57 (BitVec.ofNat 32 (n + 12))) 0, by have := k0_off57_inb _ _ _ hc14 e3 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hs Ha HO Hk']
    · iapply Hk'
      iexists _, _
      isplitr [HB HtK HtKs HtV HtVs Hlen Hs Ha HO]
      rotate_left
      isplitl [HB HtK HtKs HtV HtVs]
      · iapply (Φ_cast c s (hW.trans hj).symm (.k (wd x).1 (wd x).2.2 hin'))
        isplitl [HB HtK HtKs]
        · isplitl [HB]; · iexists f', g'; iexact HB
          isplitl [HtK]; · iexact HtK
          iexact HtKs
        isplitl [HtV]; · iexact HtV
        iexact HtVs
      · isplitl [Hlen]; · iexact Hlen
        isplitl [Hs]; · iexact Hs
        isplitl [Ha]; · iexact Ha
        iexact HO
      · ipureintro
        exact (View.readAt_writes_full accM.view _ _ _ _ _).trans (congrArg₂ (fun kv sv => kA v280 (k0_pay27 v278 v282 v283 v284) (rdS c fs (k0_off54 v251 k) (k0_off54_inb v251 hw3 k)) kv sv (rdA c fa)) eK eS)
    istop
    exact to_q (Q := Q) (congrArg₂ Prod.mk (nw n) (hL.next hl hx hx.chk15 _)) .rfl
  have e3 : ¬ k0_cond7 (wd x).1 (wd x).2.1 = 1#1 := by
    rw [show k0_cond7 (wd x).1 (wd x).2.1 = _ from hx.cond1, if_neg hK]; decide
  by_cases hV : x.1 < 4 ∧ x.2.1 = 1
  · have e4 : k0_cond8 (wd x).1 (wd x).2.1 = 1#1 := (hx.cond2).trans (if_pos hV)
    have hin' := hx.inC hV.1
    rw [stN_v hin' hV.2]
    have hj : slotY (BitVec.ofNat 32 (n + 12)) hc12 = (⟨(k0_off62 (BitVec.ofNat 32 (n + 12))) 0, by have := k0_off62_inb _ _ _ hc14 e4 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_v c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtV]; · iexact HtV
      isplitl [HtVs]; · iexact HtVs
      isplitl [HtK]; · iexact HtK
      iexact HtKs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off62 (BitVec.ofNat 32 (n + 12))) 0, by have := k0_off62_inb _ _ _ hc14 e4 0; exact this⟩ : Fin 12)) aV aVs s.v s.vs (wd x).1 (wd x).2.2 hin' f' g') (sm := SemLoc.dma (cellJ ((⟨(k0_off62 (BitVec.ofNat 32 (n + 12))) 0, by have := k0_off62_inb _ _ _ hc14 e4 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hs Ha HO Hk']
    · iapply Hk'
      iexists _, _
      isplitr [HB HtK HtKs HtV HtVs Hlen Hs Ha HO]
      rotate_left
      isplitl [HB HtK HtKs HtV HtVs]
      · iapply (Φ_cast c s (hW.trans hj).symm (.v (wd x).1 (wd x).2.2 hin'))
        isplitl [HB HtV HtVs]
        · isplitl [HB]; · iexists f', g'; iexact HB
          isplitl [HtV]; · iexact HtV
          iexact HtVs
        isplitl [HtK]; · iexact HtK
        iexact HtKs
      · isplitl [Hlen]; · iexact Hlen
        isplitl [Hs]; · iexact Hs
        isplitl [Ha]; · iexact Ha
        iexact HO
      · ipureintro
        exact (View.readAt_writes_full accM.view _ _ _ _ _).trans (congrArg₂ (fun kv sv => kA v280 (k0_pay27 v278 v282 v283 v284) (rdS c fs (k0_off54 v251 k) (k0_off54_inb v251 hw3 k)) kv sv (rdA c fa)) eK eS)
    istop
    exact to_q (Q := Q) (congrArg₂ Prod.mk (nw n) (hL.next hl hx hx.chk15 _)) .rfl
  have e4 : ¬ k0_cond8 (wd x).1 (wd x).2.1 = 1#1 := by
    rw [show k0_cond8 (wd x).1 (wd x).2.1 = _ from hx.cond2, if_neg hV]; decide
  have hb : 4 ≤ x.1 := by
    by_contra hb
    have hκ := hx.κ
    rcases Nat.lt_or_ge x.2.1 1 with h | h
    · exact hK (by omega)
    · exact hV (by omega)
  rw [stN_free hx hb]
  ihave Hf := (back_v c s _ _ hW.symm cb cc hin _ _) $$ [HB HB_dst0 HB_dst1 HB_src0_in0 HB_src1_in1 HtK HtKs HtV HtVs]
  · isplitl [HB]; · iexact HB
    isplitl [HB_dst0]; · iexact HB_dst0
    isplitl [HB_dst1]; · iexact HB_dst1
    isplitl [HB_src0_in0]; · iexact HB_src0_in0
    isplitl [HB_src1_in1]; · iexact HB_src1_in1
    isplitl [HtV]; · iexact HtV
    isplitl [HtVs]; · iexact HtVs
    isplitl [HtK]; · iexact HtK
    iexact HtKs
  sl_exec
  rw [wp_ret]; imodintro
  ihave HQ : Q (BitVec.ofNat 32 (n + 1 + 12), wd (nx ln x)) $$ [Hf Hlen Hs Ha HO Hk']
  · iapply Hk'
    iexists _, _
    isplitr [Hf Hlen Hs Ha HO]
    rotate_left
    isplitl [Hf]; · iexact Hf
    · isplitl [Hlen]; · iexact Hlen
      isplitl [Hs]; · iexact Hs
      isplitl [Ha]; · iexact Ha
      iexact HO
    · ipureintro
      exact (View.readAt_writes_full accM.view _ _ _ _ _).trans (congrArg₂ (fun kv sv => kA v280 (k0_pay27 v278 v282 v283 v284) (rdS c fs (k0_off54 v251 k) (k0_off54_inb v251 hw3 k)) kv sv (rdA c fa)) eK eS)
  istop
  exact to_q (Q := Q) (congrArg₂ Prod.mk (nw n) (hL.next hl hx hx.chk15 _)) .rfl

end Cert.Kernel.Hand
end
-- ==== Proof.Run.lean ====
module
public import proofs.«01_k».proof.Proof.Trip1
public import proofs.«01_k».proof.Proof.Trip3
public import proofs.«01_k».proof.Proof.Trip5
import Idealize.ShloMosaic.Lib.Scf
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option pp.maxSteps 3000
set_option pp.deepTerms.threshold 12

theorem t2_lt (b : Fin k0_t2_loop.trips) : b.val < 4 := lt_of_lt_of_le b.isLt (by decide)

theorem it_ok {ln : ℕ → ℕ} (hl : ∀ i, ln i ≤ 16384) {n : ℕ} (hn : n < 128) : Ok (it ln n) := by
  obtain ⟨h1, h2, h3, -⟩ := it_good hl n
  exact ⟨by omega, by omega, lt_of_lt_of_le h3 (ncN_le (hl _))⟩

/-- The items from an item with chunk `0` on: the sequence's chunks in order. -/
theorem it_run {ln : ℕ → ℕ} {n b κ : ℕ} (hb : b < 4) (h : it ln n = (b, κ, 0)) : ∀ k, k < ncN (ln b) → it ln (n + k) = (b, κ, k)
  | 0, _ => h
  | k + 1, hk => by
    have e := it_run hb h k (by omega)
    rw [show n + (k + 1) = (n + k) + 1 from by omega, it_succ, e]
    have hm : min b 3 = b := by omega
    unfold nx
    rw [if_neg (by show ¬ ncN (ln (min b 3)) ≤ k + 1; rw [hm]; omega)]

theorem it_end {ln : ℕ → ℕ} {n b κ : ℕ} (hb : b < 4) (h : it ln n = (b, κ, 0)) : it ln (n + ncN (ln b)) = (if κ = 1 then b + 1 else b, 1 - κ, 0) := by
  have hp := ncN_pos (ln b)
  obtain ⟨m, hm⟩ : ∃ m, ncN (ln b) = m + 1 := ⟨ncN (ln b) - 1, by omega⟩
  have e := it_run hb h m (by omega)
  rw [hm, show n + (m + 1) = (n + m) + 1 from by omega, it_succ, e]
  have hmn : min b 3 = b := by omega
  unfold nx
  rw [if_pos (by show ncN (ln (min b 3)) ≤ m + 1; rw [hmn]; omega)]

theorem it_lt {ln : ℕ → ℕ} (hl : ∀ i, ln i ≤ 16384) {n b κ c : ℕ} (hb : b < 4) (h : it ln n = (b, κ, c)) : n < 100 := by
  obtain ⟨-, h2, h3, h4⟩ := it_good hl n
  rw [h] at h2 h3 h4
  have h3' : c < 8 := lt_of_lt_of_le h3 (ncN_le (hl _))
  simp only at h2 h4
  omega

/-- A chunk of an operand, as the ring returns it. -/
noncomputable def chK (c : Dev nD) (A : Memref sig .tc .hbm S4x512x16384 .i8) (f : BufOf F c A) (wb wc : BitVec 32) : Vec F S1x512x2048 .i8 :=
  if h : InC wb wc then slabK (View.read (Elt F) (blkK A wb wc h).view f) else fun _ => Classical.choice ((inferInstance : ∀ e, Nonempty (Elt F e)) .i8)
/-- A chunk of a scale operand, as the ring returns it. -/
noncomputable def chS (c : Dev nD) (A : Memref sig .tc .hbm S4x8x16384 .f32) (f : BufOf F c A) (wb wc : BitVec 32) : Vec F S1x8x2048 .f32 :=
  if h : InC wb wc then slabS (View.read (Elt F) (blkS A wb wc h).view f) else fun _ => Classical.choice ((inferInstance : ∀ e, Nonempty (Elt F e)) .f32)
theorem chK_pos (c : Dev nD) (A : Memref sig .tc .hbm S4x512x16384 .i8) (f : BufOf F c A) {wb wc : BitVec 32} (h : InC wb wc) : chK c A f wb wc = slabK (View.read (Elt F) (blkK A wb wc h).view f) := dif_pos h
theorem chS_pos (c : Dev nD) (A : Memref sig .tc .hbm S4x8x16384 .f32) (f : BufOf F c A) {wb wc : BitVec 32} (h : InC wb wc) : chS c A f wb wc = slabS (View.read (Elt F) (blkS A wb wc h).view f) := dif_pos h

/-- The running maxima after `k` chunks. -/
noncomputable def recM (v256 : BitVec 32) (q : Vec F S1x32x512 .bf16) (kv : ℕ → Vec F S1x512x2048 .i8) (sv : ℕ → Vec F S1x8x2048 .f32) (M0 : FVec F S32x128 .f32) : ℕ → FVec F S32x128 .f32
  | 0 => M0
  | k + 1 => kM v256 (Scf.iv 0#32 1#32 k) q (kv k) (sv k) (recM v256 q kv sv M0 k)
/-- The running sums after `k` chunks. -/
noncomputable def recL (v256 : BitVec 32) (q : Vec F S1x32x512 .bf16) (kv : ℕ → Vec F S1x512x2048 .i8) (sv : ℕ → Vec F S1x8x2048 .f32) (M0 L0 : FVec F S32x128 .f32) : ℕ → FVec F S32x128 .f32
  | 0 => L0
  | k + 1 => kL v256 (Scf.iv 0#32 1#32 k) q (kv k) (sv k) (recM v256 q kv sv M0 k) (recL v256 q kv sv M0 L0 k)
/-- The accumulator after `k` chunks. -/
noncomputable def recA (v280 v292 : FVec F S32x1 .f32) (pr : ℕ → Vec F S1x32x2048 .f32) (kv : ℕ → Vec F S1x512x2048 .i8) (sv : ℕ → Vec F S1x8x2048 .f32) (A0 : FVec F S512x32 .f32) : ℕ → FVec F S512x32 .f32
  | 0 => A0
  | k + 1 => kA v280 v292 (pr k) (kv k) (sv k) (recA v280 v292 pr kv sv A0 k)

/-- The score rows below `k` are the chunks'. -/
def Rows (c : Dev nD) (v256 : BitVec 32) (q : Vec F S1x32x512 .bf16) (kv : ℕ → Vec F S1x512x2048 .i8) (sv : ℕ → Vec F S1x8x2048 .f32) (k : ℕ) (fs : BufOf F c sbM) : Prop :=
  ∀ j, j < k → ∀ (off : Fin 3 → ℕ) (hi), off = ![j, 0, 0] → rdS c fs off hi = kS v256 (Scf.iv 0#32 1#32 j) q (kv j) (sv j)

/-- The buffers of the loop over the keys after `k` chunks. -/
structure KS (c : Dev nD) (v256 : BitVec 32) (q : Vec F S1x32x512 .bf16) (kv : ℕ → Vec F S1x512x2048 .i8) (sv : ℕ → Vec F S1x8x2048 .f32) (M0 L0 : FVec F S32x128 .f32)
    (k : ℕ) (fs : BufOf F c sbM) (fm : BufOf F c mM) (fll : BufOf F c lM) : Prop where
  m : rdM c fm = recM v256 q kv sv M0 k
  l : rdL c fll = recL v256 q kv sv M0 L0 k
  rows : Rows c v256 q kv sv k fs

theorem KS.next {c : Dev nD} {v256 : BitVec 32} {q : Vec F S1x32x512 .bf16} {kv : ℕ → Vec F S1x512x2048 .i8} {sv : ℕ → Vec F S1x8x2048 .f32} {M0 L0 : FVec F S32x128 .f32}
    {k : ℕ} {fs fs' : BufOf F c sbM} {fm fm' : BufOf F c mM} {fll fll' : BufOf F c lM} (h : KS c v256 q kv sv M0 L0 k fs fm fll)
    (h3 : K3 c v256 (Scf.iv 0#32 1#32 k) q (kv k) (sv k) k fs fs' fm fm' fll fll') : KS c v256 q kv sv M0 L0 (k + 1) fs' fm' fll' where
  m := by rw [h3.m, h.m]; rfl
  l := by rw [h3.l, h.m, h.l]; rfl
  rows j hj off hi e := by
    rcases Nat.lt_or_ge j k with hk | hk
    · rw [h3.away off hi (by rw [e]; show j ≠ k; omega)]
      exact h.rows j hk off hi e
    · obtain rfl : j = k := by omega
      exact h3.here off hi e

theorem focus_of {c : Dev nD} {s : Src F c} (st : Fin 12 → St) (i : Fin 12) {x : St} (h : st i = x) :
    Ring.AtW (Φ c s) st ⊢ iprop(Φ c s i x ∗ Ring.restW (Φ c s) st i) := by
  rw [Ring.AtW_focus (Φ c s) st i, h]

/-- The words a chunk loop carries at item `n`. -/
abbrev wds (ln : ℕ → ℕ) (n : ℕ) : BitVec 32 × BitVec 32 × BitVec 32 × BitVec 32 := (BitVec.ofNat 32 (n + 12), wd (it ln (n + 12)))

theorem wds_next (ln : ℕ → ℕ) (n : ℕ) : (BitVec.ofNat 32 (n + 1 + 12), wd (nx ln (it ln (n + 12)))) = wds ln (n + 1) := by
  show _ = (BitVec.ofNat 32 (n + 1 + 12), wd (it ln (n + 1 + 12)))
  rw [← it_succ, show n + 12 + 1 = n + 1 + 12 from by omega]

/-- The loop over the keys of sequence `b`. -/
theorem t3_run (c : Dev nD) (s : Src F c) (b : Fin k0_t2_loop.trips) (fl : BufOf F c lenM) (fq : BufOf F c qM) (fs : BufOf F c sbM) (fm : BufOf F c mM) (fll : BufOf F c lM)
    (ln : ℕ → ℕ) (hl : ∀ i, ln i ≤ 16384) (hL : LenOk c fl ln)
    (v251 v256 : Elt F .i32) (hv : v251 = BitVec.ofNat 32 (ln b.val)) (hw3 : k0_chk3 v251) (W : Waits sig Unit)
    (n : ℕ) (hit : it ln n = (b.val, 0, 0)) (a25 a26 a27 a28 a24 : BitVec 32)
    (Q : BitVec 32 × BitVec 32 × BitVec 32 × BitVec 32 → sProp 𝕄)
    (m8 : Memref sig .tc .vmem S4x32x64 .bf16) (hm8 : m8.IsWhole) :
    iprop(Ring.AtW (Φ c s) (ring ln n) ∗ own c lenM fl ∗ own c qM fq ∗ own c sbM fs ∗ own c mM fm ∗ own c lM fll ∗ owes (c : Thread nD τ) 0 W
       ∗ ((∃ fs' fm' fll' W', ⌜KS c v256 (rdQ c fq b) (fun k => chK c aK s.k (BitVec.ofNat 32 b.val) (BitVec.ofNat 32 k)) (fun k => chS c aKs s.ks (BitVec.ofNat 32 b.val) (BitVec.ofNat 32 k)) (rdM c fm) (rdL c fll) (ncN (ln b.val)) fs' fm' fll'⌝
            ∗ Ring.AtW (Φ c s) (ring ln (n + ncN (ln b.val))) ∗ own c lenM fl ∗ own c qM fq ∗ own c sbM fs' ∗ own c mM fm' ∗ own c lM fll' ∗ owes (c : Thread nD τ) 0 W')
          -∗ Q (wds ln (n + ncN (ln b.val)))))
      ⊢ wp frame (wpE (defs₀ (F := F)) Variants.none (c : Thread nD τ) none) Set.univ
          (Scf.Loop.for (k0_t3_loop v251) (k0_t3_ok v251 hw3) (wds ln n) (k0_t3_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 0#32 1#32 b a25 a26 a27 a28 a24 v251 hw3 v256)) Q := by
  have htr : (k0_t3_loop v251).trips = ncN (ln b.val) := by rw [hv]; exact t3_trips (hl _)
  let I : ℕ → BitVec 32 × BitVec 32 × BitVec 32 × BitVec 32 → sProp 𝕄 := fun k acc =>
    iprop(⌜acc = wds ln (n + k)⌝ ∗ Ring.AtW (Φ c s) (ring ln (n + k)) ∗ own c lenM fl ∗ own c qM fq
      ∗ ∃ fs' fm' fll' W', ⌜KS c v256 (rdQ c fq b) (fun k => chK c aK s.k (BitVec.ofNat 32 b.val) (BitVec.ofNat 32 k)) (fun k => chS c aKs s.ks (BitVec.ofNat 32 b.val) (BitVec.ofNat 32 k)) (rdM c fm) (rdL c fll) k fs' fm' fll'⌝
        ∗ own c sbM fs' ∗ own c mM fm' ∗ own c lM fll' ∗ owes (c : Thread nD τ) 0 W')
  refine .trans ?_ (Scf.wp_for _ _ _ (k0_t3_loop v251).lb (k0_t3_loop v251).ub (k0_t3_loop v251).st (k0_t3_ok v251 hw3) (wds ln n) _ I ?_)
  · iintro ⟨HR, Hlen, Hq, Hs, Hm, Hl, HO, Hk⟩
    isplitl [HR Hlen Hq Hs Hm Hl HO]
    · isplitr; · ipureintro; rfl
      isplitl [HR]; · iexact HR
      isplitl [Hlen]; · iexact Hlen
      isplitl [Hq]; · iexact Hq
      iexists fs, fm, fll, W
      isplitr; · ipureintro; exact ⟨rfl, rfl, fun j hj => absurd hj (Nat.not_lt_zero _)⟩
      isplitl [Hs]; · iexact Hs
      isplitl [Hm]; · iexact Hm
      isplitl [Hl]; · iexact Hl
      iexact HO
    · iintro %acc ⟨%e, HR, Hlen, Hq, %fs', %fm', %fll', %W', %hk, Hs, Hm, Hl, HO⟩
      have htr' : Scf.trips (k0_t3_loop v251).lb (k0_t3_loop v251).ub (k0_t3_loop v251).st = ncN (ln b.val) := htr
      rw [htr'] at e hk
      rw [e, htr']
      iapply Hk
      iexists fs', fm', fll', W'
      isplitr; · ipureintro; exact hk
      isplitl [HR]; · iexact HR
      isplitl [Hlen]; · iexact Hlen
      isplitl [Hq]; · iexact Hq
      isplitl [Hs]; · iexact Hs
      isplitl [Hm]; · iexact Hm
      isplitl [Hl]; · iexact Hl
      iexact HO
  · intro k acc
    have hk : k.val < ncN (ln b.val) := lt_of_lt_of_eq k.isLt htr
    have hk8 : k.val < 8 := lt_of_lt_of_le hk (ncN_le (hl _))
    have hb := t2_lt b
    have hi := it_run hb hit k.val hk
    have hn := it_lt hl hb hi
    have hx : Ok (it ln (n + k.val + 12)) := it_ok hl (by omega)
    have ho : Ok (it ln (n + k.val)) := it_ok hl (by omega)
    have hin : InC (BitVec.ofNat 32 b.val) (BitVec.ofNat 32 k.val) := by have := ho.inC (by rw [hi]; exact hb); rwa [hi] at this
    have hst : stN (it ln (n + k.val)) = .k (BitVec.ofNat 32 b.val) (BitVec.ofNat 32 k.val) hin := by rw [hi]; exact stN_k (x := (b.val, 0, k.val)) hin rfl
    iintro ⟨%e, HR, Hlen, Hq, %fs', %fm', %fll', %W', %hk', Hs, Hm, Hl, HO⟩
    subst e
    ihave HR := (focus_of (ring ln (n + k.val)) (sl (n + k.val)) ((ring_at ln _).trans hst)) $$ HR
    icases HR with ⟨HR, Hrest⟩
    iapply (t3_trip c s b fl fq fs' fm' fll' ln hl hL v251 v256 hw3 k hk8 W' (n + k.val) hn (it ln (n + k.val + 12)) hx a25 a26 a27 a28 a24 _ _ hin)
    isplitl [HR]; · iexact HR
    isplitl [Hlen]; · iexact Hlen
    isplitl [Hq]; · iexact Hq
    isplitl [Hs]; · iexact Hs
    isplitl [Hm]; · iexact Hm
    isplitl [Hl]; · iexact Hl
    isplitl [HO]; · iexact HO
    iintro ⟨%fs2, %fm2, %fll2, %W2, %h3, HR, Hlen, Hq, Hs, Hm, Hl, HO⟩
    isplitr
    · ipureintro
      exact wds_next ln (n + k.val)
    isplitl [HR Hrest]
    · rw [show n + (k.val + 1) = n + k.val + 1 from by omega, ring_step]
      iapply (Ring.AtW_update (Φ c s) (ring ln (n + k.val)) (sl (n + k.val)) (stN (it ln (n + k.val + 12))))
      isplitl [HR]; · iexact HR
      iexact Hrest
    isplitl [Hlen]; · iexact Hlen
    isplitl [Hq]; · iexact Hq
    iexists fs2, fm2, fll2, W2
    isplitr
    · ipureintro
      refine hk'.next ?_
      show K3 c v256 _ _ (chK c aK s.k (BitVec.ofNat 32 b.val) (BitVec.ofNat 32 k.val)) (chS c aKs s.ks (BitVec.ofNat 32 b.val) (BitVec.ofNat 32 k.val)) _ _ _ _ _ _ _
      rw [chK_pos c aK s.k hin, chS_pos c aKs s.ks hin]
      exact h3
    isplitl [Hs]; · iexact Hs
    isplitl [Hm]; · iexact Hm
    isplitl [Hl]; · iexact Hl
    iexact HO

/-- The loop over the values of sequence `b`. -/
theorem t5_run (c : Dev nD) (s : Src F c) (b : Fin k0_t2_loop.trips) (fl : BufOf F c lenM) (fs : BufOf F c sbM) (fa : BufOf F c accM)
    (ln : ℕ → ℕ) (hl : ∀ i, ln i ≤ 16384) (hL : LenOk c fl ln)
    (v251 v256 : Elt F .i32) (hv : v251 = BitVec.ofNat 32 (ln b.val)) (hw3 : k0_chk3 v251) (W : Waits sig Unit)
    (n : ℕ) (hit : it ln n = (b.val, 1, 0)) (v128 : IVec S32x512 1) (v147 : IVec S32x8 1)
    (a24 v254 a25 a26 a27 a28 : BitVec 32) (v278 : Vec F S32x128 .f32) (v280 : FVec F S32x1 .f32) (v282 : FVec F S32x1 .f32) (v283 : Vec F S32x128 .f32) (v284 : FVec F S32x128 .f32)
    (q : Vec F S1x32x512 .bf16) (kk : ℕ → Vec F S1x512x2048 .i8) (sk : ℕ → Vec F S1x8x2048 .f32) (hrows : Rows c v256 q kk sk (ncN (ln b.val)) fs)
    (Q : BitVec 32 × BitVec 32 × BitVec 32 × BitVec 32 → sProp 𝕄)
    (m8 : Memref sig .tc .vmem S4x32x64 .bf16) (hm8 : m8.IsWhole) :
    iprop(Ring.AtW (Φ c s) (ring ln n) ∗ own c lenM fl ∗ own c sbM fs ∗ own c accM fa ∗ owes (c : Thread nD τ) 0 W
       ∗ ((∃ fa' W', ⌜rdA c fa' = recA v280 (k0_pay27 v278 v282 v283 v284) (fun k => kS v256 (Scf.iv 0#32 1#32 k) q (kk k) (sk k)) (fun k => chK c aV s.v (BitVec.ofNat 32 b.val) (BitVec.ofNat 32 k)) (fun k => chS c aVs s.vs (BitVec.ofNat 32 b.val) (BitVec.ofNat 32 k)) (rdA c fa) (ncN (ln b.val))⌝
            ∗ Ring.AtW (Φ c s) (ring ln (n + ncN (ln b.val))) ∗ own c lenM fl ∗ own c sbM fs ∗ own c accM fa' ∗ owes (c : Thread nD τ) 0 W')
          -∗ Q (wds ln (n + ncN (ln b.val)))))
      ⊢ wp frame (wpE (defs₀ (F := F)) Variants.none (c : Thread nD τ) none) Set.univ
          (Scf.Loop.for (k0_t5_loop v251) (k0_t5_ok v251 hw3) (wds ln n) (k0_t5_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v128 v147 b a24 v251 hw3 v254 a25 a26 a27 a28 v278 v280 v282 v283 v284)) Q := by
  have htr : (k0_t5_loop v251).trips = ncN (ln b.val) := by rw [hv]; exact t5_trips (hl _)
  let I : ℕ → BitVec 32 × BitVec 32 × BitVec 32 × BitVec 32 → sProp 𝕄 := fun k acc =>
    iprop(⌜acc = wds ln (n + k)⌝ ∗ Ring.AtW (Φ c s) (ring ln (n + k)) ∗ own c lenM fl ∗ own c sbM fs
      ∗ ∃ fa' W', ⌜rdA c fa' = recA v280 (k0_pay27 v278 v282 v283 v284) (fun k => kS v256 (Scf.iv 0#32 1#32 k) q (kk k) (sk k)) (fun k => chK c aV s.v (BitVec.ofNat 32 b.val) (BitVec.ofNat 32 k)) (fun k => chS c aVs s.vs (BitVec.ofNat 32 b.val) (BitVec.ofNat 32 k)) (rdA c fa) k⌝
        ∗ own c accM fa' ∗ owes (c : Thread nD τ) 0 W')
  refine .trans ?_ (Scf.wp_for _ _ _ (k0_t5_loop v251).lb (k0_t5_loop v251).ub (k0_t5_loop v251).st (k0_t5_ok v251 hw3) (wds ln n) _ I ?_)
  · iintro ⟨HR, Hlen, Hs, Ha, HO, Hk⟩
    isplitl [HR Hlen Hs Ha HO]
    · isplitr; · ipureintro; rfl
      isplitl [HR]; · iexact HR
      isplitl [Hlen]; · iexact Hlen
      isplitl [Hs]; · iexact Hs
      iexists fa, W
      isplitr; · ipureintro; rfl
      isplitl [Ha]; · iexact Ha
      iexact HO
    · iintro %acc ⟨%e, HR, Hlen, Hs, %fa', %W', %hk, Ha, HO⟩
      have htr' : Scf.trips (k0_t5_loop v251).lb (k0_t5_loop v251).ub (k0_t5_loop v251).st = ncN (ln b.val) := htr
      rw [htr'] at e hk
      rw [e, htr']
      iapply Hk
      iexists fa', W'
      isplitr; · ipureintro; exact hk
      isplitl [HR]; · iexact HR
      isplitl [Hlen]; · iexact Hlen
      isplitl [Hs]; · iexact Hs
      isplitl [Ha]; · iexact Ha
      iexact HO
  · intro k acc
    have hk : k.val < ncN (ln b.val) := lt_of_lt_of_eq k.isLt htr
    have hk8 : k.val < 8 := lt_of_lt_of_le hk (ncN_le (hl _))
    have hb := t2_lt b
    have hi := it_run hb hit k.val hk
    have hn := it_lt hl hb hi
    have hx : Ok (it ln (n + k.val + 12)) := it_ok hl (by omega)
    have ho : Ok (it ln (n + k.val)) := it_ok hl (by omega)
    have hin : InC (BitVec.ofNat 32 b.val) (BitVec.ofNat 32 k.val) := by have := ho.inC (by rw [hi]; exact hb); rwa [hi] at this
    have hst : stN (it ln (n + k.val)) = .v (BitVec.ofNat 32 b.val) (BitVec.ofNat 32 k.val) hin := by rw [hi]; exact stN_v (x := (b.val, 1, k.val)) hin rfl
    have e54 : k0_off54 v251 k = ![k.val, 0, 0] := by
      show ![(Scf.iv 0#32 1#32 k.val : BitVec 32).toNat, 0, 0] = _
      rw [iv_lt8' ⟨k.val, hk8⟩]
    iintro ⟨%e, HR, Hlen, Hs, %fa', %W', %hk', Ha, HO⟩
    subst e
    ihave HR := (focus_of (ring ln (n + k.val)) (sl (n + k.val)) ((ring_at ln _).trans hst)) $$ HR
    icases HR with ⟨HR, Hrest⟩
    iapply (t5_trip c s b fl fs fa' ln hl hL v251 hw3 k W' (n + k.val) hn (it ln (n + k.val + 12)) hx v128 v147 a24 v254 a25 a26 a27 a28 v278 v280 v282 v283 v284 _ _ hin)
    isplitl [HR]; · iexact HR
    isplitl [Hlen]; · iexact Hlen
    isplitl [Hs]; · iexact Hs
    isplitl [Ha]; · iexact Ha
    isplitl [HO]; · iexact HO
    iintro ⟨%fa2, %W2, %h3, HR, Hlen, Hs, Ha, HO⟩
    isplitr
    · ipureintro
      exact wds_next ln (n + k.val)
    isplitl [HR Hrest]
    · rw [show n + (k.val + 1) = n + k.val + 1 from by omega, ring_step]
      iapply (Ring.AtW_update (Φ c s) (ring ln (n + k.val)) (sl (n + k.val)) (stN (it ln (n + k.val + 12))))
      isplitl [HR]; · iexact HR
      iexact Hrest
    isplitl [Hlen]; · iexact Hlen
    isplitl [Hs]; · iexact Hs
    iexists fa2, W2
    isplitr
    · ipureintro
      rw [h3, hk', hrows k.val hk _ _ e54]
      show _ = kA v280 _ _ (chK c aV s.v (BitVec.ofNat 32 b.val) (BitVec.ofNat 32 k.val)) (chS c aVs s.vs (BitVec.ofNat 32 b.val) (BitVec.ofNat 32 k.val)) _
      rw [chK_pos c aV s.v hin, chS_pos c aVs s.vs hin]
    isplitl [Ha]; · iexact Ha
    iexact HO

/-- The loop that fills the ring. -/
theorem t1_run (c : Dev nD) (s : Src F c) (fl : BufOf F c lenM) (ln : ℕ → ℕ) (hl : ∀ i, ln i ≤ 16384) (hL : LenOk c fl ln)
    (Q : BitVec 32 × BitVec 32 × BitVec 32 → sProp 𝕄)
    (m8 : Memref sig .tc .vmem S4x32x64 .bf16) (hm8 : m8.IsWhole) :
    iprop(Ring.AtW (Φ c s) (fun _ => St.free) ∗ own c lenM fl ∗ (Ring.AtW (Φ c s) (ring ln 0) ∗ own c lenM fl -∗ Q (wd (it ln 12))))
      ⊢ wp frame (wpE (defs₀ (F := F)) Variants.none (c : Thread nD τ) none) Set.univ
          (Scf.Loop.for k0_t1_loop k0_t1_ok (0#32, 0#32, 0#32) (k0_t1_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14)) Q := by
  have htr : k0_t1_loop.trips = 12 := by decide
  let I : ℕ → BitVec 32 × BitVec 32 × BitVec 32 → sProp 𝕄 := fun k acc =>
    iprop(⌜acc = wd (it ln k)⌝ ∗ Ring.AtW (Φ c s) (prime ln k) ∗ own c lenM fl)
  refine .trans ?_ (Scf.wp_for _ _ _ k0_t1_loop.lb k0_t1_loop.ub k0_t1_loop.st k0_t1_ok (0#32, 0#32, 0#32) _ I ?_)
  · iintro ⟨HR, Hlen, Hk⟩
    isplitl [HR Hlen]
    · isplitr; · ipureintro; rfl
      isplitl [HR]; · rw [prime_zero]; iexact HR
      iexact Hlen
    · iintro %acc ⟨%e, HR, Hlen⟩
      have htr' : Scf.trips k0_t1_loop.lb k0_t1_loop.ub k0_t1_loop.st = 12 := htr
      rw [htr'] at e
      rw [e, htr', prime_full]
      iapply Hk
      isplitl [HR]; · iexact HR
      iexact Hlen
  · intro k acc
    have hk : k.val < 12 := lt_of_lt_of_eq k.isLt htr
    have hx : Ok (it ln k.val) := it_ok hl (by omega)
    have hsl : slotOf1 k = ⟨k.val, hk⟩ := Fin.ext (by
      have h : ∀ k : Fin k0_t1_loop.trips, (k0_off1 k) 0 = k.val := by decide
      exact h k)
    iintro ⟨%e, HR, Hlen⟩
    subst e
    ihave HR := (focus_of (prime ln k.val) ⟨k.val, hk⟩ (prime_at ln ⟨k.val, hk⟩)) $$ HR
    icases HR with ⟨HR, Hrest⟩
    iapply (t1_trip c s fl ln hl hL k (it ln k.val) hx)
    isplitl [HR]; · rw [hsl]; iexact HR
    isplitl [Hlen]; · iexact Hlen
    iintro ⟨HR, Hlen⟩
    isplitr; · ipureintro; rfl
    isplitl [HR Hrest]
    · rw [prime_step ln ⟨k.val, hk⟩]
      iapply (Ring.AtW_update (Φ c s) (prime ln k.val) ⟨k.val, hk⟩ (stN (it ln k.val)))
      isplitl [HR]; · rw [hsl]; iexact HR
      iexact Hrest
    iexact Hlen

end Cert.Kernel.Hand
end
-- ==== Proof.Row.lean ====
module
public import proofs.«01_k».proof.Proof.Run
import Idealize.ShloMosaic.Lib.Scf
import Idealize.ShloMosaic.Lib.LoopRemainder
import Idealize.ShloMosaic.Lib.VecWindow
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev vnM : Memref sig .tc .vmem S4x8x64 .bf16 := Memref.whole cc0_scratch2

/-- The row of the result a sequence's trip stores: `q` its queries, `sr` its row of the new key's scores, `vr` its new value, `kk sk vv sv` its chunks. -/
noncomputable def outRow (v256 : BitVec 32) (nc : ℕ) (q : Vec F S1x32x512 .bf16) (sr : Vec F S1x32x128 .f32) (vr : Vec F S1x8x64 .bf16)
    (kk : ℕ → Vec F S1x512x2048 .i8) (sk : ℕ → Vec F S1x8x2048 .f32) (vv : ℕ → Vec F S1x512x2048 .i8) (sv : ℕ → Vec F S1x8x2048 .f32)
    (v63 : FVec F S32x32 .bf16) (v128 : IVec S32x512 1) (v147 : IVec S32x8 1) : FVec F S1x32x64 .bf16 :=
  let M := recM v256 q kk sk (k0_pay22 sr) nc
  let L := recL v256 q kk sk (k0_pay22 sr) k0_pay23 nc
  let A := recA (k0_pay24 M) (k0_pay27 M (k0_pay25 sr M) L (k0_pay26 M)) (fun k => kS v256 (Scf.iv 0#32 1#32 k) q (kk k) (sk k)) vv sv k0_pay28 nc
  k0_pay3 v63 (k0_pay31 v128 A) (k0_pay32 v147 M (k0_pay25 sr M) L (k0_pay26 M) vr)

abbrev rdSn (c : Dev nD) (f : BufOf F c snM) (b : Fin k0_t2_loop.trips) : Vec F S1x32x128 .f32 := View.readAt (Elt F) snM.view (Rect.unit (s := S4x32x128) (k0_off13 b) S1x32x128.size (k0_off13_inb b)).toLoadRect f
abbrev rdVn (c : Dev nD) (f : BufOf F c vnM) (b : Fin k0_t2_loop.trips) : Vec F S1x8x64 .bf16 := View.readAt (Elt F) vnM.view (Rect.unit (s := S4x8x64) (k0_off85 b) S1x8x64.size (k0_off85_inb b)).toLoadRect f

/-- Sequence `b`'s row of the result, of the buffers. -/
noncomputable def rowOf (c : Dev nD) (s : Src F c) (ln : ℕ → ℕ) (fq : BufOf F c qM) (fsn : BufOf F c snM) (fvn : BufOf F c vnM)
    (v63 : FVec F S32x32 .bf16) (v128 : IVec S32x512 1) (v147 : IVec S32x8 1) (b : Fin k0_t2_loop.trips) : FVec F S1x32x64 .bf16 :=
  outRow (BitVec.ofNat 32 (ln b.val)) (ncN (ln b.val)) (rdQ c fq b) (rdSn c fsn b) (rdVn c fvn b)
    (fun k => chK c aK s.k (BitVec.ofNat 32 b.val) (BitVec.ofNat 32 k)) (fun k => chS c aKs s.ks (BitVec.ofNat 32 b.val) (BitVec.ofNat 32 k))
    (fun k => chK c aV s.v (BitVec.ofNat 32 b.val) (BitVec.ofNat 32 k)) (fun k => chS c aVs s.vs (BitVec.ofNat 32 b.val) (BitVec.ofNat 32 k)) v63 v128 v147

theorem row_eq (c : Dev nD) (s : Src F c) (ln : ℕ → ℕ) (fq : BufOf F c qM) (fsn : BufOf F c snM) (fvn : BufOf F c vnM) (v63 : FVec F S32x32 .bf16) (v128 : IVec S32x512 1) (v147 : IVec S32x8 1) (b : Fin k0_t2_loop.trips)
    (v256 : BitVec 32) (hv : v256 = BitVec.ofNat 32 (ln b.val)) (M0 L0 : FVec F S32x128 .f32) (A0 : FVec F S512x32 .f32) (fs : BufOf F c sbM) (fm : BufOf F c mM) (fll : BufOf F c lM) (X : FVec F S512x32 .f32)
    (hM0 : M0 = k0_pay22 (rdSn c fsn b)) (hL0 : L0 = k0_pay23) (hA0 : A0 = k0_pay28)
    (hk : KS c v256 (rdQ c fq b) (fun k => chK c aK s.k (BitVec.ofNat 32 b.val) (BitVec.ofNat 32 k)) (fun k => chS c aKs s.ks (BitVec.ofNat 32 b.val) (BitVec.ofNat 32 k)) M0 L0 (ncN (ln b.val)) fs fm fll)
    (ha : X = recA (k0_pay24 (rdM c fm)) (k0_pay27 (rdM c fm) (k0_pay25 (rdSn c fsn b) (rdM c fm)) (rdL c fll) (k0_pay26 (rdM c fm)))
      (fun k => kS v256 (Scf.iv 0#32 1#32 k) (rdQ c fq b) ((fun k => chK c aK s.k (BitVec.ofNat 32 b.val) (BitVec.ofNat 32 k)) k) ((fun k => chS c aKs s.ks (BitVec.ofNat 32 b.val) (BitVec.ofNat 32 k)) k))
      (fun k => chK c aV s.v (BitVec.ofNat 32 b.val) (BitVec.ofNat 32 k)) (fun k => chS c aVs s.vs (BitVec.ofNat 32 b.val) (BitVec.ofNat 32 k)) A0 (ncN (ln b.val))) :
    k0_pay3 v63 (k0_pay31 v128 X) (k0_pay32 v147 (rdM c fm) (k0_pay25 (rdSn c fsn b) (rdM c fm)) (rdL c fll) (k0_pay26 (rdM c fm)) (rdVn c fvn b)) = rowOf c s ln fq fsn fvn v63 v128 v147 b := by
  subst hv hM0 hL0 hA0
  rw [ha, hk.m, hk.l]
  rfl

theorem wr_cast (c : Dev nD) (b : Fin k0_t2_loop.trips) (m8 : Memref sig .tc .vmem S4x32x64 .bf16) (f8 : BufOf F c m8) {w w' : FVec F S1x32x64 .bf16} (h : w = w') :
    own c m8 (m8.view.writes (Elt F) f8 [⟨Rect.unit (s := S4x32x64) (k0_off86 b) S1x32x64.size (k0_off86_inb b), w⟩]) ⊢ own c m8 (m8.view.writes (Elt F) f8 [⟨Rect.unit (s := S4x32x64) (k0_off86 b) S1x32x64.size (k0_off86_inb b), w'⟩]) := h ▸ .rfl

set_option maxHeartbeats 4000000 in
theorem t2_trip (c : Dev nD) (s : Src F c) (b : Fin k0_t2_loop.trips) (fl : BufOf F c lenM) (fq : BufOf F c qM) (fsn : BufOf F c snM) (fvn : BufOf F c vnM)
    (fs : BufOf F c sbM) (fm : BufOf F c mM) (fll : BufOf F c lM) (fa : BufOf F c accM)
    (ln : ℕ → ℕ) (hl : ∀ i, ln i ≤ 16384) (hL : LenOk c fl ln) (W : Waits sig Unit)
    (n : ℕ) (hit : it ln n = (b.val, 0, 0)) (v63 : FVec F S32x32 .bf16) (v128 : IVec S32x512 1) (v147 : IVec S32x8 1)
    (Q : BitVec 32 × BitVec 32 × BitVec 32 × BitVec 32 → sProp 𝕄)
    (m8 : Memref sig .tc .vmem S4x32x64 .bf16) (hm8 : m8.IsWhole) (f8 : BufOf F c m8) :
    iprop(Ring.AtW (Φ c s) (ring ln n) ∗ own c lenM fl ∗ own c qM fq ∗ own c snM fsn ∗ own c vnM fvn ∗ own c sbM fs ∗ own c mM fm ∗ own c lM fll ∗ own c accM fa ∗ own c m8 f8 ∗ owes (c : Thread nD τ) 0 W
       ∗ ((∃ fs' fm' fll' fa' W', Ring.AtW (Φ c s) (ring ln (n + ncN (ln b.val) + ncN (ln b.val))) ∗ own c lenM fl ∗ own c qM fq ∗ own c snM fsn ∗ own c vnM fvn ∗ own c sbM fs' ∗ own c mM fm' ∗ own c lM fll' ∗ own c accM fa'
            ∗ own c m8 (m8.view.writes (Elt F) f8 [⟨Rect.unit (s := S4x32x64) (k0_off86 b) S1x32x64.size (k0_off86_inb b), rowOf c s ln fq fsn fvn v63 v128 v147 b⟩]) ∗ owes (c : Thread nD τ) 0 W')
         -∗ Q (wds ln (n + ncN (ln b.val) + ncN (ln b.val)))))
      ⊢ wp frame (wpE (defs₀ (F := F)) Variants.none (c : Thread nD τ) none) Set.univ
          (k0_t2_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v63 v128 v147 b (wds ln n)) Q := by
  iintro ⟨HR, Hlen, Hq, Hsn, Hvn, Hs, Hm, Hl, Ha, H8, HO, Hk⟩
  unfold k0_t2_body
  have hoff : (k0_off12 b) 0 = b.val := by
    have h : ∀ b : Fin k0_t2_loop.trips, (k0_off12 b) 0 = b.val := by decide
    exact h b
  sl_exec
  have hv : t2_trip.sl.r c b fl = BitVec.ofNat 32 (ln b.val) := (hL (k0_off12 b) (k0_off12_inb b) _).trans (by rw [hoff])
  have hc3 : k0_chk3 (t2_trip.sl.r c b fl) := hv ▸ chk3_of (hl _)
  sl_exec
  rw [wp_bind]
  iapply (t3_run c s b fl fq fs _ _ ln hl hL _ (t2_trip.sl.r_1 c b fl) hv hc3 W n hit _ _ _ _ _ _ m8 hm8)
  isplitl [HR]; · iexact HR
  isplitl [Hlen]; · iexact Hlen
  isplitl [Hq]; · iexact Hq
  isplitl [Hs]; · iexact Hs
  isplitl [Hm]; · iexact Hm
  isplitl [Hl]; · iexact Hl
  isplitl [HO]; · iexact HO
  iintro ⟨%fs', %fm', %fll', %W', %hk, HR, Hlen, Hq, Hs, Hm, Hl, HO⟩
  sl_exec
  have hv' : t2_trip.sl.r_1 c b fl = BitVec.ofNat 32 (ln b.val) := (hL (k0_off12 b) (k0_off12_inb b) _).trans (by rw [hoff])
  rw [wp_bind]
  iapply (t5_run c s b fl fs' _ ln hl hL (t2_trip.sl.r c b fl) (t2_trip.sl.r_1 c b fl) hv hc3 W' (n + ncN (ln b.val)) (it_end (t2_lt b) hit) v128 v147 _ _ _ _ _ _ _ _ _ _ _ _ _ _ hk.rows _ m8 hm8)
  isplitl [HR]; · iexact HR
  isplitl [Hlen]; · iexact Hlen
  isplitl [Hs]; · iexact Hs
  isplitl [Ha]; · iexact Ha
  isplitl [HO]; · iexact HO
  iintro ⟨%fa', %W2, %ha, HR, Hlen, Hs, Ha, HO⟩
  sl_exec
  rw [wp_ret]; imodintro
  ihave H8' : (own c m8 (m8.view.writes (Elt F) f8 [⟨Rect.unit (s := S4x32x64) (k0_off86 b) S1x32x64.size (k0_off86_inb b), rowOf c s ln fq fsn fvn v63 v128 v147 b⟩])) $$ [H8]
  · istop
    exact (wr_cast c b m8 f8 (row_eq c s ln fq fsn fvn v63 v128 v147 b _ hv' _ _ _ fs' fm' fll' _ (View.readAt_writes_full mM.view _ _ _ _ _) (View.readAt_writes_full lM.view _ _ _ _ _) (View.readAt_writes_full accM.view _ _ _ _ _) hk rfl))
  iapply Hk
  iexists fs', fm', fll', fa', W2
  isplitl [HR]; · iexact HR
  isplitl [Hlen]; · iexact Hlen
  isplitl [Hq]; · iexact Hq
  isplitl [Hsn]; · iexact Hsn
  isplitl [Hvn]; · iexact Hvn
  isplitl [Hs]; · iexact Hs
  isplitl [Hm]; · iexact Hm
  isplitl [Hl]; · iexact Hl
  isplitl [Ha]; · iexact Ha
  isplitl [H8']; · iexact H8'
  iexact HO

end Cert.Kernel.Hand
end
-- ==== Proof.Rows.lean ====
module
public import proofs.«01_k».proof.Proof.Row
import Idealize.ShloMosaic.Lib.Scf
import Idealize.ShloMosaic.Lib.WritesUnit
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loop over the sequences -/

/-- The first item of sequence `b`. -/
def nAt (ln : ℕ → ℕ) : ℕ → ℕ
  | 0 => 0
  | b + 1 => nAt ln b + ncN (ln b) + ncN (ln b)

theorem it_nAt (ln : ℕ → ℕ) : ∀ b, b ≤ 4 → it ln (nAt ln b) = (b, 0, 0)
  | 0, _ => rfl
  | b + 1, h => by
    have h0 := it_nAt ln b (by omega)
    have h1 := it_end (ln := ln) (κ := 0) (by omega) h0
    have h1 : it ln (nAt ln b + ncN (ln b)) = (b, 1, 0) := h1
    have h2 := it_end (ln := ln) (κ := 1) (by omega) h1
    exact h2

theorem nAt4_le {ln : ℕ → ℕ} (hl : ∀ i, ln i ≤ 16384) : nAt ln 4 ≤ 64 := by
  obtain ⟨-, -, -, h4⟩ := it_good hl (nAt ln 4)
  rw [it_nAt ln 4 le_rfl] at h4
  simpa using h4

theorem ring_end {ln : ℕ → ℕ} (hl : ∀ i, ln i ≤ 16384) : ring ln (nAt ln 4) = fun _ => St.free := by
  funext j
  have h := nAt4_le hl
  have hm : (j.val + 12 - nAt ln 4 % 12) % 12 < 12 := Nat.mod_lt _ (by decide)
  refine stN_free (it_ok hl (by omega)) ?_
  have := it_mono (ln := ln) (nAt ln 4) ((j.val + 12 - nAt ln 4 % 12) % 12)
  rw [it_nAt ln 4 le_rfl] at this
  exact this

abbrev rdO (c : Dev nD) (m8 : Memref sig .tc .vmem S4x32x64 .bf16) (f : BufOf F c m8) (b : Fin k0_t2_loop.trips) : Vec F S1x32x64 .bf16 :=
  View.readAt (Elt F) m8.view (Rect.unit (s := S4x32x64) (k0_off86 b) S1x32x64.size (k0_off86_inb b)).toLoadRect f

theorem rdO_here (c : Dev nD) (m8 : Memref sig .tc .vmem S4x32x64 .bf16) (f : BufOf F c m8) (b : Fin k0_t2_loop.trips) (w : Vec F S1x32x64 .bf16) :
    rdO c m8 (m8.view.writes (Elt F) f [⟨Rect.unit (s := S4x32x64) (k0_off86 b) S1x32x64.size (k0_off86_inb b), w⟩]) b = w := by
  funext x
  exact View.read_writes_cons_unit_of_mem m8.view f _ w [] _ x rfl fun a => by
    show k0_off86 b a + 1 * (x a).val = k0_off86 b a + (x a).val
    omega
theorem rdO_away (c : Dev nD) (m8 : Memref sig .tc .vmem S4x32x64 .bf16) (f : BufOf F c m8) (b b' : Fin k0_t2_loop.trips) (h : b ≠ b') (w : Vec F S1x32x64 .bf16) :
    rdO c m8 (m8.view.writes (Elt F) f [⟨Rect.unit (s := S4x32x64) (k0_off86 b') S1x32x64.size (k0_off86_inb b'), w⟩]) b = rdO c m8 f b := by
  funext x
  refine View.read_writes_cons_unit_of_not_mem m8.view f _ w [] _ rfl (0 : Fin 3) ?_
  have hx : (x (0 : Fin 3)).val < 1 := (x (0 : Fin 3)).isLt
  have e : ∀ b : Fin k0_t2_loop.trips, (k0_off86 b) 0 = b.val := by decide
  show k0_off86 b 0 + 1 * (x 0).val < k0_off86 b' 0 ∨ k0_off86 b' 0 + 1 ≤ k0_off86 b 0 + 1 * (x 0).val
  rw [e, e]
  have : b.val ≠ b'.val := fun h' => h (Fin.ext h')
  omega

theorem t2_run (c : Dev nD) (s : Src F c) (fl : BufOf F c lenM) (fq : BufOf F c qM) (fsn : BufOf F c snM) (fvn : BufOf F c vnM)
    (fs : BufOf F c sbM) (fm : BufOf F c mM) (fll : BufOf F c lM) (fa : BufOf F c accM)
    (ln : ℕ → ℕ) (hl : ∀ i, ln i ≤ 16384) (hL : LenOk c fl ln) (W : Waits sig Unit)
    (v63 : FVec F S32x32 .bf16) (v128 : IVec S32x512 1) (v147 : IVec S32x8 1)
    (Q : BitVec 32 × BitVec 32 × BitVec 32 × BitVec 32 → sProp 𝕄)
    (m8 : Memref sig .tc .vmem S4x32x64 .bf16) (hm8 : m8.IsWhole) (f8 : BufOf F c m8) :
    iprop(Ring.AtW (Φ c s) (ring ln 0) ∗ own c lenM fl ∗ own c qM fq ∗ own c snM fsn ∗ own c vnM fvn ∗ own c sbM fs ∗ own c mM fm ∗ own c lM fll ∗ own c accM fa ∗ own c m8 f8 ∗ owes (c : Thread nD τ) 0 W
       ∗ (∀ acc, (∃ fs' fm' fll' fa' f8' W', ⌜∀ b, rdO c m8 f8' b = rowOf c s ln fq fsn fvn v63 v128 v147 b⌝ ∗ Ring.AtW (Φ c s) (fun _ => St.free) ∗ own c lenM fl ∗ own c qM fq ∗ own c snM fsn ∗ own c vnM fvn ∗ own c sbM fs' ∗ own c mM fm' ∗ own c lM fll' ∗ own c accM fa'
            ∗ own c m8 f8' ∗ owes (c : Thread nD τ) 0 W')
         -∗ Q acc))
      ⊢ wp frame (wpE (defs₀ (F := F)) Variants.none (c : Thread nD τ) none) Set.univ
          (Scf.Loop.for k0_t2_loop k0_t2_ok (wds ln 0) (k0_t2_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v63 v128 v147)) Q := by
  have htr : k0_t2_loop.trips = 4 := by decide
  let I : ℕ → BitVec 32 × BitVec 32 × BitVec 32 × BitVec 32 → sProp 𝕄 := fun k acc =>
    iprop(⌜acc = wds ln (nAt ln k)⌝ ∗ Ring.AtW (Φ c s) (ring ln (nAt ln k)) ∗ own c lenM fl ∗ own c qM fq ∗ own c snM fsn ∗ own c vnM fvn
      ∗ ∃ fs' fm' fll' fa' f8' W', ⌜∀ b : Fin k0_t2_loop.trips, b.val < k → rdO c m8 f8' b = rowOf c s ln fq fsn fvn v63 v128 v147 b⌝
        ∗ own c sbM fs' ∗ own c mM fm' ∗ own c lM fll' ∗ own c accM fa' ∗ own c m8 f8' ∗ owes (c : Thread nD τ) 0 W')
  refine .trans ?_ (Scf.wp_for _ _ _ k0_t2_loop.lb k0_t2_loop.ub k0_t2_loop.st k0_t2_ok (wds ln 0) _ I ?_)
  · iintro ⟨HR, Hlen, Hq, Hsn, Hvn, Hs, Hm, Hl, Ha, H8, HO, Hk⟩
    isplitl [HR Hlen Hq Hsn Hvn Hs Hm Hl Ha H8 HO]
    · isplitr; · ipureintro; rfl
      isplitl [HR]; · iexact HR
      isplitl [Hlen]; · iexact Hlen
      isplitl [Hq]; · iexact Hq
      isplitl [Hsn]; · iexact Hsn
      isplitl [Hvn]; · iexact Hvn
      iexists fs, fm, fll, fa, f8, W
      isplitr; · ipureintro; exact fun b hb => absurd hb (Nat.not_lt_zero _)
      isplitl [Hs]; · iexact Hs
      isplitl [Hm]; · iexact Hm
      isplitl [Hl]; · iexact Hl
      isplitl [Ha]; · iexact Ha
      isplitl [H8]; · iexact H8
      iexact HO
    · iintro %acc ⟨%e, HR, Hlen, Hq, Hsn, Hvn, %fs', %fm', %fll', %fa', %f8', %W', %hk, Hs, Hm, Hl, Ha, H8, HO⟩
      have htr' : Scf.trips k0_t2_loop.lb k0_t2_loop.ub k0_t2_loop.st = 4 := htr
      rw [htr', ring_end hl]
      iapply Hk
      iexists fs', fm', fll', fa', f8', W'
      isplitr; · ipureintro; exact fun b => hk b b.isLt
      isplitl [HR]; · iexact HR
      isplitl [Hlen]; · iexact Hlen
      isplitl [Hq]; · iexact Hq
      isplitl [Hsn]; · iexact Hsn
      isplitl [Hvn]; · iexact Hvn
      isplitl [Hs]; · iexact Hs
      isplitl [Hm]; · iexact Hm
      isplitl [Hl]; · iexact Hl
      isplitl [Ha]; · iexact Ha
      isplitl [H8]; · iexact H8
      iexact HO
  · intro b acc
    have hb : b.val < 4 := lt_of_lt_of_eq b.isLt htr
    iintro ⟨%e, HR, Hlen, Hq, Hsn, Hvn, %fs', %fm', %fll', %fa', %f8', %W', %hk, Hs, Hm, Hl, Ha, H8, HO⟩
    subst e
    iapply (t2_trip c s b fl fq fsn fvn fs' fm' fll' fa' ln hl hL W' (nAt ln b.val) (it_nAt ln b.val (by omega)) v63 v128 v147 _ m8 hm8 f8')
    isplitl [HR]; · iexact HR
    isplitl [Hlen]; · iexact Hlen
    isplitl [Hq]; · iexact Hq
    isplitl [Hsn]; · iexact Hsn
    isplitl [Hvn]; · iexact Hvn
    isplitl [Hs]; · iexact Hs
    isplitl [Hm]; · iexact Hm
    isplitl [Hl]; · iexact Hl
    isplitl [Ha]; · iexact Ha
    isplitl [H8]; · iexact H8
    isplitl [HO]; · iexact HO
    iintro ⟨%fs2, %fm2, %fll2, %fa2, %W2, HR, Hlen, Hq, Hsn, Hvn, Hs, Hm, Hl, Ha, H8, HO⟩
    isplitr; · ipureintro; rfl
    isplitl [HR]; · iexact HR
    isplitl [Hlen]; · iexact Hlen
    isplitl [Hq]; · iexact Hq
    isplitl [Hsn]; · iexact Hsn
    isplitl [Hvn]; · iexact Hvn
    iexists fs2, fm2, fll2, fa2, _, W2
    isplitr [Hs Hm Hl Ha H8 HO]
    rotate_left
    · isplitl [Hs]; · iexact Hs
      isplitl [Hm]; · iexact Hm
      isplitl [Hl]; · iexact Hl
      isplitl [Ha]; · iexact Ha
      isplitl [H8]; · iexact H8
      iexact HO
    · ipureintro
      intro b' hb'
      by_cases h : b' = b
      · subst h; exact rdO_here c m8 f8' b' _
      · exact (rdO_away c m8 f8' b' b h _).trans (hk b' (by
          have : b'.val ≠ b.val := fun h' => h (Fin.ext h')
          omega))

end Cert.Kernel.Hand
end
-- ==== Proof.Whole.lean ====
module
public import proofs.«01_k».proof.Proof.Rows
import Idealize.ShloMosaic.Lib.Scf
import Idealize.ShloMosaic.Lib.WritesUnit
import Idealize.ShloMosaic.Lib.VecWindow
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev aX : Memref sig .tc .hbm S4x32x64 .bf16 := Memref.whole main_v6
abbrev aKn : Memref sig .tc .hbm S4x8x64 .bf16 := Memref.whole main_v7
abbrev aVn : Memref sig .tc .hbm S4x8x64 .bf16 := Memref.whole main_v8
abbrev aL : Memref sig .tc .hbm S4 .i32 := Memref.whole main_arg7
abbrev xM : Memref sig .tc .vmem S4x32x64 .bf16 := Memref.whole cc0_scratch0
abbrev knM : Memref sig .tc .vmem S4x8x64 .bf16 := Memref.whole cc0_scratch1

/-- The semaphores of the three small copies and of the lengths'. -/
abbrev smS (i : Fin 3) : SemLoc sig := ![SemLoc.dma (13 : DmaSem sig), SemLoc.dma (14 : DmaSem sig), SemLoc.dma (15 : DmaSem sig)] i

/-- What a view reads after a store over all of it. -/
theorem readAt_whole (c : Dev nD) {S : Shape} {e : EltTy} {sp : Space} (M : Memref sig .tc sp S e) (f : BufOf F c M) (w : S.Idx → Elt F e) {off size : Fin S.rank → ℕ} (hi : ∀ a, off a + size a ≤ S.size a)
    (i : (Rect.unit off size hi).shape.Idx) :
    View.readAt (Elt F) M.view (Rect.unit off size hi).toLoadRect (M.view.writes (Elt F) f [⟨Rect.whole S, w⟩]) i = w ((Rect.unit off size hi).emb i) :=
  View.read_writes_cons_unit_of_mem M.view f (off := fun _ => 0) (size := S.size) (fun _ => by simp) w [] _ ((Rect.unit off size hi).emb i) rfl fun a => by simp

/-- The lengths, as naturals. -/
noncomputable def lnOf (c : Dev nD) (fL : BufOf F c aL) (i : ℕ) : ℕ := if h : i < 4 then (View.read (Elt F) aL.view fL (fun a => ⟨i, by fin_cases a; exact h⟩) : BitVec 32).toNat else 0

theorem lenOk (c : Dev nD) (fL : BufOf F c aL) (f : BufOf F c lenM) :
    LenOk c (lenM.view.writes (Elt F) f [⟨Rect.whole S4, ReadAs.same.apply (View.read (Elt F) aL.view fL)⟩]) (lnOf c fL) := by
  intro off hi i
  have h1 : off 0 + 1 ≤ 4 := hi 0
  have h0 : (i 0).val < 1 := (i 0).isLt
  refine (readAt_whole c lenM f _ hi i).trans ?_
  unfold lnOf
  rw [dif_pos (by omega : off 0 < 4), BitVec.ofNat_toNat, BitVec.setWidth_eq]
  show View.read (Elt F) aL.view fL _ = _
  congr 1
  funext a
  fin_cases a
  exact Fin.ext (by show off 0 + 1 * (i 0).val = off 0; omega)

/-! ## The rows the loop over the sequences reads -/

/-- The constants of the program: the heads' permutation, the copies along the keys' rows, and the two masks. -/
noncomputable abbrev wPerm : FVec F S32x32 .bf16 := k0_pay34 (iota .tc S32x32 32 [1] iota_S32x32_d1_w32) k0_pay33 4#32
noncomputable abbrev wRep : FVec F S64x512 .bf16 := k0_pay38 k0_pay35 k0_pay36 k0_pay37
noncomputable abbrev wDiag : IVec S32x512 1 := k0_pay43 k0_pay39 k0_pay40 k0_pay41 k0_pay42
noncomputable abbrev wOwn : IVec S32x8 1 := k0_pay44

/-- Sequence `b`'s rows of the three small arrays. -/
noncomputable def xRow (c : Dev nD) (f : BufOf F c aX) (b : Fin k0_t2_loop.trips) : Vec F S1x32x64 .bf16 :=
  fun y => View.read (Elt F) aX.view f ((Rect.unit (s := S4x32x64) (k0_off86 b) S1x32x64.size (k0_off86_inb b)).emb y)
noncomputable def knRow (c : Dev nD) (f : BufOf F c aKn) (b : Fin k0_t2_loop.trips) : Vec F S1x8x64 .bf16 :=
  fun y => View.read (Elt F) aKn.view f ((Rect.unit (s := S4x8x64) (k0_off85 b) S1x8x64.size (k0_off85_inb b)).emb y)
noncomputable def vnRow (c : Dev nD) (f : BufOf F c aVn) (b : Fin k0_t2_loop.trips) : Vec F S1x8x64 .bf16 :=
  fun y => View.read (Elt F) aVn.view f ((Rect.unit (s := S4x8x64) (k0_off85 b) S1x8x64.size (k0_off85_inb b)).emb y)

/-- Sequence `b`'s row of the result, of the operands. -/
noncomputable def outOf (c : Dev nD) (s : Src F c) (fX : BufOf F c aX) (fKn : BufOf F c aKn) (fVn : BufOf F c aVn) (fL : BufOf F c aL) (b : Fin k0_t2_loop.trips) : FVec F S1x32x64 .bf16 :=
  outRow (BitVec.ofNat 32 (lnOf c fL b.val)) (ncN (lnOf c fL b.val)) (k0_pay53 wPerm wRep wDiag (xRow c fX b)) (k0_pay54 wPerm wOwn (xRow c fX b) (knRow c fKn b)) (vnRow c fVn b)
    (fun k => chK c aK s.k (BitVec.ofNat 32 b.val) (BitVec.ofNat 32 k)) (fun k => chS c aKs s.ks (BitVec.ofNat 32 b.val) (BitVec.ofNat 32 k))
    (fun k => chK c aV s.v (BitVec.ofNat 32 b.val) (BitVec.ofNat 32 k)) (fun k => chS c aVs s.vs (BitVec.ofNat 32 b.val) (BitVec.ofNat 32 k)) wPerm wDiag wOwn

theorem rowsQ (c : Dev nD) (f : BufOf F c qM) (w : Fin 4 → FVec F S1x32x512 .bf16) (b : Fin k0_t2_loop.trips) (h : b.val < 4) :
    rdQ c (qM.view.writes (Elt F) f [⟨Rect.unit (s := S4x32x512) ![3, 0, 0] S1x32x512.size inb_S4x32x512_S1x32x512_3_0_0, w 3⟩, ⟨Rect.unit (s := S4x32x512) ![2, 0, 0] S1x32x512.size inb_S4x32x512_S1x32x512_2_0_0, w 2⟩,
      ⟨Rect.unit (s := S4x32x512) ![1, 0, 0] S1x32x512.size inb_S4x32x512_S1x32x512_1_0_0, w 1⟩, ⟨Rect.unit (s := S4x32x512) ![0, 0, 0] S1x32x512.size inb_S4x32x512_S1x32x512_0_0_0, w 0⟩]) b = w ⟨b.val, h⟩ := by
  funext x
  have hx : (x (0 : Fin 3)).val < 1 := (x (0 : Fin 3)).isLt
  have e : ∀ b : Fin k0_t2_loop.trips, k0_off17 b = ![b.val, 0, 0] := by decide
  have hy : ∀ a, ((Rect.unit (s := S4x32x512) (k0_off17 b) S1x32x512.size (k0_off17_inb b)).emb x a).val = (![b.val, 0, 0] : Fin 3 → ℕ) a + (x a).val := fun a => by
    rw [← e b]; show k0_off17 b a + 1 * (x a).val = _; omega
  have h0 : ((Rect.unit (s := S4x32x512) (k0_off17 b) S1x32x512.size (k0_off17_inb b)).emb x (0 : Fin 3)).val = b.val := (hy 0).trans (by show b.val + (x 0).val = b.val; omega)
  show View.read (Elt F) qM.view _ ((Rect.unit (s := S4x32x512) (k0_off17 b) S1x32x512.size (k0_off17_inb b)).emb x) = _
  obtain ⟨b, hb⟩ := b
  have hb' : b = 3 ∨ b = 2 ∨ b = 1 ∨ b = 0 := by simp only at h; omega
  rcases hb' with rfl | rfl | rfl | rfl
  · exact View.read_writes_cons_unit_of_mem qM.view f _ _ _ _ x rfl hy
  · rw [View.read_writes_cons_unit_of_not_mem qM.view f _ _ _ _ rfl (0 : Fin 3) (Or.inl (h0.trans_lt (by simp)))]
    exact View.read_writes_cons_unit_of_mem qM.view f _ _ _ _ x rfl hy
  · rw [View.read_writes_cons_unit_of_not_mem qM.view f _ _ _ _ rfl (0 : Fin 3) (Or.inl (h0.trans_lt (by simp))), View.read_writes_cons_unit_of_not_mem qM.view f _ _ _ _ rfl (0 : Fin 3) (Or.inl (h0.trans_lt (by simp)))]
    exact View.read_writes_cons_unit_of_mem qM.view f _ _ _ _ x rfl hy
  · rw [View.read_writes_cons_unit_of_not_mem qM.view f _ _ _ _ rfl (0 : Fin 3) (Or.inl (h0.trans_lt (by simp))), View.read_writes_cons_unit_of_not_mem qM.view f _ _ _ _ rfl (0 : Fin 3) (Or.inl (h0.trans_lt (by simp))),
      View.read_writes_cons_unit_of_not_mem qM.view f _ _ _ _ rfl (0 : Fin 3) (Or.inl (h0.trans_lt (by simp)))]
    exact View.read_writes_cons_unit_of_mem qM.view f _ _ _ _ x rfl hy

theorem rowsSn (c : Dev nD) (f : BufOf F c snM) (w : Fin 4 → FVec F S1x32x128 .f32) (b : Fin k0_t2_loop.trips) (h : b.val < 4) :
    rdSn c (snM.view.writes (Elt F) f [⟨Rect.unit (s := S4x32x128) ![3, 0, 0] S1x32x128.size inb_S4x32x128_S1x32x128_3_0_0, w 3⟩, ⟨Rect.unit (s := S4x32x128) ![2, 0, 0] S1x32x128.size inb_S4x32x128_S1x32x128_2_0_0, w 2⟩,
      ⟨Rect.unit (s := S4x32x128) ![1, 0, 0] S1x32x128.size inb_S4x32x128_S1x32x128_1_0_0, w 1⟩, ⟨Rect.unit (s := S4x32x128) ![0, 0, 0] S1x32x128.size inb_S4x32x128_S1x32x128_0_0_0, w 0⟩]) b = w ⟨b.val, h⟩ := by
  funext x
  have hx : (x (0 : Fin 3)).val < 1 := (x (0 : Fin 3)).isLt
  have e : ∀ b : Fin k0_t2_loop.trips, k0_off13 b = ![b.val, 0, 0] := by decide
  have hy : ∀ a, ((Rect.unit (s := S4x32x128) (k0_off13 b) S1x32x128.size (k0_off13_inb b)).emb x a).val = (![b.val, 0, 0] : Fin 3 → ℕ) a + (x a).val := fun a => by
    rw [← e b]; show k0_off13 b a + 1 * (x a).val = _; omega
  have h0 : ((Rect.unit (s := S4x32x128) (k0_off13 b) S1x32x128.size (k0_off13_inb b)).emb x (0 : Fin 3)).val = b.val := (hy 0).trans (by show b.val + (x 0).val = b.val; omega)
  show View.read (Elt F) snM.view _ ((Rect.unit (s := S4x32x128) (k0_off13 b) S1x32x128.size (k0_off13_inb b)).emb x) = _
  obtain ⟨b, hb⟩ := b
  have hb' : b = 3 ∨ b = 2 ∨ b = 1 ∨ b = 0 := by simp only at h; omega
  rcases hb' with rfl | rfl | rfl | rfl
  · exact View.read_writes_cons_unit_of_mem snM.view f _ _ _ _ x rfl hy
  · rw [View.read_writes_cons_unit_of_not_mem snM.view f _ _ _ _ rfl (0 : Fin 3) (Or.inl (h0.trans_lt (by simp)))]
    exact View.read_writes_cons_unit_of_mem snM.view f _ _ _ _ x rfl hy
  · rw [View.read_writes_cons_unit_of_not_mem snM.view f _ _ _ _ rfl (0 : Fin 3) (Or.inl (h0.trans_lt (by simp))), View.read_writes_cons_unit_of_not_mem snM.view f _ _ _ _ rfl (0 : Fin 3) (Or.inl (h0.trans_lt (by simp)))]
    exact View.read_writes_cons_unit_of_mem snM.view f _ _ _ _ x rfl hy
  · rw [View.read_writes_cons_unit_of_not_mem snM.view f _ _ _ _ rfl (0 : Fin 3) (Or.inl (h0.trans_lt (by simp))), View.read_writes_cons_unit_of_not_mem snM.view f _ _ _ _ rfl (0 : Fin 3) (Or.inl (h0.trans_lt (by simp))),
      View.read_writes_cons_unit_of_not_mem snM.view f _ _ _ _ rfl (0 : Fin 3) (Or.inl (h0.trans_lt (by simp)))]
    exact View.read_writes_cons_unit_of_mem snM.view f _ _ _ _ x rfl hy

set_option maxHeartbeats 8000000 in
theorem whole_body (c : Dev nD) (s : Src F c) (fX : BufOf F c aX) (fKn : BufOf F c aKn) (fVn : BufOf F c aVn) (fL : BufOf F c aL)
    (f0 : BufOf F c xM) (f1 : BufOf F c knM) (f2 : BufOf F c vnM) (fl : BufOf F c lenM) (fq : BufOf F c qM) (fsn : BufOf F c snM)
    (fs : BufOf F c sbM) (fm : BufOf F c mM) (fll : BufOf F c lM) (fa : BufOf F c accM)
    (W : Waits sig Unit) (hl : ∀ i, lnOf c fL i ≤ 16384)
    (Q : PUnit → sProp 𝕄)
    (m8 : Memref sig .tc .vmem S4x32x64 .bf16) (hm8 : m8.IsWhole) (f8 : BufOf F c m8) :
    iprop(Ring.AtW (Φ c s) (fun _ => St.free) ∗ own c aX fX ∗ own c aKn fKn ∗ own c aVn fVn ∗ own c aL fL
       ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0
       ∗ own c xM f0 ∗ own c knM f1 ∗ own c vnM f2 ∗ own c lenM fl ∗ own c qM fq ∗ own c snM fsn ∗ own c sbM fs ∗ own c mM fm ∗ own c lM fll ∗ own c accM fa ∗ own c m8 f8 ∗ owes (c : Thread nD τ) 0 W
       ∗ ((∃ f0 f1 f2 fl fq fsn fs fm fll fa f8 W', ⌜∀ b, rdO c m8 f8 b = outOf c s fX fKn fVn fL b⌝ ∗ Ring.AtW (Φ c s) (fun _ => St.free) ∗ own c aX fX ∗ own c aKn fKn ∗ own c aVn fVn ∗ own c aL fL
           ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0
           ∗ own c xM f0 ∗ own c knM f1 ∗ own c vnM f2 ∗ own c lenM fl ∗ own c qM fq ∗ own c snM fsn ∗ own c sbM fs ∗ own c mM fm ∗ own c lM fll ∗ own c accM fa ∗ own c m8 f8 ∗ owes (c : Thread nD τ) 0 W')
         -∗ Q ⟨⟩))
      ⊢ wp frame (wpE (defs₀ (F := F)) Variants.none (c : Thread nD τ) none) Set.univ
          (cc0_decode_gqa_int8 (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14) Q := by
  rw [cc0_decode_gqa_int8_eq_skeleton]
  unfold cc0_decode_gqa_int8_skel
  iintro ⟨HR, HX, HKn, HVn, HL, Hs0, Hs1, Hs2, Hs3, H0, H1, H2, Hlen, Hq, Hsn, Hs, Hm, Hl, Ha, H8, HO, Hk⟩
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  sl_exec
  rw [wp_bind, wp_bind]
  iapply (t1_run c s _ (lnOf c fL) hl (lenOk c fL _) _ m8 hm8)
  isplitl [HR]; · iexact HR
  isplitl [Hlen]; · iexact Hlen
  iintro ⟨HR, Hlen⟩
  sl_exec
  rw [wp_bind]
  iapply (t2_run c s _ _ _ _ fs fm fll fa (lnOf c fL) hl (lenOk c fL _) _ _ _ _ _ m8 hm8 f8)
  isplitl [HR]; · iexact HR
  isplitl [Hlen]; · iexact Hlen
  isplitl [Hq]; · iexact Hq
  isplitl [Hsn]; · iexact Hsn
  isplitl [H2]; · iexact H2
  isplitl [Hs]; · iexact Hs
  isplitl [Hm]; · iexact Hm
  isplitl [Hl]; · iexact Hl
  isplitl [Ha]; · iexact Ha
  isplitl [H8]; · iexact H8
  isplitl [HO]; · iexact HO
  iintro %acc ⟨%fs', %fm', %fll', %fa', %f8', %W', %hrow, HR, Hlen, Hq, Hsn, H2, Hs, Hm, Hl, Ha, H8, HO⟩
  sl_exec
  rw [wp_ret]
  imodintro
  iapply Hk
  iexists _, _, _, _, _, _, _, _, _, _, _, _
  isplitr [HR Hlen Hq Hsn H2 Hs Hm Hl Ha H8 HO HL Hs3 H0 HX Hs0 H1 HKn Hs1 HVn Hs2]
  rotate_left
  · isplitl [HR]; · iexact HR
    isplitl [HX]; · iexact HX
    isplitl [HKn]; · iexact HKn
    isplitl [HVn]; · iexact HVn
    isplitl [HL]; · iexact HL
    isplitl [Hs0]; · iexact Hs0
    isplitl [Hs1]; · iexact Hs1
    isplitl [Hs2]; · iexact Hs2
    isplitl [Hs3]; · iexact Hs3
    isplitl [H0]; · iexact H0
    isplitl [H1]; · iexact H1
    isplitl [H2]; · iexact H2
    isplitl [Hlen]; · iexact Hlen
    isplitl [Hq]; · iexact Hq
    isplitl [Hsn]; · iexact Hsn
    isplitl [Hs]; · iexact Hs
    isplitl [Hm]; · iexact Hm
    isplitl [Hl]; · iexact Hl
    isplitl [Ha]; · iexact Ha
    isplitl [H8]; · iexact H8
    iexact HO
  · ipureintro
    intro b
    refine (hrow b).trans ?_
    have hb : b.val < 4 := lt_of_lt_of_eq b.isLt (by decide)
    have hx : ∀ b : Fin k0_t2_loop.trips, View.readAt (Elt F) xM.view (Rect.unit (s := S4x32x64) (k0_off86 b) S1x32x64.size (k0_off86_inb b)).toLoadRect
        (xM.view.writes (Elt F) xM.view.junk [⟨Rect.whole S4x32x64, whole_body.sl.dma0_1 c fX⟩]) = xRow c fX b := fun b => funext fun i => readAt_whole c xM _ _ _ i
    have hkn : ∀ b : Fin k0_t2_loop.trips, View.readAt (Elt F) knM.view (Rect.unit (s := S4x8x64) (k0_off85 b) S1x8x64.size (k0_off85_inb b)).toLoadRect
        (knM.view.writes (Elt F) knM.view.junk [⟨Rect.whole S4x8x64, whole_body.sl.dma0_2 c fKn⟩]) = knRow c fKn b := fun b => funext fun i => readAt_whole c knM _ _ _ i
    have hvn : rdVn c (vnM.view.writes (Elt F) vnM.view.junk [⟨Rect.whole S4x8x64, whole_body.sl.dma0_3 c fVn⟩]) b = vnRow c fVn b := funext fun i => readAt_whole c vnM _ _ _ i
    have hq : rdQ c (qM.view.writes (Elt F) qM.view.junk (whole_body.sl.Hq_4 c fX fKn)) b = k0_pay53 wPerm wRep wDiag (xRow c fX b) := by
      refine (rowsQ c _ (fun j => k0_pay53 wPerm wRep wDiag (View.readAt (Elt F) xM.view (Rect.unit (s := S4x32x64) (k0_off86 ⟨j.val, lt_of_lt_of_eq j.isLt (by decide)⟩) S1x32x64.size (k0_off86_inb _)).toLoadRect
        (xM.view.writes (Elt F) xM.view.junk [⟨Rect.whole S4x32x64, whole_body.sl.dma0_1 c fX⟩]))) b hb).trans ?_
      exact congrArg _ (hx b)
    have hsn : rdSn c (snM.view.writes (Elt F) snM.view.junk (whole_body.sl.Hsn_4 c fX fKn)) b = k0_pay54 wPerm wOwn (xRow c fX b) (knRow c fKn b) := by
      refine (rowsSn c _ (fun j => k0_pay54 wPerm wOwn (View.readAt (Elt F) xM.view (Rect.unit (s := S4x32x64) (k0_off86 ⟨j.val, lt_of_lt_of_eq j.isLt (by decide)⟩) S1x32x64.size (k0_off86_inb _)).toLoadRect
        (xM.view.writes (Elt F) xM.view.junk [⟨Rect.whole S4x32x64, whole_body.sl.dma0_1 c fX⟩])) (View.readAt (Elt F) knM.view (Rect.unit (s := S4x8x64) (k0_off85 ⟨j.val, lt_of_lt_of_eq j.isLt (by decide)⟩) S1x8x64.size (k0_off85_inb _)).toLoadRect
        (knM.view.writes (Elt F) knM.view.junk [⟨Rect.whole S4x8x64, whole_body.sl.dma0_2 c fKn⟩]))) b hb).trans ?_
      exact congrArg₂ _ (hx b) (hkn b)
    show outRow _ _ (rdQ c _ b) (rdSn c _ b) (rdVn c _ b) _ _ _ _ _ _ _ = _
    rw [hq, hsn, hvn]
    rfl

end Cert.Kernel.Hand
end
-- ==== Proof.Cut.lean ====
module
public import proofs.«01_k».proof.Proof.State
public import Idealize.ShloMosaic.Lib.Ring.FamCut
import Idealize.ShloMosaic.Lib.ReshapeSlab
import Idealize.SL.ProofMode.BigOp
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring buffers, the operands and the flags, cut into the slots' parts and put together again -/

theorem kslot_set (j : Fin 12) : (kslot j).view.set = (rK.view.slice (Rect.unit (s := S12x512x2048) ![j.val, 0, 0] S1x512x2048.size (inbK j))).set := View.set_reshape _ _
theorem sslot_set (j : Fin 12) : (sslot j).view.set = (rS.view.slice (Rect.unit (s := S12x8x2048) ![j.val, 0, 0] S1x8x2048.size (inbR j))).set := View.set_reshape _ _

theorem kslot_disj (j j' : Fin 12) (h : j ≠ j') : Disjoint (kslot j).view.set (kslot j').view.set := by
  rw [kslot_set, kslot_set]
  refine View.disjoint_slice_of_sep _ _ _ (0 : Fin 3) rfl rfl ?_
  have : j.val ≠ j'.val := fun h' => h (Fin.ext h')
  show j.val + 1 ≤ j'.val ∨ j'.val + 1 ≤ j.val
  omega
theorem sslot_disj (j j' : Fin 12) (h : j ≠ j') : Disjoint (sslot j).view.set (sslot j').view.set := by
  rw [sslot_set, sslot_set]
  refine View.disjoint_slice_of_sep _ _ _ (0 : Fin 3) rfl rfl ?_
  have : j.val ≠ j'.val := fun h' => h (Fin.ext h')
  show j.val + 1 ≤ j'.val ∨ j'.val + 1 ≤ j.val
  omega

/-- An operand held whole is a remainder and a read share for every slot. -/
theorem toks_eq (c : Dev nD) {S : Shape} {e : EltTy} (A : Memref sig .tc .hbm S e) (f : BufOf F c A) :
    (own c A f : sProp 𝕄) ⊢ iprop((A.view.loc (c : Thread nD τ) ↦[A.view.set]{Transfers.shareDrop fullShare 12} f) ∗ bigSep Finset.univ fun j : Fin 12 => tok c A j A.view.set f) :=
  Transfers.pointsTo_toks_split fullShare 12
theorem toks_eq' (c : Dev nD) {S : Shape} {e : EltTy} (A : Memref sig .tc .hbm S e) (f : BufOf F c A) :
    iprop((A.view.loc (c : Thread nD τ) ↦[A.view.set]{Transfers.shareDrop fullShare 12} f) ∗ bigSep Finset.univ fun j : Fin 12 => tok c A j A.view.set f) ⊢ (own c A f : sProp 𝕄) :=
  Transfers.pointsTo_toks_join fullShare 12

/-- What of the ring's buffers and the operands no slot holds. -/
def leftover (c : Dev nD) (s : Src F c) : sProp 𝕄 :=
  iprop((∃ f, rK.view.loc (c : Thread nD τ) ↦[Ring.restOf fun j : Fin 12 => (kslot j).view.set]{fullShare} f)
    ∗ (∃ f, rS.view.loc (c : Thread nD τ) ↦[Ring.restOf fun j : Fin 12 => (sslot j).view.set]{fullShare} f)
    ∗ (aK.view.loc (c : Thread nD τ) ↦[aK.view.set]{Transfers.shareDrop fullShare 12} s.k) ∗ (aKs.view.loc (c : Thread nD τ) ↦[aKs.view.set]{Transfers.shareDrop fullShare 12} s.ks)
    ∗ (aV.view.loc (c : Thread nD τ) ↦[aV.view.set]{Transfers.shareDrop fullShare 12} s.v) ∗ (aVs.view.loc (c : Thread nD τ) ↦[aVs.view.set]{Transfers.shareDrop fullShare 12} s.vs))

theorem free_eq (c : Dev nD) (s : Src F c) : Ring.AtW (Φ c s) (fun _ => St.free)
    = iprop((bigSep Finset.univ fun j : Fin 12 => semVal ((c : Thread nD τ), SemLoc.dma (cellJ j)) 0)
      ∗ (bigSep Finset.univ fun j : Fin 12 => iprop(∃ f : BufOf F c (kslot j), (kslot j).view.loc (c : Thread nD τ) ↦[(kslot j).view.set]{fullShare} f))
      ∗ (bigSep Finset.univ fun j : Fin 12 => iprop(∃ f : BufOf F c (sslot j), (sslot j).view.loc (c : Thread nD τ) ↦[(sslot j).view.set]{fullShare} f))
      ∗ (bigSep Finset.univ fun j : Fin 12 => tok c aK j aK.view.set s.k) ∗ (bigSep Finset.univ fun j : Fin 12 => tok c aKs j aKs.view.set s.ks)
      ∗ (bigSep Finset.univ fun j : Fin 12 => tok c aV j aV.view.set s.v) ∗ (bigSep Finset.univ fun j : Fin 12 => tok c aVs j aVs.view.set s.vs)) := by
  rw [← bigSep_sep', ← bigSep_sep', ← bigSep_sep', ← bigSep_sep', ← bigSep_sep', ← bigSep_sep']
  rfl

theorem ring_in (c : Dev nD) (s : Src F c) :
    iprop((bigSep Finset.univ fun j : Fin 12 => semVal ((c : Thread nD τ), SemLoc.dma (cellJ j)) 0)
      ∗ (∃ f, rK.view.loc (c : Thread nD τ) ↦{fullShare} f) ∗ (∃ f, rS.view.loc (c : Thread nD τ) ↦{fullShare} f)
      ∗ own c aK s.k ∗ own c aKs s.ks ∗ own c aV s.v ∗ own c aVs s.vs)
      ⊢ iprop(Ring.AtW (Φ c s) (fun _ => St.free) ∗ leftover c s) := by
  rw [free_eq]
  unfold leftover
  iintro ⟨Hc, HK, HS, Ha, Hb, Hv, Hw⟩
  ihave HK := (Ring.fam_split_ex (fun j : Fin 12 => (kslot j).view.set) kslot_disj) $$ HK
  ihave HS := (Ring.fam_split_ex (fun j : Fin 12 => (sslot j).view.set) sslot_disj) $$ HS
  ihave Ha := (toks_eq c aK s.k) $$ Ha
  ihave Hb := (toks_eq c aKs s.ks) $$ Hb
  ihave Hv := (toks_eq c aV s.v) $$ Hv
  ihave Hw := (toks_eq c aVs s.vs) $$ Hw
  icases HK with ⟨HK, HK'⟩
  icases HS with ⟨HS, HS'⟩
  icases Ha with ⟨Ha', Ha⟩
  icases Hb with ⟨Hb', Hb⟩
  icases Hv with ⟨Hv', Hv⟩
  icases Hw with ⟨Hw', Hw⟩
  isplitl [Hc HK HS Ha Hb Hv Hw]
  · isplitl [Hc]; · iexact Hc
    isplitl [HK]; · iexact HK
    isplitl [HS]; · iexact HS
    isplitl [Ha]; · iexact Ha
    isplitl [Hb]; · iexact Hb
    isplitl [Hv]; · iexact Hv
    iexact Hw
  · isplitl [HK']; · iexact HK'
    isplitl [HS']; · iexact HS'
    isplitl [Ha']; · iexact Ha'
    isplitl [Hb']; · iexact Hb'
    isplitl [Hv']; · iexact Hv'
    iexact Hw'

theorem ring_out (c : Dev nD) (s : Src F c) :
    iprop(Ring.AtW (Φ c s) (fun _ => St.free) ∗ leftover c s) ⊢
    iprop((bigSep Finset.univ fun j : Fin 12 => semVal ((c : Thread nD τ), SemLoc.dma (cellJ j)) 0)
      ∗ (∃ f, rK.view.loc (c : Thread nD τ) ↦{fullShare} f) ∗ (∃ f, rS.view.loc (c : Thread nD τ) ↦{fullShare} f)
      ∗ own c aK s.k ∗ own c aKs s.ks ∗ own c aV s.v ∗ own c aVs s.vs) := by
  rw [free_eq]
  unfold leftover
  iintro ⟨⟨Hc, HK, HS, Ha, Hb, Hv, Hw⟩, HK', HS', Ha', Hb', Hv', Hw'⟩
  isplitl [Hc]; · iexact Hc
  isplitl [HK HK']
  · iapply (Ring.fam_join (fun j : Fin 12 => (kslot j).view.set) kslot_disj rK.view.junk)
    isplitl [HK]; · iexact HK
    iexact HK'
  isplitl [HS HS']
  · iapply (Ring.fam_join (fun j : Fin 12 => (sslot j).view.set) sslot_disj rS.view.junk)
    isplitl [HS]; · iexact HS
    iexact HS'
  isplitl [Ha Ha']
  · iapply (toks_eq' c aK s.k)
    isplitl [Ha']; · iexact Ha'
    iexact Ha
  isplitl [Hb Hb']
  · iapply (toks_eq' c aKs s.ks)
    isplitl [Hb']; · iexact Hb'
    iexact Hb
  isplitl [Hv Hv']
  · iapply (toks_eq' c aV s.v)
    isplitl [Hv']; · iexact Hv'
    iexact Hv
  iapply (toks_eq' c aVs s.vs)
  isplitl [Hw']; · iexact Hw'
  iexact Hw

end Cert.Kernel.Hand
end
-- ==== Proof.Bring.lean ====
module
public import proofs.«01_k».proof.Proof.Whole
public import proofs.«01_k».proof.Proof.Cut
public import proofs.«01_k».proof.Proof.Gen.Kernel.Launch
public import proofs.«01_k».proof.Proof.Gen.Kernel.Points
public import proofs.«01_k».proof.Proof.Gen.Kernel.Frame
public import Idealize.ShloMosaic.Lib.Pipeline.FrameSuffixV
public import Idealize.ShloMosaic.Lib.Pipeline.FrameBody
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The region's own state -/

/-- The body's sixteen semaphores: the ring's twelve, the small copies' three, the lengths' one. -/
abbrev osem0 : Fin 16 → SemLoc sig := fun j => SemLoc.dma (⟨j.val + 1, Nat.add_lt_add_right j.isLt 1⟩ : Fin 17)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0
        ∗ bigSepL [(0 : Fin 12), 1, 2, 3, 4, 5, 6, 7, 8, 9, 10, 11] fun j : Fin 12 => semVal ((c : Thread nD τ), SemLoc.dma (cellJ j)) 0) := by
  rw [Pipeline.ownSems0_eq_of_list c osem0 [12, 13, 14, 15, 0, 1, 2, 3, 4, 5, 6, 7, 8, 9, 10, 11] (by decide) (by decide)]; rfl
theorem cells_eq (c : Dev nD) : (bigSepL [(0 : Fin 12), 1, 2, 3, 4, 5, 6, 7, 8, 9, 10, 11] fun j : Fin 12 => semVal ((c : Thread nD τ), SemLoc.dma (cellJ j)) 0 : sProp 𝕄)
    = bigSep Finset.univ fun j : Fin 12 => semVal ((c : Thread nD τ), SemLoc.dma (cellJ j)) 0 :=
  (bigSep_univ_eq_bigSepL [(0 : Fin 12), 1, 2, 3, 4, 5, 6, 7, 8, 9, 10, 11] (by decide) (by decide) _).symm

/-- The operands the body's copies read. -/
def H0 : Finset (Ref sig .tc) := {main_v6, main_v7, main_v8, main_v1, main_v4, main_v3, main_v5, main_arg7}
theorem H0_sub : H0 ⊆ Pipeline.restRefs sig spec0 := by decide

theorem own_whole (c : Dev nD) (b : Ref sig .tc) (f : Buf (Elt F) ((c : Thread nD τ).loc b)) :
    (own c (Memref.whole b) f : sProp 𝕄) = (((c : Thread nD τ).loc b) ↦{fullShare} f) := by
  show ((_ ↦[_]{_} _) : sProp 𝕄) = _
  rw [View.set_whole]

theorem sepc {A A' B B' : sProp 𝕄} (h : A = A') (h' : B = B') : iprop(A ∗ B) = iprop(A' ∗ B') := by rw [h, h']

/-- The chunks' arrays. -/
abbrev srcV (c : Dev nD) : Src F c := ⟨V m c main_v1, V m c main_v4, V m c main_v3, V m c main_v5⟩

theorem hbmPts0_eq (c : Dev nD) :
    (bigSep H0 (fun b => ((c : Thread nD τ).loc b) ↦{fullShare} V m c b) : sProp 𝕄)
      = iprop(own c aX (V m c main_v6) ∗ own c aKn (V m c main_v7) ∗ own c aVn (V m c main_v8)
          ∗ own c aK (srcV m c).k ∗ own c aKs (srcV m c).ks ∗ own c aV (srcV m c).v ∗ own c aVs (srcV m c).vs ∗ own c aL (V m c main_arg7)) := by
  rw [BI.bigSep_eq_bigSepL_of_eq [main_v6, main_v7, main_v8, main_v1, main_v4, main_v3, main_v5, main_arg7] (by decide) (by decide)]
  have e : ∀ b : Ref sig .tc, ((((c : Thread nD τ).loc b) ↦{fullShare} V m c b) : sProp 𝕄) = own c (Memref.whole b) (V m c b) := fun b => (own_whole c b _).symm
  exact sepc (e main_v6) (sepc (e main_v7) (sepc (e main_v8) (sepc (e main_v1) (sepc (e main_v4) (sepc (e main_v3) (sepc (e main_v5) (e main_arg7)))))))

theorem rest_eq (c : Dev nD) :
    (Pipeline.scopedRest (Ix := Unit) (Name := ℕ) (U := Pipeline.UD sig nD τ) (Lvl := ℕ) (Val := Elt F) spec0 c : sProp 𝕄)
      = iprop((∃ f, own c xM f) ∗ (∃ f, own c knM f) ∗ (∃ f, own c vnM f) ∗ (∃ f, rK.view.loc (c : Thread nD τ) ↦{fullShare} f) ∗ (∃ f, rS.view.loc (c : Thread nD τ) ↦{fullShare} f)
        ∗ (∃ f, own c qM f) ∗ (∃ f, own c snM f) ∗ (∃ f, own c sbM f) ∗ (∃ f, own c mM f) ∗ (∃ f, own c lM f) ∗ (∃ f, own c accM f) ∗ (∃ f, own c lenM f)) := by
  refine (scopedRest0_eq c).trans ?_
  have e : ∀ b : Ref sig .tc, (iprop(∃ f : Buf (Elt F) ((c : Thread nD τ).loc b), ((c : Thread nD τ).loc b) ↦{fullShare} f) : sProp 𝕄) = iprop(∃ f, own c (Memref.whole b) f) := fun b =>
    congrArg _ (funext fun f => (own_whole c b f).symm)
  exact sepc (e cc0_scratch0) (sepc (e cc0_scratch1) (sepc (e cc0_scratch2) (sepc rfl (sepc rfl (sepc (e cc0_scratch6) (sepc (e cc0_scratch7) (sepc (e cc0_scratch8)
    (sepc (e cc0_scratch9) (sepc (e cc0_scratch10) (sepc (e cc0_scratch11) (e cc0_scratch3)))))))))))

/-! ## The result -/

theorem trips2 : k0_t2_loop.trips = 4 := by decide

/-- An index's place in its own row. -/
def inRow (y : S4x32x64.Idx) : S1x32x64.Idx := fun a => ⟨if a = (0 : Fin 3) then 0 else (y a).val, by
  have h1 : (y (1 : Fin 3)).val < 32 := (y (1 : Fin 3)).isLt
  have h2 : (y (2 : Fin 3)).val < 64 := (y (2 : Fin 3)).isLt
  match a with
  | ⟨0, _⟩ => exact (by decide : 0 < 1)
  | ⟨1, _⟩ => exact h1
  | ⟨2, _⟩ => exact h2⟩

/-- The result, of the operands. -/
noncomputable def resOf (c : Dev nD) (s : Src F c) (fX : BufOf F c aX) (fKn : BufOf F c aKn) (fVn : BufOf F c aVn) (fL : BufOf F c aL) : Vec F S4x32x64 .bf16 :=
  fun y => outOf c s fX fKn fVn fL ⟨(y (0 : Fin 3)).val, lt_of_lt_of_eq (y (0 : Fin 3)).isLt trips2.symm⟩ (inRow y)

theorem read_rows (c : Dev nD) (m8 : Memref sig .tc .vmem S4x32x64 .bf16) (f : BufOf F c m8) (s : Src F c) (fX : BufOf F c aX) (fKn : BufOf F c aKn) (fVn : BufOf F c aVn) (fL : BufOf F c aL)
    (h : ∀ b, rdO c m8 f b = outOf c s fX fKn fVn fL b) : View.read (Elt F) m8.view f = resOf c s fX fKn fVn fL := by
  funext y
  have e := congrFun (h ⟨(y (0 : Fin 3)).val, lt_of_lt_of_eq (y (0 : Fin 3)).isLt trips2.symm⟩) (inRow y)
  refine Eq.trans ?_ e
  refine congrArg (View.read (Elt F) m8.view f) ?_
  have e86 : ∀ b : Fin k0_t2_loop.trips, k0_off86 b = ![b.val, 0, 0] := by decide
  funext a
  refine Fin.ext ?_
  show (y a).val = k0_off86 _ a + 1 * (if a = (0 : Fin 3) then 0 else (y a).val)
  rw [e86]
  match a with
  | ⟨0, _⟩ => simp
  | ⟨1, _⟩ => simp
  | ⟨2, _⟩ => simp

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => resOf c (srcV m c) (V m c main_v6) (V m c main_v7) (V m c main_v8) (V m c main_arg7)
  Φ _ := Pipeline.ΦDRV osem0 spec0 H0 ∅ (V m) (V m) c
  q _ := fullShare
  owed _ := 0

abbrev ms0_0 (t : Fin cfg0.N) : Memref sig .tc .vmem S4x32x64 .bf16 := win0_0.stage (cfg0.slots t 0)
abbrev hs0_0 (t : Fin cfg0.N) : (ms0_0 t).IsWhole := hstage0_0 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = resOf c (srcV m c) (V m c main_v6) (V m c main_v7) (V m c main_v8) (V m c main_arg7) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 4000000 in
theorem point (hl : ∀ c i, lnOf c (V m c main_arg7) i ≤ 16384) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦDRV osem0 spec0 H0 ∅ (V m) (V m) c from rfl]
  unfold Pipeline.ΦDRV
  rw [rest_eq, ownSems00_eq, hbmPts0_eq, cells_eq]
  unfold Dat.owesAt Pipeline.owesWithin
  rw [show (dats m 0 c).owed t.castSucc = 0 from rfl, show (dats m 0 c).owed t.succ = 0 from rfl]
  iintro ⟨⟨⟨⟨%f0, H0⟩, ⟨%f1, H1⟩, ⟨%f2, H2⟩, HK, HS, ⟨%fq, Hq⟩, ⟨%fsn, Hsn⟩, ⟨%fs, Hs⟩, ⟨%fm, Hm⟩, ⟨%fll, Hl⟩, ⟨%fa, Ha⟩, ⟨%fl, Hlen⟩⟩, ⟨Hs0, Hs1, Hs2, Hs3, Hc⟩, ⟨HX, HKn, HVn, Hk, Hks, Hv, Hvs, HL⟩, HR0⟩, ⟨%W, -, HO⟩, ⟨%d0, Ho⟩⟩
  unfold owns
  icases Ho with ⟨%f8, -, H8⟩
  ihave HR := (ring_in c (srcV m c)) $$ [Hc HK HS Hk Hks Hv Hvs]
  · isplitl [Hc]; · iexact Hc
    isplitl [HK]; · iexact HK
    isplitl [HS]; · iexact HS
    isplitl [Hk]; · iexact Hk
    isplitl [Hks]; · iexact Hks
    isplitl [Hv]; · iexact Hv
    iexact Hvs
  icases HR with ⟨HR, HZ⟩
  iapply (whole_body c (srcV m c) (V m c main_v6) (V m c main_v7) (V m c main_v8) (V m c main_arg7) f0 f1 f2 fl fq fsn fs fm fll fa W (hl c) _ (ms0_0 t) (hs0_0 t) f8)
  isplitl [HR]; · iexact HR
  isplitl [HX]; · iexact HX
  isplitl [HKn]; · iexact HKn
  isplitl [HVn]; · iexact HVn
  isplitl [HL]; · iexact HL
  isplitl [Hs0]; · iexact Hs0
  isplitl [Hs1]; · iexact Hs1
  isplitl [Hs2]; · iexact Hs2
  isplitl [Hs3]; · iexact Hs3
  isplitl [H0]; · iexact H0
  isplitl [H1]; · iexact H1
  isplitl [H2]; · iexact H2
  isplitl [Hlen]; · iexact Hlen
  isplitl [Hq]; · iexact Hq
  isplitl [Hsn]; · iexact Hsn
  isplitl [Hs]; · iexact Hs
  isplitl [Hm]; · iexact Hm
  isplitl [Hl]; · iexact Hl
  isplitl [Ha]; · iexact Ha
  isplitl [H8]; · iexact H8
  isplitl [HO]; · iexact HO
  iintro ⟨%f0, %f1, %f2, %fl, %fq, %fsn, %fs, %fm, %fll, %fa, %f8, %W', %hrow, HR, HX, HKn, HVn, HL, Hs0, Hs1, Hs2, Hs3, H0, H1, H2, Hlen, Hq, Hsn, Hs, Hm, Hl, Ha, H8, HO⟩
  ihave HR := (ring_out c (srcV m c)) $$ [HR HZ]
  · isplitl [HR]; · iexact HR
    iexact HZ
  icases HR with ⟨Hc, HK, HS, Hk, Hks, Hv, Hvs⟩
  isplitl [Hc HK HS Hk Hks Hv Hvs HX HKn HVn HL Hs0 Hs1 Hs2 Hs3 H0 H1 H2 Hlen Hq Hsn Hs Hm Hl Ha HR0]
  · isplitl [HK HS H0 H1 H2 Hlen Hq Hsn Hs Hm Hl Ha]
    · isplitl [H0]; · iexists _; iexact H0
      isplitl [H1]; · iexists _; iexact H1
      isplitl [H2]; · iexists _; iexact H2
      isplitl [HK]; · iexact HK
      isplitl [HS]; · iexact HS
      isplitl [Hq]; · iexists _; iexact Hq
      isplitl [Hsn]; · iexists _; iexact Hsn
      isplitl [Hs]; · iexists _; iexact Hs
      isplitl [Hm]; · iexists _; iexact Hm
      isplitl [Hl]; · iexists _; iexact Hl
      isplitl [Ha]; · iexists _; iexact Ha
      iexists _; iexact Hlen
    isplitl [Hc Hs0 Hs1 Hs2 Hs3]
    · isplitl [Hs0]; · iexact Hs0
      isplitl [Hs1]; · iexact Hs1
      isplitl [Hs2]; · iexact Hs2
      isplitl [Hs3]; · iexact Hs3
      iexact Hc
    isplitr [HR0]
    · isplitl [HX]; · iexact HX
      isplitl [HKn]; · iexact HKn
      isplitl [HVn]; · iexact HVn
      isplitl [Hk]; · iexact Hk
      isplitl [Hks]; · iexact Hks
      isplitl [Hv]; · iexact Hv
      isplitl [Hvs]; · iexact Hvs
      iexact HL
    iexact HR0
  isplitl [HO]
  · iexists W'; isplitr; · ipureintro; exact fun _ _ => Or.inl trivial
    iexact HO
  iexists f8; isplitr
  swap; · iexact H8
  ipureintro; exact read_rows c (ms0_0 t) f8 _ _ _ _ _ hrow

theorem defs₀_row (t : Fin cfg0.N) :
    defs₀ (F := F) .tc cfg0.body (cfg0.bodyArgs t (cfg0.slots t)) = bodyAt0 t := by
  unfold defs₀; rw [Defs.onTc_tc]

theorem body_obligation (hl : ∀ c i, lnOf c (V m c main_arg7) i ≤ 16384) (c : Dev nD) : BodyObligation (dats (F := F) m 0 c) (defs₀ (F := F)) Variants.none () Set.univ := fun t => by
  rw [bigSep_W0, bigSep_W0, defs₀_row]
  exact triple_restated (point m hl c t) rfl .rfl fun _ => .rfl

/-! ## The run -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers hold after the lines that follow the region. -/
noncomputable abbrev ends (c : Dev nD) : Valuation τ sig (Elt F) :=
  StableHlo.after [hostOps1].flatten (Pipeline.withArrays spec0 c (Pipeline.withR (V0 m c) ∅ c (V m c)) fun w => (dats m 0 c).arrAt w cfg0.N)

set_option backward.isDefEq.respectTransparency.types false in
theorem run_main (hl : ∀ c i, lnOf c (V m c main_arg7) i ≤ 16384) : θ_run defs (onTc (τ := τ) (main (F := F))) (s₀ m ρ)
    (fun r => (∀ c : Dev nD, ∀ b ∈ Pipeline.restRefs sig spec0, r.2.mem ((c : Thread nD τ).loc b) = ends m c (Proc.devRef .tc b)) ∧ r.2.sem = fun _ => 0) :=
  Pipeline.θ_run_frame_dmaR_aroundV (Q' := _) cfgs (dats m) (0 : Fin 1) launch0 osem0 defs₀ Variants.none ownSemFacts0 H0 ∅ H0_sub (Finset.empty_subset _) m ρ main
    (hbody := fun c => (body_obligation m hl c).loose) (hshare := fun c => (dats m 0 c).share_full fun _ => rfl)
    (howed := fun _ _ => rfl) (V₀ := V0 m) (opss := [hostOps1]) (hsub := sfx_sub) (hfresh := sfx_fresh) (hkeep := sfx_keeps) (G := V m) (hmain := hmainD m Variants.none) (hA := A_eq m)
    (hin := fun _ => .rfl) (hout := fun _ => .rfl) (hQ' := fun _ h => ⟨fun c => (h.1 c).2, h.2⟩)

theorem ends_of (c : Dev nD) (b : Ref sig .tc) (h1 : b ≠ main_v10) (h2 : b ≠ main_v9) (h3 : V m c b = m ((c : Thread nD τ).loc b)) : ends m c (Proc.devRef .tc b) = m ((c : Thread nD τ).loc b) := by
  unfold ends
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne h1)),
    Pipeline.withArrays_of_ne _ c _ _ b (by intro w; fin_cases w; exact fun h => h2 h.symm)]
  rw [← h3]
  rfl

/-- The program terminates, its arguments end unchanged and its semaphores at zero. -/
theorem frame_run (hl : ∀ c i, lnOf c (V m c main_arg7) i ≤ 16384) : θ_run defs (onTc (τ := τ) (main (F := F))) ⟨m, fun _ => 0, ρ⟩ (fun r => (∀ c : Dev nD,
      r.2.mem ((c.tc : Thread nD τ).loc main_v10) = ends m c (Proc.devRef .tc main_v10) ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)))
      ∧ r.2.sem = fun _ => 0) := by
  have key : ∀ (b : Ref sig .tc), b ∈ Pipeline.restRefs sig spec0 → b ≠ main_v10 → b ≠ main_v9 → (∀ c, V m c b = m ((c : Thread nD τ).loc b)) → ∀ (mem : (ℓ : Loc nD τ sig) → Buf (Elt F) ℓ) (c : Dev nD),
      (∀ b ∈ Pipeline.restRefs sig spec0, mem ((c : Thread nD τ).loc b) = ends m c (Proc.devRef .tc b)) → mem ((c.tc : Thread nD τ).loc b) = m ((c.tc : Thread nD τ).loc b) :=
    fun b hb h1 h2 h3 mem c h => (h b hb).trans (ends_of m c b h1 h2 (h3 c))
  refine (θ_run defs _ _).mono (fun r h => ⟨fun c => ⟨h.1 c main_v10 (Pipeline.mem_restRefs_of main_v10 (by decide) (by decide)), ?_⟩, h.2⟩) (run_main m ρ hl)
  exact ⟨key main_arg0 (Pipeline.mem_restRefs_of _ (by decide) (by decide)) (by decide) (by decide) (V_main_arg0 m) _ c (h.1 c),
    key main_arg1 (Pipeline.mem_restRefs_of _ (by decide) (by decide)) (by decide) (by decide) (V_main_arg1 m) _ c (h.1 c),
    key main_arg2 (Pipeline.mem_restRefs_of _ (by decide) (by decide)) (by decide) (by decide) (V_main_arg2 m) _ c (h.1 c),
    key main_arg3 (Pipeline.mem_restRefs_of _ (by decide) (by decide)) (by decide) (by decide) (V_main_arg3 m) _ c (h.1 c),
    key main_arg4 (Pipeline.mem_restRefs_of _ (by decide) (by decide)) (by decide) (by decide) (V_main_arg4 m) _ c (h.1 c),
    key main_arg5 (Pipeline.mem_restRefs_of _ (by decide) (by decide)) (by decide) (by decide) (V_main_arg5 m) _ c (h.1 c),
    key main_arg6 (Pipeline.mem_restRefs_of _ (by decide) (by decide)) (by decide) (by decide) (V_main_arg6 m) _ c (h.1 c),
    key main_arg7 (Pipeline.mem_restRefs_of _ (by decide) (by decide)) (by decide) (by decide) (V_main_arg7 m) _ c (h.1 c)⟩

end Cert.Kernel.Hand
end
-- ==== Proof.RingI.lean ====
/-
  The two rings of the kernel as families of slots.

  Slot `j` of the kernel's ring is three things used together: block `j` of the int8 ring (`[512, 2048]`), block `j` of
  the scale ring (`[8, 2048]`) and DMA semaphore `j`. A slot is FREE, or it is BUSY with one chunk of the cache: two
  copies, the chunk's int8 block and its scales, started on the slot's semaphore and not yet waited for. `Φ` says what a
  slot holds in either state.
-/
module

public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffixV
public import Idealize.ShloMosaic.Lib.Ring
public import Idealize.ShloMosaic.Lib.Ring.FamCut
public import Idealize.ShloMosaic.Lib.MixedBatch
public import Idealize.ShloMosaic.Lib.LoopRemainder
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The operands -/

abbrev aK : Memref sig .tc .hbm S4x512x16384 .i8 := Memref.whole main_v1
abbrev aKs : Memref sig .tc .hbm S4x8x16384 .f32 := Memref.whole main_v4
abbrev aV : Memref sig .tc .hbm S4x512x16384 .i8 := Memref.whole main_v3
abbrev aVs : Memref sig .tc .hbm S4x8x16384 .f32 := Memref.whole main_v5
abbrev rK : Memref sig .tc .vmem S12x512x2048 .i8 := Memref.whole cc0_scratch4
abbrev rS : Memref sig .tc .vmem S12x8x2048 .f32 := Memref.whole cc0_scratch5

/-- The contents of a memref's buffer on core `c`. -/
abbrev BufOf (F : FTy → Type) (c : Dev nD) {sp : Space} {S : Shape} {e : EltTy} (M : Memref sig .tc sp S e) : Type := Buf (Elt F) (M.view.loc (c : Thread nD τ))

/-- The four HBM arrays the chunks come from, at their contents. -/
structure Src (F : FTy → Type) (c : Dev nD) where
  k : BufOf F c aK
  ks : BufOf F c aKs
  v : BufOf F c aV
  vs : BufOf F c aVs

/-! ## The slots and the chunks -/

theorem inbS (j : Fin 12) : ∀ a, (![j.val] : Fin 1 → Nat) a + S1.size a ≤ S12.size a := by
  have := j.isLt; intro a; fin_cases a; show j.val + 1 ≤ 12; omega
theorem inbK (j : Fin 12) : ∀ a, (![j.val, 0, 0] : Fin 3 → Nat) a + S1x512x2048.size a ≤ S12x512x2048.size a := by
  have := j.isLt; intro a; fin_cases a
  · show j.val + 1 ≤ 12; omega
  · show 0 + 512 ≤ 512; omega
  · show 0 + 2048 ≤ 2048; omega
theorem inbR (j : Fin 12) : ∀ a, (![j.val, 0, 0] : Fin 3 → Nat) a + S1x8x2048.size a ≤ S12x8x2048.size a := by
  have := j.isLt; intro a; fin_cases a
  · show j.val + 1 ≤ 12; omega
  · show 0 + 8 ≤ 8; omega
  · show 0 + 2048 ≤ 2048; omega

/-- Slot `j`'s semaphore, its int8 block and its scale block. -/
abbrev cellJ (j : Fin 12) : DmaSem sig := ((cc0_scratch12.slice (Rect.unit (s := S12) ![j.val] S1.size (inbS j))).squeeze S_ squeezes_S1_S_).sem
abbrev kslot (j : Fin 12) : Memref sig .tc .vmem S512x2048 .i8 := (rK.slice (Rect.unit (s := S12x512x2048) ![j.val, 0, 0] S1x512x2048.size (inbK j)) (fun _ => rfl)).squeeze S512x2048 squeezes_S1x512x2048_S512x2048
abbrev sslot (j : Fin 12) : Memref sig .tc .vmem S8x2048 .f32 := (rS.slice (Rect.unit (s := S12x8x2048) ![j.val, 0, 0] S1x8x2048.size (inbR j)) (fun _ => rfl)).squeeze S8x2048 squeezes_S1x8x2048_S8x2048

/-- The offset of chunk `wc` of sequence `wb`, both words, and that the chunk lies in its array. -/
abbrev offC (wb wc : BitVec 32) : Fin 3 → Nat := ![wb.toNat, 0, (Scalar.muli wc 2048#32).toNat]
def InC (wb wc : BitVec 32) : Prop := wb.toNat < 4 ∧ (Scalar.muli wc 2048#32).toNat + 2048 ≤ 16384
theorem InC.k {wb wc : BitVec 32} (h : InC wb wc) : ∀ a, (offC wb wc) a + S1x512x2048.size a ≤ S4x512x16384.size a := by
  obtain ⟨h1, h2⟩ := h; intro a; fin_cases a
  · show wb.toNat + 1 ≤ 4; omega
  · show 0 + 512 ≤ 512; omega
  · exact h2
theorem InC.s {wb wc : BitVec 32} (h : InC wb wc) : ∀ a, (offC wb wc) a + S1x8x2048.size a ≤ S4x8x16384.size a := by
  obtain ⟨h1, h2⟩ := h; intro a; fin_cases a
  · show wb.toNat + 1 ≤ 4; omega
  · show 0 + 8 ≤ 8; omega
  · exact h2

/-- The chunk's int8 block of an array, and its scale block. -/
abbrev blkK (A : Memref sig .tc .hbm S4x512x16384 .i8) (wb wc : BitVec 32) (h : InC wb wc) : Memref sig .tc .hbm S512x2048 .i8 :=
  (A.slice (Rect.unit (s := S4x512x16384) (offC wb wc) S1x512x2048.size h.k) (fun _ => rfl)).squeeze S512x2048 squeezes_S1x512x2048_S512x2048
abbrev blkS (A : Memref sig .tc .hbm S4x8x16384 .f32) (wb wc : BitVec 32) (h : InC wb wc) : Memref sig .tc .hbm S8x2048 .f32 :=
  (A.slice (Rect.unit (s := S4x8x16384) (offC wb wc) S1x8x2048.size h.s) (fun _ => rfl)).squeeze S8x2048 squeezes_S1x8x2048_S8x2048

/-! ## What a slot holds -/

/-- A slot's state: free, or busy with a chunk of the keys (`k`) or of the values (`v`). -/
inductive St where
  | free
  | k (wb wc : BitVec 32) (h : InC wb wc)
  | v (wb wc : BitVec 32) (h : InC wb wc)

/-- A slot's read share of a source array: all of it, or a set of its elements. -/
abbrev tok (c : Dev nD) {S : Shape} {e : EltTy} (A : Memref sig .tc .hbm S e) (j : Fin 12) (I : Finset (Idx (A.view.loc (c : Thread nD τ)))) (f : BufOf F c A) : sProp 𝕄 :=
  A.view.loc (c : Thread nD τ) ↦[I]{Transfers.shareTok fullShare 12 j} f

/-- The units each of the two copies credits. -/
abbrev amts : Fin 2 → ℕ := ![32768, 2048]

/-- What the two copies of a chunk deliver: the slot's blocks filled, the sources back. -/
abbrev deliv (c : Dev nD) (j : Fin 12) (A : Memref sig .tc .hbm S4x512x16384 .i8) (B : Memref sig .tc .hbm S4x8x16384 .f32)
    (fA : BufOf F c A) (fB : BufOf F c B) (wb wc : BitVec 32) (h : InC wb wc)
    (f : BufOf F c (kslot j)) (g : BufOf F c (sslot j)) : Fin 2 → sProp 𝕄
  | 0 => iprop(((kslot j).view.loc (c : Thread nD τ) ↦[(kslot j).view.set]{fullShare}
            (kslot j).view.writes (Elt F) f [⟨Rect.whole S512x2048, ReadAs.same.apply ((blkK A wb wc h).view.read (Elt F) fA)⟩])
          ∗ tok c A j (blkK A wb wc h).view.set fA)
  | 1 => iprop(((sslot j).view.loc (c : Thread nD τ) ↦[(sslot j).view.set]{fullShare}
            (sslot j).view.writes (Elt F) g [⟨Rect.whole S8x2048, ReadAs.same.apply ((blkS B wb wc h).view.read (Elt F) fB)⟩])
          ∗ tok c B j (blkS B wb wc h).view.set fB)

instance deliv_storable (c : Dev nD) (j : Fin 12) (A : Memref sig .tc .hbm S4x512x16384 .i8) (B : Memref sig .tc .hbm S4x8x16384 .f32)
    (fA : BufOf F c A) (fB : BufOf F c B) (wb wc : BitVec 32) (h : InC wb wc) (f : BufOf F c (kslot j)) (g : BufOf F c (sslot j)) (t : Fin 2) :
    Storable (upEmb : UEmb _ 𝕄) (deliv c j A B fA fB wb wc h f g t) := by
  fin_cases t <;> simp only [deliv] <;> infer_instance

/-- The two copies of a chunk in flight: the batch on the slot's cell, and what is left of the two lent shares. -/
abbrev busy (c : Dev nD) (j : Fin 12) (A : Memref sig .tc .hbm S4x512x16384 .i8) (B : Memref sig .tc .hbm S4x8x16384 .f32)
    (fA : BufOf F c A) (fB : BufOf F c B) (wb wc : BitVec 32) (h : InC wb wc) : sProp 𝕄 :=
  iprop((∃ f g, Transfers.MixedBatch (countersEmb (U := Pipeline.UD sig nD τ)) (c : Thread nD τ) (SemLoc.dma (cellJ j)) () amts (deliv c j A B fA fB wb wc h f g) 2 0)
    ∗ tok c A j (A.view.set \ (blkK A wb wc h).view.set) fA ∗ tok c B j (B.view.set \ (blkS B wb wc h).view.set) fB)

/-- What slot `j` holds in a state. -/
abbrev Φ (c : Dev nD) (s : Src F c) (j : Fin 12) : St → sProp 𝕄
  | .free => iprop(semVal ((c : Thread nD τ), SemLoc.dma (cellJ j)) 0
      ∗ (∃ f, (kslot j).view.loc (c : Thread nD τ) ↦[(kslot j).view.set]{fullShare} f)
      ∗ (∃ g, (sslot j).view.loc (c : Thread nD τ) ↦[(sslot j).view.set]{fullShare} g)
      ∗ tok c aK j aK.view.set s.k ∗ tok c aKs j aKs.view.set s.ks ∗ tok c aV j aV.view.set s.v ∗ tok c aVs j aVs.view.set s.vs)
  | .k wb wc h => iprop(busy c j aK aKs s.k s.ks wb wc h ∗ tok c aV j aV.view.set s.v ∗ tok c aVs j aVs.view.set s.vs)
  | .v wb wc h => iprop(busy c j aV aVs s.v s.vs wb wc h ∗ tok c aK j aK.view.set s.k ∗ tok c aKs j aKs.view.set s.ks)

end Cert.KernelIdeal.Hand

end
-- ==== Proof.WordsI.lean ====
/-
  The kernel's words as numbers.

  The kernel walks the cache in ITEMS `(b, κ, c)`: chunk `c` of the keys (`κ = 0`) or of the values (`κ = 1`) of
  sequence `b`. `nx` is the step from an item to the next one, `it n` the `n`-th item. The words the kernel carries are
  the words of these numbers, its `if`s are decided by them, and every side condition it states follows from them.
-/
module

public import proofs.«01_k».proof.Proof.RingI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Lengths and chunk counts -/

/-- The chunks of a sequence of length `len`: one per 2048 positions begun, and at least one. -/
def ncN (len : ℕ) : ℕ := max ((len + 2047) / 2048) 1

theorem ncN_pos (len : ℕ) : 1 ≤ ncN len := Nat.le_max_right _ _
theorem ncN_le {len : ℕ} (h : len ≤ 16384) : ncN len ≤ 8 := by unfold ncN; omega

/-- The kernel's word for it. -/
abbrev ncW (v : BitVec 32) : BitVec 32 := Scalar.maxsi (Scalar.shrui (Scalar.addi v 2047#32) 11#32) 1#32

theorem ncW_eq {len : ℕ} (h : len ≤ 16384) : ncW (BitVec.ofNat 32 len) = BitVec.ofNat 32 (ncN len) := by
  have e1 : Scalar.addi (BitVec.ofNat 32 len) 2047#32 = BitVec.ofNat 32 (len + 2047) := by
    show BitVec.ofNat 32 len + BitVec.ofNat 32 2047 = _
    rw [← BitVec.ofNat_add]
  have e2 : Scalar.shrui (BitVec.ofNat 32 (len + 2047)) 11#32 = BitVec.ofNat 32 ((len + 2047) / 2048) := by
    unfold Scalar.shrui IntOp.shrui
    rw [if_pos (by decide)]
    apply BitVec.eq_of_toNat_eq
    rw [BitVec.ushiftRight_eq', BitVec.toNat_ushiftRight, BitVec.toNat_ofNat, BitVec.toNat_ofNat, BitVec.toNat_ofNat, Nat.shiftRight_eq_div_pow, Nat.mod_eq_of_lt (by omega), Nat.mod_eq_of_lt (by omega), Nat.mod_eq_of_lt (by omega)]
  have e3 : ∀ q : Fin 10, Scalar.maxsi (BitVec.ofNat 32 q.val) 1#32 = BitVec.ofNat 32 (max q.val 1) := by decide
  show Scalar.maxsi (Scalar.shrui (Scalar.addi _ _) _) _ = _
  rw [e1, e2]
  exact e3 ⟨(len + 2047) / 2048, by omega⟩

/-! ## The items -/

section Items

variable (ln : ℕ → ℕ)

/-- The item after `(b, κ, c)`, the sequences having lengths `ln 0 … ln 3`. -/
def nx (x : ℕ × ℕ × ℕ) : ℕ × ℕ × ℕ :=
  if ncN (ln (min x.1 3)) ≤ x.2.2 + 1 then (if x.2.1 = 1 then x.1 + 1 else x.1, 1 - x.2.1, 0) else (x.1, x.2.1, x.2.2 + 1)

/-- The `n`-th item. -/
def it : ℕ → ℕ × ℕ × ℕ
  | 0 => (0, 0, 0)
  | n + 1 => nx ln (it n)

theorem it_zero : it ln 0 = (0, 0, 0) := rfl
theorem it_succ (n : ℕ) : it ln (n + 1) = nx ln (it ln n) := rfl

variable {ln}

/-- What every item satisfies. -/
theorem it_good (hl : ∀ i, ln i ≤ 16384) (n : ℕ) :
    (it ln n).1 ≤ n ∧ (it ln n).2.1 ≤ 1 ∧ (it ln n).2.2 < ncN (ln (min (it ln n).1 3)) ∧ n ≤ 16 * (it ln n).1 + 8 * (it ln n).2.1 + (it ln n).2.2 := by
  induction n with
  | zero => exact ⟨le_refl _, by simp [it], by have := ncN_pos (ln 0); simp only [it]; exact this, Nat.zero_le _⟩
  | succ n ih =>
    rw [it_succ]
    generalize hx : it ln n = x at ih
    obtain ⟨b, κ, c⟩ := x
    obtain ⟨h1, h2, h3, h4⟩ := ih
    simp only at h1 h2 h3 h4
    have h8 := ncN_le (hl (min b 3))
    unfold nx
    by_cases hw : ncN (ln (min b 3)) ≤ c + 1
    · rw [if_pos hw]
      by_cases hk : κ = 1
      · subst hk
        have := ncN_pos (ln (min (b + 1) 3))
        rw [if_pos rfl]; refine ⟨?_, ?_, ?_, ?_⟩ <;> simp only <;> omega
      · have := ncN_pos (ln (min b 3))
        rw [if_neg hk]; refine ⟨?_, ?_, ?_, ?_⟩ <;> simp only <;> omega
    · rw [if_neg hw]; refine ⟨?_, ?_, ?_, ?_⟩ <;> simp only <;> omega

theorem nx_mono (x : ℕ × ℕ × ℕ) : x.1 ≤ (nx ln x).1 := by
  unfold nx
  split
  · simp only; split <;> omega
  · exact le_refl _

theorem it_mono (n m : ℕ) : (it ln n).1 ≤ (it ln (n + m)).1 := by
  induction m with
  | zero => exact le_refl _
  | succ m ih => exact ih.trans (nx_mono _)

end Items

/-! ## The words of an item -/

/-- The words the kernel carries for an item. -/
abbrev wd (x : ℕ × ℕ × ℕ) : BitVec 32 × BitVec 32 × BitVec 32 := (BitVec.ofNat 32 x.1, BitVec.ofNat 32 x.2.1, BitVec.ofNat 32 x.2.2)

/-- The kernel's step on words, `v` the length it reads. -/
abbrev nxW (v : BitVec 32) (b κ c : BitVec 32) : BitVec 32 × BitVec 32 × BitVec 32 :=
  (Scalar.select (Scalar.andi (Scalar.cmpi .sge (Scalar.addi c 1#32) (ncW v)) (Scalar.cmpi .eq κ 1#32)) (Scalar.addi b 1#32) b,
    Scalar.select (Scalar.cmpi .sge (Scalar.addi c 1#32) (ncW v)) (Scalar.subi 1#32 κ) κ,
    Scalar.select (Scalar.cmpi .sge (Scalar.addi c 1#32) (ncW v)) 0#32 (Scalar.addi c 1#32))

theorem nxW_eq (ln : ℕ → ℕ) (hl : ∀ i, ln i ≤ 16384) (x : ℕ × ℕ × ℕ) (h2 : x.2.1 ≤ 1) (h3 : x.2.2 < 8) :
    nxW (BitVec.ofNat 32 (ln (min x.1 3))) (wd x).1 (wd x).2.1 (wd x).2.2 = wd (nx ln x) := by
  obtain ⟨b, κ, c⟩ := x
  simp only at h2 h3
  have hn := ncN_le (hl (min b 3))
  have key : ∀ (c : Fin 8) (n : Fin 9), Scalar.cmpi .sge (Scalar.addi (BitVec.ofNat 32 c.val) 1#32) (BitVec.ofNat 32 n.val) = (if n.val ≤ c.val + 1 then 1#1 else 0#1) := by decide
  have k2 : ∀ κ : Fin 2, Scalar.cmpi .eq (BitVec.ofNat 32 κ.val) 1#32 = (if κ.val = 1 then 1#1 else 0#1) := by decide
  have k3 : ∀ κ : Fin 2, Scalar.subi 1#32 (BitVec.ofNat 32 κ.val) = BitVec.ofNat 32 (1 - κ.val) := by decide
  have e1 := key ⟨c, h3⟩ ⟨ncN (ln (min b 3)), by omega⟩
  have e2 := k2 ⟨κ, by omega⟩
  have e3 := k3 ⟨κ, by omega⟩
  simp only at e1 e2 e3
  have a1 : ∀ n : ℕ, Scalar.addi (BitVec.ofNat 32 n) 1#32 = BitVec.ofNat 32 (n + 1) := fun n => by
    show BitVec.ofNat 32 n + BitVec.ofNat 32 1 = _; rw [← BitVec.ofNat_add]
  unfold nxW nx wd
  simp only [ncW_eq (hl _)]
  rw [e1, e2, e3, a1, a1]
  by_cases hw : ncN (ln (min b 3)) ≤ c + 1
  · simp only [if_pos hw]
    by_cases hk : κ = 1
    · simp only [if_pos hk]; rfl
    · simp only [if_neg hk]; rfl
  · simp only [if_neg hw]
    by_cases hk : κ = 1
    · simp only [if_pos hk]; rfl
    · simp only [if_neg hk]; rfl

/-! ## The conditions the kernel decides -/

theorem cond_k : ∀ (b : Fin 128) (κ : Fin 2), k0_cond1 (BitVec.ofNat 32 b.val) (BitVec.ofNat 32 κ.val) = (if b.val < 4 ∧ κ.val = 0 then 1#1 else 0#1) := by decide
theorem cond_v : ∀ (b : Fin 128) (κ : Fin 2), k0_cond2 (BitVec.ofNat 32 b.val) (BitVec.ofNat 32 κ.val) = (if b.val < 4 ∧ κ.val = 1 then 1#1 else 0#1) := by decide

/-- An item that fits the proof's bounds. -/
structure Ok (x : ℕ × ℕ × ℕ) : Prop where
  b : x.1 < 128
  κ : x.2.1 < 2
  c : x.2.2 < 8

theorem Ok.cond1 {x : ℕ × ℕ × ℕ} (h : Ok x) : k0_cond1 (wd x).1 (wd x).2.1 = (if x.1 < 4 ∧ x.2.1 = 0 then 1#1 else 0#1) := cond_k ⟨x.1, h.b⟩ ⟨x.2.1, h.κ⟩
theorem Ok.cond2 {x : ℕ × ℕ × ℕ} (h : Ok x) : k0_cond2 (wd x).1 (wd x).2.1 = (if x.1 < 4 ∧ x.2.1 = 1 then 1#1 else 0#1) := cond_v ⟨x.1, h.b⟩ ⟨x.2.1, h.κ⟩

theorem mul2048 : ∀ c : Fin 8, (Scalar.muli (BitVec.ofNat 32 c.val) 2048#32).toNat = c.val * 2048 := by decide

theorem Ok.inC {x : ℕ × ℕ × ℕ} (h : Ok x) (hb : x.1 < 4) : InC (wd x).1 (wd x).2.2 := by
  refine ⟨?_, ?_⟩
  · show (BitVec.ofNat 32 x.1).toNat < 4
    rw [BitVec.toNat_ofNat, Nat.mod_eq_of_lt (by omega)]; exact hb
  · have := mul2048 ⟨x.2.2, h.c⟩
    show (Scalar.muli (BitVec.ofNat 32 x.2.2) 2048#32).toNat + 2048 ≤ 16384
    simp only at this
    have := h.c; omega

theorem Ok.dvd {x : ℕ × ℕ × ℕ} (h : Ok x) : 2048 ∣ (Scalar.muli (wd x).2.2 2048#32).toNat := by
  have := mul2048 ⟨x.2.2, h.c⟩
  exact ⟨x.2.2, by simp only at this; show (Scalar.muli (BitVec.ofNat 32 x.2.2) 2048#32).toNat = _; omega⟩

theorem Ok.lt4_of_cond1 {x : ℕ × ℕ × ℕ} (h : Ok x) (hc : k0_cond1 (wd x).1 (wd x).2.1 = 1#1) : x.1 < 4 := by
  rw [h.cond1] at hc
  by_contra hb
  rw [if_neg (fun h => hb h.1)] at hc
  exact absurd hc (by decide)
theorem Ok.lt4_of_cond2 {x : ℕ × ℕ × ℕ} (h : Ok x) (hc : k0_cond2 (wd x).1 (wd x).2.1 = 1#1) : x.1 < 4 := by
  rw [h.cond2] at hc
  by_contra hb
  rw [if_neg (fun h => hb h.1)] at hc
  exact absurd hc (by decide)

/-- A rectangle that takes every row of its slabs is whole words. -/
theorem words4 {off : Fin 3 → ℕ} {inb : ∀ a, off a + S1x512x2048.size a ≤ S4x512x16384.size a} (h0 : off 1 = 0) :
    (Rect.unit (s := S4x512x16384) off S1x512x2048.size inb).WholeWords (EltTy.packing .i8) := .inr ⟨by decide, rfl, h0, rfl⟩
theorem words12 {off : Fin 3 → ℕ} {inb : ∀ a, off a + S1x512x2048.size a ≤ S12x512x2048.size a} (h0 : off 1 = 0) :
    (Rect.unit (s := S12x512x2048) off S1x512x2048.size inb).WholeWords (EltTy.packing .i8) := .inr ⟨by decide, rfl, h0, rfl⟩

theorem Ok.chk1 {x : ℕ × ℕ × ℕ} (h : Ok x) : k0_chk1 (wd x).1 (wd x).2.1 (wd x).2.2 :=
  ⟨fun _ => h.dvd, fun hc => (h.inC (h.lt4_of_cond1 hc)).k, fun _ _ => words4 rfl, fun hc => (h.inC (h.lt4_of_cond1 hc)).s,
   fun _ => h.dvd, fun hc => (h.inC (h.lt4_of_cond2 hc)).k, fun _ _ => words4 rfl, fun hc => (h.inC (h.lt4_of_cond2 hc)).s⟩
theorem Ok.chk5 {x : ℕ × ℕ × ℕ} (h : Ok x) : k0_chk5 (wd x).1 (wd x).2.1 (wd x).2.2 := h.chk1
theorem Ok.chk13 {x : ℕ × ℕ × ℕ} (h : Ok x) : k0_chk13 (wd x).1 (wd x).2.1 (wd x).2.2 := h.chk1

theorem min3 : ∀ b : Fin 128, (Scalar.minsi (BitVec.ofNat 32 b.val) 3#32) = BitVec.ofNat 32 (min b.val 3) := by decide

theorem Ok.chk2 {x : ℕ × ℕ × ℕ} (h : Ok x) : k0_chk2 (wd x).1 := by
  have h3 : Scalar.minsi (BitVec.ofNat 32 x.1) 3#32 = BitVec.ofNat 32 (min x.1 3) := min3 ⟨x.1, h.b⟩
  intro a; fin_cases a
  show (Scalar.minsi (BitVec.ofNat 32 x.1) 3#32).toNat + 1 ≤ 4
  rw [h3, BitVec.toNat_ofNat, Nat.mod_eq_of_lt (by omega)]; omega
theorem Ok.chk7 {x : ℕ × ℕ × ℕ} (h : Ok x) : k0_chk7 (wd x).1 := h.chk2
theorem Ok.chk15 {x : ℕ × ℕ × ℕ} (h : Ok x) : k0_chk15 (wd x).1 := h.chk2

/-! ## The slot an item goes to -/

theorem rem12 : ∀ n : Fin 128, Scalar.remsi (BitVec.ofNat 32 n.val) 12#32 = BitVec.ofNat 32 (n.val % 12) := by decide
theorem rem12' : ∀ n : Fin 116, Scalar.remsi (Scalar.subi (BitVec.ofNat 32 (n.val + 12)) 12#32) 12#32 = BitVec.ofNat 32 (n.val % 12) := by decide

theorem slot_inb {w : BitVec 32} {m : ℕ} (h : w = BitVec.ofNat 32 (m % 12)) : w.toNat + 1 ≤ 12 := by
  have := Nat.mod_lt m (show 0 < 12 by decide)
  rw [h, BitVec.toNat_ofNat, Nat.mod_eq_of_lt (by omega)]; omega
theorem slot_toNat {w : BitVec 32} {m : ℕ} (h : w = BitVec.ofNat 32 (m % 12)) : w.toNat = m % 12 := by
  have := Nat.mod_lt m (show 0 < 12 by decide)
  rw [h, BitVec.toNat_ofNat, Nat.mod_eq_of_lt (by omega)]

theorem inb1_of {w : BitVec 32} (h : w.toNat + 1 ≤ 12) : ∀ a, (![w.toNat] : Fin 1 → ℕ) a + S1.size a ≤ S12.size a := by
  intro a; fin_cases a; exact h
theorem inbK_of {w : BitVec 32} (h : w.toNat + 1 ≤ 12) : ∀ a, (![w.toNat, 0, 0] : Fin 3 → ℕ) a + S1x512x2048.size a ≤ S12x512x2048.size a := by
  intro a; fin_cases a
  · exact h
  · show 0 + 512 ≤ 512; omega
  · show 0 + 2048 ≤ 2048; omega
theorem inbS_of {w : BitVec 32} (h : w.toNat + 1 ≤ 12) : ∀ a, (![w.toNat, 0, 0] : Fin 3 → ℕ) a + S1x8x2048.size a ≤ S12x8x2048.size a := by
  intro a; fin_cases a
  · exact h
  · show 0 + 8 ≤ 8; omega
  · show 0 + 2048 ≤ 2048; omega

theorem chk4_of {n : ℕ} (hn : n < 116) : k0_chk4 (BitVec.ofNat 32 (n + 12)) :=
  have h := slot_inb (rem12' ⟨n, hn⟩)
  ⟨inb1_of h, inbK_of h, fun _ => words12 rfl, inbS_of h, inbK_of h, inbS_of h⟩
theorem chk12_of {n : ℕ} (hn : n < 116) : k0_chk12 (BitVec.ofNat 32 (n + 12)) :=
  have h := slot_inb (rem12' ⟨n, hn⟩)
  ⟨inb1_of h, inbK_of h, fun _ => words12 rfl, inbS_of h, inbS_of h, inbK_of h⟩
theorem chk6_of {n : ℕ} (hn : n < 128) (wb wk : BitVec 32) : k0_chk6 (BitVec.ofNat 32 n) wb wk :=
  have h := slot_inb (rem12 ⟨n, hn⟩)
  ⟨fun _ => inb1_of h, fun _ => inbK_of h, fun _ _ => words12 rfl, fun _ => inbS_of h,
   fun _ => inb1_of h, fun _ => inbK_of h, fun _ _ => words12 rfl, fun _ => inbS_of h⟩
theorem chk14_of {n : ℕ} (hn : n < 128) (wb wk : BitVec 32) : k0_chk14 (BitVec.ofNat 32 n) wb wk :=
  have h := slot_inb (rem12 ⟨n, hn⟩)
  ⟨fun _ => inb1_of h, fun _ => inbK_of h, fun _ _ => words12 rfl, fun _ => inbS_of h,
   fun _ => inb1_of h, fun _ => inbK_of h, fun _ _ => words12 rfl, fun _ => inbS_of h⟩

/-! ## The loops over the chunks -/

/-- The loop over `x` chunks. -/
abbrev chunkLoop (x : BitVec 32) : Scf.Loop 32 := ⟨0#32, Scalar.addi 0#32 (Scalar.muli (Scalar.divsi (Scalar.subi x 0#32) 1#32) 1#32), 1#32⟩

theorem chunkLoop_facts : ∀ n : Fin 9, (chunkLoop (BitVec.ofNat 32 n.val)).trips = n.val ∧ (chunkLoop (BitVec.ofNat 32 n.val)).OK := by decide

theorem t3_loop_eq (v : BitVec 32) : k0_t3_loop v = chunkLoop (ncW v) := rfl
theorem t5_loop_eq (v : BitVec 32) : k0_t5_loop v = chunkLoop (ncW v) := rfl

/-- The remainder loop's operands: it makes no trip. -/
abbrev restLoop (x : BitVec 32) : Scf.Loop 32 := ⟨Scalar.addi 0#32 (Scalar.muli (Scalar.divsi (Scalar.subi x 0#32) 1#32) 1#32), Scalar.addi 0#32 (Scalar.subi x 0#32), 1#32⟩
theorem restLoop_facts : ∀ n : Fin 9, (restLoop (BitVec.ofNat 32 n.val)).trips = 0 ∧ (restLoop (BitVec.ofNat 32 n.val)).OK := by decide

theorem row_inb {n : ℕ} (hn : n < 8) : ∀ a, (![(Scf.iv 0#32 1#32 n : BitVec 32).toNat, 0, 0] : Fin 3 → ℕ) a + S1x32x2048.size a ≤ S8x32x2048.size a := by
  have hiv : ∀ k : Fin 8, (Scf.iv 0#32 1#32 k.val : BitVec 32).toNat = k.val := by decide
  have e := hiv ⟨n, hn⟩
  intro a; fin_cases a
  · show (Scf.iv 0#32 1#32 n : BitVec 32).toNat + 1 ≤ 8
    simp only at e; omega
  · show 0 + 32 ≤ 32; omega
  · show 0 + 2048 ≤ 2048; omega

section Len
variable {len : ℕ} (h : len ≤ 16384)
include h

theorem t3_trips : (k0_t3_loop (BitVec.ofNat 32 len)).trips = ncN len := by
  rw [t3_loop_eq, ncW_eq h]
  exact (chunkLoop_facts ⟨ncN len, by have := ncN_le h; omega⟩).1
theorem t5_trips : (k0_t5_loop (BitVec.ofNat 32 len)).trips = ncN len := t3_trips h
theorem t4_trips : (k0_t4_loop (BitVec.ofNat 32 len)).trips = 0 := by
  show (restLoop (ncW _)).trips = 0
  rw [ncW_eq h]
  exact (restLoop_facts ⟨ncN len, by have := ncN_le h; omega⟩).1
theorem t6_trips : (k0_t6_loop (BitVec.ofNat 32 len)).trips = 0 := t4_trips h

theorem t3_ok : (k0_t3_loop (BitVec.ofNat 32 len)).OK := by
  rw [t3_loop_eq, ncW_eq h]
  exact (chunkLoop_facts ⟨ncN len, by have := ncN_le h; omega⟩).2
theorem t4_ok : (k0_t4_loop (BitVec.ofNat 32 len)).OK := by
  show (restLoop (ncW _)).OK
  rw [ncW_eq h]
  exact (restLoop_facts ⟨ncN len, by have := ncN_le h; omega⟩).2

theorem t5_ok : (k0_t5_loop (BitVec.ofNat 32 len)).OK := by
  rw [t5_loop_eq, ncW_eq h]
  exact (chunkLoop_facts ⟨ncN len, by have := ncN_le h; omega⟩).2
theorem t6_ok : (k0_t6_loop (BitVec.ofNat 32 len)).OK := by
  show (restLoop (ncW _)).OK
  rw [ncW_eq h]
  exact (restLoop_facts ⟨ncN len, by have := ncN_le h; omega⟩).2

theorem chk3_of : k0_chk3 (BitVec.ofNat 32 len) := by
  have h8 := ncN_le h
  have h3 := t3_trips h
  have h4 := t4_trips h
  have h5 := t5_trips h
  have h6 := t6_trips h
  have o3 := t3_ok h
  have o4 := t4_ok h
  have o5 := t5_ok h
  have o6 := t6_ok h
  unfold k0_chk3
  generalize hv : BitVec.ofNat 32 len = v at *
  refine ⟨o3, ?_, o4, ?_, o5, ?_, o6, ?_⟩
  · intro k; exact row_inb (by have := k.isLt; omega)
  · intro k; exfalso; have := k.isLt; omega
  · intro k; exact row_inb (by have := k.isLt; omega)
  · intro k; exfalso; have := k.isLt; omega

end Len

end Cert.KernelIdeal.Hand

end
-- ==== Proof.StateI.lean ====
/-
  The state of the ring at each point of the walk, and the pieces of a slot put back together.
-/
module

public import proofs.«01_k».proof.Proof.WordsI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The scratch buffers -/

abbrev lenM : Memref sig .tc .smem S4 .i32 := Memref.whole cc0_scratch3
abbrev qM : Memref sig .tc .vmem S4x32x512 .bf16 := Memref.whole cc0_scratch6
abbrev snM : Memref sig .tc .vmem S4x32x128 .f32 := Memref.whole cc0_scratch7
abbrev sbM : Memref sig .tc .vmem S8x32x2048 .f32 := Memref.whole cc0_scratch8
abbrev mM : Memref sig .tc .vmem S32x128 .f32 := Memref.whole cc0_scratch9
abbrev lM : Memref sig .tc .vmem S32x128 .f32 := Memref.whole cc0_scratch10
abbrev accM : Memref sig .tc .vmem S512x32 .f32 := Memref.whole cc0_scratch11

/-- A scratch buffer held whole. -/
abbrev own (c : Dev nD) {sp : Space} {S : Shape} {e : EltTy} (M : Memref sig .tc sp S e) (f : BufOf F c M) : sProp 𝕄 :=
  M.view.loc (c : Thread nD τ) ↦[M.view.set]{fullShare} f

/-! ## What slot holds which item -/

instance (wb wc : BitVec 32) : Decidable (InC wb wc) := by unfold InC; infer_instance

/-- The state of the slot item `x` was sent to: busy with the item's chunk, or free if the item is past the last sequence. -/
def stN (x : ℕ × ℕ × ℕ) : St :=
  if h : InC (wd x).1 (wd x).2.2 then (if x.2.1 = 0 then .k (wd x).1 (wd x).2.2 h else .v (wd x).1 (wd x).2.2 h) else .free

theorem stN_k {x : ℕ × ℕ × ℕ} (h : InC (wd x).1 (wd x).2.2) (hk : x.2.1 = 0) : stN x = .k (wd x).1 (wd x).2.2 h := by
  unfold stN; rw [dif_pos h, if_pos hk]
theorem stN_v {x : ℕ × ℕ × ℕ} (h : InC (wd x).1 (wd x).2.2) (hk : x.2.1 = 1) : stN x = .v (wd x).1 (wd x).2.2 h := by
  unfold stN; rw [dif_pos h, if_neg (by omega)]
theorem stN_free {x : ℕ × ℕ × ℕ} (h : Ok x) (hb : 4 ≤ x.1) : stN x = .free := by
  unfold stN
  rw [dif_neg]
  rintro ⟨h1, -⟩
  have h2 : (BitVec.ofNat 32 x.1).toNat < 4 := h1
  have := h.b
  rw [BitVec.toNat_ofNat, Nat.mod_eq_of_lt (by omega)] at h2
  omega

section Ring
variable (ln : ℕ → ℕ)

/-- The slot of item `n`. -/
abbrev sl (n : ℕ) : Fin 12 := ⟨n % 12, Nat.mod_lt _ (by decide)⟩

/-- The ring with items `n … n + 11` sent. -/
def ring (n : ℕ) (j : Fin 12) : St := stN (it ln (n + ((j.val + 12 - n % 12) % 12)))

/-- The ring with items `0 … k - 1` sent and the other slots free. -/
def prime (k : ℕ) (j : Fin 12) : St := if j.val < k then stN (it ln j.val) else .free

theorem ring_at (n : ℕ) : ring ln n (sl n) = stN (it ln n) := by
  unfold ring; congr 2; show n + ((n % 12 + 12 - n % 12) % 12) = n; omega

theorem ring_step (n : ℕ) : ring ln (n + 1) = Function.update (ring ln n) (sl n) (stN (it ln (n + 12))) := by
  funext j
  by_cases hj : j = sl n
  · subst hj
    rw [Function.update_self]
    unfold ring; congr 2
    show n + 1 + ((n % 12 + 12 - (n + 1) % 12) % 12) = n + 12
    omega
  · rw [Function.update_of_ne hj]
    unfold ring; congr 2
    have h1 : j.val ≠ n % 12 := fun h => hj (Fin.ext h)
    have := j.isLt
    omega

theorem prime_zero : prime ln 0 = fun _ => .free := by
  funext j; unfold prime; rw [if_neg (by omega)]

theorem prime_at (k : Fin 12) : prime ln k.val k = .free := by
  unfold prime; rw [if_neg (by omega)]

theorem prime_step (k : Fin 12) : prime ln (k.val + 1) = Function.update (prime ln k.val) k (stN (it ln k.val)) := by
  funext j
  by_cases hj : j = k
  · subst hj
    rw [Function.update_self]
    unfold prime; rw [if_pos (by omega)]
  · rw [Function.update_of_ne hj]
    have h1 : j.val ≠ k.val := fun h => hj (Fin.ext h)
    unfold prime
    by_cases h : j.val < k.val
    · rw [if_pos h, if_pos (by omega)]
    · rw [if_neg h, if_neg (by omega)]

theorem prime_full : prime ln 12 = ring ln 0 := by
  funext j
  unfold prime ring
  have := j.isLt
  rw [if_pos this]; congr 2
  show j.val = 0 + ((j.val + 12 - 0 % 12) % 12)
  omega

end Ring

/-! ## A slot given back -/

theorem blkK_sub {c : Dev nD} {A : Memref sig .tc .hbm S4x512x16384 .i8} {wb wc : BitVec 32} (h : InC wb wc) : (blkK A wb wc h).view.set ⊆ A.view.set :=
  (View.set_reshape (A.view.slice (Rect.unit (s := S4x512x16384) (offC wb wc) S1x512x2048.size h.k)) _).subset.trans (View.set_slice_subset _ _)
theorem blkS_sub {c : Dev nD} {A : Memref sig .tc .hbm S4x8x16384 .f32} {wb wc : BitVec 32} (h : InC wb wc) : (blkS A wb wc h).view.set ⊆ A.view.set :=
  (View.set_reshape (A.view.slice (Rect.unit (s := S4x8x16384) (offC wb wc) S1x8x2048.size h.s)) _).subset.trans (View.set_slice_subset _ _)

/-- A read share given back whole from a lent piece and the rest. -/
theorem tok_join (c : Dev nD) {S : Shape} {e : EltTy} (A : Memref sig .tc .hbm S e) (j : Fin 12) (I : Finset (Idx (A.view.loc (c : Thread nD τ)))) (hI : I ⊆ A.view.set) (f : BufOf F c A) :
    iprop(tok c A j I f ∗ tok c A j (A.view.set \ I) f) ⊢ (tok c A j A.view.set f : sProp 𝕄) :=
  (pointsTo_split_subset hI).2

/-- The slot of a chunk of the keys, both copies landed. -/
theorem back_k (c : Dev nD) (s : Src F c) (j j' : Fin 12) (hj : j = j') (wb wc : BitVec 32) (h : InC wb wc) (f : BufOf F c (kslot j)) (g : BufOf F c (sslot j)) :
    iprop(semVal ((c : Thread nD τ), SemLoc.dma (cellJ j)) 0
      ∗ ((kslot j).view.loc (c : Thread nD τ) ↦[(kslot j).view.set]{fullShare} f)
      ∗ ((sslot j).view.loc (c : Thread nD τ) ↦[(sslot j).view.set]{fullShare} g)
      ∗ tok c aK j (blkK aK wb wc h).view.set s.k ∗ tok c aKs j (blkS aKs wb wc h).view.set s.ks
      ∗ tok c aK j (aK.view.set \ (blkK aK wb wc h).view.set) s.k ∗ tok c aKs j (aKs.view.set \ (blkS aKs wb wc h).view.set) s.ks
      ∗ tok c aV j aV.view.set s.v ∗ tok c aVs j aVs.view.set s.vs)
      ⊢ (Φ c s j' .free : sProp 𝕄) := by
  subst hj
  iintro ⟨Hc, Hk, Hs, Ha, Hb, Ha', Hb', Hv, Hvs⟩
  isplitl [Hc]; · iexact Hc
  isplitl [Hk]; · iexists f; iexact Hk
  isplitl [Hs]; · iexists g; iexact Hs
  isplitl [Ha Ha']
  · iapply (tok_join c aK j (blkK aK wb wc h).view.set (blkK_sub (c := c) (A := aK) h) s.k)
    isplitl [Ha]; · iexact Ha
    iexact Ha'
  isplitl [Hb Hb']
  · iapply (tok_join c aKs j (blkS aKs wb wc h).view.set (blkS_sub (c := c) (A := aKs) h) s.ks)
    isplitl [Hb]; · iexact Hb
    iexact Hb'
  isplitl [Hv]; · iexact Hv
  iexact Hvs

/-- The slot of a chunk of the values, both copies landed. -/
theorem back_v (c : Dev nD) (s : Src F c) (j j' : Fin 12) (hj : j = j') (wb wc : BitVec 32) (h : InC wb wc) (f : BufOf F c (kslot j)) (g : BufOf F c (sslot j)) :
    iprop(semVal ((c : Thread nD τ), SemLoc.dma (cellJ j)) 0
      ∗ ((kslot j).view.loc (c : Thread nD τ) ↦[(kslot j).view.set]{fullShare} f)
      ∗ ((sslot j).view.loc (c : Thread nD τ) ↦[(sslot j).view.set]{fullShare} g)
      ∗ tok c aV j (blkK aV wb wc h).view.set s.v ∗ tok c aVs j (blkS aVs wb wc h).view.set s.vs
      ∗ tok c aV j (aV.view.set \ (blkK aV wb wc h).view.set) s.v ∗ tok c aVs j (aVs.view.set \ (blkS aVs wb wc h).view.set) s.vs
      ∗ tok c aK j aK.view.set s.k ∗ tok c aKs j aKs.view.set s.ks)
      ⊢ (Φ c s j' .free : sProp 𝕄) := by
  subst hj
  iintro ⟨Hc, Hk, Hs, Ha, Hb, Ha', Hb', Hv, Hvs⟩
  isplitl [Hc]; · iexact Hc
  isplitl [Hk]; · iexists f; iexact Hk
  isplitl [Hs]; · iexists g; iexact Hs
  isplitl [Hv]; · iexact Hv
  isplitl [Hvs]; · iexact Hvs
  isplitl [Ha Ha']
  · iapply (tok_join c aV j (blkK aV wb wc h).view.set (blkK_sub (c := c) (A := aV) h) s.v)
    isplitl [Ha]; · iexact Ha
    iexact Ha'
  iapply (tok_join c aVs j (blkS aVs wb wc h).view.set (blkS_sub (c := c) (A := aVs) h) s.vs)
  isplitl [Hb]; · iexact Hb
  iexact Hb'

end Cert.KernelIdeal.Hand

end
-- ==== Proof.SpecI.lean ====
module
public import proofs.«01_k».proof.Proof.StateI
import Idealize.ShloMosaic.Lib.VecWindow
import Idealize.ShloMosaic.Lib.WritesUnit
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scalar buffer `fl` holds the lengths `ln 0 … ln 3`. -/
def LenOk (c : Dev nD) (fl : BufOf F c lenM) (ln : ℕ → ℕ) : Prop :=
  ∀ (off : Fin 1 → ℕ) (hi : ∀ a, off a + S1.size a ≤ S4.size a) (i : (Rect.unit (s := S4) off S1.size hi).shape.Idx),
    View.readAt (Elt F) lenM.view (Rect.unit (s := S4) off S1.size hi).toLoadRect fl i = BitVec.ofNat 32 (ln (off 0))

theorem LenOk.min {c : Dev nD} {fl : BufOf F c lenM} {ln : ℕ → ℕ} (h : LenOk c fl ln) {x : ℕ × ℕ × ℕ} (hx : Ok x)
    (hi : ∀ a, (k0_off11 (wd x).1) a + S1.size a ≤ S4.size a) (i : (Rect.unit (s := S4) (k0_off11 (wd x).1) S1.size hi).shape.Idx) :
    View.readAt (Elt F) lenM.view (Rect.unit (s := S4) (k0_off11 (wd x).1) S1.size hi).toLoadRect fl i = BitVec.ofNat 32 (ln (min x.1 3)) := by
  refine (h _ hi i).trans (congrArg (fun n => BitVec.ofNat 32 (ln n)) ?_)
  have h3 : Scalar.minsi (BitVec.ofNat 32 x.1) 3#32 = BitVec.ofNat 32 (Nat.min x.1 3) := min3 ⟨x.1, hx.b⟩
  show (Scalar.minsi (BitVec.ofNat 32 x.1) 3#32).toNat = Nat.min x.1 3
  rw [h3, BitVec.toNat_ofNat, Nat.mod_eq_of_lt]
  exact lt_of_le_of_lt (Nat.min_le_right _ _) (by decide)

/-- The words after an item are the next item's. -/
theorem LenOk.next {c : Dev nD} {fl : BufOf F c lenM} {ln : ℕ → ℕ} (h : LenOk c fl ln) (hl : ∀ i, ln i ≤ 16384) {x : ℕ × ℕ × ℕ} (hx : Ok x)
    (hi : ∀ a, (k0_off11 (wd x).1) a + S1.size a ≤ S4.size a) (i : (Rect.unit (s := S4) (k0_off11 (wd x).1) S1.size hi).shape.Idx) :
    nxW (View.readAt (Elt F) lenM.view (Rect.unit (s := S4) (k0_off11 (wd x).1) S1.size hi).toLoadRect fl i) (wd x).1 (wd x).2.1 (wd x).2.2 = wd (nx ln x) := by
  rw [h.min hx hi i]
  exact nxW_eq ln hl x (by have := hx.κ; omega) hx.c

theorem to_q {α : Type} {P : sProp 𝕄} {Q : α → sProp 𝕄} {a b : α} (h : a = b) (H : P ⊢ Q b) : P ⊢ Q a := h ▸ H
theorem read_unsqueezed {κ : Kind} {sp : Space} {s s' : Shape} {e : EltTy} (v : View sig κ sp s e) (h : s'.numel = s.numel) (f : v.ty.Contents (Elt F)) (w : s'.Idx → Elt F e) :
    v.read (Elt F) ((v.reshape s' h).writes (Elt F) f [⟨Rect.whole s', w⟩]) = fun z => w ((Shape.reshapeEquiv h).symm z) := by
  have key : (v.reshape s' h).read (Elt F) ((v.reshape s' h).writes (Elt F) f [⟨Rect.whole s', w⟩]) = w := View.read_writes_full _ _ _ _ _
  funext z
  have := congrFun key ((Shape.reshapeEquiv h).symm z)
  rw [← this]
  show _ = View.read (Elt F) v _ (Shape.reshapeEquiv h ((Shape.reshapeEquiv h).symm z))
  rw [Equiv.apply_symm_apply]

/-! ## What a trip computes -/

/-- The column numbers of a chunk. -/
abbrev iotaV : IVec S32x2048 32 := iota .tc S32x2048 32 [1] iota_S32x2048_d1_w32

/-- The masked scores of a chunk: `q` the sequence's queries, `kv` and `sv` the chunk and its scales, `a29` its number, `v256` the length. -/
def kS (v256 a29 : BitVec 32) (q : Vec F S1x32x512 .bf16) (kv : Vec F S1x512x2048 .i8) (sv : Vec F S1x8x2048 .f32) : FVec F S1x32x2048 .f32 :=
  k0_pay6 v256 a29 (k0_pay4 q kv sv) iotaV
/-- The running maxima after it. -/
def kM (v256 a29 : BitVec 32) (q : Vec F S1x32x512 .bf16) (kv : Vec F S1x512x2048 .i8) (sv : Vec F S1x8x2048 .f32) (M : Vec F S32x128 .f32) : FVec F S32x128 .f32 :=
  k0_pay11 (k0_pay7 v256 a29 (k0_pay4 q kv sv) iotaV M)
/-- The running sums after it. -/
def kL (v256 a29 : BitVec 32) (q : Vec F S1x32x512 .bf16) (kv : Vec F S1x512x2048 .i8) (sv : Vec F S1x8x2048 .f32) (M L : Vec F S32x128 .f32) : FVec F S32x128 .f32 :=
  k0_pay10 (k0_pay9 (k0_pay5 v256 a29 (k0_pay4 q kv sv) iotaV) (k0_pay7 v256 a29 (k0_pay4 q kv sv) iotaV M) (k0_pay8 v256 a29 (k0_pay4 q kv sv) iotaV M L))
/-- The accumulator after a chunk of the values: `pr` the chunk's scores, `v280`, `v292` the maximum and the inverse of the sum. -/
def kA (v280 v292 : FVec F S32x1 .f32) (pr : Vec F S1x32x2048 .f32) (kv : Vec F S1x512x2048 .i8) (sv : Vec F S1x8x2048 .f32) (A : Vec F S512x32 .f32) : FVec F S512x32 .f32 :=
  k0_pay29 (k0_pay20 v280 v292 pr sv) A kv

/-- The running maxima, sums and the accumulator a buffer holds. -/
abbrev rdM (c : Dev nD) (f : BufOf F c mM) : Vec F S32x128 .f32 := View.readAt (Elt F) mM.view (Rect.unit (s := S32x128) ![0, 0] S32x128.size inb_S32x128_S32x128_0_0).toLoadRect f
abbrev rdL (c : Dev nD) (f : BufOf F c lM) : Vec F S32x128 .f32 := View.readAt (Elt F) lM.view (Rect.unit (s := S32x128) ![0, 0] S32x128.size inb_S32x128_S32x128_0_0).toLoadRect f
abbrev rdA (c : Dev nD) (f : BufOf F c accM) : Vec F S512x32 .f32 := View.readAt (Elt F) accM.view (Rect.unit (s := S512x32) ![0, 0] S512x32.size inb_S512x32_S512x32_0_0).toLoadRect f
/-- The queries of sequence `b`. -/
abbrev rdQ (c : Dev nD) (f : BufOf F c qM) (b : Fin k0_t2_loop.trips) : Vec F S1x32x512 .bf16 := View.readAt (Elt F) qM.view (Rect.unit (s := S4x32x512) (k0_off17 b) S1x32x512.size (k0_off17_inb b)).toLoadRect f
/-- Row `off` of the score buffer. -/
abbrev rdS (c : Dev nD) (f : BufOf F c sbM) (off : Fin 3 → ℕ) (hi : ∀ a, off a + S1x32x2048.size a ≤ S8x32x2048.size a) : Vec F S1x32x2048 .f32 := View.readAt (Elt F) sbM.view (Rect.unit (s := S8x32x2048) off S1x32x2048.size hi).toLoadRect f

/-- A chunk as the ring returns it. -/
def slabK (v : S512x2048.Idx → Elt F .i8) : Vec F S1x512x2048 .i8 := fun z => v ((Shape.reshapeEquiv squeezes_S1x512x2048_S512x2048.numel_eq).symm z)
def slabS (v : S8x2048.Idx → Elt F .f32) : Vec F S1x8x2048 .f32 := fun z => v ((Shape.reshapeEquiv squeezes_S1x8x2048_S8x2048.numel_eq).symm z)
/-- What a trip over the keys leaves in the score buffer, the maxima and the sums. -/
structure K3 (c : Dev nD) (v256 a29 : BitVec 32) (q : Vec F S1x32x512 .bf16) (kv : Vec F S1x512x2048 .i8) (sv : Vec F S1x8x2048 .f32) (k : ℕ)
    (fs fs' : BufOf F c sbM) (fm fm' : BufOf F c mM) (fll fll' : BufOf F c lM) : Prop where
  m : rdM c fm' = kM v256 a29 q kv sv (rdM c fm)
  l : rdL c fll' = kL v256 a29 q kv sv (rdM c fm) (rdL c fll)
  here : ∀ (off : Fin 3 → ℕ) (hi), off = ![k, 0, 0] → rdS c fs' off hi = kS v256 a29 q kv sv
  away : ∀ (off : Fin 3 → ℕ) (hi), off 0 ≠ k → rdS c fs' off hi = rdS c fs off hi

theorem iv_lt8 : ∀ k : Fin 8, (Scf.iv 0#32 1#32 k.val : BitVec 32) = BitVec.ofNat 32 k.val := by decide
theorem iv_lt8' : ∀ k : Fin 8, (Scf.iv 0#32 1#32 k.val : BitVec 32).toNat = k.val := by decide

/-- A row of the score buffer read after a store to that row, and after a store to another. -/
theorem rdS_here (c : Dev nD) (f : BufOf F c sbM) (off off' : Fin 3 → ℕ) (hi hi') (w : Vec F S1x32x2048 .f32) (h : off' = off) :
    rdS c (sbM.view.writes (Elt F) f [⟨Rect.unit (s := S8x32x2048) off' S1x32x2048.size hi', w⟩]) off hi = w := by
  funext x
  exact View.read_writes_cons_unit_of_mem sbM.view f hi' w [] _ x h fun a => by
    show off a + 1 * (x a).val = off a + (x a).val
    omega
theorem rdS_away (c : Dev nD) (f : BufOf F c sbM) (off off' : Fin 3 → ℕ) (hi hi') (w : Vec F S1x32x2048 .f32) (h : off 0 ≠ off' 0) :
    rdS c (sbM.view.writes (Elt F) f [⟨Rect.unit (s := S8x32x2048) off' S1x32x2048.size hi', w⟩]) off hi = rdS c f off hi := by
  funext x
  refine View.read_writes_cons_unit_of_not_mem sbM.view f hi' w [] _ rfl (0 : Fin 3) ?_
  have hx : (x (0 : Fin 3)).val < 1 := (x (0 : Fin 3)).isLt
  show off 0 + 1 * (x 0).val < off' 0 ∨ off' 0 + 1 ≤ off 0 + 1 * (x 0).val
  omega

/-- The facts of a trip over the keys, of the buffers its stores leave. -/
theorem k3_of (c : Dev nD) (v251 v256 a29 : BitVec 32) (hw3 : k0_chk3 v251) (k : Fin (k0_t3_loop v251).trips) (hk : k.val < 8)
    (q : Vec F S1x32x512 .bf16) (kv : Vec F S1x512x2048 .i8) (sv : Vec F S1x8x2048 .f32)
    (fs : BufOf F c sbM) (fm : BufOf F c mM) (fll : BufOf F c lM) (w1 w2 w3)
    (h1 : w1 = kS v256 a29 q kv sv) (h2 : w2 = kM v256 a29 q kv sv (rdM c fm)) (h3 : w3 = kL v256 a29 q kv sv (rdM c fm) (rdL c fll)) :
    K3 c v256 a29 q kv sv k.val fs (sbM.view.writes (Elt F) fs [⟨Rect.unit (s := S8x32x2048) (k0_off20 v251 k) S1x32x2048.size (k0_off20_inb v251 hw3 k), w1⟩])
      fm (mM.view.writes (Elt F) fm [⟨Rect.unit (s := S32x128) ![0, 0] S32x128.size inb_S32x128_S32x128_0_0, w2⟩])
      fll (lM.view.writes (Elt F) fll [⟨Rect.unit (s := S32x128) ![0, 0] S32x128.size inb_S32x128_S32x128_0_0, w3⟩]) := by
  subst h1 h2 h3
  have e0 : k0_off20 v251 k = ![k.val, 0, 0] := by
    show ![(Scf.iv 0#32 1#32 k.val : BitVec 32).toNat, 0, 0] = _
    rw [iv_lt8' ⟨k.val, hk⟩]
  exact ⟨View.readAt_writes_full mM.view _ _ _ _ _, View.readAt_writes_full lM.view _ _ _ _ _,
    fun off hi h => rdS_here c _ _ _ _ _ _ (e0.trans h.symm), fun off hi h => rdS_away c _ _ _ _ _ _ (by rw [e0]; exact h)⟩

theorem Φ_cast (c : Dev nD) (s : Src F c) {j j' : Fin 12} (h : j = j') (st : St) : Φ c s j st ⊢ Φ c s j' st := h ▸ .rfl

end Cert.KernelIdeal.Hand
end
-- ==== Proof.Trip1I.lean ====
module
public import proofs.«01_k».proof.Proof.SpecI
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A trip of the loop that fills the ring -/

/-- The slot of prime trip `k`. -/
abbrev slotOf1 (k : Fin k0_t1_loop.trips) : Fin 12 := ⟨(k0_off1 k) 0, by have := k0_off1_inb k 0; exact this⟩

theorem t1_trip (c : Dev nD) (s : Src F c) (fl : BufOf F c lenM) (ln : ℕ → ℕ) (hl : ∀ i, ln i ≤ 16384) (hL : LenOk c fl ln)
    (k : Fin k0_t1_loop.trips) (x : ℕ × ℕ × ℕ) (hx : Ok x)
    (Q : BitVec 32 × BitVec 32 × BitVec 32 → sProp 𝕄)
    (m8 : Memref sig .tc .vmem S4x32x64 .bf16) (hm8 : m8.IsWhole) :
    iprop(Φ c s (slotOf1 k) .free ∗ own c lenM fl ∗ (Φ c s (slotOf1 k) (stN x) ∗ own c lenM fl -∗ Q (wd (nx ln x))))
      ⊢ wp frame (wpE (defs₀ (F := F)) Variants.none (c : Thread nD τ) none) Set.univ (k0_t1_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 k (wd x)) Q := by
  have hc2 := hx.chk2
  have hc1 := hx.chk1
  have e1 := hx.cond1
  have e2 := hx.cond2
  by_cases hK : x.1 < 4 ∧ x.2.1 = 0
  · rw [if_pos hK] at e1
    rw [if_neg (by omega)] at e2
    have e2' : ¬ k0_cond2 (wd x).1 (wd x).2.1 = 1#1 := by rw [e2]; decide
    have hin := hx.inC hK.1
    rw [stN_k hin hK.2]
    iintro ⟨⟨Hcell, ⟨%f, Hk⟩, ⟨%g, Hs⟩, HtK, HtKs, HtV, HtVs⟩, Hlen, Hk'⟩
    imod (Transfers.mixedBatch_alloc' (Lvl := ℕ) (countersEmb (U := Pipeline.UD sig nD τ)) (c : Thread nD τ) () amts (deliv c (slotOf1 k) aK aKs s.k s.ks (wd x).1 (wd x).2.2 hin f g) (sm := SemLoc.dma (cellJ (slotOf1 k))) (E := Set.univ)) $$ Hcell with HB
    unfold k0_t1_body
    sl_exec
    rw [wp_ret]; imodintro
    ihave HQ : Q (wd (nx ln x)) $$ [HtV HtVs Hlen Hk' HtK HB HtKs]
    · iapply Hk'
      isplitr [Hlen]
      · isplitl [HB HtK HtKs]
        · isplitl [HB]; · iexists f, g; iexact HB
          isplitl [HtK]; · iexact HtK
          iexact HtKs
        isplitl [HtV]; · iexact HtV
        iexact HtVs
      iexact Hlen
    istop
    exact to_q (Q := Q) (hL.next hl hx hc2 _) .rfl
  rw [if_neg hK] at e1
  have e1' : ¬ k0_cond1 (wd x).1 (wd x).2.1 = 1#1 := by rw [e1]; decide
  clear hK
  by_cases hK : x.1 < 4 ∧ x.2.1 = 1
  · rw [if_pos hK] at e2
    have hin := hx.inC hK.1
    rw [stN_v hin hK.2]
    iintro ⟨⟨Hcell, ⟨%f, Hk⟩, ⟨%g, Hs⟩, HtK, HtKs, HtV, HtVs⟩, Hlen, Hk'⟩
    imod (Transfers.mixedBatch_alloc' (Lvl := ℕ) (countersEmb (U := Pipeline.UD sig nD τ)) (c : Thread nD τ) () amts (deliv c (slotOf1 k) aV aVs s.v s.vs (wd x).1 (wd x).2.2 hin f g) (sm := SemLoc.dma (cellJ (slotOf1 k))) (E := Set.univ)) $$ Hcell with HB
    unfold k0_t1_body
    sl_exec
    rw [wp_ret]; imodintro
    ihave HQ : Q (wd (nx ln x)) $$ [HtV HtVs Hlen Hk' HtK HB HtKs]
    · iapply Hk'
      isplitr [Hlen]
      · isplitl [HB HtV HtVs]
        · isplitl [HB]; · iexists f, g; iexact HB
          isplitl [HtV]; · iexact HtV
          iexact HtVs
        isplitl [HtK]; · iexact HtK
        iexact HtKs
      iexact Hlen
    istop
    exact to_q (Q := Q) (hL.next hl hx hc2 _) .rfl
  rw [if_neg hK] at e2
  have e2' : ¬ k0_cond2 (wd x).1 (wd x).2.1 = 1#1 := by rw [e2]; decide
  have hb : 4 ≤ x.1 := by
    by_contra hb
    have hκ := hx.κ
    rcases Nat.lt_or_ge x.2.1 1 with h | h
    · rw [hx.cond1, if_pos (by omega)] at e1; exact absurd e1 (by decide)
    · exact hK (by omega)
  rw [stN_free hx hb]
  iintro ⟨Hslot, Hlen, Hk'⟩
  unfold k0_t1_body
  sl_exec
  rw [wp_ret]; imodintro
  ihave HQ : Q (wd (nx ln x)) $$ [Hslot Hlen Hk']
  · iapply Hk'
    isplitr [Hlen]; · iexact Hslot
    iexact Hlen
  istop
  exact to_q (Q := Q) (hL.next hl hx hc2 _) .rfl

end Cert.KernelIdeal.Hand
end
-- ==== Proof.Trip3I.lean ====
module
public import proofs.«01_k».proof.Proof.SpecI
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option pp.maxSteps 3000
set_option pp.deepTerms.threshold 12

/-! ## A trip over a chunk of the keys -/

/-- The slot of word `n`, as the loop over the keys spells it for its wait and for its next chunk. -/
abbrev slotW (n : BitVec 32) (h : k0_chk4 n) : Fin 12 := ⟨(k0_off14 n) 0, by have := k0_off14_inb n h 0; exact this⟩

theorem subK18 (n : BitVec 32) (h : k0_chk4 n) :
    (rK.access (Rect.unit (s := S12x512x2048) (k0_off18 n) S1x512x2048.size (k0_off18_inb n h))).set ⊆ (kslot (slotW n h)).view.set :=
  (View.set_reshape (rK.view.slice (Rect.unit (s := S12x512x2048) (k0_off18 n) S1x512x2048.size (k0_off18_inb n h))) _).symm.subset
theorem subS19 (n : BitVec 32) (h : k0_chk4 n) :
    (rS.access (Rect.unit (s := S12x8x2048) (k0_off19 n) S1x8x2048.size (k0_off19_inb n h))).set ⊆ (sslot (slotW n h)).view.set :=
  (View.set_reshape (rS.view.slice (Rect.unit (s := S12x8x2048) (k0_off19 n) S1x8x2048.size (k0_off19_inb n h))) _).symm.subset

theorem nw (n : ℕ) : (BitVec.ofNat 32 (n + 12) : BitVec 32) + 1#32 = BitVec.ofNat 32 (n + 1 + 12) := by
  rw [show n + 1 + 12 = (n + 12) + 1 from by omega, ← BitVec.ofNat_add]
set_option maxHeartbeats 4000000 in
theorem t3_trip (c : Dev nD) (s : Src F c) (b : Fin k0_t2_loop.trips) (fl : BufOf F c lenM) (fq : BufOf F c qM) (fs : BufOf F c sbM) (fm : BufOf F c mM) (fll : BufOf F c lM)
    (ln : ℕ → ℕ) (hl : ∀ i, ln i ≤ 16384) (hL : LenOk c fl ln)
    (v251 v256 : Elt F .i32) (hw3 : k0_chk3 v251) (k : Fin (k0_t3_loop v251).trips) (hk8 : k.val < 8) (W : Waits sig Unit)
    (n : ℕ) (hn : n < 100) (x : ℕ × ℕ × ℕ) (hx : Ok x)
    (a25 a26 a27 a28 a24 : BitVec 32) (cb cc : BitVec 32) (hin : InC cb cc)
    (Q : BitVec 32 × BitVec 32 × BitVec 32 × BitVec 32 → sProp 𝕄)
    (m8 : Memref sig .tc .vmem S4x32x64 .bf16) (hm8 : m8.IsWhole) :
    iprop(Φ c s (sl n) (.k cb cc hin) ∗ own c lenM fl ∗ own c qM fq ∗ own c sbM fs ∗ own c mM fm ∗ own c lM fll ∗ owes (c : Thread nD τ) 0 W
       ∗ ((∃ fs' fm' fll' W', ⌜K3 c v256 (Scf.iv 0#32 1#32 k.val) (rdQ c fq b) (slabK (View.read (Elt F) (blkK aK cb cc hin).view s.k)) (slabS (View.read (Elt F) (blkS aKs cb cc hin).view s.ks)) k.val fs fs' fm fm' fll fll'⌝
            ∗ Φ c s (sl n) (stN x) ∗ own c lenM fl ∗ own c qM fq ∗ own c sbM fs' ∗ own c mM fm' ∗ own c lM fll' ∗ owes (c : Thread nD τ) 0 W')
          -∗ Q (BitVec.ofNat 32 (n + 1 + 12), wd (nx ln x))))
      ⊢ wp frame (wpE (defs₀ (F := F)) Variants.none (c : Thread nD τ) none) Set.univ (k0_t3_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 0#32 1#32 b a25 a26 a27 a28 a24 v251 hw3 v256 k (BitVec.ofNat 32 (n + 12), wd x)) Q := by
  have hc4 : k0_chk4 (BitVec.ofNat 32 (n + 12)) := chk4_of (by omega)
  have hc5 := hx.chk5
  have hc6 : k0_chk6 (BitVec.ofNat 32 (n + 12)) (wd x).1 (wd x).2.1 := chk6_of (by omega) _ _
  have hc7 := hx.chk7
  have hSk := subK18 (BitVec.ofNat 32 (n + 12)) hc4
  have hSs := subS19 (BitVec.ofNat 32 (n + 12)) hc4
  have hW : sl n = slotW (BitVec.ofNat 32 (n + 12)) hc4 := Fin.ext (slot_toNat (rem12' ⟨n, by omega⟩)).symm
  rw [congrArg (fun j => Φ c s j (.k cb cc hin)) hW]
  iintro ⟨⟨⟨⟨%f, %g, HB⟩, HtK, HtKs⟩, HtV, HtVs⟩, Hlen, Hq, Hs, Hm, Hl, HO, Hk'⟩
  have eK := read_unsqueezed (F := F) (rK.view.slice (Rect.unit (s := S12x512x2048) (k0_off18 (BitVec.ofNat 32 (n + 12))) S1x512x2048.size (k0_off18_inb _ hc4))) squeezes_S1x512x2048_S512x2048.numel_eq (View.junk _) (View.read (Elt F) (blkK aK cb cc hin).view s.k)
  have eS := read_unsqueezed (F := F) (rS.view.slice (Rect.unit (s := S12x8x2048) (k0_off19 (BitVec.ofNat 32 (n + 12))) S1x8x2048.size (k0_off19_inb _ hc4))) squeezes_S1x8x2048_S8x2048.numel_eq (View.junk _) (View.read (Elt F) (blkS aKs cb cc hin).view s.ks)
  unfold k0_t3_body
  sl_exec
  by_cases hK : x.1 < 4 ∧ x.2.1 = 0
  · have e3 : k0_cond3 (wd x).1 (wd x).2.1 = 1#1 := (hx.cond1).trans (if_pos hK)
    have e4 : ¬ k0_cond4 (wd x).1 (wd x).2.1 = 1#1 := by
      rw [show k0_cond4 (wd x).1 (wd x).2.1 = _ from hx.cond2, if_neg (by omega)]; decide
    have hin' := hx.inC hK.1
    rw [stN_k hin' hK.2]
    have hj : slotW (BitVec.ofNat 32 (n + 12)) hc4 = (⟨(k0_off21 (BitVec.ofNat 32 (n + 12))) 0, by have := k0_off21_inb _ _ _ hc6 e3 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_k c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtK]; · iexact HtK
      isplitl [HtKs]; · iexact HtKs
      isplitl [HtV]; · iexact HtV
      iexact HtVs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off21 (BitVec.ofNat 32 (n + 12))) 0, by have := k0_off21_inb _ _ _ hc6 e3 0; exact this⟩ : Fin 12)) aK aKs s.k s.ks (wd x).1 (wd x).2.2 hin' f' g') (sm := SemLoc.dma (cellJ ((⟨(k0_off21 (BitVec.ofNat 32 (n + 12))) 0, by have := k0_off21_inb _ _ _ hc6 e3 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hq Hs Hm Hl HO Hk']
    · iapply Hk'
      iexists _, _, _, _
      isplitr [HB HtK HtKs HtV HtVs Hlen Hq Hs Hm Hl HO]
      rotate_left
      isplitl [HB HtK HtKs HtV HtVs]
      · iapply (Φ_cast c s (hW.trans hj).symm (.k (wd x).1 (wd x).2.2 hin'))
        isplitl [HB HtK HtKs]
        · isplitl [HB]; · iexists f', g'; iexact HB
          isplitl [HtK]; · iexact HtK
          iexact HtKs
        isplitl [HtV]; · iexact HtV
        iexact HtVs
      · isplitl [Hlen]; · iexact Hlen
        isplitl [Hq]; · iexact Hq
        isplitl [Hs]; · iexact Hs
        isplitl [Hm]; · iexact Hm
        isplitl [Hl]; · iexact Hl
        iexact HO
      · ipureintro
        exact k3_of c v251 v256 _ hw3 k hk8 _ _ _ fs fm fll _ _ _ (congrArg₂ (fun kv sv => kS v256 (Scf.iv 0#32 1#32 k.val) (rdQ c fq b) kv sv) eK eS) (congrArg₂ (fun kv sv => kM v256 (Scf.iv 0#32 1#32 k.val) (rdQ c fq b) kv sv (rdM c fm)) eK eS) (congrArg₂ (fun kv sv => kL v256 (Scf.iv 0#32 1#32 k.val) (rdQ c fq b) kv sv (rdM c fm) (rdL c fll)) eK eS)
    istop
    exact to_q (Q := Q) (congrArg₂ Prod.mk (nw n) (hL.next hl hx hx.chk7 _)) .rfl
  have e3 : ¬ k0_cond3 (wd x).1 (wd x).2.1 = 1#1 := by
    rw [show k0_cond3 (wd x).1 (wd x).2.1 = _ from hx.cond1, if_neg hK]; decide
  by_cases hV : x.1 < 4 ∧ x.2.1 = 1
  · have e4 : k0_cond4 (wd x).1 (wd x).2.1 = 1#1 := (hx.cond2).trans (if_pos hV)
    have hin' := hx.inC hV.1
    rw [stN_v hin' hV.2]
    have hj : slotW (BitVec.ofNat 32 (n + 12)) hc4 = (⟨(k0_off26 (BitVec.ofNat 32 (n + 12))) 0, by have := k0_off26_inb _ _ _ hc6 e4 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_k c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtK]; · iexact HtK
      isplitl [HtKs]; · iexact HtKs
      isplitl [HtV]; · iexact HtV
      iexact HtVs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off26 (BitVec.ofNat 32 (n + 12))) 0, by have := k0_off26_inb _ _ _ hc6 e4 0; exact this⟩ : Fin 12)) aV aVs s.v s.vs (wd x).1 (wd x).2.2 hin' f' g') (sm := SemLoc.dma (cellJ ((⟨(k0_off26 (BitVec.ofNat 32 (n + 12))) 0, by have := k0_off26_inb _ _ _ hc6 e4 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hq Hs Hm Hl HO Hk']
    · iapply Hk'
      iexists _, _, _, _
      isplitr [HB HtK HtKs HtV HtVs Hlen Hq Hs Hm Hl HO]
      rotate_left
      isplitl [HB HtK HtKs HtV HtVs]
      · iapply (Φ_cast c s (hW.trans hj).symm (.v (wd x).1 (wd x).2.2 hin'))
        isplitl [HB HtV HtVs]
        · isplitl [HB]; · iexists f', g'; iexact HB
          isplitl [HtV]; · iexact HtV
          iexact HtVs
        isplitl [HtK]; · iexact HtK
        iexact HtKs
      · isplitl [Hlen]; · iexact Hlen
        isplitl [Hq]; · iexact Hq
        isplitl [Hs]; · iexact Hs
        isplitl [Hm]; · iexact Hm
        isplitl [Hl]; · iexact Hl
        iexact HO
      · ipureintro
        exact k3_of c v251 v256 _ hw3 k hk8 _ _ _ fs fm fll _ _ _ (congrArg₂ (fun kv sv => kS v256 (Scf.iv 0#32 1#32 k.val) (rdQ c fq b) kv sv) eK eS) (congrArg₂ (fun kv sv => kM v256 (Scf.iv 0#32 1#32 k.val) (rdQ c fq b) kv sv (rdM c fm)) eK eS) (congrArg₂ (fun kv sv => kL v256 (Scf.iv 0#32 1#32 k.val) (rdQ c fq b) kv sv (rdM c fm) (rdL c fll)) eK eS)
    istop
    exact to_q (Q := Q) (congrArg₂ Prod.mk (nw n) (hL.next hl hx hx.chk7 _)) .rfl
  have e4 : ¬ k0_cond4 (wd x).1 (wd x).2.1 = 1#1 := by
    rw [show k0_cond4 (wd x).1 (wd x).2.1 = _ from hx.cond2, if_neg hV]; decide
  have hb : 4 ≤ x.1 := by
    by_contra hb
    have hκ := hx.κ
    rcases Nat.lt_or_ge x.2.1 1 with h | h
    · exact hK (by omega)
    · exact hV (by omega)
  rw [stN_free hx hb]
  ihave Hf := (back_k c s _ _ hW.symm cb cc hin _ _) $$ [HB HB_dst0 HB_dst1 HB_src0_in0 HB_src1_in1 HtK HtKs HtV HtVs]
  · isplitl [HB]; · iexact HB
    isplitl [HB_dst0]; · iexact HB_dst0
    isplitl [HB_dst1]; · iexact HB_dst1
    isplitl [HB_src0_in0]; · iexact HB_src0_in0
    isplitl [HB_src1_in1]; · iexact HB_src1_in1
    isplitl [HtK]; · iexact HtK
    isplitl [HtKs]; · iexact HtKs
    isplitl [HtV]; · iexact HtV
    iexact HtVs
  sl_exec
  rw [wp_ret]; imodintro
  ihave HQ : Q (BitVec.ofNat 32 (n + 1 + 12), wd (nx ln x)) $$ [Hf Hlen Hq Hs Hm Hl HO Hk']
  · iapply Hk'
    iexists _, _, _, _
    isplitr [Hf Hlen Hq Hs Hm Hl HO]
    rotate_left
    isplitl [Hf]; · iexact Hf
    · isplitl [Hlen]; · iexact Hlen
      isplitl [Hq]; · iexact Hq
      isplitl [Hs]; · iexact Hs
      isplitl [Hm]; · iexact Hm
      isplitl [Hl]; · iexact Hl
      iexact HO
    · ipureintro
      exact k3_of c v251 v256 _ hw3 k hk8 _ _ _ fs fm fll _ _ _ (congrArg₂ (fun kv sv => kS v256 (Scf.iv 0#32 1#32 k.val) (rdQ c fq b) kv sv) eK eS) (congrArg₂ (fun kv sv => kM v256 (Scf.iv 0#32 1#32 k.val) (rdQ c fq b) kv sv (rdM c fm)) eK eS) (congrArg₂ (fun kv sv => kL v256 (Scf.iv 0#32 1#32 k.val) (rdQ c fq b) kv sv (rdM c fm) (rdL c fll)) eK eS)
  istop
  exact to_q (Q := Q) (congrArg₂ Prod.mk (nw n) (hL.next hl hx hx.chk7 _)) .rfl

end Cert.KernelIdeal.Hand
end
-- ==== Proof.Trip5I.lean ====
module
public import proofs.«01_k».proof.Proof.Trip3I
import Idealize.ShloMosaic.Lib.VecWindow
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option pp.maxSteps 3000
set_option pp.deepTerms.threshold 12

/-! ## A trip over a chunk of the values -/

/-- The slot of word `n`, as the loop over the values spells it. -/
abbrev slotY (n : BitVec 32) (h : k0_chk12 n) : Fin 12 := ⟨(k0_off51 n) 0, by have := k0_off51_inb n h 0; exact this⟩

theorem subK56 (n : BitVec 32) (h : k0_chk12 n) :
    (rK.access (Rect.unit (s := S12x512x2048) (k0_off56 n) S1x512x2048.size (k0_off56_inb n h))).set ⊆ (kslot (slotY n h)).view.set :=
  (View.set_reshape (rK.view.slice (Rect.unit (s := S12x512x2048) (k0_off56 n) S1x512x2048.size (k0_off56_inb n h))) _).symm.subset
theorem subS55 (n : BitVec 32) (h : k0_chk12 n) :
    (rS.access (Rect.unit (s := S12x8x2048) (k0_off55 n) S1x8x2048.size (k0_off55_inb n h))).set ⊆ (sslot (slotY n h)).view.set :=
  (View.set_reshape (rS.view.slice (Rect.unit (s := S12x8x2048) (k0_off55 n) S1x8x2048.size (k0_off55_inb n h))) _).symm.subset

set_option maxHeartbeats 4000000 in
theorem t5_trip (c : Dev nD) (s : Src F c) (b : Fin k0_t2_loop.trips) (fl : BufOf F c lenM) (fs : BufOf F c sbM) (fa : BufOf F c accM)
    (ln : ℕ → ℕ) (hl : ∀ i, ln i ≤ 16384) (hL : LenOk c fl ln)
    (v251 : Elt F .i32) (hw3 : k0_chk3 v251) (k : Fin (k0_t5_loop v251).trips) (W : Waits sig Unit)
    (n : ℕ) (hn : n < 100) (x : ℕ × ℕ × ℕ) (hx : Ok x) (v128 : IVec S32x512 1) (v147 : IVec S32x8 1)
    (a24 v254 a25 a26 a27 a28 : BitVec 32) (v278 : Vec F S32x128 .f32) (v280 : FVec F S32x1 .f32) (v282 : FVec F S32x1 .f32) (v283 : Vec F S32x128 .f32) (v284 : FVec F S32x128 .f32)
    (cb cc : BitVec 32) (hin : InC cb cc)
    (Q : BitVec 32 × BitVec 32 × BitVec 32 × BitVec 32 → sProp 𝕄)
    (m8 : Memref sig .tc .vmem S4x32x64 .bf16) (hm8 : m8.IsWhole) :
    iprop(Φ c s (sl n) (.v cb cc hin) ∗ own c lenM fl ∗ own c sbM fs ∗ own c accM fa ∗ owes (c : Thread nD τ) 0 W
       ∗ ((∃ fa' W', ⌜rdA c fa' = kA v280 (k0_pay27 v278 v282 v283 v284) (rdS c fs (k0_off54 v251 k) (k0_off54_inb v251 hw3 k)) (slabK (View.read (Elt F) (blkK aV cb cc hin).view s.v)) (slabS (View.read (Elt F) (blkS aVs cb cc hin).view s.vs)) (rdA c fa)⌝
            ∗ Φ c s (sl n) (stN x) ∗ own c lenM fl ∗ own c sbM fs ∗ own c accM fa' ∗ owes (c : Thread nD τ) 0 W')
          -∗ Q (BitVec.ofNat 32 (n + 1 + 12), wd (nx ln x))))
      ⊢ wp frame (wpE (defs₀ (F := F)) Variants.none (c : Thread nD τ) none) Set.univ (k0_t5_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v128 v147 b a24 v251 hw3 v254 a25 a26 a27 a28 v278 v280 v282 v283 v284 k (BitVec.ofNat 32 (n + 12), wd x)) Q := by
  have hc12 : k0_chk12 (BitVec.ofNat 32 (n + 12)) := chk12_of (by omega)
  have hc13 := hx.chk13
  have hc14 : k0_chk14 (BitVec.ofNat 32 (n + 12)) (wd x).1 (wd x).2.1 := chk14_of (by omega) _ _
  have hc15 := hx.chk15
  have hSk := subK56 (BitVec.ofNat 32 (n + 12)) hc12
  have hSs := subS55 (BitVec.ofNat 32 (n + 12)) hc12
  have hW : sl n = slotY (BitVec.ofNat 32 (n + 12)) hc12 := Fin.ext (slot_toNat (rem12' ⟨n, by omega⟩)).symm
  rw [congrArg (fun j => Φ c s j (.v cb cc hin)) hW]
  iintro ⟨⟨⟨⟨%f, %g, HB⟩, HtV, HtVs⟩, HtK, HtKs⟩, Hlen, Hs, Ha, HO, Hk'⟩
  have eK := read_unsqueezed (F := F) (rK.view.slice (Rect.unit (s := S12x512x2048) (k0_off56 (BitVec.ofNat 32 (n + 12))) S1x512x2048.size (k0_off56_inb _ hc12))) squeezes_S1x512x2048_S512x2048.numel_eq (View.junk _) (View.read (Elt F) (blkK aV cb cc hin).view s.v)
  have eS := read_unsqueezed (F := F) (rS.view.slice (Rect.unit (s := S12x8x2048) (k0_off55 (BitVec.ofNat 32 (n + 12))) S1x8x2048.size (k0_off55_inb _ hc12))) squeezes_S1x8x2048_S8x2048.numel_eq (View.junk _) (View.read (Elt F) (blkS aVs cb cc hin).view s.vs)
  unfold k0_t5_body
  sl_exec
  by_cases hK : x.1 < 4 ∧ x.2.1 = 0
  · have e3 : k0_cond7 (wd x).1 (wd x).2.1 = 1#1 := (hx.cond1).trans (if_pos hK)
    have e4 : ¬ k0_cond8 (wd x).1 (wd x).2.1 = 1#1 := by
      rw [show k0_cond8 (wd x).1 (wd x).2.1 = _ from hx.cond2, if_neg (by omega)]; decide
    have hin' := hx.inC hK.1
    rw [stN_k hin' hK.2]
    have hj : slotY (BitVec.ofNat 32 (n + 12)) hc12 = (⟨(k0_off57 (BitVec.ofNat 32 (n + 12))) 0, by have := k0_off57_inb _ _ _ hc14 e3 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_v c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtV]; · iexact HtV
      isplitl [HtVs]; · iexact HtVs
      isplitl [HtK]; · iexact HtK
      iexact HtKs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off57 (BitVec.ofNat 32 (n + 12))) 0, by have := k0_off57_inb _ _ _ hc14 e3 0; exact this⟩ : Fin 12)) aK aKs s.k s.ks (wd x).1 (wd x).2.2 hin' f' g') (sm := SemLoc.dma (cellJ ((⟨(k0_off57 (BitVec.ofNat 32 (n + 12))) 0, by have := k0_off57_inb _ _ _ hc14 e3 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hs Ha HO Hk']
    · iapply Hk'
      iexists _, _
      isplitr [HB HtK HtKs HtV HtVs Hlen Hs Ha HO]
      rotate_left
      isplitl [HB HtK HtKs HtV HtVs]
      · iapply (Φ_cast c s (hW.trans hj).symm (.k (wd x).1 (wd x).2.2 hin'))
        isplitl [HB HtK HtKs]
        · isplitl [HB]; · iexists f', g'; iexact HB
          isplitl [HtK]; · iexact HtK
          iexact HtKs
        isplitl [HtV]; · iexact HtV
        iexact HtVs
      · isplitl [Hlen]; · iexact Hlen
        isplitl [Hs]; · iexact Hs
        isplitl [Ha]; · iexact Ha
        iexact HO
      · ipureintro
        exact (View.readAt_writes_full accM.view _ _ _ _ _).trans (congrArg₂ (fun kv sv => kA v280 (k0_pay27 v278 v282 v283 v284) (rdS c fs (k0_off54 v251 k) (k0_off54_inb v251 hw3 k)) kv sv (rdA c fa)) eK eS)
    istop
    exact to_q (Q := Q) (congrArg₂ Prod.mk (nw n) (hL.next hl hx hx.chk15 _)) .rfl
  have e3 : ¬ k0_cond7 (wd x).1 (wd x).2.1 = 1#1 := by
    rw [show k0_cond7 (wd x).1 (wd x).2.1 = _ from hx.cond1, if_neg hK]; decide
  by_cases hV : x.1 < 4 ∧ x.2.1 = 1
  · have e4 : k0_cond8 (wd x).1 (wd x).2.1 = 1#1 := (hx.cond2).trans (if_pos hV)
    have hin' := hx.inC hV.1
    rw [stN_v hin' hV.2]
    have hj : slotY (BitVec.ofNat 32 (n + 12)) hc12 = (⟨(k0_off62 (BitVec.ofNat 32 (n + 12))) 0, by have := k0_off62_inb _ _ _ hc14 e4 0; exact this⟩ : Fin 12) := Fin.ext ((slot_toNat (rem12' ⟨n, by omega⟩)).trans ((by show n % 12 = (n + 12) % 12; omega : n % 12 = (n + 12) % 12).trans (slot_toNat (rem12 ⟨n + 12, by omega⟩)).symm))
    ihave Hf := (back_v c s _ _ hj cb cc hin _ _) $$ [HB HB_dst0 HB_dst1 HB_src0_in0 HB_src1_in1 HtK HtKs HtV HtVs]
    · isplitl [HB]; · iexact HB
      isplitl [HB_dst0]; · iexact HB_dst0
      isplitl [HB_dst1]; · iexact HB_dst1
      isplitl [HB_src0_in0]; · iexact HB_src0_in0
      isplitl [HB_src1_in1]; · iexact HB_src1_in1
      isplitl [HtV]; · iexact HtV
      isplitl [HtVs]; · iexact HtVs
      isplitl [HtK]; · iexact HtK
      iexact HtKs
    icases Hf with ⟨Hcell, ⟨%f', Hk⟩, ⟨%g', Hs'⟩, HtK, HtKs, HtV, HtVs⟩
    imod (Transfers.mixedBatch_alloc' (Lvl := ℕ) (countersEmb (U := Pipeline.UD sig nD τ)) (c : Thread nD τ) () amts (deliv c ((⟨(k0_off62 (BitVec.ofNat 32 (n + 12))) 0, by have := k0_off62_inb _ _ _ hc14 e4 0; exact this⟩ : Fin 12)) aV aVs s.v s.vs (wd x).1 (wd x).2.2 hin' f' g') (sm := SemLoc.dma (cellJ ((⟨(k0_off62 (BitVec.ofNat 32 (n + 12))) 0, by have := k0_off62_inb _ _ _ hc14 e4 0; exact this⟩ : Fin 12)))) (E := Set.univ)) $$ Hcell with HB
    sl_exec
    rw [wp_ret]; imodintro
    ihave HQ : Q (BitVec.ofNat 32 (n + 1 + 12), wd (nx ln x)) $$ [HB HtK HtKs HtV HtVs Hlen Hs Ha HO Hk']
    · iapply Hk'
      iexists _, _
      isplitr [HB HtK HtKs HtV HtVs Hlen Hs Ha HO]
      rotate_left
      isplitl [HB HtK HtKs HtV HtVs]
      · iapply (Φ_cast c s (hW.trans hj).symm (.v (wd x).1 (wd x).2.2 hin'))
        isplitl [HB HtV HtVs]
        · isplitl [HB]; · iexists f', g'; iexact HB
          isplitl [HtV]; · iexact HtV
          iexact HtVs
        isplitl [HtK]; · iexact HtK
        iexact HtKs
      · isplitl [Hlen]; · iexact Hlen
        isplitl [Hs]; · iexact Hs
        isplitl [Ha]; · iexact Ha
        iexact HO
      · ipureintro
        exact (View.readAt_writes_full accM.view _ _ _ _ _).trans (congrArg₂ (fun kv sv => kA v280 (k0_pay27 v278 v282 v283 v284) (rdS c fs (k0_off54 v251 k) (k0_off54_inb v251 hw3 k)) kv sv (rdA c fa)) eK eS)
    istop
    exact to_q (Q := Q) (congrArg₂ Prod.mk (nw n) (hL.next hl hx hx.chk15 _)) .rfl
  have e4 : ¬ k0_cond8 (wd x).1 (wd x).2.1 = 1#1 := by
    rw [show k0_cond8 (wd x).1 (wd x).2.1 = _ from hx.cond2, if_neg hV]; decide
  have hb : 4 ≤ x.1 := by
    by_contra hb
    have hκ := hx.κ
    rcases Nat.lt_or_ge x.2.1 1 with h | h
    · exact hK (by omega)
    · exact hV (by omega)
  rw [stN_free hx hb]
  ihave Hf := (back_v c s _ _ hW.symm cb cc hin _ _) $$ [HB HB_dst0 HB_dst1 HB_src0_in0 HB_src1_in1 HtK HtKs HtV HtVs]
  · isplitl [HB]; · iexact HB
    isplitl [HB_dst0]; · iexact HB_dst0
    isplitl [HB_dst1]; · iexact HB_dst1
    isplitl [HB_src0_in0]; · iexact HB_src0_in0
    isplitl [HB_src1_in1]; · iexact HB_src1_in1
    isplitl [HtV]; · iexact HtV
    isplitl [HtVs]; · iexact HtVs
    isplitl [HtK]; · iexact HtK
    iexact HtKs
  sl_exec
  rw [wp_ret]; imodintro
  ihave HQ : Q (BitVec.ofNat 32 (n + 1 + 12), wd (nx ln x)) $$ [Hf Hlen Hs Ha HO Hk']
  · iapply Hk'
    iexists _, _
    isplitr [Hf Hlen Hs Ha HO]
    rotate_left
    isplitl [Hf]; · iexact Hf
    · isplitl [Hlen]; · iexact Hlen
      isplitl [Hs]; · iexact Hs
      isplitl [Ha]; · iexact Ha
      iexact HO
    · ipureintro
      exact (View.readAt_writes_full accM.view _ _ _ _ _).trans (congrArg₂ (fun kv sv => kA v280 (k0_pay27 v278 v282 v283 v284) (rdS c fs (k0_off54 v251 k) (k0_off54_inb v251 hw3 k)) kv sv (rdA c fa)) eK eS)
  istop
  exact to_q (Q := Q) (congrArg₂ Prod.mk (nw n) (hL.next hl hx hx.chk15 _)) .rfl

end Cert.KernelIdeal.Hand
end
-- ==== Proof.RunI.lean ====
module
public import proofs.«01_k».proof.Proof.Trip1I
public import proofs.«01_k».proof.Proof.Trip3I
public import proofs.«01_k».proof.Proof.Trip5I
import Idealize.ShloMosaic.Lib.Scf
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option pp.maxSteps 3000
set_option pp.deepTerms.threshold 12

theorem t2_lt (b : Fin k0_t2_loop.trips) : b.val < 4 := lt_of_lt_of_le b.isLt (by decide)

theorem it_ok {ln : ℕ → ℕ} (hl : ∀ i, ln i ≤ 16384) {n : ℕ} (hn : n < 128) : Ok (it ln n) := by
  obtain ⟨h1, h2, h3, -⟩ := it_good hl n
  exact ⟨by omega, by omega, lt_of_lt_of_le h3 (ncN_le (hl _))⟩

/-- The items from an item with chunk `0` on: the sequence's chunks in order. -/
theorem it_run {ln : ℕ → ℕ} {n b κ : ℕ} (hb : b < 4) (h : it ln n = (b, κ, 0)) : ∀ k, k < ncN (ln b) → it ln (n + k) = (b, κ, k)
  | 0, _ => h
  | k + 1, hk => by
    have e := it_run hb h k (by omega)
    rw [show n + (k + 1) = (n + k) + 1 from by omega, it_succ, e]
    have hm : min b 3 = b := by omega
    unfold nx
    rw [if_neg (by show ¬ ncN (ln (min b 3)) ≤ k + 1; rw [hm]; omega)]

theorem it_end {ln : ℕ → ℕ} {n b κ : ℕ} (hb : b < 4) (h : it ln n = (b, κ, 0)) : it ln (n + ncN (ln b)) = (if κ = 1 then b + 1 else b, 1 - κ, 0) := by
  have hp := ncN_pos (ln b)
  obtain ⟨m, hm⟩ : ∃ m, ncN (ln b) = m + 1 := ⟨ncN (ln b) - 1, by omega⟩
  have e := it_run hb h m (by omega)
  rw [hm, show n + (m + 1) = (n + m) + 1 from by omega, it_succ, e]
  have hmn : min b 3 = b := by omega
  unfold nx
  rw [if_pos (by show ncN (ln (min b 3)) ≤ m + 1; rw [hmn]; omega)]

theorem it_lt {ln : ℕ → ℕ} (hl : ∀ i, ln i ≤ 16384) {n b κ c : ℕ} (hb : b < 4) (h : it ln n = (b, κ, c)) : n < 100 := by
  obtain ⟨-, h2, h3, h4⟩ := it_good hl n
  rw [h] at h2 h3 h4
  have h3' : c < 8 := lt_of_lt_of_le h3 (ncN_le (hl _))
  simp only at h2 h4
  omega

/-- A chunk of an operand, as the ring returns it. -/
noncomputable def chK (c : Dev nD) (A : Memref sig .tc .hbm S4x512x16384 .i8) (f : BufOf F c A) (wb wc : BitVec 32) : Vec F S1x512x2048 .i8 :=
  if h : InC wb wc then slabK (View.read (Elt F) (blkK A wb wc h).view f) else fun _ => Classical.choice ((inferInstance : ∀ e, Nonempty (Elt F e)) .i8)
/-- A chunk of a scale operand, as the ring returns it. -/
noncomputable def chS (c : Dev nD) (A : Memref sig .tc .hbm S4x8x16384 .f32) (f : BufOf F c A) (wb wc : BitVec 32) : Vec F S1x8x2048 .f32 :=
  if h : InC wb wc then slabS (View.read (Elt F) (blkS A wb wc h).view f) else fun _ => Classical.choice ((inferInstance : ∀ e, Nonempty (Elt F e)) .f32)
theorem chK_pos (c : Dev nD) (A : Memref sig .tc .hbm S4x512x16384 .i8) (f : BufOf F c A) {wb wc : BitVec 32} (h : InC wb wc) : chK c A f wb wc = slabK (View.read (Elt F) (blkK A wb wc h).view f) := dif_pos h
theorem chS_pos (c : Dev nD) (A : Memref sig .tc .hbm S4x8x16384 .f32) (f : BufOf F c A) {wb wc : BitVec 32} (h : InC wb wc) : chS c A f wb wc = slabS (View.read (Elt F) (blkS A wb wc h).view f) := dif_pos h

/-- The running maxima after `k` chunks. -/
noncomputable def recM (v256 : BitVec 32) (q : Vec F S1x32x512 .bf16) (kv : ℕ → Vec F S1x512x2048 .i8) (sv : ℕ → Vec F S1x8x2048 .f32) (M0 : FVec F S32x128 .f32) : ℕ → FVec F S32x128 .f32
  | 0 => M0
  | k + 1 => kM v256 (Scf.iv 0#32 1#32 k) q (kv k) (sv k) (recM v256 q kv sv M0 k)
/-- The running sums after `k` chunks. -/
noncomputable def recL (v256 : BitVec 32) (q : Vec F S1x32x512 .bf16) (kv : ℕ → Vec F S1x512x2048 .i8) (sv : ℕ → Vec F S1x8x2048 .f32) (M0 L0 : FVec F S32x128 .f32) : ℕ → FVec F S32x128 .f32
  | 0 => L0
  | k + 1 => kL v256 (Scf.iv 0#32 1#32 k) q (kv k) (sv k) (recM v256 q kv sv M0 k) (recL v256 q kv sv M0 L0 k)
/-- The accumulator after `k` chunks. -/
noncomputable def recA (v280 v292 : FVec F S32x1 .f32) (pr : ℕ → Vec F S1x32x2048 .f32) (kv : ℕ → Vec F S1x512x2048 .i8) (sv : ℕ → Vec F S1x8x2048 .f32) (A0 : FVec F S512x32 .f32) : ℕ → FVec F S512x32 .f32
  | 0 => A0
  | k + 1 => kA v280 v292 (pr k) (kv k) (sv k) (recA v280 v292 pr kv sv A0 k)

/-- The score rows below `k` are the chunks'. -/
def Rows (c : Dev nD) (v256 : BitVec 32) (q : Vec F S1x32x512 .bf16) (kv : ℕ → Vec F S1x512x2048 .i8) (sv : ℕ → Vec F S1x8x2048 .f32) (k : ℕ) (fs : BufOf F c sbM) : Prop :=
  ∀ j, j < k → ∀ (off : Fin 3 → ℕ) (hi), off = ![j, 0, 0] → rdS c fs off hi = kS v256 (Scf.iv 0#32 1#32 j) q (kv j) (sv j)

/-- The buffers of the loop over the keys after `k` chunks. -/
structure KS (c : Dev nD) (v256 : BitVec 32) (q : Vec F S1x32x512 .bf16) (kv : ℕ → Vec F S1x512x2048 .i8) (sv : ℕ → Vec F S1x8x2048 .f32) (M0 L0 : FVec F S32x128 .f32)
    (k : ℕ) (fs : BufOf F c sbM) (fm : BufOf F c mM) (fll : BufOf F c lM) : Prop where
  m : rdM c fm = recM v256 q kv sv M0 k
  l : rdL c fll = recL v256 q kv sv M0 L0 k
  rows : Rows c v256 q kv sv k fs

theorem KS.next {c : Dev nD} {v256 : BitVec 32} {q : Vec F S1x32x512 .bf16} {kv : ℕ → Vec F S1x512x2048 .i8} {sv : ℕ → Vec F S1x8x2048 .f32} {M0 L0 : FVec F S32x128 .f32}
    {k : ℕ} {fs fs' : BufOf F c sbM} {fm fm' : BufOf F c mM} {fll fll' : BufOf F c lM} (h : KS c v256 q kv sv M0 L0 k fs fm fll)
    (h3 : K3 c v256 (Scf.iv 0#32 1#32 k) q (kv k) (sv k) k fs fs' fm fm' fll fll') : KS c v256 q kv sv M0 L0 (k + 1) fs' fm' fll' where
  m := by rw [h3.m, h.m]; rfl
  l := by rw [h3.l, h.m, h.l]; rfl
  rows j hj off hi e := by
    rcases Nat.lt_or_ge j k with hk | hk
    · rw [h3.away off hi (by rw [e]; show j ≠ k; omega)]
      exact h.rows j hk off hi e
    · obtain rfl : j = k := by omega
      exact h3.here off hi e

theorem focus_of {c : Dev nD} {s : Src F c} (st : Fin 12 → St) (i : Fin 12) {x : St} (h : st i = x) :
    Ring.AtW (Φ c s) st ⊢ iprop(Φ c s i x ∗ Ring.restW (Φ c s) st i) := by
  rw [Ring.AtW_focus (Φ c s) st i, h]

/-- The words a chunk loop carries at item `n`. -/
abbrev wds (ln : ℕ → ℕ) (n : ℕ) : BitVec 32 × BitVec 32 × BitVec 32 × BitVec 32 := (BitVec.ofNat 32 (n + 12), wd (it ln (n + 12)))

theorem wds_next (ln : ℕ → ℕ) (n : ℕ) : (BitVec.ofNat 32 (n + 1 + 12), wd (nx ln (it ln (n + 12)))) = wds ln (n + 1) := by
  show _ = (BitVec.ofNat 32 (n + 1 + 12), wd (it ln (n + 1 + 12)))
  rw [← it_succ, show n + 12 + 1 = n + 1 + 12 from by omega]

/-- The loop over the keys of sequence `b`. -/
theorem t3_run (c : Dev nD) (s : Src F c) (b : Fin k0_t2_loop.trips) (fl : BufOf F c lenM) (fq : BufOf F c qM) (fs : BufOf F c sbM) (fm : BufOf F c mM) (fll : BufOf F c lM)
    (ln : ℕ → ℕ) (hl : ∀ i, ln i ≤ 16384) (hL : LenOk c fl ln)
    (v251 v256 : Elt F .i32) (hv : v251 = BitVec.ofNat 32 (ln b.val)) (hw3 : k0_chk3 v251) (W : Waits sig Unit)
    (n : ℕ) (hit : it ln n = (b.val, 0, 0)) (a25 a26 a27 a28 a24 : BitVec 32)
    (Q : BitVec 32 × BitVec 32 × BitVec 32 × BitVec 32 → sProp 𝕄)
    (m8 : Memref sig .tc .vmem S4x32x64 .bf16) (hm8 : m8.IsWhole) :
    iprop(Ring.AtW (Φ c s) (ring ln n) ∗ own c lenM fl ∗ own c qM fq ∗ own c sbM fs ∗ own c mM fm ∗ own c lM fll ∗ owes (c : Thread nD τ) 0 W
       ∗ ((∃ fs' fm' fll' W', ⌜KS c v256 (rdQ c fq b) (fun k => chK c aK s.k (BitVec.ofNat 32 b.val) (BitVec.ofNat 32 k)) (fun k => chS c aKs s.ks (BitVec.ofNat 32 b.val) (BitVec.ofNat 32 k)) (rdM c fm) (rdL c fll) (ncN (ln b.val)) fs' fm' fll'⌝
            ∗ Ring.AtW (Φ c s) (ring ln (n + ncN (ln b.val))) ∗ own c lenM fl ∗ own c qM fq ∗ own c sbM fs' ∗ own c mM fm' ∗ own c lM fll' ∗ owes (c : Thread nD τ) 0 W')
          -∗ Q (wds ln (n + ncN (ln b.val)))))
      ⊢ wp frame (wpE (defs₀ (F := F)) Variants.none (c : Thread nD τ) none) Set.univ
          (Scf.Loop.for (k0_t3_loop v251) (k0_t3_ok v251 hw3) (wds ln n) (k0_t3_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 0#32 1#32 b a25 a26 a27 a28 a24 v251 hw3 v256)) Q := by
  have htr : (k0_t3_loop v251).trips = ncN (ln b.val) := by rw [hv]; exact t3_trips (hl _)
  let I : ℕ → BitVec 32 × BitVec 32 × BitVec 32 × BitVec 32 → sProp 𝕄 := fun k acc =>
    iprop(⌜acc = wds ln (n + k)⌝ ∗ Ring.AtW (Φ c s) (ring ln (n + k)) ∗ own c lenM fl ∗ own c qM fq
      ∗ ∃ fs' fm' fll' W', ⌜KS c v256 (rdQ c fq b) (fun k => chK c aK s.k (BitVec.ofNat 32 b.val) (BitVec.ofNat 32 k)) (fun k => chS c aKs s.ks (BitVec.ofNat 32 b.val) (BitVec.ofNat 32 k)) (rdM c fm) (rdL c fll) k fs' fm' fll'⌝
        ∗ own c sbM fs' ∗ own c mM fm' ∗ own c lM fll' ∗ owes (c : Thread nD τ) 0 W')
  refine .trans ?_ (Scf.wp_for _ _ _ (k0_t3_loop v251).lb (k0_t3_loop v251).ub (k0_t3_loop v251).st (k0_t3_ok v251 hw3) (wds ln n) _ I ?_)
  · iintro ⟨HR, Hlen, Hq, Hs, Hm, Hl, HO, Hk⟩
    isplitl [HR Hlen Hq Hs Hm Hl HO]
    · isplitr; · ipureintro; rfl
      isplitl [HR]; · iexact HR
      isplitl [Hlen]; · iexact Hlen
      isplitl [Hq]; · iexact Hq
      iexists fs, fm, fll, W
      isplitr; · ipureintro; exact ⟨rfl, rfl, fun j hj => absurd hj (Nat.not_lt_zero _)⟩
      isplitl [Hs]; · iexact Hs
      isplitl [Hm]; · iexact Hm
      isplitl [Hl]; · iexact Hl
      iexact HO
    · iintro %acc ⟨%e, HR, Hlen, Hq, %fs', %fm', %fll', %W', %hk, Hs, Hm, Hl, HO⟩
      have htr' : Scf.trips (k0_t3_loop v251).lb (k0_t3_loop v251).ub (k0_t3_loop v251).st = ncN (ln b.val) := htr
      rw [htr'] at e hk
      rw [e, htr']
      iapply Hk
      iexists fs', fm', fll', W'
      isplitr; · ipureintro; exact hk
      isplitl [HR]; · iexact HR
      isplitl [Hlen]; · iexact Hlen
      isplitl [Hq]; · iexact Hq
      isplitl [Hs]; · iexact Hs
      isplitl [Hm]; · iexact Hm
      isplitl [Hl]; · iexact Hl
      iexact HO
  · intro k acc
    have hk : k.val < ncN (ln b.val) := lt_of_lt_of_eq k.isLt htr
    have hk8 : k.val < 8 := lt_of_lt_of_le hk (ncN_le (hl _))
    have hb := t2_lt b
    have hi := it_run hb hit k.val hk
    have hn := it_lt hl hb hi
    have hx : Ok (it ln (n + k.val + 12)) := it_ok hl (by omega)
    have ho : Ok (it ln (n + k.val)) := it_ok hl (by omega)
    have hin : InC (BitVec.ofNat 32 b.val) (BitVec.ofNat 32 k.val) := by have := ho.inC (by rw [hi]; exact hb); rwa [hi] at this
    have hst : stN (it ln (n + k.val)) = .k (BitVec.ofNat 32 b.val) (BitVec.ofNat 32 k.val) hin := by rw [hi]; exact stN_k (x := (b.val, 0, k.val)) hin rfl
    iintro ⟨%e, HR, Hlen, Hq, %fs', %fm', %fll', %W', %hk', Hs, Hm, Hl, HO⟩
    subst e
    ihave HR := (focus_of (ring ln (n + k.val)) (sl (n + k.val)) ((ring_at ln _).trans hst)) $$ HR
    icases HR with ⟨HR, Hrest⟩
    iapply (t3_trip c s b fl fq fs' fm' fll' ln hl hL v251 v256 hw3 k hk8 W' (n + k.val) hn (it ln (n + k.val + 12)) hx a25 a26 a27 a28 a24 _ _ hin)
    isplitl [HR]; · iexact HR
    isplitl [Hlen]; · iexact Hlen
    isplitl [Hq]; · iexact Hq
    isplitl [Hs]; · iexact Hs
    isplitl [Hm]; · iexact Hm
    isplitl [Hl]; · iexact Hl
    isplitl [HO]; · iexact HO
    iintro ⟨%fs2, %fm2, %fll2, %W2, %h3, HR, Hlen, Hq, Hs, Hm, Hl, HO⟩
    isplitr
    · ipureintro
      exact wds_next ln (n + k.val)
    isplitl [HR Hrest]
    · rw [show n + (k.val + 1) = n + k.val + 1 from by omega, ring_step]
      iapply (Ring.AtW_update (Φ c s) (ring ln (n + k.val)) (sl (n + k.val)) (stN (it ln (n + k.val + 12))))
      isplitl [HR]; · iexact HR
      iexact Hrest
    isplitl [Hlen]; · iexact Hlen
    isplitl [Hq]; · iexact Hq
    iexists fs2, fm2, fll2, W2
    isplitr
    · ipureintro
      refine hk'.next ?_
      show K3 c v256 _ _ (chK c aK s.k (BitVec.ofNat 32 b.val) (BitVec.ofNat 32 k.val)) (chS c aKs s.ks (BitVec.ofNat 32 b.val) (BitVec.ofNat 32 k.val)) _ _ _ _ _ _ _
      rw [chK_pos c aK s.k hin, chS_pos c aKs s.ks hin]
      exact h3
    isplitl [Hs]; · iexact Hs
    isplitl [Hm]; · iexact Hm
    isplitl [Hl]; · iexact Hl
    iexact HO

/-- The loop over the values of sequence `b`. -/
theorem t5_run (c : Dev nD) (s : Src F c) (b : Fin k0_t2_loop.trips) (fl : BufOf F c lenM) (fs : BufOf F c sbM) (fa : BufOf F c accM)
    (ln : ℕ → ℕ) (hl : ∀ i, ln i ≤ 16384) (hL : LenOk c fl ln)
    (v251 v256 : Elt F .i32) (hv : v251 = BitVec.ofNat 32 (ln b.val)) (hw3 : k0_chk3 v251) (W : Waits sig Unit)
    (n : ℕ) (hit : it ln n = (b.val, 1, 0)) (v128 : IVec S32x512 1) (v147 : IVec S32x8 1)
    (a24 v254 a25 a26 a27 a28 : BitVec 32) (v278 : Vec F S32x128 .f32) (v280 : FVec F S32x1 .f32) (v282 : FVec F S32x1 .f32) (v283 : Vec F S32x128 .f32) (v284 : FVec F S32x128 .f32)
    (q : Vec F S1x32x512 .bf16) (kk : ℕ → Vec F S1x512x2048 .i8) (sk : ℕ → Vec F S1x8x2048 .f32) (hrows : Rows c v256 q kk sk (ncN (ln b.val)) fs)
    (Q : BitVec 32 × BitVec 32 × BitVec 32 × BitVec 32 → sProp 𝕄)
    (m8 : Memref sig .tc .vmem S4x32x64 .bf16) (hm8 : m8.IsWhole) :
    iprop(Ring.AtW (Φ c s) (ring ln n) ∗ own c lenM fl ∗ own c sbM fs ∗ own c accM fa ∗ owes (c : Thread nD τ) 0 W
       ∗ ((∃ fa' W', ⌜rdA c fa' = recA v280 (k0_pay27 v278 v282 v283 v284) (fun k => kS v256 (Scf.iv 0#32 1#32 k) q (kk k) (sk k)) (fun k => chK c aV s.v (BitVec.ofNat 32 b.val) (BitVec.ofNat 32 k)) (fun k => chS c aVs s.vs (BitVec.ofNat 32 b.val) (BitVec.ofNat 32 k)) (rdA c fa) (ncN (ln b.val))⌝
            ∗ Ring.AtW (Φ c s) (ring ln (n + ncN (ln b.val))) ∗ own c lenM fl ∗ own c sbM fs ∗ own c accM fa' ∗ owes (c : Thread nD τ) 0 W')
          -∗ Q (wds ln (n + ncN (ln b.val)))))
      ⊢ wp frame (wpE (defs₀ (F := F)) Variants.none (c : Thread nD τ) none) Set.univ
          (Scf.Loop.for (k0_t5_loop v251) (k0_t5_ok v251 hw3) (wds ln n) (k0_t5_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v128 v147 b a24 v251 hw3 v254 a25 a26 a27 a28 v278 v280 v282 v283 v284)) Q := by
  have htr : (k0_t5_loop v251).trips = ncN (ln b.val) := by rw [hv]; exact t5_trips (hl _)
  let I : ℕ → BitVec 32 × BitVec 32 × BitVec 32 × BitVec 32 → sProp 𝕄 := fun k acc =>
    iprop(⌜acc = wds ln (n + k)⌝ ∗ Ring.AtW (Φ c s) (ring ln (n + k)) ∗ own c lenM fl ∗ own c sbM fs
      ∗ ∃ fa' W', ⌜rdA c fa' = recA v280 (k0_pay27 v278 v282 v283 v284) (fun k => kS v256 (Scf.iv 0#32 1#32 k) q (kk k) (sk k)) (fun k => chK c aV s.v (BitVec.ofNat 32 b.val) (BitVec.ofNat 32 k)) (fun k => chS c aVs s.vs (BitVec.ofNat 32 b.val) (BitVec.ofNat 32 k)) (rdA c fa) k⌝
        ∗ own c accM fa' ∗ owes (c : Thread nD τ) 0 W')
  refine .trans ?_ (Scf.wp_for _ _ _ (k0_t5_loop v251).lb (k0_t5_loop v251).ub (k0_t5_loop v251).st (k0_t5_ok v251 hw3) (wds ln n) _ I ?_)
  · iintro ⟨HR, Hlen, Hs, Ha, HO, Hk⟩
    isplitl [HR Hlen Hs Ha HO]
    · isplitr; · ipureintro; rfl
      isplitl [HR]; · iexact HR
      isplitl [Hlen]; · iexact Hlen
      isplitl [Hs]; · iexact Hs
      iexists fa, W
      isplitr; · ipureintro; rfl
      isplitl [Ha]; · iexact Ha
      iexact HO
    · iintro %acc ⟨%e, HR, Hlen, Hs, %fa', %W', %hk, Ha, HO⟩
      have htr' : Scf.trips (k0_t5_loop v251).lb (k0_t5_loop v251).ub (k0_t5_loop v251).st = ncN (ln b.val) := htr
      rw [htr'] at e hk
      rw [e, htr']
      iapply Hk
      iexists fa', W'
      isplitr; · ipureintro; exact hk
      isplitl [HR]; · iexact HR
      isplitl [Hlen]; · iexact Hlen
      isplitl [Hs]; · iexact Hs
      isplitl [Ha]; · iexact Ha
      iexact HO
  · intro k acc
    have hk : k.val < ncN (ln b.val) := lt_of_lt_of_eq k.isLt htr
    have hk8 : k.val < 8 := lt_of_lt_of_le hk (ncN_le (hl _))
    have hb := t2_lt b
    have hi := it_run hb hit k.val hk
    have hn := it_lt hl hb hi
    have hx : Ok (it ln (n + k.val + 12)) := it_ok hl (by omega)
    have ho : Ok (it ln (n + k.val)) := it_ok hl (by omega)
    have hin : InC (BitVec.ofNat 32 b.val) (BitVec.ofNat 32 k.val) := by have := ho.inC (by rw [hi]; exact hb); rwa [hi] at this
    have hst : stN (it ln (n + k.val)) = .v (BitVec.ofNat 32 b.val) (BitVec.ofNat 32 k.val) hin := by rw [hi]; exact stN_v (x := (b.val, 1, k.val)) hin rfl
    have e54 : k0_off54 v251 k = ![k.val, 0, 0] := by
      show ![(Scf.iv 0#32 1#32 k.val : BitVec 32).toNat, 0, 0] = _
      rw [iv_lt8' ⟨k.val, hk8⟩]
    iintro ⟨%e, HR, Hlen, Hs, %fa', %W', %hk', Ha, HO⟩
    subst e
    ihave HR := (focus_of (ring ln (n + k.val)) (sl (n + k.val)) ((ring_at ln _).trans hst)) $$ HR
    icases HR with ⟨HR, Hrest⟩
    iapply (t5_trip c s b fl fs fa' ln hl hL v251 hw3 k W' (n + k.val) hn (it ln (n + k.val + 12)) hx v128 v147 a24 v254 a25 a26 a27 a28 v278 v280 v282 v283 v284 _ _ hin)
    isplitl [HR]; · iexact HR
    isplitl [Hlen]; · iexact Hlen
    isplitl [Hs]; · iexact Hs
    isplitl [Ha]; · iexact Ha
    isplitl [HO]; · iexact HO
    iintro ⟨%fa2, %W2, %h3, HR, Hlen, Hs, Ha, HO⟩
    isplitr
    · ipureintro
      exact wds_next ln (n + k.val)
    isplitl [HR Hrest]
    · rw [show n + (k.val + 1) = n + k.val + 1 from by omega, ring_step]
      iapply (Ring.AtW_update (Φ c s) (ring ln (n + k.val)) (sl (n + k.val)) (stN (it ln (n + k.val + 12))))
      isplitl [HR]; · iexact HR
      iexact Hrest
    isplitl [Hlen]; · iexact Hlen
    isplitl [Hs]; · iexact Hs
    iexists fa2, W2
    isplitr
    · ipureintro
      rw [h3, hk', hrows k.val hk _ _ e54]
      show _ = kA v280 _ _ (chK c aV s.v (BitVec.ofNat 32 b.val) (BitVec.ofNat 32 k.val)) (chS c aVs s.vs (BitVec.ofNat 32 b.val) (BitVec.ofNat 32 k.val)) _
      rw [chK_pos c aV s.v hin, chS_pos c aVs s.vs hin]
    isplitl [Ha]; · iexact Ha
    iexact HO

/-- The loop that fills the ring. -/
theorem t1_run (c : Dev nD) (s : Src F c) (fl : BufOf F c lenM) (ln : ℕ → ℕ) (hl : ∀ i, ln i ≤ 16384) (hL : LenOk c fl ln)
    (Q : BitVec 32 × BitVec 32 × BitVec 32 → sProp 𝕄)
    (m8 : Memref sig .tc .vmem S4x32x64 .bf16) (hm8 : m8.IsWhole) :
    iprop(Ring.AtW (Φ c s) (fun _ => St.free) ∗ own c lenM fl ∗ (Ring.AtW (Φ c s) (ring ln 0) ∗ own c lenM fl -∗ Q (wd (it ln 12))))
      ⊢ wp frame (wpE (defs₀ (F := F)) Variants.none (c : Thread nD τ) none) Set.univ
          (Scf.Loop.for k0_t1_loop k0_t1_ok (0#32, 0#32, 0#32) (k0_t1_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14)) Q := by
  have htr : k0_t1_loop.trips = 12 := by decide
  let I : ℕ → BitVec 32 × BitVec 32 × BitVec 32 → sProp 𝕄 := fun k acc =>
    iprop(⌜acc = wd (it ln k)⌝ ∗ Ring.AtW (Φ c s) (prime ln k) ∗ own c lenM fl)
  refine .trans ?_ (Scf.wp_for _ _ _ k0_t1_loop.lb k0_t1_loop.ub k0_t1_loop.st k0_t1_ok (0#32, 0#32, 0#32) _ I ?_)
  · iintro ⟨HR, Hlen, Hk⟩
    isplitl [HR Hlen]
    · isplitr; · ipureintro; rfl
      isplitl [HR]; · rw [prime_zero]; iexact HR
      iexact Hlen
    · iintro %acc ⟨%e, HR, Hlen⟩
      have htr' : Scf.trips k0_t1_loop.lb k0_t1_loop.ub k0_t1_loop.st = 12 := htr
      rw [htr'] at e
      rw [e, htr', prime_full]
      iapply Hk
      isplitl [HR]; · iexact HR
      iexact Hlen
  · intro k acc
    have hk : k.val < 12 := lt_of_lt_of_eq k.isLt htr
    have hx : Ok (it ln k.val) := it_ok hl (by omega)
    have hsl : slotOf1 k = ⟨k.val, hk⟩ := Fin.ext (by
      have h : ∀ k : Fin k0_t1_loop.trips, (k0_off1 k) 0 = k.val := by decide
      exact h k)
    iintro ⟨%e, HR, Hlen⟩
    subst e
    ihave HR := (focus_of (prime ln k.val) ⟨k.val, hk⟩ (prime_at ln ⟨k.val, hk⟩)) $$ HR
    icases HR with ⟨HR, Hrest⟩
    iapply (t1_trip c s fl ln hl hL k (it ln k.val) hx)
    isplitl [HR]; · rw [hsl]; iexact HR
    isplitl [Hlen]; · iexact Hlen
    iintro ⟨HR, Hlen⟩
    isplitr; · ipureintro; rfl
    isplitl [HR Hrest]
    · rw [prime_step ln ⟨k.val, hk⟩]
      iapply (Ring.AtW_update (Φ c s) (prime ln k.val) ⟨k.val, hk⟩ (stN (it ln k.val)))
      isplitl [HR]; · rw [hsl]; iexact HR
      iexact Hrest
    iexact Hlen

end Cert.KernelIdeal.Hand
end
-- ==== Proof.RowI.lean ====
module
public import proofs.«01_k».proof.Proof.RunI
import Idealize.ShloMosaic.Lib.Scf
import Idealize.ShloMosaic.Lib.LoopRemainder
import Idealize.ShloMosaic.Lib.VecWindow
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev vnM : Memref sig .tc .vmem S4x8x64 .bf16 := Memref.whole cc0_scratch2

/-- The row of the result a sequence's trip stores: `q` its queries, `sr` its row of the new key's scores, `vr` its new value, `kk sk vv sv` its chunks. -/
noncomputable def outRow (v256 : BitVec 32) (nc : ℕ) (q : Vec F S1x32x512 .bf16) (sr : Vec F S1x32x128 .f32) (vr : Vec F S1x8x64 .bf16)
    (kk : ℕ → Vec F S1x512x2048 .i8) (sk : ℕ → Vec F S1x8x2048 .f32) (vv : ℕ → Vec F S1x512x2048 .i8) (sv : ℕ → Vec F S1x8x2048 .f32)
    (v63 : FVec F S32x32 .bf16) (v128 : IVec S32x512 1) (v147 : IVec S32x8 1) : FVec F S1x32x64 .bf16 :=
  let M := recM v256 q kk sk (k0_pay22 sr) nc
  let L := recL v256 q kk sk (k0_pay22 sr) k0_pay23 nc
  let A := recA (k0_pay24 M) (k0_pay27 M (k0_pay25 sr M) L (k0_pay26 M)) (fun k => kS v256 (Scf.iv 0#32 1#32 k) q (kk k) (sk k)) vv sv k0_pay28 nc
  k0_pay3 v63 (k0_pay31 v128 A) (k0_pay32 v147 M (k0_pay25 sr M) L (k0_pay26 M) vr)

abbrev rdSn (c : Dev nD) (f : BufOf F c snM) (b : Fin k0_t2_loop.trips) : Vec F S1x32x128 .f32 := View.readAt (Elt F) snM.view (Rect.unit (s := S4x32x128) (k0_off13 b) S1x32x128.size (k0_off13_inb b)).toLoadRect f
abbrev rdVn (c : Dev nD) (f : BufOf F c vnM) (b : Fin k0_t2_loop.trips) : Vec F S1x8x64 .bf16 := View.readAt (Elt F) vnM.view (Rect.unit (s := S4x8x64) (k0_off85 b) S1x8x64.size (k0_off85_inb b)).toLoadRect f

/-- Sequence `b`'s row of the result, of the buffers. -/
noncomputable def rowOf (c : Dev nD) (s : Src F c) (ln : ℕ → ℕ) (fq : BufOf F c qM) (fsn : BufOf F c snM) (fvn : BufOf F c vnM)
    (v63 : FVec F S32x32 .bf16) (v128 : IVec S32x512 1) (v147 : IVec S32x8 1) (b : Fin k0_t2_loop.trips) : FVec F S1x32x64 .bf16 :=
  outRow (BitVec.ofNat 32 (ln b.val)) (ncN (ln b.val)) (rdQ c fq b) (rdSn c fsn b) (rdVn c fvn b)
    (fun k => chK c aK s.k (BitVec.ofNat 32 b.val) (BitVec.ofNat 32 k)) (fun k => chS c aKs s.ks (BitVec.ofNat 32 b.val) (BitVec.ofNat 32 k))
    (fun k => chK c aV s.v (BitVec.ofNat 32 b.val) (BitVec.ofNat 32 k)) (fun k => chS c aVs s.vs (BitVec.ofNat 32 b.val) (BitVec.ofNat 32 k)) v63 v128 v147

theorem row_eq (c : Dev nD) (s : Src F c) (ln : ℕ → ℕ) (fq : BufOf F c qM) (fsn : BufOf F c snM) (fvn : BufOf F c vnM) (v63 : FVec F S32x32 .bf16) (v128 : IVec S32x512 1) (v147 : IVec S32x8 1) (b : Fin k0_t2_loop.trips)
    (v256 : BitVec 32) (hv : v256 = BitVec.ofNat 32 (ln b.val)) (M0 L0 : FVec F S32x128 .f32) (A0 : FVec F S512x32 .f32) (fs : BufOf F c sbM) (fm : BufOf F c mM) (fll : BufOf F c lM) (X : FVec F S512x32 .f32)
    (hM0 : M0 = k0_pay22 (rdSn c fsn b)) (hL0 : L0 = k0_pay23) (hA0 : A0 = k0_pay28)
    (hk : KS c v256 (rdQ c fq b) (fun k => chK c aK s.k (BitVec.ofNat 32 b.val) (BitVec.ofNat 32 k)) (fun k => chS c aKs s.ks (BitVec.ofNat 32 b.val) (BitVec.ofNat 32 k)) M0 L0 (ncN (ln b.val)) fs fm fll)
    (ha : X = recA (k0_pay24 (rdM c fm)) (k0_pay27 (rdM c fm) (k0_pay25 (rdSn c fsn b) (rdM c fm)) (rdL c fll) (k0_pay26 (rdM c fm)))
      (fun k => kS v256 (Scf.iv 0#32 1#32 k) (rdQ c fq b) ((fun k => chK c aK s.k (BitVec.ofNat 32 b.val) (BitVec.ofNat 32 k)) k) ((fun k => chS c aKs s.ks (BitVec.ofNat 32 b.val) (BitVec.ofNat 32 k)) k))
      (fun k => chK c aV s.v (BitVec.ofNat 32 b.val) (BitVec.ofNat 32 k)) (fun k => chS c aVs s.vs (BitVec.ofNat 32 b.val) (BitVec.ofNat 32 k)) A0 (ncN (ln b.val))) :
    k0_pay3 v63 (k0_pay31 v128 X) (k0_pay32 v147 (rdM c fm) (k0_pay25 (rdSn c fsn b) (rdM c fm)) (rdL c fll) (k0_pay26 (rdM c fm)) (rdVn c fvn b)) = rowOf c s ln fq fsn fvn v63 v128 v147 b := by
  subst hv hM0 hL0 hA0
  rw [ha, hk.m, hk.l]
  rfl

theorem wr_cast (c : Dev nD) (b : Fin k0_t2_loop.trips) (m8 : Memref sig .tc .vmem S4x32x64 .bf16) (f8 : BufOf F c m8) {w w' : FVec F S1x32x64 .bf16} (h : w = w') :
    own c m8 (m8.view.writes (Elt F) f8 [⟨Rect.unit (s := S4x32x64) (k0_off86 b) S1x32x64.size (k0_off86_inb b), w⟩]) ⊢ own c m8 (m8.view.writes (Elt F) f8 [⟨Rect.unit (s := S4x32x64) (k0_off86 b) S1x32x64.size (k0_off86_inb b), w'⟩]) := h ▸ .rfl

set_option maxHeartbeats 4000000 in
theorem t2_trip (c : Dev nD) (s : Src F c) (b : Fin k0_t2_loop.trips) (fl : BufOf F c lenM) (fq : BufOf F c qM) (fsn : BufOf F c snM) (fvn : BufOf F c vnM)
    (fs : BufOf F c sbM) (fm : BufOf F c mM) (fll : BufOf F c lM) (fa : BufOf F c accM)
    (ln : ℕ → ℕ) (hl : ∀ i, ln i ≤ 16384) (hL : LenOk c fl ln) (W : Waits sig Unit)
    (n : ℕ) (hit : it ln n = (b.val, 0, 0)) (v63 : FVec F S32x32 .bf16) (v128 : IVec S32x512 1) (v147 : IVec S32x8 1)
    (Q : BitVec 32 × BitVec 32 × BitVec 32 × BitVec 32 → sProp 𝕄)
    (m8 : Memref sig .tc .vmem S4x32x64 .bf16) (hm8 : m8.IsWhole) (f8 : BufOf F c m8) :
    iprop(Ring.AtW (Φ c s) (ring ln n) ∗ own c lenM fl ∗ own c qM fq ∗ own c snM fsn ∗ own c vnM fvn ∗ own c sbM fs ∗ own c mM fm ∗ own c lM fll ∗ own c accM fa ∗ own c m8 f8 ∗ owes (c : Thread nD τ) 0 W
       ∗ ((∃ fs' fm' fll' fa' W', Ring.AtW (Φ c s) (ring ln (n + ncN (ln b.val) + ncN (ln b.val))) ∗ own c lenM fl ∗ own c qM fq ∗ own c snM fsn ∗ own c vnM fvn ∗ own c sbM fs' ∗ own c mM fm' ∗ own c lM fll' ∗ own c accM fa'
            ∗ own c m8 (m8.view.writes (Elt F) f8 [⟨Rect.unit (s := S4x32x64) (k0_off86 b) S1x32x64.size (k0_off86_inb b), rowOf c s ln fq fsn fvn v63 v128 v147 b⟩]) ∗ owes (c : Thread nD τ) 0 W')
         -∗ Q (wds ln (n + ncN (ln b.val) + ncN (ln b.val)))))
      ⊢ wp frame (wpE (defs₀ (F := F)) Variants.none (c : Thread nD τ) none) Set.univ
          (k0_t2_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v63 v128 v147 b (wds ln n)) Q := by
  iintro ⟨HR, Hlen, Hq, Hsn, Hvn, Hs, Hm, Hl, Ha, H8, HO, Hk⟩
  unfold k0_t2_body
  have hoff : (k0_off12 b) 0 = b.val := by
    have h : ∀ b : Fin k0_t2_loop.trips, (k0_off12 b) 0 = b.val := by decide
    exact h b
  sl_exec
  have hv : t2_trip.sl.r c b fl = BitVec.ofNat 32 (ln b.val) := (hL (k0_off12 b) (k0_off12_inb b) _).trans (by rw [hoff])
  have hc3 : k0_chk3 (t2_trip.sl.r c b fl) := hv ▸ chk3_of (hl _)
  sl_exec
  rw [wp_bind]
  iapply (t3_run c s b fl fq fs _ _ ln hl hL _ (t2_trip.sl.r_1 c b fl) hv hc3 W n hit _ _ _ _ _ _ m8 hm8)
  isplitl [HR]; · iexact HR
  isplitl [Hlen]; · iexact Hlen
  isplitl [Hq]; · iexact Hq
  isplitl [Hs]; · iexact Hs
  isplitl [Hm]; · iexact Hm
  isplitl [Hl]; · iexact Hl
  isplitl [HO]; · iexact HO
  iintro ⟨%fs', %fm', %fll', %W', %hk, HR, Hlen, Hq, Hs, Hm, Hl, HO⟩
  sl_exec
  have hv' : t2_trip.sl.r_1 c b fl = BitVec.ofNat 32 (ln b.val) := (hL (k0_off12 b) (k0_off12_inb b) _).trans (by rw [hoff])
  rw [wp_bind]
  iapply (t5_run c s b fl fs' _ ln hl hL (t2_trip.sl.r c b fl) (t2_trip.sl.r_1 c b fl) hv hc3 W' (n + ncN (ln b.val)) (it_end (t2_lt b) hit) v128 v147 _ _ _ _ _ _ _ _ _ _ _ _ _ _ hk.rows _ m8 hm8)
  isplitl [HR]; · iexact HR
  isplitl [Hlen]; · iexact Hlen
  isplitl [Hs]; · iexact Hs
  isplitl [Ha]; · iexact Ha
  isplitl [HO]; · iexact HO
  iintro ⟨%fa', %W2, %ha, HR, Hlen, Hs, Ha, HO⟩
  sl_exec
  rw [wp_ret]; imodintro
  ihave H8' : (own c m8 (m8.view.writes (Elt F) f8 [⟨Rect.unit (s := S4x32x64) (k0_off86 b) S1x32x64.size (k0_off86_inb b), rowOf c s ln fq fsn fvn v63 v128 v147 b⟩])) $$ [H8]
  · istop
    exact (wr_cast c b m8 f8 (row_eq c s ln fq fsn fvn v63 v128 v147 b _ hv' _ _ _ fs' fm' fll' _ (View.readAt_writes_full mM.view _ _ _ _ _) (View.readAt_writes_full lM.view _ _ _ _ _) (View.readAt_writes_full accM.view _ _ _ _ _) hk rfl))
  iapply Hk
  iexists fs', fm', fll', fa', W2
  isplitl [HR]; · iexact HR
  isplitl [Hlen]; · iexact Hlen
  isplitl [Hq]; · iexact Hq
  isplitl [Hsn]; · iexact Hsn
  isplitl [Hvn]; · iexact Hvn
  isplitl [Hs]; · iexact Hs
  isplitl [Hm]; · iexact Hm
  isplitl [Hl]; · iexact Hl
  isplitl [Ha]; · iexact Ha
  isplitl [H8']; · iexact H8'
  iexact HO

end Cert.KernelIdeal.Hand
end
-- ==== Proof.RowsI.lean ====
module
public import proofs.«01_k».proof.Proof.RowI
import Idealize.ShloMosaic.Lib.Scf
import Idealize.ShloMosaic.Lib.WritesUnit
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loop over the sequences -/

/-- The first item of sequence `b`. -/
def nAt (ln : ℕ → ℕ) : ℕ → ℕ
  | 0 => 0
  | b + 1 => nAt ln b + ncN (ln b) + ncN (ln b)

theorem it_nAt (ln : ℕ → ℕ) : ∀ b, b ≤ 4 → it ln (nAt ln b) = (b, 0, 0)
  | 0, _ => rfl
  | b + 1, h => by
    have h0 := it_nAt ln b (by omega)
    have h1 := it_end (ln := ln) (κ := 0) (by omega) h0
    have h1 : it ln (nAt ln b + ncN (ln b)) = (b, 1, 0) := h1
    have h2 := it_end (ln := ln) (κ := 1) (by omega) h1
    exact h2

theorem nAt4_le {ln : ℕ → ℕ} (hl : ∀ i, ln i ≤ 16384) : nAt ln 4 ≤ 64 := by
  obtain ⟨-, -, -, h4⟩ := it_good hl (nAt ln 4)
  rw [it_nAt ln 4 le_rfl] at h4
  simpa using h4

theorem ring_end {ln : ℕ → ℕ} (hl : ∀ i, ln i ≤ 16384) : ring ln (nAt ln 4) = fun _ => St.free := by
  funext j
  have h := nAt4_le hl
  have hm : (j.val + 12 - nAt ln 4 % 12) % 12 < 12 := Nat.mod_lt _ (by decide)
  refine stN_free (it_ok hl (by omega)) ?_
  have := it_mono (ln := ln) (nAt ln 4) ((j.val + 12 - nAt ln 4 % 12) % 12)
  rw [it_nAt ln 4 le_rfl] at this
  exact this

abbrev rdO (c : Dev nD) (m8 : Memref sig .tc .vmem S4x32x64 .bf16) (f : BufOf F c m8) (b : Fin k0_t2_loop.trips) : Vec F S1x32x64 .bf16 :=
  View.readAt (Elt F) m8.view (Rect.unit (s := S4x32x64) (k0_off86 b) S1x32x64.size (k0_off86_inb b)).toLoadRect f

theorem rdO_here (c : Dev nD) (m8 : Memref sig .tc .vmem S4x32x64 .bf16) (f : BufOf F c m8) (b : Fin k0_t2_loop.trips) (w : Vec F S1x32x64 .bf16) :
    rdO c m8 (m8.view.writes (Elt F) f [⟨Rect.unit (s := S4x32x64) (k0_off86 b) S1x32x64.size (k0_off86_inb b), w⟩]) b = w := by
  funext x
  exact View.read_writes_cons_unit_of_mem m8.view f _ w [] _ x rfl fun a => by
    show k0_off86 b a + 1 * (x a).val = k0_off86 b a + (x a).val
    omega
theorem rdO_away (c : Dev nD) (m8 : Memref sig .tc .vmem S4x32x64 .bf16) (f : BufOf F c m8) (b b' : Fin k0_t2_loop.trips) (h : b ≠ b') (w : Vec F S1x32x64 .bf16) :
    rdO c m8 (m8.view.writes (Elt F) f [⟨Rect.unit (s := S4x32x64) (k0_off86 b') S1x32x64.size (k0_off86_inb b'), w⟩]) b = rdO c m8 f b := by
  funext x
  refine View.read_writes_cons_unit_of_not_mem m8.view f _ w [] _ rfl (0 : Fin 3) ?_
  have hx : (x (0 : Fin 3)).val < 1 := (x (0 : Fin 3)).isLt
  have e : ∀ b : Fin k0_t2_loop.trips, (k0_off86 b) 0 = b.val := by decide
  show k0_off86 b 0 + 1 * (x 0).val < k0_off86 b' 0 ∨ k0_off86 b' 0 + 1 ≤ k0_off86 b 0 + 1 * (x 0).val
  rw [e, e]
  have : b.val ≠ b'.val := fun h' => h (Fin.ext h')
  omega

theorem t2_run (c : Dev nD) (s : Src F c) (fl : BufOf F c lenM) (fq : BufOf F c qM) (fsn : BufOf F c snM) (fvn : BufOf F c vnM)
    (fs : BufOf F c sbM) (fm : BufOf F c mM) (fll : BufOf F c lM) (fa : BufOf F c accM)
    (ln : ℕ → ℕ) (hl : ∀ i, ln i ≤ 16384) (hL : LenOk c fl ln) (W : Waits sig Unit)
    (v63 : FVec F S32x32 .bf16) (v128 : IVec S32x512 1) (v147 : IVec S32x8 1)
    (Q : BitVec 32 × BitVec 32 × BitVec 32 × BitVec 32 → sProp 𝕄)
    (m8 : Memref sig .tc .vmem S4x32x64 .bf16) (hm8 : m8.IsWhole) (f8 : BufOf F c m8) :
    iprop(Ring.AtW (Φ c s) (ring ln 0) ∗ own c lenM fl ∗ own c qM fq ∗ own c snM fsn ∗ own c vnM fvn ∗ own c sbM fs ∗ own c mM fm ∗ own c lM fll ∗ own c accM fa ∗ own c m8 f8 ∗ owes (c : Thread nD τ) 0 W
       ∗ (∀ acc, (∃ fs' fm' fll' fa' f8' W', ⌜∀ b, rdO c m8 f8' b = rowOf c s ln fq fsn fvn v63 v128 v147 b⌝ ∗ Ring.AtW (Φ c s) (fun _ => St.free) ∗ own c lenM fl ∗ own c qM fq ∗ own c snM fsn ∗ own c vnM fvn ∗ own c sbM fs' ∗ own c mM fm' ∗ own c lM fll' ∗ own c accM fa'
            ∗ own c m8 f8' ∗ owes (c : Thread nD τ) 0 W')
         -∗ Q acc))
      ⊢ wp frame (wpE (defs₀ (F := F)) Variants.none (c : Thread nD τ) none) Set.univ
          (Scf.Loop.for k0_t2_loop k0_t2_ok (wds ln 0) (k0_t2_body (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 v63 v128 v147)) Q := by
  have htr : k0_t2_loop.trips = 4 := by decide
  let I : ℕ → BitVec 32 × BitVec 32 × BitVec 32 × BitVec 32 → sProp 𝕄 := fun k acc =>
    iprop(⌜acc = wds ln (nAt ln k)⌝ ∗ Ring.AtW (Φ c s) (ring ln (nAt ln k)) ∗ own c lenM fl ∗ own c qM fq ∗ own c snM fsn ∗ own c vnM fvn
      ∗ ∃ fs' fm' fll' fa' f8' W', ⌜∀ b : Fin k0_t2_loop.trips, b.val < k → rdO c m8 f8' b = rowOf c s ln fq fsn fvn v63 v128 v147 b⌝
        ∗ own c sbM fs' ∗ own c mM fm' ∗ own c lM fll' ∗ own c accM fa' ∗ own c m8 f8' ∗ owes (c : Thread nD τ) 0 W')
  refine .trans ?_ (Scf.wp_for _ _ _ k0_t2_loop.lb k0_t2_loop.ub k0_t2_loop.st k0_t2_ok (wds ln 0) _ I ?_)
  · iintro ⟨HR, Hlen, Hq, Hsn, Hvn, Hs, Hm, Hl, Ha, H8, HO, Hk⟩
    isplitl [HR Hlen Hq Hsn Hvn Hs Hm Hl Ha H8 HO]
    · isplitr; · ipureintro; rfl
      isplitl [HR]; · iexact HR
      isplitl [Hlen]; · iexact Hlen
      isplitl [Hq]; · iexact Hq
      isplitl [Hsn]; · iexact Hsn
      isplitl [Hvn]; · iexact Hvn
      iexists fs, fm, fll, fa, f8, W
      isplitr; · ipureintro; exact fun b hb => absurd hb (Nat.not_lt_zero _)
      isplitl [Hs]; · iexact Hs
      isplitl [Hm]; · iexact Hm
      isplitl [Hl]; · iexact Hl
      isplitl [Ha]; · iexact Ha
      isplitl [H8]; · iexact H8
      iexact HO
    · iintro %acc ⟨%e, HR, Hlen, Hq, Hsn, Hvn, %fs', %fm', %fll', %fa', %f8', %W', %hk, Hs, Hm, Hl, Ha, H8, HO⟩
      have htr' : Scf.trips k0_t2_loop.lb k0_t2_loop.ub k0_t2_loop.st = 4 := htr
      rw [htr', ring_end hl]
      iapply Hk
      iexists fs', fm', fll', fa', f8', W'
      isplitr; · ipureintro; exact fun b => hk b b.isLt
      isplitl [HR]; · iexact HR
      isplitl [Hlen]; · iexact Hlen
      isplitl [Hq]; · iexact Hq
      isplitl [Hsn]; · iexact Hsn
      isplitl [Hvn]; · iexact Hvn
      isplitl [Hs]; · iexact Hs
      isplitl [Hm]; · iexact Hm
      isplitl [Hl]; · iexact Hl
      isplitl [Ha]; · iexact Ha
      isplitl [H8]; · iexact H8
      iexact HO
  · intro b acc
    have hb : b.val < 4 := lt_of_lt_of_eq b.isLt htr
    iintro ⟨%e, HR, Hlen, Hq, Hsn, Hvn, %fs', %fm', %fll', %fa', %f8', %W', %hk, Hs, Hm, Hl, Ha, H8, HO⟩
    subst e
    iapply (t2_trip c s b fl fq fsn fvn fs' fm' fll' fa' ln hl hL W' (nAt ln b.val) (it_nAt ln b.val (by omega)) v63 v128 v147 _ m8 hm8 f8')
    isplitl [HR]; · iexact HR
    isplitl [Hlen]; · iexact Hlen
    isplitl [Hq]; · iexact Hq
    isplitl [Hsn]; · iexact Hsn
    isplitl [Hvn]; · iexact Hvn
    isplitl [Hs]; · iexact Hs
    isplitl [Hm]; · iexact Hm
    isplitl [Hl]; · iexact Hl
    isplitl [Ha]; · iexact Ha
    isplitl [H8]; · iexact H8
    isplitl [HO]; · iexact HO
    iintro ⟨%fs2, %fm2, %fll2, %fa2, %W2, HR, Hlen, Hq, Hsn, Hvn, Hs, Hm, Hl, Ha, H8, HO⟩
    isplitr; · ipureintro; rfl
    isplitl [HR]; · iexact HR
    isplitl [Hlen]; · iexact Hlen
    isplitl [Hq]; · iexact Hq
    isplitl [Hsn]; · iexact Hsn
    isplitl [Hvn]; · iexact Hvn
    iexists fs2, fm2, fll2, fa2, _, W2
    isplitr [Hs Hm Hl Ha H8 HO]
    rotate_left
    · isplitl [Hs]; · iexact Hs
      isplitl [Hm]; · iexact Hm
      isplitl [Hl]; · iexact Hl
      isplitl [Ha]; · iexact Ha
      isplitl [H8]; · iexact H8
      iexact HO
    · ipureintro
      intro b' hb'
      by_cases h : b' = b
      · subst h; exact rdO_here c m8 f8' b' _
      · exact (rdO_away c m8 f8' b' b h _).trans (hk b' (by
          have : b'.val ≠ b.val := fun h' => h (Fin.ext h')
          omega))

end Cert.KernelIdeal.Hand
end
-- ==== Proof.WholeI.lean ====
module
public import proofs.«01_k».proof.Proof.RowsI
import Idealize.ShloMosaic.Lib.Scf
import Idealize.ShloMosaic.Lib.WritesUnit
import Idealize.ShloMosaic.Lib.VecWindow
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev aX : Memref sig .tc .hbm S4x32x64 .bf16 := Memref.whole main_v6
abbrev aKn : Memref sig .tc .hbm S4x8x64 .bf16 := Memref.whole main_v7
abbrev aVn : Memref sig .tc .hbm S4x8x64 .bf16 := Memref.whole main_v8
abbrev aL : Memref sig .tc .hbm S4 .i32 := Memref.whole main_arg7
abbrev xM : Memref sig .tc .vmem S4x32x64 .bf16 := Memref.whole cc0_scratch0
abbrev knM : Memref sig .tc .vmem S4x8x64 .bf16 := Memref.whole cc0_scratch1

/-- The semaphores of the three small copies and of the lengths'. -/
abbrev smS (i : Fin 3) : SemLoc sig := ![SemLoc.dma (13 : DmaSem sig), SemLoc.dma (14 : DmaSem sig), SemLoc.dma (15 : DmaSem sig)] i

/-- What a view reads after a store over all of it. -/
theorem readAt_whole (c : Dev nD) {S : Shape} {e : EltTy} {sp : Space} (M : Memref sig .tc sp S e) (f : BufOf F c M) (w : S.Idx → Elt F e) {off size : Fin S.rank → ℕ} (hi : ∀ a, off a + size a ≤ S.size a)
    (i : (Rect.unit off size hi).shape.Idx) :
    View.readAt (Elt F) M.view (Rect.unit off size hi).toLoadRect (M.view.writes (Elt F) f [⟨Rect.whole S, w⟩]) i = w ((Rect.unit off size hi).emb i) :=
  View.read_writes_cons_unit_of_mem M.view f (off := fun _ => 0) (size := S.size) (fun _ => by simp) w [] _ ((Rect.unit off size hi).emb i) rfl fun a => by simp

/-- The lengths, as naturals. -/
noncomputable def lnOf (c : Dev nD) (fL : BufOf F c aL) (i : ℕ) : ℕ := if h : i < 4 then (View.read (Elt F) aL.view fL (fun a => ⟨i, by fin_cases a; exact h⟩) : BitVec 32).toNat else 0

theorem lenOk (c : Dev nD) (fL : BufOf F c aL) (f : BufOf F c lenM) :
    LenOk c (lenM.view.writes (Elt F) f [⟨Rect.whole S4, ReadAs.same.apply (View.read (Elt F) aL.view fL)⟩]) (lnOf c fL) := by
  intro off hi i
  have h1 : off 0 + 1 ≤ 4 := hi 0
  have h0 : (i 0).val < 1 := (i 0).isLt
  refine (readAt_whole c lenM f _ hi i).trans ?_
  unfold lnOf
  rw [dif_pos (by omega : off 0 < 4), BitVec.ofNat_toNat, BitVec.setWidth_eq]
  show View.read (Elt F) aL.view fL _ = _
  congr 1
  funext a
  fin_cases a
  exact Fin.ext (by show off 0 + 1 * (i 0).val = off 0; omega)

/-! ## The rows the loop over the sequences reads -/

/-- The constants of the program: the heads' permutation, the copies along the keys' rows, and the two masks. -/
noncomputable abbrev wPerm : FVec F S32x32 .bf16 := k0_pay34 (iota .tc S32x32 32 [1] iota_S32x32_d1_w32) k0_pay33 4#32
noncomputable abbrev wRep : FVec F S64x512 .bf16 := k0_pay38 k0_pay35 k0_pay36 k0_pay37
noncomputable abbrev wDiag : IVec S32x512 1 := k0_pay43 k0_pay39 k0_pay40 k0_pay41 k0_pay42
noncomputable abbrev wOwn : IVec S32x8 1 := k0_pay44

/-- Sequence `b`'s rows of the three small arrays. -/
noncomputable def xRow (c : Dev nD) (f : BufOf F c aX) (b : Fin k0_t2_loop.trips) : Vec F S1x32x64 .bf16 :=
  fun y => View.read (Elt F) aX.view f ((Rect.unit (s := S4x32x64) (k0_off86 b) S1x32x64.size (k0_off86_inb b)).emb y)
noncomputable def knRow (c : Dev nD) (f : BufOf F c aKn) (b : Fin k0_t2_loop.trips) : Vec F S1x8x64 .bf16 :=
  fun y => View.read (Elt F) aKn.view f ((Rect.unit (s := S4x8x64) (k0_off85 b) S1x8x64.size (k0_off85_inb b)).emb y)
noncomputable def vnRow (c : Dev nD) (f : BufOf F c aVn) (b : Fin k0_t2_loop.trips) : Vec F S1x8x64 .bf16 :=
  fun y => View.read (Elt F) aVn.view f ((Rect.unit (s := S4x8x64) (k0_off85 b) S1x8x64.size (k0_off85_inb b)).emb y)

/-- Sequence `b`'s row of the result, of the operands. -/
noncomputable def outOf (c : Dev nD) (s : Src F c) (fX : BufOf F c aX) (fKn : BufOf F c aKn) (fVn : BufOf F c aVn) (fL : BufOf F c aL) (b : Fin k0_t2_loop.trips) : FVec F S1x32x64 .bf16 :=
  outRow (BitVec.ofNat 32 (lnOf c fL b.val)) (ncN (lnOf c fL b.val)) (k0_pay53 wPerm wRep wDiag (xRow c fX b)) (k0_pay54 wPerm wOwn (xRow c fX b) (knRow c fKn b)) (vnRow c fVn b)
    (fun k => chK c aK s.k (BitVec.ofNat 32 b.val) (BitVec.ofNat 32 k)) (fun k => chS c aKs s.ks (BitVec.ofNat 32 b.val) (BitVec.ofNat 32 k))
    (fun k => chK c aV s.v (BitVec.ofNat 32 b.val) (BitVec.ofNat 32 k)) (fun k => chS c aVs s.vs (BitVec.ofNat 32 b.val) (BitVec.ofNat 32 k)) wPerm wDiag wOwn

theorem rowsQ (c : Dev nD) (f : BufOf F c qM) (w : Fin 4 → FVec F S1x32x512 .bf16) (b : Fin k0_t2_loop.trips) (h : b.val < 4) :
    rdQ c (qM.view.writes (Elt F) f [⟨Rect.unit (s := S4x32x512) ![3, 0, 0] S1x32x512.size inb_S4x32x512_S1x32x512_3_0_0, w 3⟩, ⟨Rect.unit (s := S4x32x512) ![2, 0, 0] S1x32x512.size inb_S4x32x512_S1x32x512_2_0_0, w 2⟩,
      ⟨Rect.unit (s := S4x32x512) ![1, 0, 0] S1x32x512.size inb_S4x32x512_S1x32x512_1_0_0, w 1⟩, ⟨Rect.unit (s := S4x32x512) ![0, 0, 0] S1x32x512.size inb_S4x32x512_S1x32x512_0_0_0, w 0⟩]) b = w ⟨b.val, h⟩ := by
  funext x
  have hx : (x (0 : Fin 3)).val < 1 := (x (0 : Fin 3)).isLt
  have e : ∀ b : Fin k0_t2_loop.trips, k0_off17 b = ![b.val, 0, 0] := by decide
  have hy : ∀ a, ((Rect.unit (s := S4x32x512) (k0_off17 b) S1x32x512.size (k0_off17_inb b)).emb x a).val = (![b.val, 0, 0] : Fin 3 → ℕ) a + (x a).val := fun a => by
    rw [← e b]; show k0_off17 b a + 1 * (x a).val = _; omega
  have h0 : ((Rect.unit (s := S4x32x512) (k0_off17 b) S1x32x512.size (k0_off17_inb b)).emb x (0 : Fin 3)).val = b.val := (hy 0).trans (by show b.val + (x 0).val = b.val; omega)
  show View.read (Elt F) qM.view _ ((Rect.unit (s := S4x32x512) (k0_off17 b) S1x32x512.size (k0_off17_inb b)).emb x) = _
  obtain ⟨b, hb⟩ := b
  have hb' : b = 3 ∨ b = 2 ∨ b = 1 ∨ b = 0 := by simp only at h; omega
  rcases hb' with rfl | rfl | rfl | rfl
  · exact View.read_writes_cons_unit_of_mem qM.view f _ _ _ _ x rfl hy
  · rw [View.read_writes_cons_unit_of_not_mem qM.view f _ _ _ _ rfl (0 : Fin 3) (Or.inl (h0.trans_lt (by simp)))]
    exact View.read_writes_cons_unit_of_mem qM.view f _ _ _ _ x rfl hy
  · rw [View.read_writes_cons_unit_of_not_mem qM.view f _ _ _ _ rfl (0 : Fin 3) (Or.inl (h0.trans_lt (by simp))), View.read_writes_cons_unit_of_not_mem qM.view f _ _ _ _ rfl (0 : Fin 3) (Or.inl (h0.trans_lt (by simp)))]
    exact View.read_writes_cons_unit_of_mem qM.view f _ _ _ _ x rfl hy
  · rw [View.read_writes_cons_unit_of_not_mem qM.view f _ _ _ _ rfl (0 : Fin 3) (Or.inl (h0.trans_lt (by simp))), View.read_writes_cons_unit_of_not_mem qM.view f _ _ _ _ rfl (0 : Fin 3) (Or.inl (h0.trans_lt (by simp))),
      View.read_writes_cons_unit_of_not_mem qM.view f _ _ _ _ rfl (0 : Fin 3) (Or.inl (h0.trans_lt (by simp)))]
    exact View.read_writes_cons_unit_of_mem qM.view f _ _ _ _ x rfl hy

theorem rowsSn (c : Dev nD) (f : BufOf F c snM) (w : Fin 4 → FVec F S1x32x128 .f32) (b : Fin k0_t2_loop.trips) (h : b.val < 4) :
    rdSn c (snM.view.writes (Elt F) f [⟨Rect.unit (s := S4x32x128) ![3, 0, 0] S1x32x128.size inb_S4x32x128_S1x32x128_3_0_0, w 3⟩, ⟨Rect.unit (s := S4x32x128) ![2, 0, 0] S1x32x128.size inb_S4x32x128_S1x32x128_2_0_0, w 2⟩,
      ⟨Rect.unit (s := S4x32x128) ![1, 0, 0] S1x32x128.size inb_S4x32x128_S1x32x128_1_0_0, w 1⟩, ⟨Rect.unit (s := S4x32x128) ![0, 0, 0] S1x32x128.size inb_S4x32x128_S1x32x128_0_0_0, w 0⟩]) b = w ⟨b.val, h⟩ := by
  funext x
  have hx : (x (0 : Fin 3)).val < 1 := (x (0 : Fin 3)).isLt
  have e : ∀ b : Fin k0_t2_loop.trips, k0_off13 b = ![b.val, 0, 0] := by decide
  have hy : ∀ a, ((Rect.unit (s := S4x32x128) (k0_off13 b) S1x32x128.size (k0_off13_inb b)).emb x a).val = (![b.val, 0, 0] : Fin 3 → ℕ) a + (x a).val := fun a => by
    rw [← e b]; show k0_off13 b a + 1 * (x a).val = _; omega
  have h0 : ((Rect.unit (s := S4x32x128) (k0_off13 b) S1x32x128.size (k0_off13_inb b)).emb x (0 : Fin 3)).val = b.val := (hy 0).trans (by show b.val + (x 0).val = b.val; omega)
  show View.read (Elt F) snM.view _ ((Rect.unit (s := S4x32x128) (k0_off13 b) S1x32x128.size (k0_off13_inb b)).emb x) = _
  obtain ⟨b, hb⟩ := b
  have hb' : b = 3 ∨ b = 2 ∨ b = 1 ∨ b = 0 := by simp only at h; omega
  rcases hb' with rfl | rfl | rfl | rfl
  · exact View.read_writes_cons_unit_of_mem snM.view f _ _ _ _ x rfl hy
  · rw [View.read_writes_cons_unit_of_not_mem snM.view f _ _ _ _ rfl (0 : Fin 3) (Or.inl (h0.trans_lt (by simp)))]
    exact View.read_writes_cons_unit_of_mem snM.view f _ _ _ _ x rfl hy
  · rw [View.read_writes_cons_unit_of_not_mem snM.view f _ _ _ _ rfl (0 : Fin 3) (Or.inl (h0.trans_lt (by simp))), View.read_writes_cons_unit_of_not_mem snM.view f _ _ _ _ rfl (0 : Fin 3) (Or.inl (h0.trans_lt (by simp)))]
    exact View.read_writes_cons_unit_of_mem snM.view f _ _ _ _ x rfl hy
  · rw [View.read_writes_cons_unit_of_not_mem snM.view f _ _ _ _ rfl (0 : Fin 3) (Or.inl (h0.trans_lt (by simp))), View.read_writes_cons_unit_of_not_mem snM.view f _ _ _ _ rfl (0 : Fin 3) (Or.inl (h0.trans_lt (by simp))),
      View.read_writes_cons_unit_of_not_mem snM.view f _ _ _ _ rfl (0 : Fin 3) (Or.inl (h0.trans_lt (by simp)))]
    exact View.read_writes_cons_unit_of_mem snM.view f _ _ _ _ x rfl hy

set_option maxHeartbeats 8000000 in
theorem whole_body (c : Dev nD) (s : Src F c) (fX : BufOf F c aX) (fKn : BufOf F c aKn) (fVn : BufOf F c aVn) (fL : BufOf F c aL)
    (f0 : BufOf F c xM) (f1 : BufOf F c knM) (f2 : BufOf F c vnM) (fl : BufOf F c lenM) (fq : BufOf F c qM) (fsn : BufOf F c snM)
    (fs : BufOf F c sbM) (fm : BufOf F c mM) (fll : BufOf F c lM) (fa : BufOf F c accM)
    (W : Waits sig Unit) (hl : ∀ i, lnOf c fL i ≤ 16384)
    (Q : PUnit → sProp 𝕄)
    (m8 : Memref sig .tc .vmem S4x32x64 .bf16) (hm8 : m8.IsWhole) (f8 : BufOf F c m8) :
    iprop(Ring.AtW (Φ c s) (fun _ => St.free) ∗ own c aX fX ∗ own c aKn fKn ∗ own c aVn fVn ∗ own c aL fL
       ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0
       ∗ own c xM f0 ∗ own c knM f1 ∗ own c vnM f2 ∗ own c lenM fl ∗ own c qM fq ∗ own c snM fsn ∗ own c sbM fs ∗ own c mM fm ∗ own c lM fll ∗ own c accM fa ∗ own c m8 f8 ∗ owes (c : Thread nD τ) 0 W
       ∗ ((∃ f0 f1 f2 fl fq fsn fs fm fll fa f8 W', ⌜∀ b, rdO c m8 f8 b = outOf c s fX fKn fVn fL b⌝ ∗ Ring.AtW (Φ c s) (fun _ => St.free) ∗ own c aX fX ∗ own c aKn fKn ∗ own c aVn fVn ∗ own c aL fL
           ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0
           ∗ own c xM f0 ∗ own c knM f1 ∗ own c vnM f2 ∗ own c lenM fl ∗ own c qM fq ∗ own c snM fsn ∗ own c sbM fs ∗ own c mM fm ∗ own c lM fll ∗ own c accM fa ∗ own c m8 f8 ∗ owes (c : Thread nD τ) 0 W')
         -∗ Q ⟨⟩))
      ⊢ wp frame (wpE (defs₀ (F := F)) Variants.none (c : Thread nD τ) none) Set.univ
          (cc0_decode_gqa_int8 (F := F) (Memref.whole main_v6) (Memref.isWhole_whole _) (Memref.whole main_v7) (Memref.isWhole_whole _) (Memref.whole main_v8) (Memref.isWhole_whole _) (Memref.whole main_v1) (Memref.isWhole_whole _) (Memref.whole main_v4) (Memref.isWhole_whole _) (Memref.whole main_v3) (Memref.isWhole_whole _) (Memref.whole main_v5) (Memref.isWhole_whole _) (Memref.whole main_arg7) (Memref.isWhole_whole _) m8 hm8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14) Q := by
  rw [cc0_decode_gqa_int8_eq_skeleton]
  unfold cc0_decode_gqa_int8_skel
  iintro ⟨HR, HX, HKn, HVn, HL, Hs0, Hs1, Hs2, Hs3, H0, H1, H2, Hlen, Hq, Hsn, Hs, Hm, Hl, Ha, H8, HO, Hk⟩
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  sl_exec
  rw [wp_bind, wp_bind]
  iapply (t1_run c s _ (lnOf c fL) hl (lenOk c fL _) _ m8 hm8)
  isplitl [HR]; · iexact HR
  isplitl [Hlen]; · iexact Hlen
  iintro ⟨HR, Hlen⟩
  sl_exec
  rw [wp_bind]
  iapply (t2_run c s _ _ _ _ fs fm fll fa (lnOf c fL) hl (lenOk c fL _) _ _ _ _ _ m8 hm8 f8)
  isplitl [HR]; · iexact HR
  isplitl [Hlen]; · iexact Hlen
  isplitl [Hq]; · iexact Hq
  isplitl [Hsn]; · iexact Hsn
  isplitl [H2]; · iexact H2
  isplitl [Hs]; · iexact Hs
  isplitl [Hm]; · iexact Hm
  isplitl [Hl]; · iexact Hl
  isplitl [Ha]; · iexact Ha
  isplitl [H8]; · iexact H8
  isplitl [HO]; · iexact HO
  iintro %acc ⟨%fs', %fm', %fll', %fa', %f8', %W', %hrow, HR, Hlen, Hq, Hsn, H2, Hs, Hm, Hl, Ha, H8, HO⟩
  sl_exec
  rw [wp_ret]
  imodintro
  iapply Hk
  iexists _, _, _, _, _, _, _, _, _, _, _, _
  isplitr [HR Hlen Hq Hsn H2 Hs Hm Hl Ha H8 HO HL Hs3 H0 HX Hs0 H1 HKn Hs1 HVn Hs2]
  rotate_left
  · isplitl [HR]; · iexact HR
    isplitl [HX]; · iexact HX
    isplitl [HKn]; · iexact HKn
    isplitl [HVn]; · iexact HVn
    isplitl [HL]; · iexact HL
    isplitl [Hs0]; · iexact Hs0
    isplitl [Hs1]; · iexact Hs1
    isplitl [Hs2]; · iexact Hs2
    isplitl [Hs3]; · iexact Hs3
    isplitl [H0]; · iexact H0
    isplitl [H1]; · iexact H1
    isplitl [H2]; · iexact H2
    isplitl [Hlen]; · iexact Hlen
    isplitl [Hq]; · iexact Hq
    isplitl [Hsn]; · iexact Hsn
    isplitl [Hs]; · iexact Hs
    isplitl [Hm]; · iexact Hm
    isplitl [Hl]; · iexact Hl
    isplitl [Ha]; · iexact Ha
    isplitl [H8]; · iexact H8
    iexact HO
  · ipureintro
    intro b
    refine (hrow b).trans ?_
    have hb : b.val < 4 := lt_of_lt_of_eq b.isLt (by decide)
    have hx : ∀ b : Fin k0_t2_loop.trips, View.readAt (Elt F) xM.view (Rect.unit (s := S4x32x64) (k0_off86 b) S1x32x64.size (k0_off86_inb b)).toLoadRect
        (xM.view.writes (Elt F) xM.view.junk [⟨Rect.whole S4x32x64, whole_body.sl.dma0_1 c fX⟩]) = xRow c fX b := fun b => funext fun i => readAt_whole c xM _ _ _ i
    have hkn : ∀ b : Fin k0_t2_loop.trips, View.readAt (Elt F) knM.view (Rect.unit (s := S4x8x64) (k0_off85 b) S1x8x64.size (k0_off85_inb b)).toLoadRect
        (knM.view.writes (Elt F) knM.view.junk [⟨Rect.whole S4x8x64, whole_body.sl.dma0_2 c fKn⟩]) = knRow c fKn b := fun b => funext fun i => readAt_whole c knM _ _ _ i
    have hvn : rdVn c (vnM.view.writes (Elt F) vnM.view.junk [⟨Rect.whole S4x8x64, whole_body.sl.dma0_3 c fVn⟩]) b = vnRow c fVn b := funext fun i => readAt_whole c vnM _ _ _ i
    have hq : rdQ c (qM.view.writes (Elt F) qM.view.junk (whole_body.sl.Hq_4 c fX fKn)) b = k0_pay53 wPerm wRep wDiag (xRow c fX b) := by
      refine (rowsQ c _ (fun j => k0_pay53 wPerm wRep wDiag (View.readAt (Elt F) xM.view (Rect.unit (s := S4x32x64) (k0_off86 ⟨j.val, lt_of_lt_of_eq j.isLt (by decide)⟩) S1x32x64.size (k0_off86_inb _)).toLoadRect
        (xM.view.writes (Elt F) xM.view.junk [⟨Rect.whole S4x32x64, whole_body.sl.dma0_1 c fX⟩]))) b hb).trans ?_
      exact congrArg _ (hx b)
    have hsn : rdSn c (snM.view.writes (Elt F) snM.view.junk (whole_body.sl.Hsn_4 c fX fKn)) b = k0_pay54 wPerm wOwn (xRow c fX b) (knRow c fKn b) := by
      refine (rowsSn c _ (fun j => k0_pay54 wPerm wOwn (View.readAt (Elt F) xM.view (Rect.unit (s := S4x32x64) (k0_off86 ⟨j.val, lt_of_lt_of_eq j.isLt (by decide)⟩) S1x32x64.size (k0_off86_inb _)).toLoadRect
        (xM.view.writes (Elt F) xM.view.junk [⟨Rect.whole S4x32x64, whole_body.sl.dma0_1 c fX⟩])) (View.readAt (Elt F) knM.view (Rect.unit (s := S4x8x64) (k0_off85 ⟨j.val, lt_of_lt_of_eq j.isLt (by decide)⟩) S1x8x64.size (k0_off85_inb _)).toLoadRect
        (knM.view.writes (Elt F) knM.view.junk [⟨Rect.whole S4x8x64, whole_body.sl.dma0_2 c fKn⟩]))) b hb).trans ?_
      exact congrArg₂ _ (hx b) (hkn b)
    show outRow _ _ (rdQ c _ b) (rdSn c _ b) (rdVn c _ b) _ _ _ _ _ _ _ = _
    rw [hq, hsn, hvn]
    rfl

end Cert.KernelIdeal.Hand
end
-- ==== Proof.CutI.lean ====
module
public import proofs.«01_k».proof.Proof.StateI
public import Idealize.ShloMosaic.Lib.Ring.FamCut
import Idealize.ShloMosaic.Lib.ReshapeSlab
import Idealize.SL.ProofMode.BigOp
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring buffers, the operands and the flags, cut into the slots' parts and put together again -/

theorem kslot_set (j : Fin 12) : (kslot j).view.set = (rK.view.slice (Rect.unit (s := S12x512x2048) ![j.val, 0, 0] S1x512x2048.size (inbK j))).set := View.set_reshape _ _
theorem sslot_set (j : Fin 12) : (sslot j).view.set = (rS.view.slice (Rect.unit (s := S12x8x2048) ![j.val, 0, 0] S1x8x2048.size (inbR j))).set := View.set_reshape _ _

theorem kslot_disj (j j' : Fin 12) (h : j ≠ j') : Disjoint (kslot j).view.set (kslot j').view.set := by
  rw [kslot_set, kslot_set]
  refine View.disjoint_slice_of_sep _ _ _ (0 : Fin 3) rfl rfl ?_
  have : j.val ≠ j'.val := fun h' => h (Fin.ext h')
  show j.val + 1 ≤ j'.val ∨ j'.val + 1 ≤ j.val
  omega
theorem sslot_disj (j j' : Fin 12) (h : j ≠ j') : Disjoint (sslot j).view.set (sslot j').view.set := by
  rw [sslot_set, sslot_set]
  refine View.disjoint_slice_of_sep _ _ _ (0 : Fin 3) rfl rfl ?_
  have : j.val ≠ j'.val := fun h' => h (Fin.ext h')
  show j.val + 1 ≤ j'.val ∨ j'.val + 1 ≤ j.val
  omega

/-- An operand held whole is a remainder and a read share for every slot. -/
theorem toks_eq (c : Dev nD) {S : Shape} {e : EltTy} (A : Memref sig .tc .hbm S e) (f : BufOf F c A) :
    (own c A f : sProp 𝕄) ⊢ iprop((A.view.loc (c : Thread nD τ) ↦[A.view.set]{Transfers.shareDrop fullShare 12} f) ∗ bigSep Finset.univ fun j : Fin 12 => tok c A j A.view.set f) :=
  Transfers.pointsTo_toks_split fullShare 12
theorem toks_eq' (c : Dev nD) {S : Shape} {e : EltTy} (A : Memref sig .tc .hbm S e) (f : BufOf F c A) :
    iprop((A.view.loc (c : Thread nD τ) ↦[A.view.set]{Transfers.shareDrop fullShare 12} f) ∗ bigSep Finset.univ fun j : Fin 12 => tok c A j A.view.set f) ⊢ (own c A f : sProp 𝕄) :=
  Transfers.pointsTo_toks_join fullShare 12

/-- What of the ring's buffers and the operands no slot holds. -/
def leftover (c : Dev nD) (s : Src F c) : sProp 𝕄 :=
  iprop((∃ f, rK.view.loc (c : Thread nD τ) ↦[Ring.restOf fun j : Fin 12 => (kslot j).view.set]{fullShare} f)
    ∗ (∃ f, rS.view.loc (c : Thread nD τ) ↦[Ring.restOf fun j : Fin 12 => (sslot j).view.set]{fullShare} f)
    ∗ (aK.view.loc (c : Thread nD τ) ↦[aK.view.set]{Transfers.shareDrop fullShare 12} s.k) ∗ (aKs.view.loc (c : Thread nD τ) ↦[aKs.view.set]{Transfers.shareDrop fullShare 12} s.ks)
    ∗ (aV.view.loc (c : Thread nD τ) ↦[aV.view.set]{Transfers.shareDrop fullShare 12} s.v) ∗ (aVs.view.loc (c : Thread nD τ) ↦[aVs.view.set]{Transfers.shareDrop fullShare 12} s.vs))

theorem free_eq (c : Dev nD) (s : Src F c) : Ring.AtW (Φ c s) (fun _ => St.free)
    = iprop((bigSep Finset.univ fun j : Fin 12 => semVal ((c : Thread nD τ), SemLoc.dma (cellJ j)) 0)
      ∗ (bigSep Finset.univ fun j : Fin 12 => iprop(∃ f : BufOf F c (kslot j), (kslot j).view.loc (c : Thread nD τ) ↦[(kslot j).view.set]{fullShare} f))
      ∗ (bigSep Finset.univ fun j : Fin 12 => iprop(∃ f : BufOf F c (sslot j), (sslot j).view.loc (c : Thread nD τ) ↦[(sslot j).view.set]{fullShare} f))
      ∗ (bigSep Finset.univ fun j : Fin 12 => tok c aK j aK.view.set s.k) ∗ (bigSep Finset.univ fun j : Fin 12 => tok c aKs j aKs.view.set s.ks)
      ∗ (bigSep Finset.univ fun j : Fin 12 => tok c aV j aV.view.set s.v) ∗ (bigSep Finset.univ fun j : Fin 12 => tok c aVs j aVs.view.set s.vs)) := by
  rw [← bigSep_sep', ← bigSep_sep', ← bigSep_sep', ← bigSep_sep', ← bigSep_sep', ← bigSep_sep']
  rfl

theorem ring_in (c : Dev nD) (s : Src F c) :
    iprop((bigSep Finset.univ fun j : Fin 12 => semVal ((c : Thread nD τ), SemLoc.dma (cellJ j)) 0)
      ∗ (∃ f, rK.view.loc (c : Thread nD τ) ↦{fullShare} f) ∗ (∃ f, rS.view.loc (c : Thread nD τ) ↦{fullShare} f)
      ∗ own c aK s.k ∗ own c aKs s.ks ∗ own c aV s.v ∗ own c aVs s.vs)
      ⊢ iprop(Ring.AtW (Φ c s) (fun _ => St.free) ∗ leftover c s) := by
  rw [free_eq]
  unfold leftover
  iintro ⟨Hc, HK, HS, Ha, Hb, Hv, Hw⟩
  ihave HK := (Ring.fam_split_ex (fun j : Fin 12 => (kslot j).view.set) kslot_disj) $$ HK
  ihave HS := (Ring.fam_split_ex (fun j : Fin 12 => (sslot j).view.set) sslot_disj) $$ HS
  ihave Ha := (toks_eq c aK s.k) $$ Ha
  ihave Hb := (toks_eq c aKs s.ks) $$ Hb
  ihave Hv := (toks_eq c aV s.v) $$ Hv
  ihave Hw := (toks_eq c aVs s.vs) $$ Hw
  icases HK with ⟨HK, HK'⟩
  icases HS with ⟨HS, HS'⟩
  icases Ha with ⟨Ha', Ha⟩
  icases Hb with ⟨Hb', Hb⟩
  icases Hv with ⟨Hv', Hv⟩
  icases Hw with ⟨Hw', Hw⟩
  isplitl [Hc HK HS Ha Hb Hv Hw]
  · isplitl [Hc]; · iexact Hc
    isplitl [HK]; · iexact HK
    isplitl [HS]; · iexact HS
    isplitl [Ha]; · iexact Ha
    isplitl [Hb]; · iexact Hb
    isplitl [Hv]; · iexact Hv
    iexact Hw
  · isplitl [HK']; · iexact HK'
    isplitl [HS']; · iexact HS'
    isplitl [Ha']; · iexact Ha'
    isplitl [Hb']; · iexact Hb'
    isplitl [Hv']; · iexact Hv'
    iexact Hw'

theorem ring_out (c : Dev nD) (s : Src F c) :
    iprop(Ring.AtW (Φ c s) (fun _ => St.free) ∗ leftover c s) ⊢
    iprop((bigSep Finset.univ fun j : Fin 12 => semVal ((c : Thread nD τ), SemLoc.dma (cellJ j)) 0)
      ∗ (∃ f, rK.view.loc (c : Thread nD τ) ↦{fullShare} f) ∗ (∃ f, rS.view.loc (c : Thread nD τ) ↦{fullShare} f)
      ∗ own c aK s.k ∗ own c aKs s.ks ∗ own c aV s.v ∗ own c aVs s.vs) := by
  rw [free_eq]
  unfold leftover
  iintro ⟨⟨Hc, HK, HS, Ha, Hb, Hv, Hw⟩, HK', HS', Ha', Hb', Hv', Hw'⟩
  isplitl [Hc]; · iexact Hc
  isplitl [HK HK']
  · iapply (Ring.fam_join (fun j : Fin 12 => (kslot j).view.set) kslot_disj rK.view.junk)
    isplitl [HK]; · iexact HK
    iexact HK'
  isplitl [HS HS']
  · iapply (Ring.fam_join (fun j : Fin 12 => (sslot j).view.set) sslot_disj rS.view.junk)
    isplitl [HS]; · iexact HS
    iexact HS'
  isplitl [Ha Ha']
  · iapply (toks_eq' c aK s.k)
    isplitl [Ha']; · iexact Ha'
    iexact Ha
  isplitl [Hb Hb']
  · iapply (toks_eq' c aKs s.ks)
    isplitl [Hb']; · iexact Hb'
    iexact Hb
  isplitl [Hv Hv']
  · iapply (toks_eq' c aV s.v)
    isplitl [Hv']; · iexact Hv'
    iexact Hv
  iapply (toks_eq' c aVs s.vs)
  isplitl [Hw']; · iexact Hw'
  iexact Hw

end Cert.KernelIdeal.Hand
end
-- ==== Proof.BringI.lean ====
module
public import proofs.«01_k».proof.Proof.WholeI
public import proofs.«01_k».proof.Proof.CutI
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffixV
public import Idealize.ShloMosaic.Lib.Pipeline.FrameBody
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The region's own state -/

/-- The body's sixteen semaphores: the ring's twelve, the small copies' three, the lengths' one. -/
abbrev osem0 : Fin 16 → SemLoc sig := fun j => SemLoc.dma (⟨j.val + 1, Nat.add_lt_add_right j.isLt 1⟩ : Fin 17)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0
        ∗ bigSepL [(0 : Fin 12), 1, 2, 3, 4, 5, 6, 7, 8, 9, 10, 11] fun j : Fin 12 => semVal ((c : Thread nD τ), SemLoc.dma (cellJ j)) 0) := by
  rw [Pipeline.ownSems0_eq_of_list c osem0 [12, 13, 14, 15, 0, 1, 2, 3, 4, 5, 6, 7, 8, 9, 10, 11] (by decide) (by decide)]; rfl
theorem cells_eq (c : Dev nD) : (bigSepL [(0 : Fin 12), 1, 2, 3, 4, 5, 6, 7, 8, 9, 10, 11] fun j : Fin 12 => semVal ((c : Thread nD τ), SemLoc.dma (cellJ j)) 0 : sProp 𝕄)
    = bigSep Finset.univ fun j : Fin 12 => semVal ((c : Thread nD τ), SemLoc.dma (cellJ j)) 0 :=
  (bigSep_univ_eq_bigSepL [(0 : Fin 12), 1, 2, 3, 4, 5, 6, 7, 8, 9, 10, 11] (by decide) (by decide) _).symm

/-- The operands the body's copies read. -/
def H0 : Finset (Ref sig .tc) := {main_v6, main_v7, main_v8, main_v1, main_v4, main_v3, main_v5, main_arg7}
theorem H0_sub : H0 ⊆ Pipeline.restRefs sig spec0 := by decide

theorem own_whole (c : Dev nD) (b : Ref sig .tc) (f : Buf (Elt F) ((c : Thread nD τ).loc b)) :
    (own c (Memref.whole b) f : sProp 𝕄) = (((c : Thread nD τ).loc b) ↦{fullShare} f) := by
  show ((_ ↦[_]{_} _) : sProp 𝕄) = _
  rw [View.set_whole]

theorem sepc {A A' B B' : sProp 𝕄} (h : A = A') (h' : B = B') : iprop(A ∗ B) = iprop(A' ∗ B') := by rw [h, h']

/-- The chunks' arrays. -/
abbrev srcV (c : Dev nD) : Src F c := ⟨V m c main_v1, V m c main_v4, V m c main_v3, V m c main_v5⟩

theorem hbmPts0_eq (c : Dev nD) :
    (bigSep H0 (fun b => ((c : Thread nD τ).loc b) ↦{fullShare} V m c b) : sProp 𝕄)
      = iprop(own c aX (V m c main_v6) ∗ own c aKn (V m c main_v7) ∗ own c aVn (V m c main_v8)
          ∗ own c aK (srcV m c).k ∗ own c aKs (srcV m c).ks ∗ own c aV (srcV m c).v ∗ own c aVs (srcV m c).vs ∗ own c aL (V m c main_arg7)) := by
  rw [BI.bigSep_eq_bigSepL_of_eq [main_v6, main_v7, main_v8, main_v1, main_v4, main_v3, main_v5, main_arg7] (by decide) (by decide)]
  have e : ∀ b : Ref sig .tc, ((((c : Thread nD τ).loc b) ↦{fullShare} V m c b) : sProp 𝕄) = own c (Memref.whole b) (V m c b) := fun b => (own_whole c b _).symm
  exact sepc (e main_v6) (sepc (e main_v7) (sepc (e main_v8) (sepc (e main_v1) (sepc (e main_v4) (sepc (e main_v3) (sepc (e main_v5) (e main_arg7)))))))

theorem rest_eq (c : Dev nD) :
    (Pipeline.scopedRest (Ix := Unit) (Name := ℕ) (U := Pipeline.UD sig nD τ) (Lvl := ℕ) (Val := Elt F) spec0 c : sProp 𝕄)
      = iprop((∃ f, own c xM f) ∗ (∃ f, own c knM f) ∗ (∃ f, own c vnM f) ∗ (∃ f, rK.view.loc (c : Thread nD τ) ↦{fullShare} f) ∗ (∃ f, rS.view.loc (c : Thread nD τ) ↦{fullShare} f)
        ∗ (∃ f, own c qM f) ∗ (∃ f, own c snM f) ∗ (∃ f, own c sbM f) ∗ (∃ f, own c mM f) ∗ (∃ f, own c lM f) ∗ (∃ f, own c accM f) ∗ (∃ f, own c lenM f)) := by
  refine (scopedRest0_eq c).trans ?_
  have e : ∀ b : Ref sig .tc, (iprop(∃ f : Buf (Elt F) ((c : Thread nD τ).loc b), ((c : Thread nD τ).loc b) ↦{fullShare} f) : sProp 𝕄) = iprop(∃ f, own c (Memref.whole b) f) := fun b =>
    congrArg _ (funext fun f => (own_whole c b f).symm)
  exact sepc (e cc0_scratch0) (sepc (e cc0_scratch1) (sepc (e cc0_scratch2) (sepc rfl (sepc rfl (sepc (e cc0_scratch6) (sepc (e cc0_scratch7) (sepc (e cc0_scratch8)
    (sepc (e cc0_scratch9) (sepc (e cc0_scratch10) (sepc (e cc0_scratch11) (e cc0_scratch3)))))))))))

/-! ## The result -/

theorem trips2 : k0_t2_loop.trips = 4 := by decide

/-- An index's place in its own row. -/
def inRow (y : S4x32x64.Idx) : S1x32x64.Idx := fun a => ⟨if a = (0 : Fin 3) then 0 else (y a).val, by
  have h1 : (y (1 : Fin 3)).val < 32 := (y (1 : Fin 3)).isLt
  have h2 : (y (2 : Fin 3)).val < 64 := (y (2 : Fin 3)).isLt
  match a with
  | ⟨0, _⟩ => exact (by decide : 0 < 1)
  | ⟨1, _⟩ => exact h1
  | ⟨2, _⟩ => exact h2⟩

/-- The result, of the operands. -/
noncomputable def resOf (c : Dev nD) (s : Src F c) (fX : BufOf F c aX) (fKn : BufOf F c aKn) (fVn : BufOf F c aVn) (fL : BufOf F c aL) : Vec F S4x32x64 .bf16 :=
  fun y => outOf c s fX fKn fVn fL ⟨(y (0 : Fin 3)).val, lt_of_lt_of_eq (y (0 : Fin 3)).isLt trips2.symm⟩ (inRow y)

theorem read_rows (c : Dev nD) (m8 : Memref sig .tc .vmem S4x32x64 .bf16) (f : BufOf F c m8) (s : Src F c) (fX : BufOf F c aX) (fKn : BufOf F c aKn) (fVn : BufOf F c aVn) (fL : BufOf F c aL)
    (h : ∀ b, rdO c m8 f b = outOf c s fX fKn fVn fL b) : View.read (Elt F) m8.view f = resOf c s fX fKn fVn fL := by
  funext y
  have e := congrFun (h ⟨(y (0 : Fin 3)).val, lt_of_lt_of_eq (y (0 : Fin 3)).isLt trips2.symm⟩) (inRow y)
  refine Eq.trans ?_ e
  refine congrArg (View.read (Elt F) m8.view f) ?_
  have e86 : ∀ b : Fin k0_t2_loop.trips, k0_off86 b = ![b.val, 0, 0] := by decide
  funext a
  refine Fin.ext ?_
  show (y a).val = k0_off86 _ a + 1 * (if a = (0 : Fin 3) then 0 else (y a).val)
  rw [e86]
  match a with
  | ⟨0, _⟩ => simp
  | ⟨1, _⟩ => simp
  | ⟨2, _⟩ => simp

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => resOf c (srcV m c) (V m c main_v6) (V m c main_v7) (V m c main_v8) (V m c main_arg7)
  Φ _ := Pipeline.ΦDRV osem0 spec0 H0 ∅ (V m) (V m) c
  q _ := fullShare
  owed _ := 0

abbrev ms0_0 (t : Fin cfg0.N) : Memref sig .tc .vmem S4x32x64 .bf16 := win0_0.stage (cfg0.slots t 0)
abbrev hs0_0 (t : Fin cfg0.N) : (ms0_0 t).IsWhole := hstage0_0 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = resOf c (srcV m c) (V m c main_v6) (V m c main_v7) (V m c main_v8) (V m c main_arg7) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 4000000 in
theorem point (hl : ∀ c i, lnOf c (V m c main_arg7) i ≤ 16384) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦDRV osem0 spec0 H0 ∅ (V m) (V m) c from rfl]
  unfold Pipeline.ΦDRV
  rw [rest_eq, ownSems00_eq, hbmPts0_eq, cells_eq]
  unfold Dat.owesAt Pipeline.owesWithin
  rw [show (dats m 0 c).owed t.castSucc = 0 from rfl, show (dats m 0 c).owed t.succ = 0 from rfl]
  iintro ⟨⟨⟨⟨%f0, H0⟩, ⟨%f1, H1⟩, ⟨%f2, H2⟩, HK, HS, ⟨%fq, Hq⟩, ⟨%fsn, Hsn⟩, ⟨%fs, Hs⟩, ⟨%fm, Hm⟩, ⟨%fll, Hl⟩, ⟨%fa, Ha⟩, ⟨%fl, Hlen⟩⟩, ⟨Hs0, Hs1, Hs2, Hs3, Hc⟩, ⟨HX, HKn, HVn, Hk, Hks, Hv, Hvs, HL⟩, HR0⟩, ⟨%W, -, HO⟩, ⟨%d0, Ho⟩⟩
  unfold owns
  icases Ho with ⟨%f8, -, H8⟩
  ihave HR := (ring_in c (srcV m c)) $$ [Hc HK HS Hk Hks Hv Hvs]
  · isplitl [Hc]; · iexact Hc
    isplitl [HK]; · iexact HK
    isplitl [HS]; · iexact HS
    isplitl [Hk]; · iexact Hk
    isplitl [Hks]; · iexact Hks
    isplitl [Hv]; · iexact Hv
    iexact Hvs
  icases HR with ⟨HR, HZ⟩
  iapply (whole_body c (srcV m c) (V m c main_v6) (V m c main_v7) (V m c main_v8) (V m c main_arg7) f0 f1 f2 fl fq fsn fs fm fll fa W (hl c) _ (ms0_0 t) (hs0_0 t) f8)
  isplitl [HR]; · iexact HR
  isplitl [HX]; · iexact HX
  isplitl [HKn]; · iexact HKn
  isplitl [HVn]; · iexact HVn
  isplitl [HL]; · iexact HL
  isplitl [Hs0]; · iexact Hs0
  isplitl [Hs1]; · iexact Hs1
  isplitl [Hs2]; · iexact Hs2
  isplitl [Hs3]; · iexact Hs3
  isplitl [H0]; · iexact H0
  isplitl [H1]; · iexact H1
  isplitl [H2]; · iexact H2
  isplitl [Hlen]; · iexact Hlen
  isplitl [Hq]; · iexact Hq
  isplitl [Hsn]; · iexact Hsn
  isplitl [Hs]; · iexact Hs
  isplitl [Hm]; · iexact Hm
  isplitl [Hl]; · iexact Hl
  isplitl [Ha]; · iexact Ha
  isplitl [H8]; · iexact H8
  isplitl [HO]; · iexact HO
  iintro ⟨%f0, %f1, %f2, %fl, %fq, %fsn, %fs, %fm, %fll, %fa, %f8, %W', %hrow, HR, HX, HKn, HVn, HL, Hs0, Hs1, Hs2, Hs3, H0, H1, H2, Hlen, Hq, Hsn, Hs, Hm, Hl, Ha, H8, HO⟩
  ihave HR := (ring_out c (srcV m c)) $$ [HR HZ]
  · isplitl [HR]; · iexact HR
    iexact HZ
  icases HR with ⟨Hc, HK, HS, Hk, Hks, Hv, Hvs⟩
  isplitl [Hc HK HS Hk Hks Hv Hvs HX HKn HVn HL Hs0 Hs1 Hs2 Hs3 H0 H1 H2 Hlen Hq Hsn Hs Hm Hl Ha HR0]
  · isplitl [HK HS H0 H1 H2 Hlen Hq Hsn Hs Hm Hl Ha]
    · isplitl [H0]; · iexists _; iexact H0
      isplitl [H1]; · iexists _; iexact H1
      isplitl [H2]; · iexists _; iexact H2
      isplitl [HK]; · iexact HK
      isplitl [HS]; · iexact HS
      isplitl [Hq]; · iexists _; iexact Hq
      isplitl [Hsn]; · iexists _; iexact Hsn
      isplitl [Hs]; · iexists _; iexact Hs
      isplitl [Hm]; · iexists _; iexact Hm
      isplitl [Hl]; · iexists _; iexact Hl
      isplitl [Ha]; · iexists _; iexact Ha
      iexists _; iexact Hlen
    isplitl [Hc Hs0 Hs1 Hs2 Hs3]
    · isplitl [Hs0]; · iexact Hs0
      isplitl [Hs1]; · iexact Hs1
      isplitl [Hs2]; · iexact Hs2
      isplitl [Hs3]; · iexact Hs3
      iexact Hc
    isplitr [HR0]
    · isplitl [HX]; · iexact HX
      isplitl [HKn]; · iexact HKn
      isplitl [HVn]; · iexact HVn
      isplitl [Hk]; · iexact Hk
      isplitl [Hks]; · iexact Hks
      isplitl [Hv]; · iexact Hv
      isplitl [Hvs]; · iexact Hvs
      iexact HL
    iexact HR0
  isplitl [HO]
  · iexists W'; isplitr; · ipureintro; exact fun _ _ => Or.inl trivial
    iexact HO
  iexists f8; isplitr
  swap; · iexact H8
  ipureintro; exact read_rows c (ms0_0 t) f8 _ _ _ _ _ hrow

theorem defs₀_row (t : Fin cfg0.N) :
    defs₀ (F := F) .tc cfg0.body (cfg0.bodyArgs t (cfg0.slots t)) = bodyAt0 t := by
  unfold defs₀; rw [Defs.onTc_tc]

theorem body_obligation (hl : ∀ c i, lnOf c (V m c main_arg7) i ≤ 16384) (c : Dev nD) : BodyObligation (dats (F := F) m 0 c) (defs₀ (F := F)) Variants.none () Set.univ := fun t => by
  rw [bigSep_W0, bigSep_W0, defs₀_row]
  exact triple_restated (point m hl c t) rfl .rfl fun _ => .rfl

/-! ## The run -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers hold after the lines that follow the region. -/
noncomputable abbrev ends (c : Dev nD) : Valuation τ sig (Elt F) :=
  StableHlo.after [hostOps1].flatten (Pipeline.withArrays spec0 c (Pipeline.withR (V0 m c) ∅ c (V m c)) fun w => (dats m 0 c).arrAt w cfg0.N)

set_option backward.isDefEq.respectTransparency.types false in
theorem run_main (hl : ∀ c i, lnOf c (V m c main_arg7) i ≤ 16384) : θ_run defs (onTc (τ := τ) (main (F := F))) (s₀ m ρ)
    (fun r => (∀ c : Dev nD, ∀ b ∈ Pipeline.restRefs sig spec0, r.2.mem ((c : Thread nD τ).loc b) = ends m c (Proc.devRef .tc b)) ∧ r.2.sem = fun _ => 0) :=
  Pipeline.θ_run_frame_dmaR_aroundV (Q' := _) cfgs (dats m) (0 : Fin 1) launch0 osem0 defs₀ Variants.none ownSemFacts0 H0 ∅ H0_sub (Finset.empty_subset _) m ρ main
    (hbody := fun c => (body_obligation m hl c).loose) (hshare := fun c => (dats m 0 c).share_full fun _ => rfl)
    (howed := fun _ _ => rfl) (V₀ := V0 m) (opss := [hostOps1]) (hsub := sfx_sub) (hfresh := sfx_fresh) (hkeep := sfx_keeps) (G := V m) (hmain := hmainD m Variants.none) (hA := A_eq m)
    (hin := fun _ => .rfl) (hout := fun _ => .rfl) (hQ' := fun _ h => ⟨fun c => (h.1 c).2, h.2⟩)

theorem ends_of (c : Dev nD) (b : Ref sig .tc) (h1 : b ≠ main_v10) (h2 : b ≠ main_v9) (h3 : V m c b = m ((c : Thread nD τ).loc b)) : ends m c (Proc.devRef .tc b) = m ((c : Thread nD τ).loc b) := by
  unfold ends
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne h1)),
    Pipeline.withArrays_of_ne _ c _ _ b (by intro w; fin_cases w; exact fun h => h2 h.symm)]
  rw [← h3]
  rfl

/-- The program terminates, its arguments end unchanged and its semaphores at zero. -/
theorem frame_run (hl : ∀ c i, lnOf c (V m c main_arg7) i ≤ 16384) : θ_run defs (onTc (τ := τ) (main (F := F))) ⟨m, fun _ => 0, ρ⟩ (fun r => (∀ c : Dev nD,
      r.2.mem ((c.tc : Thread nD τ).loc main_v10) = ends m c (Proc.devRef .tc main_v10) ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)))
      ∧ r.2.sem = fun _ => 0) := by
  have key : ∀ (b : Ref sig .tc), b ∈ Pipeline.restRefs sig spec0 → b ≠ main_v10 → b ≠ main_v9 → (∀ c, V m c b = m ((c : Thread nD τ).loc b)) → ∀ (mem : (ℓ : Loc nD τ sig) → Buf (Elt F) ℓ) (c : Dev nD),
      (∀ b ∈ Pipeline.restRefs sig spec0, mem ((c : Thread nD τ).loc b) = ends m c (Proc.devRef .tc b)) → mem ((c.tc : Thread nD τ).loc b) = m ((c.tc : Thread nD τ).loc b) :=
    fun b hb h1 h2 h3 mem c h => (h b hb).trans (ends_of m c b h1 h2 (h3 c))
  refine (θ_run defs _ _).mono (fun r h => ⟨fun c => ⟨h.1 c main_v10 (Pipeline.mem_restRefs_of main_v10 (by decide) (by decide)), ?_⟩, h.2⟩) (run_main m ρ hl)
  exact ⟨key main_arg0 (Pipeline.mem_restRefs_of _ (by decide) (by decide)) (by decide) (by decide) (V_main_arg0 m) _ c (h.1 c),
    key main_arg1 (Pipeline.mem_restRefs_of _ (by decide) (by decide)) (by decide) (by decide) (V_main_arg1 m) _ c (h.1 c),
    key main_arg2 (Pipeline.mem_restRefs_of _ (by decide) (by decide)) (by decide) (by decide) (V_main_arg2 m) _ c (h.1 c),
    key main_arg3 (Pipeline.mem_restRefs_of _ (by decide) (by decide)) (by decide) (by decide) (V_main_arg3 m) _ c (h.1 c),
    key main_arg4 (Pipeline.mem_restRefs_of _ (by decide) (by decide)) (by decide) (by decide) (V_main_arg4 m) _ c (h.1 c),
    key main_arg5 (Pipeline.mem_restRefs_of _ (by decide) (by decide)) (by decide) (by decide) (V_main_arg5 m) _ c (h.1 c),
    key main_arg6 (Pipeline.mem_restRefs_of _ (by decide) (by decide)) (by decide) (by decide) (V_main_arg6 m) _ c (h.1 c),
    key main_arg7 (Pipeline.mem_restRefs_of _ (by decide) (by decide)) (by decide) (by decide) (V_main_arg7 m) _ c (h.1 c)⟩

end Cert.KernelIdeal.Hand
end
-- ==== Proof.Lengths.lean ====
module
public import proofs.«01_k».proof.Defs
public import proofs.«01_k».proof.Proof.Bring
public import proofs.«01_k».proof.Proof.BringI

@[expose] public section
noncomputable section

/-!
  What the precondition on the lengths says: each is a natural number at most 16384.
-/

namespace Cert.Pre_lengths_in_cache.Gen
open Idealize.ShloMosaic
theorem bcast_S_S4 : S_.BroadcastsInDim S4 (![] : Fin 0 → Fin S4.rank) := by decide
instance facts : Cert.Pre_lengths_in_cache.Facts where
  bcast_S_S4 := @bcast_S_S4
end Cert.Pre_lengths_in_cache.Gen

namespace Cert.Proof
open Idealize.ShloMosaic Idealize.SL.Sem

theorem word_len (v : BitVec 32)
    (h : BitVec.ofBool ((0#32).sle v) &&& BitVec.ofBool (v.sle 16384#32) = 1#1) : v.toNat ≤ 16384 := by
  have h1 : (0#32).sle v = true := by
    by_contra h'; rw [Bool.not_eq_true] at h'; rw [h'] at h; simp at h
  have h2 : v.sle 16384#32 = true := by
    by_contra h'; rw [Bool.not_eq_true] at h'; rw [h'] at h; simp at h
  rw [BitVec.sle_iff_toInt_le] at h1 h2
  have e1 : (0#32).toInt = 0 := by decide
  have e2 : (16384#32).toInt = 16384 := by decide
  rw [e1] at h1; rw [e2] at h2
  have h32 := v.isLt
  rw [BitVec.toInt_eq_toNat_cond] at h1 h2
  split at h1 <;> omega

theorem lens_le {F : FTy → Type} [FloatOps F] (a0 a1 a2 a3 a4 a5 a6) (f : IVec Cert.Pre_lengths_in_cache.S4 32)
    (h : Cert.Pre_lengths_in_cache.fn (F := F) a0 a1 a2 a3 a4 a5 a6 f = fun _ => 1#1) (i : Cert.Pre_lengths_in_cache.S4.Idx) : (f i).toNat ≤ 16384 := by
  exact word_len (f i) (congrFun h i)

theorem lnOf_le {F : FTy → Type} [FloatOps F] (c : Dev Cert.Kernel.nD) (f : Cert.Kernel.Hand.BufOf F c Cert.Kernel.Hand.aL)
    (h : ∀ i : Cert.Pre_lengths_in_cache.S4.Idx, (f i : BitVec 32).toNat ≤ 16384) (i : ℕ) : Cert.Kernel.Hand.lnOf c f i ≤ 16384 := by
  unfold Cert.Kernel.Hand.lnOf
  split
  · exact h _
  · exact Nat.zero_le _

theorem lnOf_leI {F : FTy → Type} [FloatOps F] (c : Dev Cert.KernelIdeal.nD) (f : Cert.KernelIdeal.Hand.BufOf F c Cert.KernelIdeal.Hand.aL)
    (h : ∀ i : Cert.Pre_lengths_in_cache.S4.Idx, (f i : BitVec 32).toNat ≤ 16384) (i : ℕ) : Cert.KernelIdeal.Hand.lnOf c f i ≤ 16384 := by
  unfold Cert.KernelIdeal.Hand.lnOf
  split
  · exact h _
  · exact Nat.zero_le _

end Cert.Proof
end
-- ==== Proof.Online.lean ====
module
public import Idealize.ShloMosaic.PureOps.Ideal
public import Idealize.ShloMosaic.Lib.IdealHost
public import Idealize.ShloMosaic.Lib.Pointwise
@[expose] public section

noncomputable section

/-!
  A softmax over the keys, computed in one pass: per lane a running maximum and a running sum that is rescaled when
  the maximum grows, and the lanes put together at the end. Over the extended reals the rescaled sums are the sums of
  the exponentials under the last maximum, as long as the scores are not `+∞` and the first of them is real.
-/

namespace Cert.Attn

open Idealize.ShloMosaic

/-! ## What a head of the result is -/

/-- The largest score: `sn` the new key's, `S` the cached keys' (`-∞` where masked). -/
def top (sn : EReal) (S : Fin 16384 → EReal) : EReal := max sn (Finset.univ.sup S)
/-- The sum of the exponentials. -/
def total (sn : EReal) (S : Fin 16384 → EReal) : EReal := ∑ p, Ideal.exp (S p - top sn S) + Ideal.exp (sn - top sn S)
/-- One element of the result: the values `V` scaled by `W`, weighted, and the new value `vn`. -/
def head (sn : EReal) (S V W : Fin 16384 → EReal) (vn : EReal) : EReal :=
  ∑ p, V p * (Ideal.div (Ideal.exp (S p - top sn S)) (total sn S) * W p) + vn * Ideal.div (Ideal.exp (sn - top sn S)) (total sn S)

/-- The factor of the scores, one eighth. -/
abbrev eighth : EReal := Ideal.ofBits .f32 0x3E000000#32
/-- The new key's score against the query `x`. -/
def scoreNew (x kn : Fin 64 → EReal) : EReal := (∑ d, kn d * x d) * eighth
/-- The cached keys' scores: `K` the keys, `ks` their scales, masked from `len` on. -/
def scores (len : BitVec 32) (x : Fin 64 → EReal) (K : Fin 16384 → Fin 64 → EReal) (ks : Fin 16384 → EReal) (p : Fin 16384) : EReal :=
  Scalar.select (IntOp.cmpi .slt (BitVec.ofNat 32 p.val) len) ((∑ d, K p d * x d) * (ks p * eighth)) ⊥

section
variable (x : (⟨4, ![4, 1, 32, 64]⟩ : Shape).Idx → EReal) (kn vn : (⟨4, ![4, 1, 8, 64]⟩ : Shape).Idx → EReal)
  (k v : (⟨4, ![4, 16384, 8, 64]⟩ : Shape).Idx → BitVec 8) (ks vs : (⟨3, ![4, 16384, 8]⟩ : Shape).Idx → EReal) (len : (⟨1, ![4]⟩ : Shape).Idx → BitVec 32)

/-- The cached keys' scores of sequence `b`, head `j`. -/
def keyScores (b : Fin 4) (j : Fin 32) : Fin 16384 → EReal :=
  scores (len (ix1 b)) (fun d => x (ix4 b 0 j d)) (fun p d => (((k (ix4 b p ⟨j.val / 4, by omega⟩ d)).toInt : ℝ) : EReal)) (fun p => ks (ix3 b p ⟨j.val / 4, by omega⟩))
/-- The new key's. -/
def newScore (b : Fin 4) (j : Fin 32) : EReal := scoreNew (fun d => x (ix4 b 0 j d)) (fun d => kn (ix4 b 0 ⟨j.val / 4, by omega⟩ d))
/-- The result at sequence `b`, head `j`, element `d`. -/
def result (b : Fin 4) (j : Fin 32) (d : Fin 64) : EReal :=
  head (newScore x kn b j) (keyScores x k ks len b j) (fun p => (((v (ix4 b p ⟨j.val / 4, by omega⟩ d)).toInt : ℝ) : EReal)) (fun p => vs (ix3 b p ⟨j.val / 4, by omega⟩)) (vn (ix4 b 0 ⟨j.val / 4, by omega⟩ d))
end

/-! ## Exponentials and sums -/

theorem neg_inf : Ideal.ofBits .f32 0xFF800000#32 = ⊥ := by simp [Ideal.ofBits, Ideal.ieee]

theorem exp_nonneg (x : EReal) : 0 ≤ Ideal.exp x := by
  induction x with
  | bot => exact le_refl _
  | top => exact le_top
  | coe r => exact EReal.coe_nonneg.2 (Real.exp_pos r).le

theorem exp_bot_sub {m : EReal} : Ideal.exp (⊥ - m) = 0 := by
  rw [EReal.bot_sub]; rfl

theorem exp_sub_mul {a m m' : EReal} (ha : a ≠ ⊤) (h1 : m ≠ ⊤) (h2 : m ≠ ⊥) (h3 : m' ≠ ⊤) (h4 : m' ≠ ⊥) :
    Ideal.exp (a - m) * Ideal.exp (m - m') = Ideal.exp (a - m') := by
  lift m to ℝ using ⟨h1, h2⟩
  lift m' to ℝ using ⟨h3, h4⟩
  induction a with
  | bot => rw [exp_bot_sub, exp_bot_sub, zero_mul]
  | top => exact absurd rfl ha
  | coe a =>
    rw [← EReal.coe_sub, ← EReal.coe_sub, ← EReal.coe_sub]
    show ((Real.exp (a - m) : ℝ) : EReal) * ((Real.exp (m - m') : ℝ) : EReal) = ((Real.exp (a - m') : ℝ) : EReal)
    rw [← EReal.coe_mul, ← Real.exp_add]
    congr 2; ring

theorem exp_sub_pos {a m : EReal} (h1 : a ≠ ⊤) (h2 : a ≠ ⊥) (h3 : m ≠ ⊤) (h4 : m ≠ ⊥) : 0 < Ideal.exp (a - m) := by
  lift a to ℝ using ⟨h1, h2⟩
  lift m to ℝ using ⟨h3, h4⟩
  rw [← EReal.coe_sub]
  exact EReal.coe_pos.2 (Real.exp_pos _)

theorem sum_mul_nonneg {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

theorem sum_split {α : Type} [AddCommMonoid α] (m n : ℕ) (f : Fin (m * n) → α) :
    ∑ p, f p = ∑ i : Fin m, ∑ j : Fin n, f ⟨i.val * n + j.val, by
      have hi := i.isLt; have hj := j.isLt
      calc i.val * n + j.val < i.val * n + n := by omega
        _ = (i.val + 1) * n := by ring
        _ ≤ m * n := Nat.mul_le_mul_right _ hi⟩ := by
  rw [← finProdFinEquiv.sum_comp f, Fintype.sum_prod_type]
  refine Finset.sum_congr rfl fun i _ => Finset.sum_congr rfl fun j _ => congrArg f (Fin.ext ?_)
  show j.val + n * i.val = i.val * n + j.val
  rw [Nat.mul_comm, Nat.add_comm]

/-- Key `q` of chunk `k`. -/
abbrev pos (k : Fin 8) (q : Fin 2048) : Fin 16384 := ⟨k.val * 2048 + q.val, by omega⟩
/-- Key `j` of lane `l` in a chunk. -/
abbrev lane (j : Fin 16) (l : Fin 128) : Fin 2048 := ⟨j.val * 128 + l.val, by omega⟩

theorem sum_lanes {α : Type} [AddCommMonoid α] (f : Fin 2048 → α) : ∑ q, f q = ∑ j : Fin 16, ∑ l : Fin 128, f (lane j l) := sum_split 16 128 f

/-- A sum over all keys of what is zero past `nc` chunks. -/
theorem sum_chunks (nc : ℕ) (hnc : nc ≤ 8) (f : Fin 16384 → EReal) (h0 : ∀ p : Fin 16384, nc * 2048 ≤ p.val → f p = 0) (G : ℕ → Fin 2048 → EReal)
    (hG : ∀ (k : Fin 8) (q : Fin 2048), k.val < nc → f (pos k q) = G k.val q) : ∑ p, f p = ∑ k ∈ Finset.range nc, ∑ q, G k q := by
  refine (sum_split 8 2048 f).trans ?_
  have e : ∀ k : Fin 8, (∑ q : Fin 2048, f (pos k q)) = if k.val < nc then ∑ q, G k.val q else 0 := by
    intro k
    split
    · next h => exact Finset.sum_congr rfl fun q _ => hG k q h
    · next h =>
      refine Finset.sum_eq_zero fun q _ => h0 _ ?_
      show nc * 2048 ≤ k.val * 2048 + q.val
      omega
  refine (Finset.sum_congr rfl fun k _ => e k).trans ?_
  rw [Fin.sum_univ_eq_sum_range (fun k => if k < nc then ∑ q, G k q else 0) 8, ← Finset.sum_filter]
  refine Finset.sum_congr ?_ fun _ _ => rfl
  ext k; simp only [Finset.mem_filter, Finset.mem_range]; omega

/-! ## One lane -/

section Lane
variable (sn : EReal) (g : ℕ → Fin 16 → EReal) (M L : ℕ → EReal)

theorem lane_le (hM0 : M 0 = sn) (hM : ∀ k, M (k + 1) = max (M k) (Finset.univ.sup (g k))) (k : ℕ) (c : EReal) :
    M k ≤ c ↔ sn ≤ c ∧ ∀ i, i < k → ∀ j, g i j ≤ c := by
  induction k with
  | zero => rw [hM0]; exact ⟨fun h => ⟨h, fun i hi => absurd hi (Nat.not_lt_zero _)⟩, fun h => h.1⟩
  | succ k ih =>
    rw [hM, max_le_iff, ih, Finset.sup_le_iff]
    constructor
    · rintro ⟨⟨h1, h2⟩, h3⟩
      refine ⟨h1, fun i hi j => ?_⟩
      rcases Nat.lt_succ_iff_lt_or_eq.1 hi with h | rfl
      · exact h2 i h j
      · exact h3 j (Finset.mem_univ _)
    · rintro ⟨h1, h2⟩
      exact ⟨⟨h1, fun i hi => h2 i (Nat.lt_succ_of_lt hi)⟩, fun j _ => h2 k (Nat.lt_succ_self _) j⟩

theorem lane_real (n : ℕ) (hg : ∀ k, k < n → ∀ j, g k j ≠ ⊤) (h1 : sn ≠ ⊤) (h2 : sn ≠ ⊥) (hM0 : M 0 = sn) (hM : ∀ k, M (k + 1) = max (M k) (Finset.univ.sup (g k)))
    (k : ℕ) (hk : k ≤ n) : M k ≠ ⊤ ∧ M k ≠ ⊥ := by
  induction k with
  | zero => rw [hM0]; exact ⟨h1, h2⟩
  | succ k ih =>
    have ih := ih (by omega)
    rw [hM]
    constructor
    · refine (max_lt (lt_top_iff_ne_top.2 ih.1) ((Finset.sup_lt_iff (by decide)).2 fun j _ => lt_top_iff_ne_top.2 (hg k (by omega) j))).ne
    · exact fun h => ih.2 (le_bot_iff.1 (h ▸ le_max_left _ _))

theorem lane_sum (n : ℕ) (hg : ∀ k, k < n → ∀ j, g k j ≠ ⊤) (h1 : sn ≠ ⊤) (h2 : sn ≠ ⊥) (hM0 : M 0 = sn) (hM : ∀ k, M (k + 1) = max (M k) (Finset.univ.sup (g k)))
    (hL0 : L 0 = 0) (hL : ∀ k, L (k + 1) = L k * Ideal.exp (M k - M (k + 1)) + ∑ j, Ideal.exp (g k j - M (k + 1))) (k : ℕ) (hk : k ≤ n) :
    L k = ∑ i ∈ Finset.range k, ∑ j, Ideal.exp (g i j - M k) := by
  induction k with
  | zero => rw [hL0, Finset.sum_range_zero]
  | succ k ih =>
    have r := lane_real sn g M n hg h1 h2 hM0 hM
    rw [hL, ih (by omega), Finset.sum_range_succ, sum_mul_nonneg _ _ (fun i => Finset.sum_nonneg fun j _ => exp_nonneg _)]
    congr 1
    refine Finset.sum_congr rfl fun i hi => ?_
    rw [sum_mul_nonneg _ _ (fun j => exp_nonneg _)]
    have hi := Finset.mem_range.1 hi
    exact Finset.sum_congr rfl fun j _ => exp_sub_mul (hg i (by omega) j) (r k (by omega)).1 (r k (by omega)).2 (r (k + 1) hk).1 (r (k + 1) hk).2

end Lane

/-! ## A row -/

section Row
variable (nc : ℕ) (sn : EReal) (S : Fin 16384 → EReal) (Sc : ℕ → Fin 2048 → EReal) (M L : ℕ → Fin 128 → EReal)

/-- The scores `S` of all keys are the chunks' `Sc`, and masked past the last chunk; the new key's is real. -/
structure Scores : Prop where
  le : nc ≤ 8
  ne : ∀ p, S p ≠ ⊤
  cne : ∀ k, k < nc → ∀ q, Sc k q ≠ ⊤
  here : ∀ (k : Fin 8) (q : Fin 2048), k.val < nc → S (pos k q) = Sc k.val q
  past : ∀ p : Fin 16384, nc * 2048 ≤ p.val → S p = ⊥
  n1 : sn ≠ ⊤
  n2 : sn ≠ ⊥

/-- The running maxima and sums. -/
structure Online : Prop where
  m0 : ∀ l, M 0 l = sn
  l0 : ∀ l, L 0 l = 0
  ms : ∀ k l, M (k + 1) l = max (M k l) (Finset.univ.sup fun j => Sc k (lane j l))
  ls : ∀ k l, L (k + 1) l = L k l * Ideal.exp (M k l - M (k + 1) l) + ∑ j, Ideal.exp (Sc k (lane j l) - M (k + 1) l)

variable {nc sn S Sc M L}

theorem Scores.top_real (h : Scores nc sn S Sc) : top sn S ≠ ⊤ ∧ top sn S ≠ ⊥ := by
  constructor
  · exact (max_lt (lt_top_iff_ne_top.2 h.n1) ((Finset.sup_lt_iff (bot_lt_top)).2 fun p _ => lt_top_iff_ne_top.2 (h.ne p))).ne
  · exact fun e => h.n2 (le_bot_iff.1 (e ▸ le_max_left _ _))

theorem Scores.total_ne (h : Scores nc sn S Sc) : total sn S ≠ 0 := by
  have r := h.top_real
  have hp := exp_sub_pos h.n1 h.n2 r.1 r.2
  have hs : 0 ≤ ∑ p, Ideal.exp (S p - top sn S) := Finset.sum_nonneg fun p _ => exp_nonneg _
  refine (lt_of_lt_of_le hp ?_).ne'
  unfold total
  exact le_add_of_nonneg_left hs

/-- The maximum over the lanes is the largest score. -/
theorem Online.top_eq (h : Scores nc sn S Sc) (o : Online sn Sc M L) : Finset.univ.fold max ⊥ (fun l => M nc l) = top sn S := by
  refine eq_of_forall_ge_iff fun c => ?_
  rw [Finset.fold_max_le]
  unfold top
  rw [max_le_iff, Finset.sup_le_iff]
  have e := fun l => lane_le sn (fun k j => Sc k (lane j l)) (fun k => M k l) (o.m0 l) (fun k => o.ms k l) nc c
  constructor
  · rintro ⟨-, h1⟩
    refine ⟨((e 0).1 (h1 0 (Finset.mem_univ _))).1, fun p _ => ?_⟩
    by_cases hp : nc * 2048 ≤ p.val
    · rw [h.past p hp]; exact bot_le
    have hp' := p.isLt
    have hk : p.val / 2048 < 8 := by omega
    have hq : p.val % 2048 < 2048 := by omega
    have hkc : p.val / 2048 < nc := by omega
    have hS := h.here ⟨p.val / 2048, hk⟩ ⟨p.val % 2048, hq⟩ hkc
    have hpe : pos ⟨p.val / 2048, hk⟩ ⟨p.val % 2048, hq⟩ = p := Fin.ext (by show p.val / 2048 * 2048 + p.val % 2048 = p.val; omega)
    rw [hpe] at hS
    rw [hS]
    have hl : p.val % 2048 % 128 < 128 := by omega
    have hj : p.val % 2048 / 128 < 16 := by omega
    have hle : lane ⟨p.val % 2048 / 128, hj⟩ ⟨p.val % 2048 % 128, hl⟩ = ⟨p.val % 2048, hq⟩ := Fin.ext (by show p.val % 2048 / 128 * 128 + p.val % 2048 % 128 = p.val % 2048; omega)
    have := ((e ⟨p.val % 2048 % 128, hl⟩).1 (h1 _ (Finset.mem_univ _))).2 _ hkc ⟨p.val % 2048 / 128, hj⟩
    rw [hle] at this
    exact this
  · rintro ⟨h1, h2⟩
    refine ⟨bot_le, fun l _ => (e l).2 ⟨h1, fun i hi j => ?_⟩⟩
    have := h.here ⟨i, lt_of_lt_of_le hi h.le⟩ (lane j l) hi
    exact this ▸ h2 _ (Finset.mem_univ _)

/-- The lanes' sums put together are the sum of the exponentials. -/
theorem Online.total_eq (h : Scores nc sn S Sc) (o : Online sn Sc M L) :
    ∑ l, L nc l * Ideal.exp (M nc l - top sn S) + Ideal.exp (sn - top sn S) = total sn S := by
  have r := h.top_real
  unfold total
  refine congrArg (fun x : EReal => x + Ideal.exp (sn - top sn S)) ?_
  refine Eq.trans ?_ (sum_chunks nc h.le (fun p => Ideal.exp (S p - top sn S)) (fun p hp => by
      show Ideal.exp (S p - top sn S) = 0
      rw [h.past p hp]; exact exp_bot_sub)
    (fun k q => Ideal.exp (Sc k q - top sn S)) (fun k q hk => congrArg (fun x => Ideal.exp (x - top sn S)) (h.here k q hk))).symm
  have e : ∀ l, L nc l * Ideal.exp (M nc l - top sn S) = ∑ i ∈ Finset.range nc, ∑ j : Fin 16, Ideal.exp (Sc i (lane j l) - top sn S) := by
    intro l
    have rl := lane_real sn (fun k j => Sc k (lane j l)) (fun k => M k l) nc (fun k hk j => h.cne k hk _) h.n1 h.n2 (o.m0 l) (fun k => o.ms k l) nc (le_refl _)
    rw [lane_sum sn (fun k j => Sc k (lane j l)) (fun k => M k l) (fun k => L k l) nc (fun k hk j => h.cne k hk _) h.n1 h.n2 (o.m0 l) (fun k => o.ms k l) (o.l0 l) (fun k => o.ls k l) nc (le_refl _),
      sum_mul_nonneg _ _ (fun i => Finset.sum_nonneg fun j _ => exp_nonneg _)]
    refine Finset.sum_congr rfl fun i hi => ?_
    rw [sum_mul_nonneg _ _ (fun j => exp_nonneg _)]
    exact Finset.sum_congr rfl fun j _ => exp_sub_mul (h.cne i (Finset.mem_range.1 hi) _) rl.1 rl.2 r.1 r.2
  refine (Finset.sum_congr rfl fun l _ => e l).trans ?_
  rw [Finset.sum_comm]
  refine Finset.sum_congr rfl fun i _ => ?_
  rw [sum_lanes, Finset.sum_comm]

/-- The accumulator over the chunks is the weighted sum over the keys. -/
theorem Scores.acc_eq (h : Scores nc sn S Sc) (V W : Fin 16384 → EReal) (Vc Wc : ℕ → Fin 2048 → EReal)
    (hV : ∀ (k : Fin 8) (q : Fin 2048), k.val < nc → V (pos k q) = Vc k.val q) (hW : ∀ (k : Fin 8) (q : Fin 2048), k.val < nc → W (pos k q) = Wc k.val q)
    (A : ℕ → EReal) (hA0 : A 0 = 0)
    (hA : ∀ k, A (k + 1) = A k + ∑ q, Vc k q * (Ideal.exp (Sc k q - top sn S) * Ideal.div 1 (total sn S) * Wc k q)) :
    A nc = ∑ p, V p * (Ideal.div (Ideal.exp (S p - top sn S)) (total sn S) * W p) := by
  have hT := h.total_ne
  have e : ∀ k, A k = ∑ i ∈ Finset.range k, ∑ q, Vc i q * (Ideal.exp (Sc i q - top sn S) * Ideal.div 1 (total sn S) * Wc i q) := by
    intro k
    induction k with
    | zero => rw [hA0, Finset.sum_range_zero]
    | succ k ih => rw [hA, ih, Finset.sum_range_succ]
  rw [e]
  refine (sum_chunks nc h.le _ (fun p hp => ?_) _ (fun k q hk => ?_)).symm
  · show V p * (Ideal.div (Ideal.exp (S p - top sn S)) (total sn S) * W p) = 0
    rw [h.past p hp, exp_bot_sub, Ideal.zero_div hT, zero_mul, mul_zero]
  · show V (pos k q) * (Ideal.div (Ideal.exp (S (pos k q) - top sn S)) (total sn S) * W (pos k q)) = _
    rw [h.here k q hk, hV k q hk, hW k q hk, Ideal.mul_one_div hT]

end Row

end Cert.Attn
end
-- ==== Proof.Vals.lean ====
module
public import proofs.«01_k».proof.Proof.BringI
public import proofs.«01_k».proof.Proof.Online
public import Idealize.ShloMosaic.Lib.Pointwise
public import Idealize.ShloMosaic.Lib.IdealHost
@[expose] public section

set_option maxRecDepth 16384
set_option Elab.async false

noncomputable section

/-! The kernel's operations over the extended reals, element by element. -/

namespace Cert.KernelIdeal.Hand

open Cert.KernelIdeal Cert.KernelIdeal.Gen
open Idealize.ShloMosaic
open Cert.Attn

theorem sitofp_byte (w : BitVec 8) : (FloatOps.sitofp (F := Ideal) FTy.bf16 w : EReal) = ((w.toInt : ℝ) : EReal) := rfl

/-- A chunk's scores. -/
theorem pay4_apply (q : Vec Ideal S1x32x512 .bf16) (kv : Vec Ideal S1x512x2048 .i8) (sv : Vec Ideal S1x8x2048 .f32) (r : Fin 32) (p : Fin 2048) :
    k0_pay4 q kv sv (ix2 r p) = (∑ x : Fin 512, q (ix3 0 r x) * (((kv (ix3 0 x p)).toInt : ℝ) : EReal)) * (sv (ix3 0 ⟨r.val % 8, by omega⟩ p) * eighth) := by
  pointwise [k0_pay4]
  rfl

/-- Masked. -/
theorem pay5_apply (v a : BitVec 32) (s : FVec Ideal S32x2048 .f32) (r : Fin 32) (p : Fin 2048) :
    k0_pay5 v a s iotaV (ix2 r p) = Scalar.select (IntOp.cmpi CmpIPredicate.slt (BitVec.ofNat 32 p.val) (Scalar.subi v (Scalar.muli a 2048#32))) (s (ix2 r p)) (⊥ : EReal) := by
  rw [← neg_inf]
  pointwise [k0_pay5, iotaV]

theorem pay6_apply (v a : BitVec 32) (s : FVec Ideal S32x2048 .f32) (i : IVec S32x2048 32) (r : Fin 32) (p : Fin 2048) :
    k0_pay6 v a s i (ix3 0 r p) = k0_pay5 v a s i (ix2 r p) := by
  pointwise [k0_pay6]

/-- The running maximum. -/
theorem pay7_apply (v a : BitVec 32) (s : FVec Ideal S32x2048 .f32) (i : IVec S32x2048 32) (M : Vec Ideal S32x128 .f32) (r : Fin 32) (l : Fin 128) :
    k0_pay7 v a s i M (ix2 r l) = max (M (ix2 r l)) (Finset.univ.sup fun j : Fin 16 => k0_pay5 v a s i (ix2 r (lane j l))) := by
  pointwise [k0_pay7]
  generalize k0_pay5 v a s i = w
  refine eq_of_forall_ge_iff fun c => ?_
  have h0 : lane 0 l = ⟨l.val, by omega⟩ := Fin.ext (by simp [lane])
  simp only [max_le_iff, Finset.sup_le_iff, Finset.mem_univ, true_implies, Fin.forall_fin_succ, IsEmpty.forall_iff, and_true, and_assoc, h0]
  rfl

/-- The running sum. -/
theorem pay89_apply (v a : BitVec 32) (s : FVec Ideal S32x2048 .f32) (i : IVec S32x2048 32) (M L : Vec Ideal S32x128 .f32) (r : Fin 32) (l : Fin 128) :
    k0_pay9 (k0_pay5 v a s i) (k0_pay7 v a s i M) (k0_pay8 v a s i M L) (ix2 r l)
      = L (ix2 r l) * Ideal.exp (M (ix2 r l) - k0_pay7 v a s i M (ix2 r l)) + ∑ j : Fin 16, Ideal.exp (k0_pay5 v a s i (ix2 r (lane j l)) - k0_pay7 v a s i M (ix2 r l)) := by
  pointwise [k0_pay9, k0_pay8]
  generalize k0_pay5 v a s i = w
  generalize k0_pay7 v a s i M = u
  have h0 : lane 0 l = ⟨l.val, by omega⟩ := Fin.ext (by simp [lane])
  simp only [Fin.sum_univ_succ, Finset.univ_eq_empty, Finset.sum_empty, add_zero, h0, add_assoc]
  rfl
theorem pay24_apply (M : Vec Ideal S32x128 .f32) (r : Fin 32) :
    k0_pay24 M (ix2 r 0) = Finset.univ.fold max (⊥ : EReal) fun x : Fin 128 => M (ix2 r x) := by
  rw [← neg_inf]
  pointwise [k0_pay24]
theorem pay25_apply (s : Vec Ideal S1x32x128 .f32) (M : Vec Ideal S32x128 .f32) (r : Fin 32) :
    k0_pay25 s M (ix2 r 0) = Ideal.exp (s (ix3 0 r 0) - k0_pay24 M (ix2 r 0)) := by
  pointwise [k0_pay25]
theorem pay26_apply (M : Vec Ideal S32x128 .f32) (r : Fin 32) (l : Fin 128) :
    k0_pay26 M (ix2 r l) = k0_pay24 M (ix2 r 0) := by
  pointwise [k0_pay26]
theorem pay27_apply (M : Vec Ideal S32x128 .f32) (e : FVec Ideal S32x1 .f32) (L m : FVec Ideal S32x128 .f32) (r : Fin 32) :
    k0_pay27 M e L m (ix2 r 0) = Ideal.div 1 (∑ x : Fin 128, L (ix2 r x) * Ideal.exp (M (ix2 r x) - m (ix2 r x)) + e (ix2 r 0)) := by
  pointwise [k0_pay27]
theorem pay20_apply (m i : FVec Ideal S32x1 .f32) (s : Vec Ideal S1x32x2048 .f32) (v : Vec Ideal S1x8x2048 .f32) (r : Fin 32) (p : Fin 2048) :
    k0_pay20 m i s v (ix2 r p) = Ideal.exp (s (ix3 0 r p) - m (ix2 r 0)) * i (ix2 r 0) * v (ix3 0 ⟨r.val % 8, by omega⟩ p) := by
  pointwise [k0_pay20]
theorem pay29_apply (p : FVec Ideal S32x2048 .f32) (A : Vec Ideal S512x32 .f32) (V : Vec Ideal S1x512x2048 .i8) (d : Fin 512) (r : Fin 32) :
    k0_pay29 p A V (ix2 d r) = A (ix2 d r) + ∑ x : Fin 2048, (((V (ix3 0 d x)).toInt : ℝ) : EReal) * p (ix2 r x) := by
  pointwise [k0_pay29]
  rfl
theorem pay28_apply (d : Fin 512) (r : Fin 32) : k0_pay28 (F := Ideal) (ix2 d r) = 0 := by
  pointwise [k0_pay28]
theorem pay23_apply (r : Fin 32) (l : Fin 128) : k0_pay23 (F := Ideal) (ix2 r l) = 0 := by
  pointwise [k0_pay23]
theorem pay22_apply (s : Vec Ideal S1x32x128 .f32) (r : Fin 32) (l : Fin 128) : k0_pay22 s (ix2 r l) = s (ix3 0 r l) := by
  pointwise [k0_pay22]
theorem pay10_apply (s : FVec Ideal S32x128 .f32) (r : Fin 32) (l : Fin 128) : k0_pay10 s (ix2 r l) = s (ix2 r l) := by
  pointwise [k0_pay10]
theorem pay11_apply (s : FVec Ideal S32x128 .f32) (r : Fin 32) (l : Fin 128) : k0_pay11 s (ix2 r l) = s (ix2 r l) := by
  pointwise [k0_pay11]

/-! ## The constants -/

theorem sitofp_bit (b : BitVec 1) (P : Prop) [Decidable P] (h : b = BitVec.ofBool (decide P)) :
    (FloatOps.sitofp (F := Ideal) FTy.f32 (BitVec.setWidth 32 b) : EReal) = if P then 1 else 0 := by
  subst h
  change (((BitVec.setWidth 32 (BitVec.ofBool (decide P))).toInt : ℝ) : EReal) = _
  by_cases hP : P <;> simp [hP]

theorem wDiag_eq : ∀ (r : Fin 32) (d : Fin 512), wDiag (ix2 r d) = BitVec.ofBool (decide (d.val / 64 = r.val % 8)) := by
  intro r d
  pointwise [wDiag, k0_pay43, k0_pay39, k0_pay40, k0_pay41, k0_pay42]
  revert r d
  decide +kernel
theorem wOwn_eq : ∀ (r : Fin 32) (h : Fin 8), wOwn (ix2 r h) = BitVec.ofBool (decide (h.val = r.val % 8)) := by
  intro r d
  pointwise [wOwn, k0_pay44]
  revert r d
  decide +kernel
theorem wPerm_eq : ∀ (j i : Fin 32), wPerm (F := Ideal) (ix2 j i) = if i.val = j.val % 8 * 4 + j.val / 8 then 1 else 0 := by
  intro r d
  pointwise [wPerm, k0_pay34, k0_pay33]
  refine sitofp_bit _ _ ?_
  revert r d
  decide +kernel
theorem wRep_eq : ∀ (d : Fin 64) (e : Fin 512), wRep (F := Ideal) (ix2 d e) = if e.val % 64 = d.val then 1 else 0 := by
  intro r d
  pointwise [wRep, k0_pay38, k0_pay35, k0_pay36, k0_pay37]
  refine sitofp_bit _ _ ?_
  revert r d
  decide +kernel
end Cert.KernelIdeal.Hand
end
-- ==== Proof.Head.lean ====
module
public import proofs.«01_k».proof.Proof.Vals
@[expose] public section

set_option maxRecDepth 16384
set_option Elab.async false

noncomputable section

/-! A row of the kernel's result is a head of the attention. -/

namespace Cert.KernelIdeal.Hand

open Cert.KernelIdeal Cert.KernelIdeal.Gen
open Idealize.ShloMosaic
open Cert.Attn

/-! ## The last operations of a row -/

theorem pay3_apply (w : FVec Ideal S32x32 .bf16) (a b : FVec Ideal S32x64 .f32) (j : Fin 32) (d : Fin 64) :
    k0_pay3 w a b (ix3 0 j d) = ∑ x : Fin 32, w (ix2 x j) * (a (ix2 x d) + b (ix2 x d)) := by
  pointwise [k0_pay3]

theorem select_bit {α : Type} (P : Prop) [Decidable P] (a b : α) : Scalar.select (BitVec.ofBool (decide P)) a b = if P then a else b := by
  by_cases h : P <;> simp [h, Scalar.select]

/-- The diagonal blocks of the accumulator. -/
theorem pay31_apply (A : Vec Ideal S512x32 .f32) (r : Fin 32) (d : Fin 64) :
    k0_pay31 wDiag A (ix2 r d) = A (ix2 ⟨r.val % 8 * 64 + d.val, by omega⟩ r) := by
  pointwise [k0_pay31]
  simp only [wDiag_eq, select_bit]
  have hr : r.val % 8 = 0 ∨ r.val % 8 = 1 ∨ r.val % 8 = 2 ∨ r.val % 8 = 3 ∨ r.val % 8 = 4 ∨ r.val % 8 = 5 ∨ r.val % 8 = 6 ∨ r.val % 8 = 7 := by omega
  have hd := d.isLt
  rcases hr with h | h | h | h | h | h | h | h
  · rw [if_pos (by omega), if_neg (by omega), if_neg (by omega), if_neg (by omega), if_neg (by omega), if_neg (by omega), if_neg (by omega), if_neg (by omega)]
    simp only [add_zero, zero_add]
    exact congrArg (fun c => A (ix2 c r)) (Fin.ext (by dsimp only; omega))
  · rw [if_neg (by omega), if_neg (by omega), if_neg (by omega), if_neg (by omega), if_pos (by omega), if_neg (by omega), if_neg (by omega), if_neg (by omega)]
    simp only [add_zero, zero_add]
    exact congrArg (fun c => A (ix2 c r)) (Fin.ext (by dsimp only; omega))
  · rw [if_neg (by omega), if_pos (by omega), if_neg (by omega), if_neg (by omega), if_neg (by omega), if_neg (by omega), if_neg (by omega), if_neg (by omega)]
    simp only [add_zero, zero_add]
    exact congrArg (fun c => A (ix2 c r)) (Fin.ext (by dsimp only; omega))
  · rw [if_neg (by omega), if_neg (by omega), if_neg (by omega), if_neg (by omega), if_neg (by omega), if_pos (by omega), if_neg (by omega), if_neg (by omega)]
    simp only [add_zero, zero_add]
    exact congrArg (fun c => A (ix2 c r)) (Fin.ext (by dsimp only; omega))
  · rw [if_neg (by omega), if_neg (by omega), if_pos (by omega), if_neg (by omega), if_neg (by omega), if_neg (by omega), if_neg (by omega), if_neg (by omega)]
    simp only [add_zero, zero_add]
    exact congrArg (fun c => A (ix2 c r)) (Fin.ext (by dsimp only; omega))
  · rw [if_neg (by omega), if_neg (by omega), if_neg (by omega), if_neg (by omega), if_neg (by omega), if_neg (by omega), if_pos (by omega), if_neg (by omega)]
    simp only [add_zero, zero_add]
    exact congrArg (fun c => A (ix2 c r)) (Fin.ext (by dsimp only; omega))
  · rw [if_neg (by omega), if_neg (by omega), if_neg (by omega), if_pos (by omega), if_neg (by omega), if_neg (by omega), if_neg (by omega), if_neg (by omega)]
    simp only [add_zero, zero_add]
    exact congrArg (fun c => A (ix2 c r)) (Fin.ext (by dsimp only; omega))
  · rw [if_neg (by omega), if_neg (by omega), if_neg (by omega), if_neg (by omega), if_neg (by omega), if_neg (by omega), if_neg (by omega), if_pos (by omega)]
    simp only [add_zero, zero_add]
    exact congrArg (fun c => A (ix2 c r)) (Fin.ext (by dsimp only; omega))

theorem pay32_apply (M : Vec Ideal S32x128 .f32) (e : FVec Ideal S32x1 .f32) (L m : FVec Ideal S32x128 .f32) (v : Vec Ideal S1x8x64 .bf16) (r : Fin 32) (d : Fin 64) :
    k0_pay32 wOwn M e L m v (ix2 r d) = e (ix2 r 0) * k0_pay27 M e L m (ix2 r 0) * v (ix3 0 ⟨r.val % 8, by omega⟩ d) := by
  pointwise [k0_pay32]
  simp only [wOwn_eq, select_bit]
  refine (Finset.sum_eq_single ⟨r.val % 8, by omega⟩ (fun x _ hx => ?_) (fun h => absurd (Finset.mem_univ _) h)).trans ?_
  · rw [if_neg (fun h => hx (Fin.ext h))]
  · rw [if_pos rfl]

/-! ## The loops, row by row -/

section Loops
variable (v256 : BitVec 32) (q : Vec Ideal S1x32x512 .bf16) (kk vv : ℕ → Vec Ideal S1x512x2048 .i8) (sk sv : ℕ → Vec Ideal S1x8x2048 .f32)
variable (sr : Vec Ideal S1x32x128 .f32) (r : Fin 32)

/-- Row `r` of chunk `k`'s masked scores. -/
abbrev rowSc (k : ℕ) (p : Fin 2048) : EReal := k0_pay5 v256 (Scf.iv 0#32 1#32 k) (k0_pay4 q (kk k) (sk k)) iotaV (ix2 r p)

theorem row_online (sn : EReal) (hs : ∀ l, sr (ix3 0 r l) = sn) :
    Online sn (rowSc v256 q kk sk r) (fun k l => recM v256 q kk sk (k0_pay22 sr) k (ix2 r l)) (fun k l => recL v256 q kk sk (k0_pay22 sr) k0_pay23 k (ix2 r l)) where
  m0 l := (pay22_apply sr r l).trans (hs l)
  l0 l := pay23_apply r l
  ms k l := (pay11_apply _ r l).trans (pay7_apply _ _ _ _ _ r l)
  ls k l := (pay10_apply _ r l).trans ((pay89_apply _ _ _ _ _ _ r l).trans (by
    have e : recM v256 q kk sk (k0_pay22 sr) (k + 1) (ix2 r l) = k0_pay7 v256 (Scf.iv 0#32 1#32 k) (k0_pay4 q (kk k) (sk k)) iotaV (recM v256 q kk sk (k0_pay22 sr) k) (ix2 r l) := by
      show k0_pay11 (k0_pay7 _ _ _ _ _) (ix2 r l) = _
      exact pay11_apply _ r l
    simp only [e]))

theorem recA_succ (a i : FVec Ideal S32x1 .f32) (A0 : FVec Ideal S512x32 .f32) (k : ℕ) (c : Fin 512) :
    recA a i (fun k => kS v256 (Scf.iv 0#32 1#32 k) q (kk k) (sk k)) vv sv A0 (k + 1) (ix2 c r)
      = recA a i (fun k => kS v256 (Scf.iv 0#32 1#32 k) q (kk k) (sk k)) vv sv A0 k (ix2 c r)
        + ∑ p : Fin 2048, (((vv k (ix3 0 c p)).toInt : ℝ) : EReal) * (Ideal.exp (rowSc v256 q kk sk r k p - a (ix2 r 0)) * i (ix2 r 0) * sv k (ix3 0 ⟨r.val % 8, by omega⟩ p)) := by
  refine (pay29_apply _ _ _ c r).trans (congrArg (_ + ·) (Finset.sum_congr rfl fun p _ => congrArg (_ * ·) ?_))
  refine (pay20_apply _ _ _ _ r p).trans ?_
  rw [show (fun k => kS v256 (Scf.iv 0#32 1#32 k) q (kk k) (sk k)) k (ix3 0 r p) = rowSc v256 q kk sk r k p from pay6_apply _ _ _ _ r p]

end Loops

/-- The permuted row of head `j`. -/
abbrev rowAt (j : Fin 32) : Fin 32 := ⟨j.val % 4 * 8 + j.val / 4, by omega⟩

/-- One element of a row of the result. -/
theorem row_head (v256 : BitVec 32) (nc : ℕ) (q : Vec Ideal S1x32x512 .bf16) (sr : Vec Ideal S1x32x128 .f32) (vr : Vec Ideal S1x8x64 .bf16)
    (kk vv : ℕ → Vec Ideal S1x512x2048 .i8) (sk sv : ℕ → Vec Ideal S1x8x2048 .f32) (j : Fin 32) (d : Fin 64)
    (sn : EReal) (S V W : Fin 16384 → EReal) (hS : Scores nc sn S (rowSc v256 q kk sk (rowAt j))) (hs : ∀ l, sr (ix3 0 (rowAt j) l) = sn)
    (hV : ∀ (k : Fin 8) (p : Fin 2048), k.val < nc → V (pos k p) = (((vv k.val (ix3 0 ⟨j.val / 4 * 64 + d.val, by omega⟩ p)).toInt : ℝ) : EReal))
    (hW : ∀ (k : Fin 8) (p : Fin 2048), k.val < nc → W (pos k p) = sv k.val (ix3 0 ⟨j.val / 4, by omega⟩ p)) :
    outRow v256 nc q sr vr kk sk vv sv wPerm wDiag wOwn (ix3 0 j d) = head sn S V W (vr (ix3 0 ⟨j.val / 4, by omega⟩ d)) := by
  have ho := row_online v256 q kk sk sr (rowAt j) sn hs
  have hr : (rowAt j).val % 8 = j.val / 4 := by show (j.val % 4 * 8 + j.val / 4) % 8 = _; omega
  have hh : (⟨(rowAt j).val % 8, by omega⟩ : Fin 8) = ⟨j.val / 4, by omega⟩ := Fin.ext hr
  unfold outRow
  refine (pay3_apply _ _ _ j d).trans ?_
  refine (Finset.sum_eq_single (rowAt j) (fun x _ hx => ?_) (fun h => absurd (Finset.mem_univ _) h)).trans ?_
  · rw [wPerm_eq, if_neg (fun h => hx (Fin.ext ?_)), zero_mul]
    show x.val = j.val % 4 * 8 + j.val / 4
    omega
  rw [wPerm_eq, if_pos (by show j.val = (j.val % 4 * 8 + j.val / 4) % 8 * 4 + (j.val % 4 * 8 + j.val / 4) / 8; omega), one_mul, pay31_apply, pay32_apply]
  have hm : k0_pay24 (recM v256 q kk sk (k0_pay22 sr) nc) (ix2 (rowAt j) 0) = top sn S := (pay24_apply _ _).trans (ho.top_eq hS)
  have he : k0_pay25 sr (recM v256 q kk sk (k0_pay22 sr) nc) (ix2 (rowAt j) 0) = Ideal.exp (sn - top sn S) := by rw [pay25_apply, hm, hs]
  have hi : k0_pay27 (recM v256 q kk sk (k0_pay22 sr) nc) (k0_pay25 sr (recM v256 q kk sk (k0_pay22 sr) nc)) (recL v256 q kk sk (k0_pay22 sr) k0_pay23 nc) (k0_pay26 (recM v256 q kk sk (k0_pay22 sr) nc)) (ix2 (rowAt j) 0)
      = Ideal.div 1 (total sn S) := by
    rw [pay27_apply, he, ← ho.total_eq hS]
    simp only [pay26_apply, hm]
  rw [he, hi, hh]
  unfold head
  refine congrArg₂ (· + ·) ?_ ?_
  · have hc : (⟨(rowAt j).val % 8 * 64 + d.val, by omega⟩ : Fin 512) = ⟨j.val / 4 * 64 + d.val, by omega⟩ := Fin.ext (congrArg (· * 64 + d.val) hr)
    rw [hc]
    refine hS.acc_eq V W (fun k p => (((vv k (ix3 0 ⟨j.val / 4 * 64 + d.val, by omega⟩ p)).toInt : ℝ) : EReal)) (fun k p => sv k (ix3 0 ⟨j.val / 4, by omega⟩ p)) hV hW
      (fun k => recA _ _ _ vv sv k0_pay28 k (ix2 ⟨j.val / 4 * 64 + d.val, by omega⟩ (rowAt j))) (pay28_apply _ _) fun k => ?_
    refine (recA_succ v256 q kk vv sk sv (rowAt j) _ _ k0_pay28 k _).trans ?_
    rw [hm, hi, hh]
  · rw [Ideal.mul_one_div hS.total_ne, mul_comm]

end Cert.KernelIdeal.Hand
end
-- ==== Proof.Query.lean ====
module
public import proofs.«01_k».proof.Proof.Head
@[expose] public section

set_option maxRecDepth 16384
set_option Elab.async false

noncomputable section

namespace Cert.KernelIdeal.Hand

open Cert.KernelIdeal Cert.KernelIdeal.Gen
open Idealize.ShloMosaic
open Cert.Attn

/-! ## The queries and the new key's scores -/

/-- The head of permuted row `r`. -/
abbrev headOf (r : Fin 32) : Fin 32 := ⟨r.val % 8 * 4 + r.val / 8, by omega⟩

/-- A permuted row of the queries. -/
theorem perm_row (x : Vec Ideal S1x32x64 .bf16) (r : Fin 32) (e : Fin 64) :
    (∑ y : Fin 32, wPerm (F := Ideal) (ix2 r y) * x (ix3 0 y e) : EReal) = x (ix3 0 (headOf r) e) := by
  refine (Finset.sum_eq_single (headOf r) (fun y _ hy => ?_) (fun h => absurd (Finset.mem_univ _) h)).trans ?_
  · rw [wPerm_eq, if_neg (fun h => hy (Fin.ext h)), zero_mul]
  · rw [wPerm_eq, if_pos rfl, one_mul]

theorem pay53_apply (x : Vec Ideal S1x32x64 .bf16) (r : Fin 32) (d : Fin 512) :
    k0_pay53 wPerm wRep wDiag x (ix3 0 r d) = if d.val / 64 = r.val % 8 then x (ix3 0 (headOf r) ⟨d.val % 64, by omega⟩) else (0 : EReal) := by
  pointwise [k0_pay53, k0_pay52]
  rw [wDiag_eq, select_bit]
  refine if_congr Iff.rfl ?_ rfl
  refine (Finset.sum_eq_single ⟨d.val % 64, by omega⟩ (fun y _ hy => ?_) (fun h => absurd (Finset.mem_univ _) h)).trans ?_
  · rw [wRep_eq, if_neg (fun h => hy (Fin.ext h.symm)), mul_zero]
  · rw [wRep_eq, if_pos rfl, mul_one, perm_row]

theorem pay54_apply (x : Vec Ideal S1x32x64 .bf16) (k : Vec Ideal S1x8x64 .bf16) (r : Fin 32) (l : Fin 128) :
    k0_pay54 wPerm wOwn x k (ix3 0 r l) = scoreNew (fun d => x (ix3 0 (headOf r) d)) (fun d => k (ix3 0 ⟨r.val % 8, by omega⟩ d)) := by
  pointwise [k0_pay54, k0_pay52]
  refine congrArg (· * eighth) ?_
  refine (Finset.sum_eq_single ⟨r.val % 8, by omega⟩ (fun y _ hy => ?_) (fun h => absurd (Finset.mem_univ _) h)).trans ?_
  · rw [wOwn_eq, select_bit, if_neg (fun h => hy (Fin.ext h))]
  · rw [wOwn_eq, select_bit, if_pos rfl]
    refine Finset.sum_congr rfl fun d _ => ?_
    rw [perm_row, mul_comm]

/-- A chunk's scores of permuted row `r`. -/
theorem scores_row (x : Vec Ideal S1x32x64 .bf16) (kv : Vec Ideal S1x512x2048 .i8) (sv : Vec Ideal S1x8x2048 .f32) (r : Fin 32) (p : Fin 2048) :
    k0_pay4 (k0_pay53 wPerm wRep wDiag x) kv sv (ix2 r p)
      = (∑ d : Fin 64, (((kv (ix3 0 ⟨r.val % 8 * 64 + d.val, by omega⟩ p)).toInt : ℝ) : EReal) * x (ix3 0 (headOf r) d)) * (sv (ix3 0 ⟨r.val % 8, by omega⟩ p) * eighth) := by
  rw [pay4_apply]
  refine congrArg (· * _) ?_
  refine (sum_split 8 64 _).trans ?_
  refine (Finset.sum_eq_single ⟨r.val % 8, by omega⟩ (fun h _ hh => ?_) (fun h => absurd (Finset.mem_univ _) h)).trans ?_
  · refine Finset.sum_eq_zero fun d _ => ?_
    rw [pay53_apply, if_neg (fun e => hh (Fin.ext ?_)), zero_mul]
    have e : (h.val * 64 + d.val) / 64 = r.val % 8 := e
    show h.val = r.val % 8
    omega
  · refine Finset.sum_congr rfl fun d _ => ?_
    rw [pay53_apply, if_pos (by show (r.val % 8 * 64 + d.val) / 64 = r.val % 8; omega), mul_comm]
    have e : (⟨(r.val % 8 * 64 + d.val) % 64, by omega⟩ : Fin 64) = d := Fin.ext (by show (r.val % 8 * 64 + d.val) % 64 = d.val; omega)
    exact congrArg (fun y => _ * x (ix3 0 (headOf r) y)) e

/-! ## The mask -/

/-- A chunk's mask, of the key's position. -/
theorem toInt_small (n : ℕ) (h : n < 2147483648) : (BitVec.ofNat 32 n).toInt = n := by
  rw [BitVec.toInt_eq_toNat_of_lt (by rw [BitVec.toNat_ofNat]; omega), BitVec.toNat_ofNat]
  omega

theorem mask (len : BitVec 32) (hl : len.toNat ≤ 16384) (k : Fin 8) (q : Fin 2048) :
    IntOp.cmpi .slt (BitVec.ofNat 32 q.val) (Scalar.subi len (Scalar.muli (BitVec.ofNat 32 k.val) 2048#32)) = IntOp.cmpi .slt (BitVec.ofNat 32 (pos k q).val) len := by
  have hk := k.isLt
  have hq := q.isLt
  obtain ⟨n, hn, rfl⟩ : ∃ n, n ≤ 16384 ∧ len = BitVec.ofNat 32 n := ⟨len.toNat, hl, by simp⟩
  have e1 : (BitVec.ofNat 32 n - BitVec.ofNat 32 k.val * 2048#32).toInt = (n : ℤ) - k.val * 2048 := by
    rw [BitVec.toInt_sub, BitVec.toInt_mul, toInt_small n (by omega), toInt_small k.val (by omega), toInt_small 2048 (by omega)]
    rw [Int.bmod_eq_of_le (n := (k.val : ℤ) * _) (by norm_num; omega) (by norm_num; omega), Int.bmod_eq_of_le (by norm_num; omega) (by norm_num; omega)]
    norm_num
  show BitVec.ofBool ((BitVec.ofNat 32 q.val).slt (BitVec.ofNat 32 n - BitVec.ofNat 32 k.val * 2048#32)) = BitVec.ofBool ((BitVec.ofNat 32 (k.val * 2048 + q.val)).slt (BitVec.ofNat 32 n))
  simp only [BitVec.slt]
  rw [e1, toInt_small q.val (by omega), toInt_small (k.val * 2048 + q.val) (by omega), toInt_small n (by omega)]
  congr 1
  refine decide_eq_decide.2 ?_
  push_cast
  omega
theorem iv_eq (k : ℕ) : Scf.iv 0#32 1#32 k = BitVec.ofNat 32 k := by
  simp [Scf.iv]
end Cert.KernelIdeal.Hand
end
-- ==== Proof.Reads.lean ====
module
public import proofs.«01_k».proof.Proof.BringI
public import Idealize.ShloMosaic.Lib.StableHlo.ReadAt
public import Idealize.ShloMosaic.Lib.Pointwise
public import Idealize.ShloMosaic.Lib.IdealHost
public import Idealize.ShloMosaic.Lib.Pipeline.ValueKit
public import proofs.«01_k».proof.Proof.Online
@[expose] public section

set_option maxRecDepth 16384
set_option Elab.async false

noncomputable section

/-! What the kernel reads and leaves, element by element. -/

namespace Cert.KernelIdeal.Hand

open Cert.KernelIdeal Cert.KernelIdeal.Gen
open Idealize.ShloMosaic
open Cert.Attn

/-! ## The chunks, of the arrays -/

theorem inC (b : Fin 4) (k : Fin 8) : InC (BitVec.ofNat 32 b.val) (BitVec.ofNat 32 k.val) := by
  revert b k; decide
theorem offK (b : Fin 4) (k : Fin 8) : offC (BitVec.ofNat 32 b.val) (BitVec.ofNat 32 k.val) = ![b.val, 0, k.val * 2048] := by
  revert b k; decide

theorem chK_k (c : Dev nD) (f : BufOf Ideal c aK) (b : Fin 4) (k : Fin 8) (e : Fin 512) (p : Fin 2048) :
    chK c aK f (BitVec.ofNat 32 b.val) (BitVec.ofNat 32 k.val) (ix3 0 e p) = f (ix3 b e (pos k p)) := by
  rw [chK_pos c aK f (inC b k)]
  show f ((aK.slice (Rect.unit (s := S4x512x16384) (offC _ _) S1x512x2048.size (inC b k).k) (fun _ => rfl)).view.emb (Shape.reshapeEquiv _ ((Shape.reshapeEquiv _).symm (ix3 0 e p)))) = _
  rw [Equiv.apply_symm_apply]
  refine congrArg f (funext fun a => Fin.ext ?_)
  have h : ∀ a : Fin 3, (offC (BitVec.ofNat 32 b.val) (BitVec.ofNat 32 k.val)) a = (![b.val, 0, k.val * 2048] : Fin 3 → ℕ) a := fun a => congrFun (offK b k) a
  refine (congrArg (· + 1 * (ix3 (0 : Fin 1) e p a).val) (h a)).trans ?_
  fin_cases a
  · rfl
  · show 0 + 1 * e.val = e.val; omega
  · show k.val * 2048 + 1 * p.val = k.val * 2048 + p.val; omega
theorem chK_v (c : Dev nD) (f : BufOf Ideal c aV) (b : Fin 4) (k : Fin 8) (e : Fin 512) (p : Fin 2048) :
    chK c aV f (BitVec.ofNat 32 b.val) (BitVec.ofNat 32 k.val) (ix3 0 e p) = f (ix3 b e (pos k p)) := by
  rw [chK_pos c aV f (inC b k)]
  show f ((aV.slice (Rect.unit (s := S4x512x16384) (offC _ _) S1x512x2048.size (inC b k).k) (fun _ => rfl)).view.emb (Shape.reshapeEquiv _ ((Shape.reshapeEquiv _).symm (ix3 0 e p)))) = _
  rw [Equiv.apply_symm_apply]
  refine congrArg f (funext fun a => Fin.ext ?_)
  have h : ∀ a : Fin 3, (offC (BitVec.ofNat 32 b.val) (BitVec.ofNat 32 k.val)) a = (![b.val, 0, k.val * 2048] : Fin 3 → ℕ) a := fun a => congrFun (offK b k) a
  refine (congrArg (· + 1 * (ix3 (0 : Fin 1) e p a).val) (h a)).trans ?_
  fin_cases a
  · rfl
  · show 0 + 1 * e.val = e.val; omega
  · show k.val * 2048 + 1 * p.val = k.val * 2048 + p.val; omega
theorem chS_k (c : Dev nD) (f : BufOf Ideal c aKs) (b : Fin 4) (k : Fin 8) (e : Fin 8) (p : Fin 2048) :
    chS c aKs f (BitVec.ofNat 32 b.val) (BitVec.ofNat 32 k.val) (ix3 0 e p) = f (ix3 b e (pos k p)) := by
  rw [chS_pos c aKs f (inC b k)]
  show f ((aKs.slice (Rect.unit (s := S4x8x16384) (offC _ _) S1x8x2048.size (inC b k).s) (fun _ => rfl)).view.emb (Shape.reshapeEquiv _ ((Shape.reshapeEquiv _).symm (ix3 0 e p)))) = _
  rw [Equiv.apply_symm_apply]
  refine congrArg f (funext fun a => Fin.ext ?_)
  have h : ∀ a : Fin 3, (offC (BitVec.ofNat 32 b.val) (BitVec.ofNat 32 k.val)) a = (![b.val, 0, k.val * 2048] : Fin 3 → ℕ) a := fun a => congrFun (offK b k) a
  refine (congrArg (· + 1 * (ix3 (0 : Fin 1) e p a).val) (h a)).trans ?_
  fin_cases a
  · rfl
  · show 0 + 1 * e.val = e.val; omega
  · show k.val * 2048 + 1 * p.val = k.val * 2048 + p.val; omega
theorem chS_v (c : Dev nD) (f : BufOf Ideal c aVs) (b : Fin 4) (k : Fin 8) (e : Fin 8) (p : Fin 2048) :
    chS c aVs f (BitVec.ofNat 32 b.val) (BitVec.ofNat 32 k.val) (ix3 0 e p) = f (ix3 b e (pos k p)) := by
  rw [chS_pos c aVs f (inC b k)]
  show f ((aVs.slice (Rect.unit (s := S4x8x16384) (offC _ _) S1x8x2048.size (inC b k).s) (fun _ => rfl)).view.emb (Shape.reshapeEquiv _ ((Shape.reshapeEquiv _).symm (ix3 0 e p)))) = _
  rw [Equiv.apply_symm_apply]
  refine congrArg f (funext fun a => Fin.ext ?_)
  have h : ∀ a : Fin 3, (offC (BitVec.ofNat 32 b.val) (BitVec.ofNat 32 k.val)) a = (![b.val, 0, k.val * 2048] : Fin 3 → ℕ) a := fun a => congrFun (offK b k) a
  refine (congrArg (· + 1 * (ix3 (0 : Fin 1) e p a).val) (h a)).trans ?_
  fin_cases a
  · rfl
  · show 0 + 1 * e.val = e.val; omega
  · show k.val * 2048 + 1 * p.val = k.val * 2048 + p.val; omega

theorem xRow_apply (c : Dev nD) (f : BufOf Ideal c aX) (b : Fin k0_t2_loop.trips) (b' : Fin 4) (hb : b.val = b'.val) (j : Fin 32) (d : Fin 64) : xRow c f b (ix3 0 j d) = f (ix3 b' j d) := by
  show f ((Rect.unit (s := S4x32x64) (k0_off86 b) S1x32x64.size (k0_off86_inb b)).emb (ix3 0 j d)) = _
  refine congrArg f (funext fun a => Fin.ext ?_)
  have h : ∀ b : Fin k0_t2_loop.trips, k0_off86 b = ![b.val, 0, 0] := by decide
  have h : ∀ a : Fin 3, k0_off86 b a = (![b'.val, 0, 0] : Fin 3 → ℕ) a := fun a => by rw [h, hb]
  refine (congrArg (· + 1 * (ix3 (0 : Fin 1) j d a).val) (h a)).trans ?_
  fin_cases a
  · rfl
  · show 0 + 1 * j.val = j.val; omega
  · show 0 + 1 * d.val = d.val; omega
theorem knRow_apply (c : Dev nD) (f : BufOf Ideal c aKn) (b : Fin k0_t2_loop.trips) (b' : Fin 4) (hb : b.val = b'.val) (j : Fin 8) (d : Fin 64) : knRow c f b (ix3 0 j d) = f (ix3 b' j d) := by
  show f ((Rect.unit (s := S4x8x64) (k0_off85 b) S1x8x64.size (k0_off85_inb b)).emb (ix3 0 j d)) = _
  refine congrArg f (funext fun a => Fin.ext ?_)
  have h : ∀ b : Fin k0_t2_loop.trips, k0_off85 b = ![b.val, 0, 0] := by decide
  have h : ∀ a : Fin 3, k0_off85 b a = (![b'.val, 0, 0] : Fin 3 → ℕ) a := fun a => by rw [h, hb]
  refine (congrArg (· + 1 * (ix3 (0 : Fin 1) j d a).val) (h a)).trans ?_
  fin_cases a
  · rfl
  · show 0 + 1 * j.val = j.val; omega
  · show 0 + 1 * d.val = d.val; omega
theorem vnRow_apply (c : Dev nD) (f : BufOf Ideal c aVn) (b : Fin k0_t2_loop.trips) (b' : Fin 4) (hb : b.val = b'.val) (j : Fin 8) (d : Fin 64) : vnRow c f b (ix3 0 j d) = f (ix3 b' j d) := by
  show f ((Rect.unit (s := S4x8x64) (k0_off85 b) S1x8x64.size (k0_off85_inb b)).emb (ix3 0 j d)) = _
  refine congrArg f (funext fun a => Fin.ext ?_)
  have h : ∀ b : Fin k0_t2_loop.trips, k0_off85 b = ![b.val, 0, 0] := by decide
  have h : ∀ a : Fin 3, k0_off85 b a = (![b'.val, 0, 0] : Fin 3 → ℕ) a := fun a => by rw [h, hb]
  refine (congrArg (· + 1 * (ix3 (0 : Fin 1) j d a).val) (h a)).trans ?_
  fin_cases a
  · rfl
  · show 0 + 1 * j.val = j.val; omega
  · show 0 + 1 * d.val = d.val; omega

variable (m : (ℓ : Loc nD τ sig) → Buf (Elt Ideal) ℓ)

theorem V_v1 (c : Dev nD) (b : Fin 4) (e : Fin 512) (p : Fin 16384) : (V m c main_v1 : S4x512x16384.Idx → BitVec 8) (ix3 b e p)
    = (m ((c.tc : Thread nD τ).loc main_arg3) : S4x16384x8x64.Idx → BitVec 8) (ix4 b p ⟨e.val / 64, by omega⟩ ⟨e.val % 64, by omega⟩) := by
  show (StableHlo.after (List.flatten [hostOps0]) (fun b => m (c, b)) (Proc.devRef .tc main_v1) : S4x512x16384.Idx → BitVec 8) (ix3 b e p) = _
  after_reads_at
theorem V_v3 (c : Dev nD) (b : Fin 4) (e : Fin 512) (p : Fin 16384) : (V m c main_v3 : S4x512x16384.Idx → BitVec 8) (ix3 b e p)
    = (m ((c.tc : Thread nD τ).loc main_arg5) : S4x16384x8x64.Idx → BitVec 8) (ix4 b p ⟨e.val / 64, by omega⟩ ⟨e.val % 64, by omega⟩) := by
  show (StableHlo.after (List.flatten [hostOps0]) (fun b => m (c, b)) (Proc.devRef .tc main_v3) : S4x512x16384.Idx → BitVec 8) (ix3 b e p) = _
  after_reads_at
theorem V_v4 (c : Dev nD) (b : Fin 4) (e : Fin 8) (p : Fin 16384) : (V m c main_v4 : S4x8x16384.Idx → EReal) (ix3 b e p)
    = (m ((c.tc : Thread nD τ).loc main_arg4) : S4x16384x8.Idx → EReal) (ix3 b p e) := by
  show (StableHlo.after (List.flatten [hostOps0]) (fun b => m (c, b)) (Proc.devRef .tc main_v4) : S4x8x16384.Idx → EReal) (ix3 b e p) = _
  after_reads_at
theorem V_v5 (c : Dev nD) (b : Fin 4) (e : Fin 8) (p : Fin 16384) : (V m c main_v5 : S4x8x16384.Idx → EReal) (ix3 b e p)
    = (m ((c.tc : Thread nD τ).loc main_arg6) : S4x16384x8.Idx → EReal) (ix3 b p e) := by
  show (StableHlo.after (List.flatten [hostOps0]) (fun b => m (c, b)) (Proc.devRef .tc main_v5) : S4x8x16384.Idx → EReal) (ix3 b e p) = _
  after_reads_at
theorem V_v6 (c : Dev nD) (b : Fin 4) (e : Fin 32) (p : Fin 64) : (V m c main_v6 : S4x32x64.Idx → EReal) (ix3 b e p)
    = (m ((c.tc : Thread nD τ).loc main_arg0) : S4x1x32x64.Idx → EReal) (ix4 b 0 e p) := by
  show (StableHlo.after (List.flatten [hostOps0]) (fun b => m (c, b)) (Proc.devRef .tc main_v6) : S4x32x64.Idx → EReal) (ix3 b e p) = _
  after_reads_at
theorem V_v7 (c : Dev nD) (b : Fin 4) (e : Fin 8) (p : Fin 64) : (V m c main_v7 : S4x8x64.Idx → EReal) (ix3 b e p)
    = (m ((c.tc : Thread nD τ).loc main_arg1) : S4x1x8x64.Idx → EReal) (ix4 b 0 e p) := by
  show (StableHlo.after (List.flatten [hostOps0]) (fun b => m (c, b)) (Proc.devRef .tc main_v7) : S4x8x64.Idx → EReal) (ix3 b e p) = _
  after_reads_at
theorem V_v8 (c : Dev nD) (b : Fin 4) (e : Fin 8) (p : Fin 64) : (V m c main_v8 : S4x8x64.Idx → EReal) (ix3 b e p)
    = (m ((c.tc : Thread nD τ).loc main_arg2) : S4x1x8x64.Idx → EReal) (ix4 b 0 e p) := by
  show (StableHlo.after (List.flatten [hostOps0]) (fun b => m (c, b)) (Proc.devRef .tc main_v8) : S4x8x64.Idx → EReal) (ix3 b e p) = _
  after_reads_at

theorem ends_v10 (c : Dev nD) (b : Fin 4) (j : Fin 32) (d : Fin 64) : (ends m c (Proc.devRef .tc main_v10) : S4x1x32x64.Idx → EReal) (ix4 b 0 j d)
    = ((dats m 0 c).arrAt 0 cfg0.N : S4x32x64.Idx → EReal) (ix3 b j d) := by
  unfold ends
  after_reads_at
  exact congrFun (Pipeline.withArrays_arr spec0 (Function.injective_of_subsingleton _) c _ _ (0 : Fin 1)) (ix3 b j d)

theorem final0 (c : Dev nD) : ((dats m 0 c).arrAt 0 cfg0.N : S4x32x64.Idx → EReal) = resOf c (srcV m c) (V m c main_v6) (V m c main_v7) (V m c main_v8) (V m c main_arg7) := by
  funext i
  refine (Pipeline.Dat.arrAt_emb_eq_after_last (dats m 0 c) 0 ⟨0, by decide⟩ (by decide +kernel) i).trans ?_
  rfl

end Cert.KernelIdeal.Hand
end
-- ==== Proof.Value.lean ====
module
public import proofs.«01_k».proof.Proof.Query
public import proofs.«01_k».proof.Proof.Reads
@[expose] public section

set_option maxRecDepth 16384
set_option Elab.async false

noncomputable section

/-! The kernel's result, element by element, of its arguments. -/

namespace Cert.KernelIdeal.Hand

open Cert.KernelIdeal Cert.KernelIdeal.Gen
open Idealize.ShloMosaic
open Cert.Attn

/-! ## Reals -/

/-- A real among the extended reals. -/
def IsReal (a : EReal) : Prop := ∃ r : ℝ, a = (r : EReal)
theorem IsReal.mul {a b : EReal} : IsReal a → IsReal b → IsReal (a * b) := by
  rintro ⟨x, rfl⟩ ⟨y, rfl⟩; exact ⟨x * y, (EReal.coe_mul x y).symm⟩
theorem IsReal.sum {n : ℕ} {f : Fin n → EReal} (h : ∀ i, IsReal (f i)) : IsReal (∑ i, f i) :=
  Finset.sum_induction f IsReal (fun a b => by rintro ⟨x, rfl⟩ ⟨y, rfl⟩; exact ⟨x + y, (EReal.coe_add x y).symm⟩) ⟨0, EReal.coe_zero.symm⟩ fun i _ => h i
theorem IsReal.ne_top {a : EReal} : IsReal a → a ≠ ⊤ := by rintro ⟨x, rfl⟩; exact EReal.coe_ne_top x
theorem IsReal.ne_bot {a : EReal} : IsReal a → a ≠ ⊥ := by rintro ⟨x, rfl⟩; exact EReal.coe_ne_bot x
theorem eighth_real : IsReal eighth := ⟨_, by simp only [eighth, Ideal.ofBits, Ideal.ieee]; norm_num; rfl⟩

theorem scoreNew_real (x kn : Fin 64 → EReal) (hx : ∀ d, IsReal (x d)) (hk : ∀ d, IsReal (kn d)) : IsReal (scoreNew x kn) :=
  (IsReal.sum fun d => (hk d).mul (hx d)).mul eighth_real
theorem scores_ne (len : BitVec 32) (x : Fin 64 → EReal) (K : Fin 16384 → Fin 64 → EReal) (ks : Fin 16384 → EReal) (p : Fin 16384)
    (hx : ∀ d, IsReal (x d)) (hK : ∀ d, IsReal (K p d)) (hks : IsReal (ks p)) : scores len x K ks p ≠ ⊤ := by
  unfold scores Scalar.select
  split
  · exact ((IsReal.sum fun d => (hK d).mul (hx d)).mul (hks.mul eighth_real)).ne_top
  · exact bot_ne_top
theorem scores_past (len : BitVec 32) (x : Fin 64 → EReal) (K : Fin 16384 → Fin 64 → EReal) (ks : Fin 16384 → EReal) (p : Fin 16384)
    (hl : len.toNat ≤ 16384) (hp : len.toNat ≤ p.val) : scores len x K ks p = ⊥ := by
  obtain ⟨n, hn, rfl⟩ : ∃ n, n ≤ 16384 ∧ len = BitVec.ofNat 32 n := ⟨len.toNat, hl, by simp⟩
  have hn' : n ≤ p.val := by rw [BitVec.toNat_ofNat] at hp; omega
  have hp' := p.isLt
  have e : IntOp.cmpi .slt (BitVec.ofNat 32 p.val) (BitVec.ofNat 32 n) = 0#1 := by
    show BitVec.ofBool ((BitVec.ofNat 32 p.val).slt (BitVec.ofNat 32 n)) = 0#1
    simp only [BitVec.slt]
    rw [toInt_small p.val (by omega), toInt_small n (by omega), decide_eq_false (by omega)]
    rfl
  unfold scores
  rw [e]
  rfl

/-! ## The result -/

section
variable (m : (ℓ : Loc nD τ sig) → Buf (Elt Ideal) ℓ) (c : Dev nD)

abbrev argX : S4x1x32x64.Idx → EReal := m ((c.tc : Thread nD τ).loc main_arg0)
abbrev argKn : S4x1x8x64.Idx → EReal := m ((c.tc : Thread nD τ).loc main_arg1)
abbrev argVn : S4x1x8x64.Idx → EReal := m ((c.tc : Thread nD τ).loc main_arg2)
abbrev argK : S4x16384x8x64.Idx → BitVec 8 := m ((c.tc : Thread nD τ).loc main_arg3)
abbrev argKs : S4x16384x8.Idx → EReal := m ((c.tc : Thread nD τ).loc main_arg4)
abbrev argV : S4x16384x8x64.Idx → BitVec 8 := m ((c.tc : Thread nD τ).loc main_arg5)
abbrev argVs : S4x16384x8.Idx → EReal := m ((c.tc : Thread nD τ).loc main_arg6)
abbrev argLen : S4.Idx → BitVec 32 := m ((c.tc : Thread nD τ).loc main_arg7)

theorem lnOf_eq (b : Fin 4) : lnOf c (V m c main_arg7) b.val = (argLen m c (ix1 b)).toNat := by
  rw [V_main_arg7]
  unfold lnOf
  rw [dif_pos b.isLt]
  refine congrArg (fun i => (argLen m c i).toNat) (funext fun a => Fin.ext ?_)
  fin_cases a
  rfl

theorem ends_apply (hl : ∀ b, (argLen m c (ix1 b)).toNat ≤ 16384) (hx : ∀ i, IsReal (argX m c i)) (hkn : ∀ i, IsReal (argKn m c i)) (hks : ∀ i, IsReal (argKs m c i))
    (b : Fin 4) (j : Fin 32) (d : Fin 64) : (ends m c (Proc.devRef .tc main_v10) : S4x1x32x64.Idx → EReal) (ix4 b 0 j d)
      = result (argX m c) (argKn m c) (argVn m c) (argK m c) (argV m c) (argKs m c) (argVs m c) (argLen m c) b j d := by
  rw [ends_v10, final0]
  have hi : inRow (ix3 b j d) = ix3 0 j d := by
    funext a; apply Fin.ext; fin_cases a <;> rfl
  have hb : b.val < k0_t2_loop.trips := lt_of_lt_of_eq b.isLt trips2.symm
  show outOf c (srcV m c) (V m c main_v6) (V m c main_v7) (V m c main_v8) (V m c main_arg7) ⟨b.val, hb⟩ (inRow (ix3 b j d)) = _
  rw [hi]
  unfold outOf
  have hln : lnOf c (V m c main_arg7) b.val = (argLen m c (ix1 b)).toNat := lnOf_eq m c b
  have hw : BitVec.ofNat 32 (lnOf c (V m c main_arg7) b.val) = argLen m c (ix1 b) := by rw [hln]; simp
  have hle : lnOf c (V m c main_arg7) b.val ≤ 16384 := hln ▸ hl b
  have hj : (rowAt j).val % 8 = j.val / 4 := by show (j.val % 4 * 8 + j.val / 4) % 8 = _; omega
  have hh : headOf (rowAt j) = j := Fin.ext (by show (j.val % 4 * 8 + j.val / 4) % 8 * 4 + (j.val % 4 * 8 + j.val / 4) / 8 = j.val; omega)
  have h8 : (⟨(rowAt j).val % 8, by omega⟩ : Fin 8) = ⟨j.val / 4, by omega⟩ := Fin.ext hj
  have here : ∀ (k : Fin 8) (q : Fin 2048), keyScores (argX m c) (argK m c) (argKs m c) (argLen m c) b j (pos k q)
      = rowSc (BitVec.ofNat 32 (lnOf c (V m c main_arg7) b.val)) (k0_pay53 wPerm wRep wDiag (xRow c (V m c main_v6) ⟨b.val, hb⟩))
        (fun k => chK c aK (srcV m c).k (BitVec.ofNat 32 b.val) (BitVec.ofNat 32 k)) (fun k => chS c aKs (srcV m c).ks (BitVec.ofNat 32 b.val) (BitVec.ofNat 32 k)) (rowAt j) k.val q := by
    intro k q
    unfold rowSc keyScores scores
    rw [pay5_apply, iv_eq, hw, mask _ (hl b), scores_row, hh]
    refine congrArg (fun y : EReal => Scalar.select _ y ⊥) ?_
    refine congrArg₂ (· * ·) (Finset.sum_congr rfl fun e _ => congrArg₂ (· * ·) ?_ ?_) (congrArg (· * eighth) ?_)
    · beta_reduce
      rw [chK_k]
      refine congrArg (fun y : BitVec 8 => ((y.toInt : ℝ) : EReal)) (Eq.symm ((V_v1 m c b _ (pos k q)).trans ?_))
      have e1 : (⟨((rowAt j).val % 8 * 64 + e.val) / 64, by omega⟩ : Fin 8) = ⟨j.val / 4, by omega⟩ := Fin.ext (by dsimp only; omega)
      have e2 : (⟨((rowAt j).val % 8 * 64 + e.val) % 64, by omega⟩ : Fin 64) = e := Fin.ext (by dsimp only; omega)
      exact congrArg₂ (fun u w => argK m c (ix4 b (pos k q) u w)) e1 e2
    · rw [xRow_apply c _ ⟨b.val, hb⟩ b rfl]
      exact (V_v6 m c b j e).symm
    · beta_reduce
      rw [chS_k, h8]
      exact (V_v4 m c b _ (pos k q)).symm
  have hne : ∀ p, keyScores (argX m c) (argK m c) (argKs m c) (argLen m c) b j p ≠ ⊤ := fun p =>
    scores_ne _ _ _ _ p (fun e => hx _) (fun e => ⟨_, rfl⟩) (hks _)
  have hnew : IsReal (newScore (argX m c) (argKn m c) b j) := scoreNew_real _ _ (fun e => hx _) (fun e => hkn _)
  refine (row_head _ _ _ _ _ _ _ _ _ j d (newScore (argX m c) (argKn m c) b j) (keyScores (argX m c) (argK m c) (argKs m c) (argLen m c) b j)
    (fun p => (((argV m c (ix4 b p ⟨j.val / 4, by omega⟩ d)).toInt : ℝ) : EReal)) (fun p => argVs m c (ix3 b p ⟨j.val / 4, by omega⟩))
    ⟨ncN_le hle, hne, fun k hk q => ?_, fun k q _ => here k q, fun p hp => ?_, hnew.ne_top, hnew.ne_bot⟩ (fun l => ?_) (fun k p _ => ?_) (fun k p _ => ?_)).trans ?_
  · exact here ⟨k, lt_of_lt_of_le hk (ncN_le hle)⟩ q ▸ hne _
  · refine scores_past _ _ _ _ p (hl b) ?_
    rw [← hln]
    unfold ncN at hp
    omega
  · rw [pay54_apply, hh, h8]
    unfold newScore
    refine congrArg₂ scoreNew (funext fun e => ?_) (funext fun e => ?_)
    · exact (xRow_apply c _ ⟨b.val, hb⟩ b rfl j e).trans (V_v6 m c b j e)
    · exact (knRow_apply c _ ⟨b.val, hb⟩ b rfl _ e).trans (V_v7 m c b _ e)
  · rw [chK_v]
    refine congrArg (fun y : BitVec 8 => ((y.toInt : ℝ) : EReal)) (Eq.symm ((V_v3 m c b _ (pos k p)).trans ?_))
    have e1 : (⟨(j.val / 4 * 64 + d.val) / 64, by omega⟩ : Fin 8) = ⟨j.val / 4, by omega⟩ := Fin.ext (by dsimp only; omega)
    have e2 : (⟨(j.val / 4 * 64 + d.val) % 64, by omega⟩ : Fin 64) = d := Fin.ext (by dsimp only; omega)
    exact congrArg₂ (fun u w => argV m c (ix4 b (pos k p) u w)) e1 e2
  · rw [chS_v]
    exact (V_v5 m c b _ (pos k p)).symm
  · unfold result
    refine congrArg (head _ _ _ _) ?_
    exact (vnRow_apply c _ ⟨b.val, hb⟩ b rfl _ d).trans (V_v8 m c b _ d)

end

end Cert.KernelIdeal.Hand
end
-- ==== Proof.Finite.lean ====
module
public import proofs.«01_k».proof.Proof.Lengths
public import proofs.«01_k».proof.Proof.Value

@[expose] public section
noncomputable section

/-!
  What the precondition of the value claim says: the lengths are natural numbers at most 16384, and the queries, the
  new keys and the keys' scales are reals.
-/

namespace Cert.Pre_finite_scores.Gen
open Idealize.ShloMosaic
theorem bcast_S_S4 : S_.BroadcastsInDim S4 (![] : Fin 0 → Fin S4.rank) := by decide
theorem bcast_S_S4x1x32x64 : S_.BroadcastsInDim S4x1x32x64 (![] : Fin 0 → Fin S4x1x32x64.rank) := by decide
theorem bcast_S_S4x1x8x64 : S_.BroadcastsInDim S4x1x8x64 (![] : Fin 0 → Fin S4x1x8x64.rank) := by decide
theorem bcast_S_S4x16384x8 : S_.BroadcastsInDim S4x16384x8 (![] : Fin 0 → Fin S4x16384x8.rank) := by decide
instance facts : Cert.Pre_finite_scores.Facts where
  bcast_S_S4 := @bcast_S_S4
  bcast_S_S4x1x32x64 := @bcast_S_S4x1x32x64
  bcast_S_S4x1x8x64 := @bcast_S_S4x1x8x64
  bcast_S_S4x16384x8 := @bcast_S_S4x16384x8
end Cert.Pre_finite_scores.Gen

namespace Cert.Proof
open Idealize.ShloMosaic Idealize.SL.Sem
open Cert.KernelIdeal.Hand (IsReal)

theorem isReal_of_abs (a inf : EReal) (hi : inf = ⊤) (h : BitVec.ofBool (decide (max a (-a) < inf)) = 1#1) : IsReal a := by
  subst hi
  have h' : max a (-a) < ⊤ := by
    by_contra hn
    rw [decide_eq_false hn] at h
    exact absurd h (by decide)
  induction a with
  | bot => exact absurd h' (by simp)
  | top => exact absurd h' (by simp)
  | coe r => exact ⟨r, rfl⟩

theorem inf16 : Ideal.ofBits .bf16 0x7F80#16 = ⊤ := by simp [Ideal.ofBits, Ideal.ieee]
theorem inf32 : Ideal.ofBits .f32 0x7F800000#32 = ⊤ := by simp [Ideal.ofBits, Ideal.ieee]

section
variable (a0 : FVec Ideal Cert.Pre_finite_scores.S4x1x32x64 .bf16) (a1 a2 : FVec Ideal Cert.Pre_finite_scores.S4x1x8x64 .bf16)
  (a3 a5 : IVec Cert.Pre_finite_scores.S4x16384x8x64 8) (a4 a6 : FVec Ideal Cert.Pre_finite_scores.S4x16384x8 .f32) (a7 : IVec Cert.Pre_finite_scores.S4 32)

theorem lens_of (h : (Cert.Pre_finite_scores.fn (F := Ideal) a0 a1 a2 a3 a4 a5 a6 a7).1 = fun _ => 1#1) (i) : (a7 i).toNat ≤ 16384 := word_len (a7 i) (congrFun h i)
theorem x_real (h : (Cert.Pre_finite_scores.fn (F := Ideal) a0 a1 a2 a3 a4 a5 a6 a7).2.1 = fun _ => 1#1) (i) : IsReal (a0 i) := isReal_of_abs (a0 i) _ inf16 (congrFun h i)
theorem kn_real (h : (Cert.Pre_finite_scores.fn (F := Ideal) a0 a1 a2 a3 a4 a5 a6 a7).2.2.1 = fun _ => 1#1) (i) : IsReal (a1 i) := isReal_of_abs (a1 i) _ inf16 (congrFun h i)
theorem ks_real (h : (Cert.Pre_finite_scores.fn (F := Ideal) a0 a1 a2 a3 a4 a5 a6 a7).2.2.2 = fun _ => 1#1) (i) : IsReal (a4 i) := isReal_of_abs (a4 i) _ inf32 (congrFun h i)
end

end Cert.Proof
end
-- ==== Proof.Ref.lean ====
module
public import Idealize.ShloMosaic.Lib.StableHlo.Run
public import Idealize.ShloMosaic.Adequacy
public import Idealize.ShloMosaic.Init
public import Idealize.ShloMosaic.Lib.Quiescent
public import proofs.«01_k».proof.Proof.Gen.ReferenceIdeal

@[expose] public section
set_option synthInstance.maxSize 4096
set_option Elab.async false
noncomputable section

/-!
  The run of the reference: a straight line of host operations, so every buffer ends at the operations' results folded
  over what the arguments hold.
-/

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ StableHlo.reshape main_arg0 main_v0 (rfl : (.bf16 : EltTy) = .bf16) shapeCasts_S4x1x32x64_S4x1x8x4x64,
    StableHlo.unary main_arg3 main_v1 ((extsi 32 · natLt_8_32) : (⟨S4x16384x8x64, .i8⟩ : BufTy).Contents (Elt F) → (⟨S4x16384x8x64, .i32⟩ : BufTy).Contents (Elt F)),
    StableHlo.unary main_v1 main_v2 (sitofp .f32 : (⟨S4x16384x8x64, .i32⟩ : BufTy).Contents (Elt F) → (⟨S4x16384x8x64, .f32⟩ : BufTy).Contents (Elt F)),
    StableHlo.unary main_v2 main_v3 ((truncf .bf16 · bitsLt_bf16_f32) : (⟨S4x16384x8x64, .f32⟩ : BufTy).Contents (Elt F) → (⟨S4x16384x8x64, .bf16⟩ : BufTy).Contents (Elt F)),
    StableHlo.binary main_v3 main_v0 main_v4 ((fun l r => Host.dotGeneral dot_S4x16384x8x64_S4x1x8x4x64_S4x8x16384x1x4_3_4_1_13_02_02 none l r) : (⟨S4x16384x8x64, .bf16⟩ : BufTy).Contents (Elt F) → (⟨S4x1x8x4x64, .bf16⟩ : BufTy).Contents (Elt F) → (⟨S4x8x16384x1x4, .f32⟩ : BufTy).Contents (Elt F)),
    StableHlo.unary main_v4 main_v5 ((transpose S4x8x4x1x16384 [0, 1, 4, 3, 2] · transposes_S4x8x16384x1x4_S4x8x4x1x16384_0_1_4_3_2) : (⟨S4x8x16384x1x4, .f32⟩ : BufTy).Contents (Elt F) → (⟨S4x8x4x1x16384, .f32⟩ : BufTy).Contents (Elt F)),
    StableHlo.unary main_arg4 main_v6 ((transpose S4x8x16384 [0, 2, 1] · transposes_S4x16384x8_S4x8x16384_0_2_1) : (⟨S4x16384x8, .f32⟩ : BufTy).Contents (Elt F) → (⟨S4x8x16384, .f32⟩ : BufTy).Contents (Elt F)),
    StableHlo.unary main_v6 main_v7 (broadcastInDim S4x8x1x1x16384 ![0, 1, 4] bcast_S4x8x16384_S4x8x1x1x16384_0_1_4 : (⟨S4x8x16384, .f32⟩ : BufTy).Contents (Elt F) → (⟨S4x8x1x1x16384, .f32⟩ : BufTy).Contents (Elt F)),
    StableHlo.nullary main_cst (constant S_ .f32 0x3E000000#32),
    StableHlo.unary main_cst main_v8 (broadcastInDim S4x8x1x1x16384 ![] bcast_S_S4x8x1x1x16384 : (⟨S_, .f32⟩ : BufTy).Contents (Elt F) → (⟨S4x8x1x1x16384, .f32⟩ : BufTy).Contents (Elt F)),
    StableHlo.binary main_v7 main_v8 main_v9 (mulf : (⟨S4x8x1x1x16384, .f32⟩ : BufTy).Contents (Elt F) → (⟨S4x8x1x1x16384, .f32⟩ : BufTy).Contents (Elt F) → (⟨S4x8x1x1x16384, .f32⟩ : BufTy).Contents (Elt F)),
    StableHlo.unary main_v9 main_v10 (broadcastInDim S4x8x4x1x16384 ![0, 1, 2, 3, 4] bcast_S4x8x1x1x16384_S4x8x4x1x16384_0_1_2_3_4 : (⟨S4x8x1x1x16384, .f32⟩ : BufTy).Contents (Elt F) → (⟨S4x8x4x1x16384, .f32⟩ : BufTy).Contents (Elt F)),
    StableHlo.binary main_v5 main_v10 main_v11 (mulf : (⟨S4x8x4x1x16384, .f32⟩ : BufTy).Contents (Elt F) → (⟨S4x8x4x1x16384, .f32⟩ : BufTy).Contents (Elt F) → (⟨S4x8x4x1x16384, .f32⟩ : BufTy).Contents (Elt F)),
    StableHlo.nullary main_v12 (iotaInDim S16384 32 0),
    StableHlo.unary main_v12 main_v13 (broadcastInDim S1x16384 ![1] bcast_S16384_S1x16384_1 : (⟨S16384, .i32⟩ : BufTy).Contents (Elt F) → (⟨S1x16384, .i32⟩ : BufTy).Contents (Elt F)),
    StableHlo.unary main_arg7 main_v14 (broadcastInDim S4x1 ![0] bcast_S4_S4x1_0 : (⟨S4, .i32⟩ : BufTy).Contents (Elt F) → (⟨S4x1, .i32⟩ : BufTy).Contents (Elt F)),
    StableHlo.unary main_v13 main_v15 (broadcastInDim S4x16384 ![0, 1] bcast_S1x16384_S4x16384_0_1 : (⟨S1x16384, .i32⟩ : BufTy).Contents (Elt F) → (⟨S4x16384, .i32⟩ : BufTy).Contents (Elt F)),
    StableHlo.unary main_v14 main_v16 (broadcastInDim S4x16384 ![0, 1] bcast_S4x1_S4x16384_0_1 : (⟨S4x1, .i32⟩ : BufTy).Contents (Elt F) → (⟨S4x16384, .i32⟩ : BufTy).Contents (Elt F)),
    StableHlo.binary main_v15 main_v16 main_v17 (cmpi .slt : (⟨S4x16384, .i32⟩ : BufTy).Contents (Elt F) → (⟨S4x16384, .i32⟩ : BufTy).Contents (Elt F) → (⟨S4x16384, .i1⟩ : BufTy).Contents (Elt F)),
    StableHlo.unary main_v17 main_v18 (broadcastInDim S4x1x1x1x16384 ![0, 4] bcast_S4x16384_S4x1x1x1x16384_0_4 : (⟨S4x16384, .i1⟩ : BufTy).Contents (Elt F) → (⟨S4x1x1x1x16384, .i1⟩ : BufTy).Contents (Elt F)),
    StableHlo.nullary main_cst_0 (constant S_ .f32 0xFF800000#32),
    StableHlo.TRef.unary (.of main_cst_0 : StableHlo.TRef sig ⟨S_, .f32⟩) (.of main_call0_v0 : StableHlo.TRef sig ⟨S_, .f32⟩) id,
    StableHlo.TRef.unary (.of main_v18 : StableHlo.TRef sig ⟨S4x1x1x1x16384, .i1⟩) (.of main_call0_v1 : StableHlo.TRef sig ⟨S4x8x4x1x16384, .i1⟩) (broadcastInDim S4x8x4x1x16384 ![0, 1, 2, 3, 4] bcast_S4x1x1x1x16384_S4x8x4x1x16384_0_1_2_3_4),
    StableHlo.TRef.unary (.of main_call0_v0 : StableHlo.TRef sig ⟨S_, .f32⟩) (.of main_call0_v2 : StableHlo.TRef sig ⟨S4x8x4x1x16384, .f32⟩) (broadcastInDim S4x8x4x1x16384 ![] bcast_S_S4x8x4x1x16384),
    StableHlo.TRef.ternary (.of main_call0_v1 : StableHlo.TRef sig ⟨S4x8x4x1x16384, .i1⟩) (.of main_v11 : StableHlo.TRef sig ⟨S4x8x4x1x16384, .f32⟩) (.of main_call0_v2 : StableHlo.TRef sig ⟨S4x8x4x1x16384, .f32⟩) (.of main_v19 : StableHlo.TRef sig ⟨S4x8x4x1x16384, .f32⟩) select,
    StableHlo.binary main_arg1 main_v0 main_v20 ((fun l r => Host.dotGeneral dot_S4x1x8x64_S4x1x8x4x64_S4x8x1x1x4_3_4_1_13_02_02 none l r) : (⟨S4x1x8x64, .bf16⟩ : BufTy).Contents (Elt F) → (⟨S4x1x8x4x64, .bf16⟩ : BufTy).Contents (Elt F) → (⟨S4x8x1x1x4, .f32⟩ : BufTy).Contents (Elt F)),
    StableHlo.unary main_v20 main_v21 ((transpose S4x8x4x1x1 [0, 1, 4, 3, 2] · transposes_S4x8x1x1x4_S4x8x4x1x1_0_1_4_3_2) : (⟨S4x8x1x1x4, .f32⟩ : BufTy).Contents (Elt F) → (⟨S4x8x4x1x1, .f32⟩ : BufTy).Contents (Elt F)),
    StableHlo.nullary main_cst_1 (constant S_ .f32 0x3E000000#32),
    StableHlo.unary main_cst_1 main_v22 (broadcastInDim S4x8x4x1x1 ![] bcast_S_S4x8x4x1x1 : (⟨S_, .f32⟩ : BufTy).Contents (Elt F) → (⟨S4x8x4x1x1, .f32⟩ : BufTy).Contents (Elt F)),
    StableHlo.binary main_v21 main_v22 main_v23 (mulf : (⟨S4x8x4x1x1, .f32⟩ : BufTy).Contents (Elt F) → (⟨S4x8x4x1x1, .f32⟩ : BufTy).Contents (Elt F) → (⟨S4x8x4x1x1, .f32⟩ : BufTy).Contents (Elt F)),
    StableHlo.nullary main_v24 (iotaInDim S1 32 0),
    StableHlo.unary main_v24 main_v25 (broadcastInDim S1x1 ![1] bcast_S1_S1x1_1 : (⟨S1, .i32⟩ : BufTy).Contents (Elt F) → (⟨S1x1, .i32⟩ : BufTy).Contents (Elt F)),
    StableHlo.nullary main_v26 (iotaInDim S1 32 0),
    StableHlo.unary main_v26 main_v27 (broadcastInDim S1x1 ![0] bcast_S1_S1x1_0 : (⟨S1, .i32⟩ : BufTy).Contents (Elt F) → (⟨S1x1, .i32⟩ : BufTy).Contents (Elt F)),
    StableHlo.binary main_v25 main_v27 main_v28 (cmpi .sle : (⟨S1x1, .i32⟩ : BufTy).Contents (Elt F) → (⟨S1x1, .i32⟩ : BufTy).Contents (Elt F) → (⟨S1x1, .i1⟩ : BufTy).Contents (Elt F)),
    StableHlo.nullary main_cst_2 (constant S_ .f32 0xFF800000#32),
    StableHlo.TRef.unary (.of main_cst_2 : StableHlo.TRef sig ⟨S_, .f32⟩) (.of main_call1_v0 : StableHlo.TRef sig ⟨S_, .f32⟩) id,
    StableHlo.TRef.unary (.of main_v28 : StableHlo.TRef sig ⟨S1x1, .i1⟩) (.of main_call1_v1 : StableHlo.TRef sig ⟨S4x8x4x1x1, .i1⟩) (broadcastInDim S4x8x4x1x1 ![3, 4] bcast_S1x1_S4x8x4x1x1_3_4),
    StableHlo.TRef.unary (.of main_call1_v0 : StableHlo.TRef sig ⟨S_, .f32⟩) (.of main_call1_v2 : StableHlo.TRef sig ⟨S4x8x4x1x1, .f32⟩) (broadcastInDim S4x8x4x1x1 ![] bcast_S_S4x8x4x1x1),
    StableHlo.TRef.ternary (.of main_call1_v1 : StableHlo.TRef sig ⟨S4x8x4x1x1, .i1⟩) (.of main_v23 : StableHlo.TRef sig ⟨S4x8x4x1x1, .f32⟩) (.of main_call1_v2 : StableHlo.TRef sig ⟨S4x8x4x1x1, .f32⟩) (.of main_v29 : StableHlo.TRef sig ⟨S4x8x4x1x1, .f32⟩) select,
    StableHlo.binary main_v19 main_v29 main_v30 ((fun a b => concatenate S4x8x4x1x16385 4 [⟨S4x8x4x1x16384, a⟩, ⟨S4x8x4x1x1, b⟩] concatenates_S4x8x4x1x16384_S4x8x4x1x1_S4x8x4x1x16385_d4) : (⟨S4x8x4x1x16384, .f32⟩ : BufTy).Contents (Elt F) → (⟨S4x8x4x1x1, .f32⟩ : BufTy).Contents (Elt F) → (⟨S4x8x4x1x16385, .f32⟩ : BufTy).Contents (Elt F)),
    StableHlo.nullary main_cst_3 (constant S_ .f32 0xFF800000#32),
    StableHlo.binary main_v30 main_cst_3 main_v31 ((fun x v => Host.reduce FloatOps.maximumf x v reducesTo_S4x8x4x1x16385_S4x8x4x1_d4 h_S_) : (⟨S4x8x4x1x16385, .f32⟩ : BufTy).Contents (Elt F) → (⟨S_, .f32⟩ : BufTy).Contents (Elt F) → (⟨S4x8x4x1, .f32⟩ : BufTy).Contents (Elt F)),
    StableHlo.nullary main_cst_4 (constant S_ .f32 0xFF800000#32),
    StableHlo.unary main_cst_4 main_v32 (broadcastInDim S4x8x4x1 ![] bcast_S_S4x8x4x1 : (⟨S_, .f32⟩ : BufTy).Contents (Elt F) → (⟨S4x8x4x1, .f32⟩ : BufTy).Contents (Elt F)),
    StableHlo.binary main_v32 main_v31 main_v33 (maximumf : (⟨S4x8x4x1, .f32⟩ : BufTy).Contents (Elt F) → (⟨S4x8x4x1, .f32⟩ : BufTy).Contents (Elt F) → (⟨S4x8x4x1, .f32⟩ : BufTy).Contents (Elt F)),
    StableHlo.unary main_v33 main_v34 (broadcastInDim S4x8x4x1x1 ![0, 1, 2, 3] bcast_S4x8x4x1_S4x8x4x1x1_0_1_2_3 : (⟨S4x8x4x1, .f32⟩ : BufTy).Contents (Elt F) → (⟨S4x8x4x1x1, .f32⟩ : BufTy).Contents (Elt F)),
    StableHlo.unary main_v34 main_v35 (broadcastInDim S4x8x4x1x16385 ![0, 1, 2, 3, 4] bcast_S4x8x4x1x1_S4x8x4x1x16385_0_1_2_3_4 : (⟨S4x8x4x1x1, .f32⟩ : BufTy).Contents (Elt F) → (⟨S4x8x4x1x16385, .f32⟩ : BufTy).Contents (Elt F)),
    StableHlo.binary main_v30 main_v35 main_v36 (subf : (⟨S4x8x4x1x16385, .f32⟩ : BufTy).Contents (Elt F) → (⟨S4x8x4x1x16385, .f32⟩ : BufTy).Contents (Elt F) → (⟨S4x8x4x1x16385, .f32⟩ : BufTy).Contents (Elt F)),
    StableHlo.unary main_v36 main_v37 (Host.exp : (⟨S4x8x4x1x16385, .f32⟩ : BufTy).Contents (Elt F) → (⟨S4x8x4x1x16385, .f32⟩ : BufTy).Contents (Elt F)),
    StableHlo.nullary main_cst_5 (constant S_ .f32 0x00000000#32),
    StableHlo.binary main_v37 main_cst_5 main_v38 ((fun x v => Host.reduceAdd x v reducesTo_S4x8x4x1x16385_S4x8x4x1_d4 h_S_) : (⟨S4x8x4x1x16385, .f32⟩ : BufTy).Contents (Elt F) → (⟨S_, .f32⟩ : BufTy).Contents (Elt F) → (⟨S4x8x4x1, .f32⟩ : BufTy).Contents (Elt F)),
    StableHlo.unary main_v38 main_v39 (broadcastInDim S4x8x4x1x1 ![0, 1, 2, 3] bcast_S4x8x4x1_S4x8x4x1x1_0_1_2_3 : (⟨S4x8x4x1, .f32⟩ : BufTy).Contents (Elt F) → (⟨S4x8x4x1x1, .f32⟩ : BufTy).Contents (Elt F)),
    StableHlo.unary main_v39 main_v40 (broadcastInDim S4x8x4x1x16385 ![0, 1, 2, 3, 4] bcast_S4x8x4x1x1_S4x8x4x1x16385_0_1_2_3_4 : (⟨S4x8x4x1x1, .f32⟩ : BufTy).Contents (Elt F) → (⟨S4x8x4x1x16385, .f32⟩ : BufTy).Contents (Elt F)),
    StableHlo.binary main_v37 main_v40 main_v41 (Host.divf : (⟨S4x8x4x1x16385, .f32⟩ : BufTy).Contents (Elt F) → (⟨S4x8x4x1x16385, .f32⟩ : BufTy).Contents (Elt F) → (⟨S4x8x4x1x16385, .f32⟩ : BufTy).Contents (Elt F)),
    StableHlo.unary main_v41 main_v42 ((extractStridedSlice S4x8x4x1x16384 ![0, 0, 0, 0, 0] · slices_S4x8x4x1x16385_S4x8x4x1x16384_0_0_0_0_0) : (⟨S4x8x4x1x16385, .f32⟩ : BufTy).Contents (Elt F) → (⟨S4x8x4x1x16384, .f32⟩ : BufTy).Contents (Elt F)),
    StableHlo.unary main_v41 main_v43 ((extractStridedSlice S4x8x4x1x1 ![0, 0, 0, 0, 16384] · slices_S4x8x4x1x16385_S4x8x4x1x1_0_0_0_0_16384) : (⟨S4x8x4x1x16385, .f32⟩ : BufTy).Contents (Elt F) → (⟨S4x8x4x1x1, .f32⟩ : BufTy).Contents (Elt F)),
    StableHlo.unary main_arg6 main_v44 ((transpose S4x8x16384 [0, 2, 1] · transposes_S4x16384x8_S4x8x16384_0_2_1) : (⟨S4x16384x8, .f32⟩ : BufTy).Contents (Elt F) → (⟨S4x8x16384, .f32⟩ : BufTy).Contents (Elt F)),
    StableHlo.unary main_v44 main_v45 (broadcastInDim S4x8x1x1x16384 ![0, 1, 4] bcast_S4x8x16384_S4x8x1x1x16384_0_1_4 : (⟨S4x8x16384, .f32⟩ : BufTy).Contents (Elt F) → (⟨S4x8x1x1x16384, .f32⟩ : BufTy).Contents (Elt F)),
    StableHlo.unary main_v45 main_v46 (broadcastInDim S4x8x4x1x16384 ![0, 1, 2, 3, 4] bcast_S4x8x1x1x16384_S4x8x4x1x16384_0_1_2_3_4 : (⟨S4x8x1x1x16384, .f32⟩ : BufTy).Contents (Elt F) → (⟨S4x8x4x1x16384, .f32⟩ : BufTy).Contents (Elt F)),
    StableHlo.binary main_v42 main_v46 main_v47 (mulf : (⟨S4x8x4x1x16384, .f32⟩ : BufTy).Contents (Elt F) → (⟨S4x8x4x1x16384, .f32⟩ : BufTy).Contents (Elt F) → (⟨S4x8x4x1x16384, .f32⟩ : BufTy).Contents (Elt F)),
    StableHlo.unary main_v47 main_v48 ((truncf .bf16 · bitsLt_bf16_f32) : (⟨S4x8x4x1x16384, .f32⟩ : BufTy).Contents (Elt F) → (⟨S4x8x4x1x16384, .bf16⟩ : BufTy).Contents (Elt F)),
    StableHlo.unary main_arg5 main_v49 ((extsi 32 · natLt_8_32) : (⟨S4x16384x8x64, .i8⟩ : BufTy).Contents (Elt F) → (⟨S4x16384x8x64, .i32⟩ : BufTy).Contents (Elt F)),
    StableHlo.unary main_v49 main_v50 (sitofp .f32 : (⟨S4x16384x8x64, .i32⟩ : BufTy).Contents (Elt F) → (⟨S4x16384x8x64, .f32⟩ : BufTy).Contents (Elt F)),
    StableHlo.unary main_v50 main_v51 ((truncf .bf16 · bitsLt_bf16_f32) : (⟨S4x16384x8x64, .f32⟩ : BufTy).Contents (Elt F) → (⟨S4x16384x8x64, .bf16⟩ : BufTy).Contents (Elt F)),
    StableHlo.binary main_v51 main_v48 main_v52 ((fun l r => Host.dotGeneral dot_S4x16384x8x64_S4x8x4x1x16384_S4x8x64x4x1_1_4_3_23_02_01 none l r) : (⟨S4x16384x8x64, .bf16⟩ : BufTy).Contents (Elt F) → (⟨S4x8x4x1x16384, .bf16⟩ : BufTy).Contents (Elt F) → (⟨S4x8x64x4x1, .f32⟩ : BufTy).Contents (Elt F)),
    StableHlo.unary main_v52 main_v53 ((transpose S4x1x8x4x64 [0, 4, 1, 3, 2] · transposes_S4x8x64x4x1_S4x1x8x4x64_0_4_1_3_2) : (⟨S4x8x64x4x1, .f32⟩ : BufTy).Contents (Elt F) → (⟨S4x1x8x4x64, .f32⟩ : BufTy).Contents (Elt F)),
    StableHlo.unary main_v43 main_v54 ((truncf .bf16 · bitsLt_bf16_f32) : (⟨S4x8x4x1x1, .f32⟩ : BufTy).Contents (Elt F) → (⟨S4x8x4x1x1, .bf16⟩ : BufTy).Contents (Elt F)),
    StableHlo.binary main_arg2 main_v54 main_v55 ((fun l r => Host.dotGeneral dot_S4x1x8x64_S4x8x4x1x1_S4x8x64x4x1_1_4_3_23_02_01 none l r) : (⟨S4x1x8x64, .bf16⟩ : BufTy).Contents (Elt F) → (⟨S4x8x4x1x1, .bf16⟩ : BufTy).Contents (Elt F) → (⟨S4x8x64x4x1, .f32⟩ : BufTy).Contents (Elt F)),
    StableHlo.unary main_v55 main_v56 ((transpose S4x1x8x4x64 [0, 4, 1, 3, 2] · transposes_S4x8x64x4x1_S4x1x8x4x64_0_4_1_3_2) : (⟨S4x8x64x4x1, .f32⟩ : BufTy).Contents (Elt F) → (⟨S4x1x8x4x64, .f32⟩ : BufTy).Contents (Elt F)),
    StableHlo.binary main_v53 main_v56 main_v57 (addf : (⟨S4x1x8x4x64, .f32⟩ : BufTy).Contents (Elt F) → (⟨S4x1x8x4x64, .f32⟩ : BufTy).Contents (Elt F) → (⟨S4x1x8x4x64, .f32⟩ : BufTy).Contents (Elt F)),
    StableHlo.reshape main_v57 main_v58 (rfl : (.f32 : EltTy) = .f32) shapeCasts_S4x1x8x4x64_S4x1x32x64,
    StableHlo.unary main_v58 main_v59 ((truncf .bf16 · bitsLt_bf16_f32) : (⟨S4x1x32x64, .f32⟩ : BufTy).Contents (Elt F) → (⟨S4x1x32x64, .bf16⟩ : BufTy).Contents (Elt F)) ]

set_option maxHeartbeats 8000000 in
/-- The program is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., unary_bufs_sub .., unary_bufs_sub .., binary_bufs_sub .., unary_bufs_sub .., unary_bufs_sub .., unary_bufs_sub .., nullary_bufs_sub .., unary_bufs_sub .., binary_bufs_sub .., unary_bufs_sub .., binary_bufs_sub .., nullary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., binary_bufs_sub .., unary_bufs_sub .., nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., binary_bufs_sub .., reshape_bufs_sub .., unary_bufs_sub ..⟩

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results
theorem arg6_eq (V : Valuation τ sig (Elt F)) : after ops V (main_arg6 : DevRef τ sig) = V (main_arg6 : DevRef τ sig) := by
  after_results
theorem arg7_eq (V : Valuation τ sig (Elt F)) : after ops V (main_arg7 : DevRef τ sig) = V (main_arg7 : DevRef τ sig) := by
  after_results

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v59) = after ops (launchContents m c) (main_v59 : DevRef τ sig)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run defs _ _).mono (fun r h => ⟨fun c => ⟨h c main_v59, (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _)⟩, Idealize.ShloMosaic.sem_eq_zero_of_no_sems (by decide) r.2⟩)
    (run_seq scopedRefs_eq scopedSems_eq defs main (fun _ => ops) main_eq (fun _ => ops_sub) m ρ)

end Cert.ReferenceIdeal.Hand
end
-- ==== Proof.RefVal.lean ====
module
public import proofs.«01_k».proof.Proof.Ref
public import proofs.«01_k».proof.Proof.Online
public import Idealize.ShloMosaic.Lib.StableHlo.ReadAt
public import Idealize.ShloMosaic.Lib.Pointwise
public import Idealize.ShloMosaic.Lib.IdealHost
@[expose] public section

set_option maxRecDepth 16384
set_option Elab.async false

noncomputable section

/-! What the reference returns, element by element. -/

namespace Cert.ReferenceIdeal.Hand

open Cert.ReferenceIdeal Cert.ReferenceIdeal.Gen
open Idealize.ShloMosaic Idealize.ShloMosaic.TcCoe Idealize.ShloMosaic.StableHlo Idealize.SL.Sem
open Cert.Attn

/-- A signed byte, widened and converted, is its value. -/
theorem sitofp_wide (w : BitVec 8) : (FloatOps.sitofp (F := Ideal) FTy.f32 (BitVec.signExtend 32 w) : EReal) = ((w.toInt : ℝ) : EReal) := by
  show (((BitVec.signExtend 32 w).toInt : ℝ) : EReal) = _
  rw [BitVec.toInt_signExtend_of_le (by decide)]

theorem v19_apply (V : Valuation τ sig (Elt Ideal)) (b : Fin 4) (h : Fin 8) (g : Fin 4) (p : Fin 16384) :
    (upto ops V 40 (Proc.tc.devRef main_v19) : (⟨S4x8x4x1x16384, .f32⟩ : BufTy).Contents (Elt Ideal)) (ix5 b h g 0 p)
      = scores ((V (main_arg7 : DevRef τ sig) : (⟨1, ![4]⟩ : Shape).Idx → BitVec 32) (ix1 b)) (fun d => (V (main_arg0 : DevRef τ sig) : (⟨4, ![4, 1, 32, 64]⟩ : Shape).Idx → EReal) (ix4 b 0 ⟨h.val * 4 + g.val, by omega⟩ d))
        (fun p d => ((((V (main_arg3 : DevRef τ sig) : (⟨4, ![4, 16384, 8, 64]⟩ : Shape).Idx → BitVec 8) (ix4 b p h d)).toInt : ℝ) : EReal)) (fun p => (V (main_arg4 : DevRef τ sig) : (⟨3, ![4, 16384, 8]⟩ : Shape).Idx → EReal) (ix3 b p h)) p := by
  after_reads_at
  unfold scores
  simp only [sitofp_wide]
  rw [← neg_inf]; rfl
theorem v29_apply (V : Valuation τ sig (Elt Ideal)) (b : Fin 4) (h : Fin 8) (g : Fin 4) :
    (upto ops V 40 (Proc.tc.devRef main_v29) : (⟨S4x8x4x1x1, .f32⟩ : BufTy).Contents (Elt Ideal)) (ix5 b h g 0 0)
      = scoreNew (fun d => (V (main_arg0 : DevRef τ sig) : (⟨4, ![4, 1, 32, 64]⟩ : Shape).Idx → EReal) (ix4 b 0 ⟨h.val * 4 + g.val, by omega⟩ d)) (fun d => (V (main_arg1 : DevRef τ sig) : (⟨4, ![4, 1, 8, 64]⟩ : Shape).Idx → EReal) (ix4 b 0 h d)) := by
  after_reads_at
  rw [show IntOp.cmpi CmpIPredicate.sle 0#32 0#32 = 1#1 by decide]
  rfl

/-- The maximum as the reference takes it. -/
theorem fold_top (sn : EReal) (S : Fin 16384 → EReal) :
    max (⊥ : EReal) (Finset.fold max (⊥ : EReal) (fun q : Fin 16385 => if h : q.val < 16384 then S ⟨q.val, h⟩ else sn) Finset.univ) = top sn S := by
  refine eq_of_forall_ge_iff fun c => ?_
  rw [max_le_iff, Finset.fold_max_le]
  unfold top
  rw [max_le_iff, Finset.sup_le_iff]
  constructor
  · rintro ⟨-, -, h⟩
    refine ⟨?_, fun p _ => ?_⟩
    · have := h ⟨16384, by omega⟩ (Finset.mem_univ _)
      rwa [dif_neg (by show ¬ 16384 < 16384; omega)] at this
    · have := h ⟨p.val, by omega⟩ (Finset.mem_univ _)
      rwa [dif_pos (show p.val < 16384 from p.isLt)] at this
  · rintro ⟨h1, h2⟩
    refine ⟨bot_le, bot_le, fun q _ => ?_⟩
    split
    · exact h2 _ (Finset.mem_univ _)
    · exact h1

section
variable {F : FTy → Type} [FloatOps F]
/-- The operations from the scores on. -/
abbrev tailOps : List (HloOp τ sig (Elt F)) :=
  [ StableHlo.binary main_v19 main_v29 main_v30 ((fun a b => concatenate S4x8x4x1x16385 4 [⟨S4x8x4x1x16384, a⟩, ⟨S4x8x4x1x1, b⟩] concatenates_S4x8x4x1x16384_S4x8x4x1x1_S4x8x4x1x16385_d4) : (⟨S4x8x4x1x16384, .f32⟩ : BufTy).Contents (Elt F) → (⟨S4x8x4x1x1, .f32⟩ : BufTy).Contents (Elt F) → (⟨S4x8x4x1x16385, .f32⟩ : BufTy).Contents (Elt F)),
    StableHlo.nullary main_cst_3 (constant S_ .f32 0xFF800000#32),
    StableHlo.binary main_v30 main_cst_3 main_v31 ((fun x v => Host.reduce FloatOps.maximumf x v reducesTo_S4x8x4x1x16385_S4x8x4x1_d4 h_S_) : (⟨S4x8x4x1x16385, .f32⟩ : BufTy).Contents (Elt F) → (⟨S_, .f32⟩ : BufTy).Contents (Elt F) → (⟨S4x8x4x1, .f32⟩ : BufTy).Contents (Elt F)),
    StableHlo.nullary main_cst_4 (constant S_ .f32 0xFF800000#32),
    StableHlo.unary main_cst_4 main_v32 (broadcastInDim S4x8x4x1 ![] bcast_S_S4x8x4x1 : (⟨S_, .f32⟩ : BufTy).Contents (Elt F) → (⟨S4x8x4x1, .f32⟩ : BufTy).Contents (Elt F)),
    StableHlo.binary main_v32 main_v31 main_v33 (maximumf : (⟨S4x8x4x1, .f32⟩ : BufTy).Contents (Elt F) → (⟨S4x8x4x1, .f32⟩ : BufTy).Contents (Elt F) → (⟨S4x8x4x1, .f32⟩ : BufTy).Contents (Elt F)),
    StableHlo.unary main_v33 main_v34 (broadcastInDim S4x8x4x1x1 ![0, 1, 2, 3] bcast_S4x8x4x1_S4x8x4x1x1_0_1_2_3 : (⟨S4x8x4x1, .f32⟩ : BufTy).Contents (Elt F) → (⟨S4x8x4x1x1, .f32⟩ : BufTy).Contents (Elt F)),
    StableHlo.unary main_v34 main_v35 (broadcastInDim S4x8x4x1x16385 ![0, 1, 2, 3, 4] bcast_S4x8x4x1x1_S4x8x4x1x16385_0_1_2_3_4 : (⟨S4x8x4x1x1, .f32⟩ : BufTy).Contents (Elt F) → (⟨S4x8x4x1x16385, .f32⟩ : BufTy).Contents (Elt F)),
    StableHlo.binary main_v30 main_v35 main_v36 (subf : (⟨S4x8x4x1x16385, .f32⟩ : BufTy).Contents (Elt F) → (⟨S4x8x4x1x16385, .f32⟩ : BufTy).Contents (Elt F) → (⟨S4x8x4x1x16385, .f32⟩ : BufTy).Contents (Elt F)),
    StableHlo.unary main_v36 main_v37 (Host.exp : (⟨S4x8x4x1x16385, .f32⟩ : BufTy).Contents (Elt F) → (⟨S4x8x4x1x16385, .f32⟩ : BufTy).Contents (Elt F)),
    StableHlo.nullary main_cst_5 (constant S_ .f32 0x00000000#32),
    StableHlo.binary main_v37 main_cst_5 main_v38 ((fun x v => Host.reduceAdd x v reducesTo_S4x8x4x1x16385_S4x8x4x1_d4 h_S_) : (⟨S4x8x4x1x16385, .f32⟩ : BufTy).Contents (Elt F) → (⟨S_, .f32⟩ : BufTy).Contents (Elt F) → (⟨S4x8x4x1, .f32⟩ : BufTy).Contents (Elt F)),
    StableHlo.unary main_v38 main_v39 (broadcastInDim S4x8x4x1x1 ![0, 1, 2, 3] bcast_S4x8x4x1_S4x8x4x1x1_0_1_2_3 : (⟨S4x8x4x1, .f32⟩ : BufTy).Contents (Elt F) → (⟨S4x8x4x1x1, .f32⟩ : BufTy).Contents (Elt F)),
    StableHlo.unary main_v39 main_v40 (broadcastInDim S4x8x4x1x16385 ![0, 1, 2, 3, 4] bcast_S4x8x4x1x1_S4x8x4x1x16385_0_1_2_3_4 : (⟨S4x8x4x1x1, .f32⟩ : BufTy).Contents (Elt F) → (⟨S4x8x4x1x16385, .f32⟩ : BufTy).Contents (Elt F)),
    StableHlo.binary main_v37 main_v40 main_v41 (Host.divf : (⟨S4x8x4x1x16385, .f32⟩ : BufTy).Contents (Elt F) → (⟨S4x8x4x1x16385, .f32⟩ : BufTy).Contents (Elt F) → (⟨S4x8x4x1x16385, .f32⟩ : BufTy).Contents (Elt F)),
    StableHlo.unary main_v41 main_v42 ((extractStridedSlice S4x8x4x1x16384 ![0, 0, 0, 0, 0] · slices_S4x8x4x1x16385_S4x8x4x1x16384_0_0_0_0_0) : (⟨S4x8x4x1x16385, .f32⟩ : BufTy).Contents (Elt F) → (⟨S4x8x4x1x16384, .f32⟩ : BufTy).Contents (Elt F)),
    StableHlo.unary main_v41 main_v43 ((extractStridedSlice S4x8x4x1x1 ![0, 0, 0, 0, 16384] · slices_S4x8x4x1x16385_S4x8x4x1x1_0_0_0_0_16384) : (⟨S4x8x4x1x16385, .f32⟩ : BufTy).Contents (Elt F) → (⟨S4x8x4x1x1, .f32⟩ : BufTy).Contents (Elt F)),
    StableHlo.unary main_arg6 main_v44 ((transpose S4x8x16384 [0, 2, 1] · transposes_S4x16384x8_S4x8x16384_0_2_1) : (⟨S4x16384x8, .f32⟩ : BufTy).Contents (Elt F) → (⟨S4x8x16384, .f32⟩ : BufTy).Contents (Elt F)),
    StableHlo.unary main_v44 main_v45 (broadcastInDim S4x8x1x1x16384 ![0, 1, 4] bcast_S4x8x16384_S4x8x1x1x16384_0_1_4 : (⟨S4x8x16384, .f32⟩ : BufTy).Contents (Elt F) → (⟨S4x8x1x1x16384, .f32⟩ : BufTy).Contents (Elt F)),
    StableHlo.unary main_v45 main_v46 (broadcastInDim S4x8x4x1x16384 ![0, 1, 2, 3, 4] bcast_S4x8x1x1x16384_S4x8x4x1x16384_0_1_2_3_4 : (⟨S4x8x1x1x16384, .f32⟩ : BufTy).Contents (Elt F) → (⟨S4x8x4x1x16384, .f32⟩ : BufTy).Contents (Elt F)),
    StableHlo.binary main_v42 main_v46 main_v47 (mulf : (⟨S4x8x4x1x16384, .f32⟩ : BufTy).Contents (Elt F) → (⟨S4x8x4x1x16384, .f32⟩ : BufTy).Contents (Elt F) → (⟨S4x8x4x1x16384, .f32⟩ : BufTy).Contents (Elt F)),
    StableHlo.unary main_v47 main_v48 ((truncf .bf16 · bitsLt_bf16_f32) : (⟨S4x8x4x1x16384, .f32⟩ : BufTy).Contents (Elt F) → (⟨S4x8x4x1x16384, .bf16⟩ : BufTy).Contents (Elt F)),
    StableHlo.unary main_arg5 main_v49 ((extsi 32 · natLt_8_32) : (⟨S4x16384x8x64, .i8⟩ : BufTy).Contents (Elt F) → (⟨S4x16384x8x64, .i32⟩ : BufTy).Contents (Elt F)),
    StableHlo.unary main_v49 main_v50 (sitofp .f32 : (⟨S4x16384x8x64, .i32⟩ : BufTy).Contents (Elt F) → (⟨S4x16384x8x64, .f32⟩ : BufTy).Contents (Elt F)),
    StableHlo.unary main_v50 main_v51 ((truncf .bf16 · bitsLt_bf16_f32) : (⟨S4x16384x8x64, .f32⟩ : BufTy).Contents (Elt F) → (⟨S4x16384x8x64, .bf16⟩ : BufTy).Contents (Elt F)),
    StableHlo.binary main_v51 main_v48 main_v52 ((fun l r => Host.dotGeneral dot_S4x16384x8x64_S4x8x4x1x16384_S4x8x64x4x1_1_4_3_23_02_01 none l r) : (⟨S4x16384x8x64, .bf16⟩ : BufTy).Contents (Elt F) → (⟨S4x8x4x1x16384, .bf16⟩ : BufTy).Contents (Elt F) → (⟨S4x8x64x4x1, .f32⟩ : BufTy).Contents (Elt F)),
    StableHlo.unary main_v52 main_v53 ((transpose S4x1x8x4x64 [0, 4, 1, 3, 2] · transposes_S4x8x64x4x1_S4x1x8x4x64_0_4_1_3_2) : (⟨S4x8x64x4x1, .f32⟩ : BufTy).Contents (Elt F) → (⟨S4x1x8x4x64, .f32⟩ : BufTy).Contents (Elt F)),
    StableHlo.unary main_v43 main_v54 ((truncf .bf16 · bitsLt_bf16_f32) : (⟨S4x8x4x1x1, .f32⟩ : BufTy).Contents (Elt F) → (⟨S4x8x4x1x1, .bf16⟩ : BufTy).Contents (Elt F)),
    StableHlo.binary main_arg2 main_v54 main_v55 ((fun l r => Host.dotGeneral dot_S4x1x8x64_S4x8x4x1x1_S4x8x64x4x1_1_4_3_23_02_01 none l r) : (⟨S4x1x8x64, .bf16⟩ : BufTy).Contents (Elt F) → (⟨S4x8x4x1x1, .bf16⟩ : BufTy).Contents (Elt F) → (⟨S4x8x64x4x1, .f32⟩ : BufTy).Contents (Elt F)),
    StableHlo.unary main_v55 main_v56 ((transpose S4x1x8x4x64 [0, 4, 1, 3, 2] · transposes_S4x8x64x4x1_S4x1x8x4x64_0_4_1_3_2) : (⟨S4x8x64x4x1, .f32⟩ : BufTy).Contents (Elt F) → (⟨S4x1x8x4x64, .f32⟩ : BufTy).Contents (Elt F)),
    StableHlo.binary main_v53 main_v56 main_v57 (addf : (⟨S4x1x8x4x64, .f32⟩ : BufTy).Contents (Elt F) → (⟨S4x1x8x4x64, .f32⟩ : BufTy).Contents (Elt F) → (⟨S4x1x8x4x64, .f32⟩ : BufTy).Contents (Elt F)),
    StableHlo.reshape main_v57 main_v58 (rfl : (.f32 : EltTy) = .f32) shapeCasts_S4x1x8x4x64_S4x1x32x64,
    StableHlo.unary main_v58 main_v59 ((truncf .bf16 · bitsLt_bf16_f32) : (⟨S4x1x32x64, .f32⟩ : BufTy).Contents (Elt F) → (⟨S4x1x32x64, .bf16⟩ : BufTy).Contents (Elt F)) ]
end

theorem ops_tail (V : Valuation τ sig (Elt Ideal)) : after ops V = after (tailOps (F := Ideal)) (upto ops V 40) := rfl
/-- The weights to the result: `E` the weights. -/
def refOut (E : FVec Ideal S4x8x4x1x16385 .f32) (v : IVec S4x16384x8x64 8) (vs : FVec Ideal S4x16384x8 .f32) (vn : FVec Ideal S4x1x8x64 .bf16) : FVec Ideal S4x1x32x64 .bf16 :=
  let u_v42 : FVec Ideal S4x8x4x1x16384 .f32 := extractStridedSlice S4x8x4x1x16384 ![0, 0, 0, 0, 0] E slices_S4x8x4x1x16385_S4x8x4x1x16384_0_0_0_0_0
  let u_v43 : FVec Ideal S4x8x4x1x1 .f32 := extractStridedSlice S4x8x4x1x1 ![0, 0, 0, 0, 16384] E slices_S4x8x4x1x16385_S4x8x4x1x1_0_0_0_0_16384
  let u_v44 : FVec Ideal S4x8x16384 .f32 := transpose S4x8x16384 [0, 2, 1] vs transposes_S4x16384x8_S4x8x16384_0_2_1
  let u_v45 : FVec Ideal S4x8x1x1x16384 .f32 := broadcastInDim S4x8x1x1x16384 ![0, 1, 4] bcast_S4x8x16384_S4x8x1x1x16384_0_1_4 u_v44
  let u_v46 : FVec Ideal S4x8x4x1x16384 .f32 := broadcastInDim S4x8x4x1x16384 ![0, 1, 2, 3, 4] bcast_S4x8x1x1x16384_S4x8x4x1x16384_0_1_2_3_4 u_v45
  let u_v47 : FVec Ideal S4x8x4x1x16384 .f32 := mulf u_v42 u_v46
  let u_v48 : FVec Ideal S4x8x4x1x16384 .bf16 := truncf .bf16 u_v47 bitsLt_bf16_f32
  let u_v49 : IVec S4x16384x8x64 32 := extsi 32 v natLt_8_32
  let u_v50 : FVec Ideal S4x16384x8x64 .f32 := sitofp .f32 u_v49
  let u_v51 : FVec Ideal S4x16384x8x64 .bf16 := truncf .bf16 u_v50 bitsLt_bf16_f32
  let u_v52 : FVec Ideal S4x8x64x4x1 .f32 := Host.dotGeneral dot_S4x16384x8x64_S4x8x4x1x16384_S4x8x64x4x1_1_4_3_23_02_01 none u_v51 u_v48
  let u_v53 : FVec Ideal S4x1x8x4x64 .f32 := transpose S4x1x8x4x64 [0, 4, 1, 3, 2] u_v52 transposes_S4x8x64x4x1_S4x1x8x4x64_0_4_1_3_2
  let u_v54 : FVec Ideal S4x8x4x1x1 .bf16 := truncf .bf16 u_v43 bitsLt_bf16_f32
  let u_v55 : FVec Ideal S4x8x64x4x1 .f32 := Host.dotGeneral dot_S4x1x8x64_S4x8x4x1x1_S4x8x64x4x1_1_4_3_23_02_01 none vn u_v54
  let u_v56 : FVec Ideal S4x1x8x4x64 .f32 := transpose S4x1x8x4x64 [0, 4, 1, 3, 2] u_v55 transposes_S4x8x64x4x1_S4x1x8x4x64_0_4_1_3_2
  let u_v57 : FVec Ideal S4x1x8x4x64 .f32 := addf u_v53 u_v56
  let u_v58 : FVec Ideal S4x1x32x64 .f32 := shapeCast S4x1x32x64 u_v57 shapeCasts_S4x1x8x4x64_S4x1x32x64
  truncf .bf16 u_v58 bitsLt_bf16_f32
/-- The largest score, of the reduction `R` of the scores. -/
def refMax (R : FVec Ideal S4x8x4x1 .f32) : FVec Ideal S4x8x4x1 .f32 :=
  maximumf (broadcastInDim S4x8x4x1 ![] bcast_S_S4x8x4x1 (constant S_ .f32 0xFF800000#32)) R
/-- A number of every head, along the keys. -/
def refBc (Z : FVec Ideal S4x8x4x1 .f32) : FVec Ideal S4x8x4x1x16385 .f32 :=
  broadcastInDim S4x8x4x1x16385 ![0, 1, 2, 3, 4] bcast_S4x8x4x1x1_S4x8x4x1x16385_0_1_2_3_4 (broadcastInDim S4x8x4x1x1 ![0, 1, 2, 3] bcast_S4x8x4x1_S4x8x4x1x1_0_1_2_3 Z)
/-- The exponentials of the scores `X` under `M`. -/
def refExp (X : FVec Ideal S4x8x4x1x16385 .f32) (M : FVec Ideal S4x8x4x1 .f32) : FVec Ideal S4x8x4x1x16385 .f32 := Host.exp (subf X (refBc M))
/-- The weights of the exponentials `Y`, `T` their sum. -/
def refDiv (Y : FVec Ideal S4x8x4x1x16385 .f32) (T : FVec Ideal S4x8x4x1 .f32) : FVec Ideal S4x8x4x1x16385 .f32 := Host.divf Y (refBc T)
/-- The two reductions. -/
def redMax (X : FVec Ideal S4x8x4x1x16385 .f32) : FVec Ideal S4x8x4x1 .f32 := Host.reduce FloatOps.maximumf X (constant S_ .f32 0xFF800000#32) reducesTo_S4x8x4x1x16385_S4x8x4x1_d4 h_S_
def redSum (Y : FVec Ideal S4x8x4x1x16385 .f32) : FVec Ideal S4x8x4x1 .f32 := Host.reduceAdd Y (constant S_ .f32 0x00000000#32) reducesTo_S4x8x4x1x16385_S4x8x4x1_d4 h_S_
/-- The scores, the new key's last. -/
def refCat (A : FVec Ideal S4x8x4x1x16384 .f32) (B : FVec Ideal S4x8x4x1x1 .f32) : FVec Ideal S4x8x4x1x16385 .f32 :=
  concatenate S4x8x4x1x16385 4 [⟨S4x8x4x1x16384, A⟩, ⟨S4x8x4x1x1, B⟩] concatenates_S4x8x4x1x16384_S4x8x4x1x1_S4x8x4x1x16385_d4
/-- The weights of the scores. -/
def refWts (X : FVec Ideal S4x8x4x1x16385 .f32) : FVec Ideal S4x8x4x1x16385 .f32 := refDiv (refExp X (refMax (redMax X))) (redSum (refExp X (refMax (redMax X))))

set_option maxHeartbeats 4000000 in
theorem tail_eq (W : Valuation τ sig (Elt Ideal)) : after (tailOps (F := Ideal)) W (main_v59 : DevRef τ sig)
    = refOut (refWts (refCat (W (main_v19 : DevRef τ sig)) (W (main_v29 : DevRef τ sig)))) (W (main_arg5 : DevRef τ sig)) (W (main_arg6 : DevRef τ sig)) (W (main_arg2 : DevRef τ sig)) := by
  after_results_simp
  rfl
theorem refCat_apply (A : FVec Ideal S4x8x4x1x16384 .f32) (B : FVec Ideal S4x8x4x1x1 .f32) (b : Fin 4) (h : Fin 8) (g : Fin 4) (q : Fin 16385) :
    refCat A B (ix5 b h g 0 q) = if h' : q.val < 16384 then A (ix5 b h g 0 ⟨q.val, h'⟩) else B (ix5 b h g 0 0) := by
  pointwise [refCat]
  split
  · rfl
  · exact congrArg (fun z : Fin 1 => B (ix5 b h g 0 z)) (Subsingleton.elim _ _)
theorem refOut_apply (E : FVec Ideal S4x8x4x1x16385 .f32) (v : IVec S4x16384x8x64 8) (vs : FVec Ideal S4x16384x8 .f32) (vn : FVec Ideal S4x1x8x64 .bf16)
    (b : Fin 4) (j : Fin 32) (d : Fin 64) :
    refOut E v vs vn (ix4 b 0 j d) = ∑ p : Fin 16384, (((v (ix4 b p ⟨j.val / 4, by omega⟩ d)).toInt : ℝ) : EReal) * (E (ix5 b ⟨j.val / 4, by omega⟩ ⟨j.val % 4, by omega⟩ 0 ⟨p.val, by omega⟩) * vs (ix3 b p ⟨j.val / 4, by omega⟩))
      + vn (ix4 b 0 ⟨j.val / 4, by omega⟩ d) * E (ix5 b ⟨j.val / 4, by omega⟩ ⟨j.val % 4, by omega⟩ 0 ⟨16384, by omega⟩) := by
  pointwise [refOut]
  simp only [sitofp_wide, Fin.sum_univ_one]
theorem redMax_apply (Y : FVec Ideal S4x8x4x1x16385 .f32) (b : Fin 4) (h : Fin 8) (g : Fin 4) :
    redMax Y (ix4 b h g 0)
      = Finset.fold max (⊥ : EReal) (fun q : Fin 16385 => Y (ix5 b h g 0 q)) Finset.univ := by
  rw [← neg_inf]
  pointwise [redMax]
theorem redSum_apply (Y : FVec Ideal S4x8x4x1x16385 .f32) (b : Fin 4) (h : Fin 8) (g : Fin 4) :
    redSum Y (ix4 b h g 0)
      = ∑ q : Fin 16385, Y (ix5 b h g 0 q) := by
  pointwise [redSum]
theorem refMax_apply (R : FVec Ideal S4x8x4x1 .f32) (b : Fin 4) (h : Fin 8) (g : Fin 4) : refMax R (ix4 b h g 0) = max (⊥ : EReal) (R (ix4 b h g 0)) := by
  rw [← neg_inf]
  pointwise [refMax]
theorem refExp_apply (X : FVec Ideal S4x8x4x1x16385 .f32) (M : FVec Ideal S4x8x4x1 .f32) (b : Fin 4) (h : Fin 8) (g : Fin 4) (q : Fin 16385) :
    refExp X M (ix5 b h g 0 q) = Ideal.exp (X (ix5 b h g 0 q) - M (ix4 b h g 0)) := by
  pointwise [refExp, refBc]
theorem refDiv_apply (Y : FVec Ideal S4x8x4x1x16385 .f32) (T : FVec Ideal S4x8x4x1 .f32) (b : Fin 4) (h : Fin 8) (g : Fin 4) (q : Fin 16385) :
    refDiv Y T (ix5 b h g 0 q) = Ideal.div (Y (ix5 b h g 0 q)) (T (ix4 b h g 0)) := by
  pointwise [refDiv, refBc]
theorem refWts_apply (X : FVec Ideal S4x8x4x1x16385 .f32) (b : Fin 4) (h : Fin 8) (g : Fin 4) (q : Fin 16385) (m : EReal)
    (hm : max (⊥ : EReal) (Finset.fold max (⊥ : EReal) (fun q : Fin 16385 => X (ix5 b h g 0 q)) Finset.univ) = m) :
    refWts X (ix5 b h g 0 q) = Ideal.div (Ideal.exp (X (ix5 b h g 0 q) - m)) (∑ q : Fin 16385, Ideal.exp (X (ix5 b h g 0 q) - m)) := by
  unfold refWts
  have e : refMax (redMax X) (ix4 b h g 0) = m := by rw [refMax_apply, redMax_apply, hm]
  rw [refDiv_apply, refExp_apply, e, redSum_apply]
  exact congrArg (Ideal.div _) (Finset.sum_congr rfl fun q _ => by rw [refExp_apply, e])

/-- The sum of the exponentials, the new key's last. -/
theorem sum_total (sn : EReal) (S : Fin 16384 → EReal) :
    (∑ q : Fin 16385, Ideal.exp ((if h : q.val < 16384 then S ⟨q.val, h⟩ else sn) - top sn S)) = total sn S := by
  refine (Fin.sum_univ_castSucc (n := 16384) (fun q : Fin 16385 => Ideal.exp ((if h : q.val < 16384 then S ⟨q.val, h⟩ else sn) - top sn S))).trans ?_
  unfold total
  refine congrArg₂ (fun a b : EReal => a + b) (Finset.sum_congr rfl fun p _ => ?_) ?_
  · rw [dif_pos (show (Fin.castSucc p).val < 16384 from p.isLt)]; rfl
  · rw [dif_neg (show ¬ (Fin.last 16384).val < 16384 from lt_irrefl _)]

theorem v59_apply (V : Valuation τ sig (Elt Ideal)) (b : Fin 4) (j : Fin 32) (d : Fin 64) :
    ((after ops V (main_v59 : DevRef τ sig) : (⟨S4x1x32x64, .bf16⟩ : BufTy).Contents (Elt Ideal)) (ix4 b 0 j d) : EReal)
      = result (V (main_arg0 : DevRef τ sig)) (V (main_arg1 : DevRef τ sig)) (V (main_arg2 : DevRef τ sig)) (V (main_arg3 : DevRef τ sig)) (V (main_arg5 : DevRef τ sig))
        (V (main_arg4 : DevRef τ sig)) (V (main_arg6 : DevRef τ sig)) (V (main_arg7 : DevRef τ sig)) b j d := by
  have e19 := fun p => v19_apply V b ⟨j.val / 4, by omega⟩ ⟨j.val % 4, by omega⟩ p
  have e29 := v29_apply V b ⟨j.val / 4, by omega⟩ ⟨j.val % 4, by omega⟩
  have ej : (⟨j.val / 4 * 4 + j.val % 4, by omega⟩ : Fin 32) = j := Fin.ext (by show j.val / 4 * 4 + j.val % 4 = j.val; omega)
  simp only [ej] at e19 e29
  have e5 : upto ops V 40 (main_arg5 : DevRef τ sig) = V (main_arg5 : DevRef τ sig) := by after_reads_simp
  have e6 : upto ops V 40 (main_arg6 : DevRef τ sig) = V (main_arg6 : DevRef τ sig) := by after_reads_simp
  have e2 : upto ops V 40 (main_arg2 : DevRef τ sig) = V (main_arg2 : DevRef τ sig) := by after_reads_simp
  rw [ops_tail, tail_eq, e5, e6, e2]
  generalize upto ops V 40 (Proc.tc.devRef main_v19) = A at e19 ⊢
  generalize upto ops V 40 (Proc.tc.devRef main_v29) = B at e29 ⊢
  refine (refOut_apply _ _ _ _ b j d).trans ?_
  have ec : ∀ q : Fin 16385, refCat A B (ix5 b ⟨j.val / 4, by omega⟩ ⟨j.val % 4, by omega⟩ 0 q)
      = if h' : q.val < 16384 then keyScores (V (main_arg0 : DevRef τ sig)) (V (main_arg3 : DevRef τ sig)) (V (main_arg4 : DevRef τ sig)) (V (main_arg7 : DevRef τ sig)) b j ⟨q.val, h'⟩
        else newScore (V (main_arg0 : DevRef τ sig)) (V (main_arg1 : DevRef τ sig)) b j := by
    intro q
    rw [refCat_apply]
    split
    · exact e19 _
    · exact e29
  have hm := (congrArg (fun f : Fin 16385 → EReal => max (⊥ : EReal) (Finset.fold max (⊥ : EReal) f Finset.univ)) (funext ec)).trans (fold_top _ _)
  have ew := fun q : Fin 16385 => (refWts_apply (refCat A B) b ⟨j.val / 4, by omega⟩ ⟨j.val % 4, by omega⟩ q _ hm)
  simp only [ew, ec, sum_total]
  unfold result head
  refine congrArg₂ (fun a b : EReal => a + b) (Finset.sum_congr rfl fun p _ => ?_) ?_
  · rw [dif_pos p.isLt]
  · rw [dif_neg (lt_irrefl _)]

end Cert.ReferenceIdeal.Hand
end
-- ==== Proof.lean ====
/-
  The proof of `Cert.Claim`. The kernel's programs' run is in Proof/Bring.lean and Proof/BringI.lean, the reference's in
  Proof/Ref.lean; the values they leave are in Proof/Value.lean and Proof/RefVal.lean.
-/
module

public import proofs.«01_k».proof.Defs
public import proofs.«01_k».proof.Proof.Lengths
public import proofs.«01_k».proof.Proof.Finite
public import proofs.«01_k».proof.Proof.RefVal

@[expose] public section

set_option maxRecDepth 16384

noncomputable section

namespace Cert.Proof

open Idealize.ShloMosaic Idealize.SL.Sem

theorem frame_Kernel : Cert.quiescent_Kernel := fun m g hpre =>
  (θ_run _ _ _).mono (fun _ h => ⟨fun c => (h.1 c).2, h.2⟩)
    (Cert.Kernel.Hand.frame_run m g fun c => by
      rw [Cert.Kernel.Gen.V_main_arg7]
      exact lnOf_le c _ (lens_le _ _ _ _ _ _ _ _ (hpre c)))

theorem frame_KernelIdeal : Cert.quiescent_KernelIdeal := fun m g hpre =>
  (θ_run _ _ _).mono (fun _ h => ⟨fun c => (h.1 c).2, h.2⟩)
    (Cert.KernelIdeal.Hand.frame_run m g fun c => by
      rw [Cert.KernelIdeal.Gen.V_main_arg7]
      exact lnOf_leI c _ (lens_le _ _ _ _ _ _ _ _ (hpre c)))

theorem lens_finite (m) (h : Cert.Pre_KernelIdeal_finite_scores m) (c : Dev Cert.KernelIdeal.nD) (i : ℕ) :
    Cert.KernelIdeal.Hand.lnOf c (Cert.KernelIdeal.Gen.V m c Cert.KernelIdeal.main_arg7) i ≤ 16384 := by
  rw [Cert.KernelIdeal.Gen.V_main_arg7]
  exact lnOf_leI c _ (lens_of _ _ _ _ _ _ _ _ (h c).1) i

theorem frame_KernelIdeal_finite : Cert.quiescent_KernelIdeal_pre_finite_scores := fun m g hpre =>
  (θ_run _ _ _).mono (fun _ h => ⟨fun c => (h.1 c).2, h.2⟩) (Cert.KernelIdeal.Hand.frame_run m g (lens_finite m hpre))

theorem frame_ReferenceIdeal : Cert.quiescent_ReferenceIdeal := fun m g _ =>
  (θ_run _ _ _).mono (fun _ h => ⟨fun c => (h.1 c).2, h.2⟩) (Cert.ReferenceIdeal.Hand.run_main m g)

theorem frame_ReferenceIdeal_finite : Cert.quiescent_ReferenceIdeal_pre_finite_scores := fun m g _ =>
  (θ_run _ _ _).mono (fun _ h => ⟨fun c => (h.1 c).2, h.2⟩) (Cert.ReferenceIdeal.Hand.run_main m g)

/-- An index of the result. -/
theorem exists_ix (i : Cert.KernelIdeal.S4x1x32x64.Idx) : ∃ (b : Fin 4) (j : Fin 32) (d : Fin 64), i = ix4 b (0 : Fin 1) j d := by
  refine ⟨i 0, i 2, i 3, funext fun a => ?_⟩
  have h : (i 1).val < 1 := (i 1).isLt
  fin_cases a
  · rfl
  · exact Fin.ext (Nat.lt_one_iff.1 h)
  · rfl
  · rfl

theorem algebraic : Cert.algebraic_KernelIdeal_ReferenceIdeal_pre_finite_scores := fun m g m' g' hpre hm => by
  refine ⟨fun c => Cert.KernelIdeal.Hand.ends m c (Proc.devRef .tc Cert.KernelIdeal.main_v10),
    (θ_run _ _ _).mono (fun _ h => h.1) (Cert.KernelIdeal.Hand.frame_run m g (lens_finite m hpre)),
    (θ_run _ _ _).mono (fun _ h c => ⟨(h.1 c).1.trans ?_, (h.1 c).2⟩) (Cert.ReferenceIdeal.Hand.run_main m' g')⟩
  obtain ⟨h0, h1, h2, h3, h4, h5, h6, h7⟩ := hm c
  funext i
  obtain ⟨b, j, d, rfl⟩ := exists_ix i
  refine (Cert.ReferenceIdeal.Hand.v59_apply _ b j d).trans (Eq.trans ?_ (Cert.KernelIdeal.Hand.ends_apply m c
    (fun b => lens_of _ _ _ _ _ _ _ _ (hpre c).1 _) (fun i => x_real _ _ _ _ _ _ _ _ (hpre c).2.1 i)
    (fun i => kn_real _ _ _ _ _ _ _ _ (hpre c).2.2.1 i) (fun i => ks_real _ _ _ _ _ _ _ _ (hpre c).2.2.2 i) b j d).symm)
  exact congrFun (congrFun (congrFun (congr (congr (congr (congr (congr (congr (congr (congrArg Cert.Attn.result h0) h1) h2) h3) h5) h4) h6) h7) b) j) d

theorem claim : Cert.Claim :=
  ⟨Cert.Kernel.Gen.facts, Cert.KernelIdeal.Gen.facts, Cert.ReferenceIdeal.Gen.facts, Cert.Pre_lengths_in_cache.Gen.facts, Cert.Pre_finite_scores.Gen.facts,
    frame_Kernel, frame_KernelIdeal, frame_KernelIdeal_finite, frame_ReferenceIdeal, frame_ReferenceIdeal_finite, trivial, algebraic⟩

end Cert.Proof

end
